-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_v5) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_v10) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v15) = v0 c
          ∧ r.2.mem ((c.tc : Thread Cert.Reference25Ideal.nD Cert.Reference25Ideal.τ).loc Cert.Reference25Ideal.main_v16) = v1 c
          ∧ r.2.mem ((c.tc : Thread Cert.Reference25Ideal.nD Cert.Reference25Ideal.τ).loc Cert.Reference25Ideal.main_v17) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v6_0)) (v1 : (c : Dev Cert.Kernel26Ideal.nD) → Buf (Elt Ideal) ((c.tc : Thread Cert.Kernel26Ideal.nD Cert.Kernel26Ideal.τ).loc Cert.Kernel26Ideal.main_v6_1)) (v2 : (c : Dev Cert.Kernel26Ideal.nD) → Buf (Elt Ideal) ((c.tc : Thread Cert.Kernel26Ideal.nD Cert.Kernel26Ideal.τ).loc Cert.Kernel26Ideal.main_v6_2)) (v3 : (c : Dev Cert.Kernel26Ideal.nD) → Buf (Elt Ideal) ((c.tc : Thread Cert.Kernel26Ideal.nD Cert.Kernel26Ideal.τ).loc Cert.Kernel26Ideal.main_v6_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v6_0) = v0 c
          ∧ r.2.mem ((c.tc : Thread Cert.Kernel26Ideal.nD Cert.Kernel26Ideal.τ).loc Cert.Kernel26Ideal.main_v6_1) = v1 c
          ∧ r.2.mem ((c.tc : Thread Cert.Kernel26Ideal.nD Cert.Kernel26Ideal.τ).loc Cert.Kernel26Ideal.main_v6_2) = v2 c
          ∧ r.2.mem ((c.tc : Thread Cert.Kernel26Ideal.nD Cert.Kernel26Ideal.τ).loc Cert.Kernel26Ideal.main_v6_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v29) = v0 c
          ∧ r.2.mem ((c.tc : Thread Cert.Reference26Ideal.nD Cert.Reference26Ideal.τ).loc Cert.Reference26Ideal.main_v30) = v1 c
          ∧ r.2.mem ((c.tc : Thread Cert.Reference26Ideal.nD Cert.Reference26Ideal.τ).loc Cert.Reference26Ideal.main_v31) = v2 c
          ∧ r.2.mem ((c.tc : Thread Cert.Reference26Ideal.nD Cert.Reference26Ideal.τ).loc Cert.Reference26Ideal.main_v32) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v57) = v0 c
          ∧ r.2.mem ((c.tc : Thread Cert.Reference27Ideal.nD Cert.Reference27Ideal.τ).loc Cert.Reference27Ideal.main_v58) = v1 c
          ∧ r.2.mem ((c.tc : Thread Cert.Reference27Ideal.nD Cert.Reference27Ideal.τ).loc Cert.Reference27Ideal.main_v59) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v6_0)) (v1 : (c : Dev Cert.Kernel28Ideal.nD) → Buf (Elt Ideal) ((c.tc : Thread Cert.Kernel28Ideal.nD Cert.Kernel28Ideal.τ).loc Cert.Kernel28Ideal.main_v6_1)) (v2 : (c : Dev Cert.Kernel28Ideal.nD) → Buf (Elt Ideal) ((c.tc : Thread Cert.Kernel28Ideal.nD Cert.Kernel28Ideal.τ).loc Cert.Kernel28Ideal.main_v6_2)) (v3 : (c : Dev Cert.Kernel28Ideal.nD) → Buf (Elt Ideal) ((c.tc : Thread Cert.Kernel28Ideal.nD Cert.Kernel28Ideal.τ).loc Cert.Kernel28Ideal.main_v6_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v6_0) = v0 c
          ∧ r.2.mem ((c.tc : Thread Cert.Kernel28Ideal.nD Cert.Kernel28Ideal.τ).loc Cert.Kernel28Ideal.main_v6_1) = v1 c
          ∧ r.2.mem ((c.tc : Thread Cert.Kernel28Ideal.nD Cert.Kernel28Ideal.τ).loc Cert.Kernel28Ideal.main_v6_2) = v2 c
          ∧ r.2.mem ((c.tc : Thread Cert.Kernel28Ideal.nD Cert.Kernel28Ideal.τ).loc Cert.Kernel28Ideal.main_v6_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v54) = v0 c
          ∧ r.2.mem ((c.tc : Thread Cert.Reference28Ideal.nD Cert.Reference28Ideal.τ).loc Cert.Reference28Ideal.main_v55) = v1 c
          ∧ r.2.mem ((c.tc : Thread Cert.Reference28Ideal.nD Cert.Reference28Ideal.τ).loc Cert.Reference28Ideal.main_v56) = v2 c
          ∧ r.2.mem ((c.tc : Thread Cert.Reference28Ideal.nD Cert.Reference28Ideal.τ).loc Cert.Reference28Ideal.main_v57) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Kernel.lean ====
abbrev S2048x1024 : Shape := ⟨2, ![2048, 1024]⟩
abbrev S2048x5632 : Shape := ⟨2, ![2048, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x1024, .bf16⟩
  | .hbm, ⟨3, _⟩ => ⟨S2048x5632, .bf16⟩
  | .hbm, ⟨4, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | .hbm, ⟨8, _⟩ => ⟨S1024x4x1408, .bf16⟩
  | .hbm, ⟨9, _⟩ => ⟨S4x1024x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel2.lean ====
abbrev S2048x5632 : Shape := ⟨2, ![2048, 5632]⟩
abbrev S2x1024x5632 : Shape := ⟨3, ![2, 1024, 5632]⟩
abbrev S2x1024x4x1408 : Shape := ⟨4, ![2, 1024, 4, 1408]⟩
abbrev S4x2x1024x1408 : Shape := ⟨4, ![4, 2, 1024, 1408]⟩
abbrev S2048x1024 : Shape := ⟨2, ![2048, 1024]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2x1024x5632, .f32⟩
  | .hbm, ⟨2, _⟩ => ⟨S2048x5632, .bf16⟩
  | .hbm, ⟨3, _⟩ => ⟨S2x1024x4x1408, .f32⟩
  | .hbm, ⟨4, _⟩ => ⟨S4x2x1024x1408, .f32⟩
  | .hbm, ⟨5, _⟩ => ⟨S4x2x1024x1408, .bf16⟩
  | .hbm, ⟨6, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x5632 : Shape := ⟨2, ![2048, 5632]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S_, .f32⟩
  | .hbm, ⟨5, _⟩ => ⟨S2048x1024, .f32⟩
  | .hbm, ⟨6, _⟩ => ⟨S2048x5632, .f32⟩
  | .hbm, ⟨7, _⟩ => ⟨S2048x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x1024, .bf16⟩
  | .hbm, ⟨4, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x1024 : Shape := ⟨2, ![2048, 1024]⟩
abbrev S2x2816x1024 : Shape := ⟨3, ![2, 2816, 1024]⟩
abbrev S2048x2816 : Shape := ⟨2, ![2048, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2x2816x1024, .f32⟩
  | .hbm, ⟨2, _⟩ => ⟨S2048x1024, .bf16⟩
  | .hbm, ⟨3, _⟩ => ⟨S2x2816x1024, .bf16⟩
  | .hbm, ⟨4, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x2816x1024, .f32⟩
  | .hbm, ⟨2, _⟩ => ⟨S1x2816x1024, .f32⟩
  | .hbm, ⟨3, _⟩ => ⟨S2816x1024, .f32⟩
  | .hbm, ⟨4, _⟩ => ⟨S_, .f32⟩
  | .hbm, ⟨5, _⟩ => ⟨S2048x2816, .f32⟩
  | .hbm, ⟨6, _⟩ => ⟨S2048x1024, .f32⟩
  | .hbm, ⟨7, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2048x1024 : Shape := ⟨2, ![2048, 1024]⟩
abbrev S2048x2048 : Shape := ⟨2, ![2048, 2048]⟩
abbrev S4x1024x512 : Shape := ⟨3, ![4, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S4x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x4x512, .bf16⟩
  | .hbm, ⟨9, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S1x1024x2048 : Shape := ⟨3, ![1, 1024, 2048]⟩
abbrev S1x1024x4x512 : Shape := ⟨4, ![1, 1024, 4, 512]⟩
abbrev S4x1x1024x512 : Shape := ⟨4, ![4, 1, 1024, 512]⟩
abbrev S2048x1024 : Shape := ⟨2, ![2048, 1024]⟩
abbrev S1024x512 : Shape := ⟨2, ![1024, 512]⟩
abbrev S1x1x1024x512 : Shape := ⟨4, ![1, 1, 1024, 512]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x1024x2048, .f32⟩
  | .hbm, ⟨2, _⟩ => ⟨S2048x2048, .bf16⟩
  | .hbm, ⟨3, _⟩ => ⟨S1x1024x4x512, .f32⟩
  | .hbm, ⟨4, _⟩ => ⟨S4x1x1024x512, .f32⟩
  | .hbm, ⟨5, _⟩ => ⟨S4x1x1024x512, .bf16⟩
  | .hbm, ⟨6, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S1x1024x2048 : Shape := ⟨3, ![1, 1024, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x1024x2048, .f32⟩
  | .hbm, ⟨2, _⟩ => ⟨S1024x2048, .f32⟩
  | .hbm, ⟨3, _⟩ => ⟨S_, .f32⟩
  | .hbm, ⟨4, _⟩ => ⟨S2048x1024, .f32⟩
  | .hbm, ⟨5, _⟩ => ⟨S2048x2048, .f32⟩
  | .hbm, ⟨6, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S2048x5632 : Shape := ⟨2, ![2048, 5632]⟩
abbrev S2x1024x5632 : Shape := ⟨3, ![2, 1024, 5632]⟩
abbrev S2x1024x4x1408 : Shape := ⟨4, ![2, 1024, 4, 1408]⟩
abbrev S4x2x1024x1408 : Shape := ⟨4, ![4, 2, 1024, 1408]⟩
abbrev S2048x1024 : Shape := ⟨2, ![2048, 1024]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2x1024x5632, .f32⟩
  | .hbm, ⟨2, _⟩ => ⟨S2048x5632, .bf16⟩
  | .hbm, ⟨3, _⟩ => ⟨S2x1024x4x1408, .f32⟩
  | .hbm, ⟨4, _⟩ => ⟨S4x2x1024x1408, .f32⟩
  | .hbm, ⟨5, _⟩ => ⟨S4x2x1024x1408, .bf16⟩
  | .hbm, ⟨6, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x5632 : Shape := ⟨2, ![2048, 5632]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S_, .f32⟩
  | .hbm, ⟨5, _⟩ => ⟨S2048x1024, .f32⟩
  | .hbm, ⟨6, _⟩ => ⟨S2048x5632, .f32⟩
  | .hbm, ⟨7, _⟩ => ⟨S2048x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x1024 : Shape := ⟨2, ![2048, 1024]⟩
abbrev S2x2816x1024 : Shape := ⟨3, ![2, 2816, 1024]⟩
abbrev S2048x2816 : Shape := ⟨2, ![2048, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2x2816x1024, .f32⟩
  | .hbm, ⟨2, _⟩ => ⟨S2048x1024, .bf16⟩
  | .hbm, ⟨3, _⟩ => ⟨S2x2816x1024, .bf16⟩
  | .hbm, ⟨4, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x2816x1024, .f32⟩
  | .hbm, ⟨2, _⟩ => ⟨S1x2816x1024, .f32⟩
  | .hbm, ⟨3, _⟩ => ⟨S2816x1024, .f32⟩
  | .hbm, ⟨4, _⟩ => ⟨S_, .f32⟩
  | .hbm, ⟨5, _⟩ => ⟨S2048x2816, .f32⟩
  | .hbm, ⟨6, _⟩ => ⟨S2048x1024, .f32⟩
  | .hbm, ⟨7, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x1024 : Shape := ⟨2, ![2048, 1024]⟩
abbrev S2x1024x5632 : Shape := ⟨3, ![2, 1024, 5632]⟩
abbrev S2x1024x4x1408 : Shape := ⟨4, ![2, 1024, 4, 1408]⟩
abbrev S4x2x1024x1408 : Shape := ⟨4, ![4, 2, 1024, 1408]⟩
abbrev S2048x5632 : Shape := ⟨2, ![2048, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2x1024x5632, .f32⟩
  | .hbm, ⟨2, _⟩ => ⟨S2048x1024, .bf16⟩
  | .hbm, ⟨3, _⟩ => ⟨S2x1024x4x1408, .f32⟩
  | .hbm, ⟨4, _⟩ => ⟨S4x2x1024x1408, .f32⟩
  | .hbm, ⟨5, _⟩ => ⟨S4x2x1024x1408, .bf16⟩
  | .hbm, ⟨6, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2048x1024 : Shape := ⟨2, ![2048, 1024]⟩
abbrev S2x1024x5632 : Shape := ⟨3, ![2, 1024, 5632]⟩
abbrev S2x1024x4x1408 : Shape := ⟨4, ![2, 1024, 4, 1408]⟩
abbrev S4x2x1024x1408 : Shape := ⟨4, ![4, 2, 1024, 1408]⟩
abbrev S2048x5632 : Shape := ⟨2, ![2048, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2x1024x5632, .f32⟩
  | .hbm, ⟨2, _⟩ => ⟨S2048x1024, .bf16⟩
  | .hbm, ⟨3, _⟩ => ⟨S2x1024x4x1408, .f32⟩
  | .hbm, ⟨4, _⟩ => ⟨S4x2x1024x1408, .f32⟩
  | .hbm, ⟨5, _⟩ => ⟨S4x2x1024x1408, .bf16⟩
  | .hbm, ⟨6, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x2816 : Shape := ⟨2, ![2048, 2816]⟩
abbrev S2x2816x1024 : Shape := ⟨3, ![2, 2816, 1024]⟩
abbrev S2048x1024 : Shape := ⟨2, ![2048, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2x2816x1024, .f32⟩
  | .hbm, ⟨2, _⟩ => ⟨S2048x2816, .bf16⟩
  | .hbm, ⟨3, _⟩ => ⟨S2x2816x1024, .bf16⟩
  | .hbm, ⟨4, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2816 : Shape := ⟨2, ![2048, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2x2816x1024, .f32⟩
  | .hbm, ⟨2, _⟩ => ⟨S1x2816x1024, .f32⟩
  | .hbm, ⟨3, _⟩ => ⟨S2816x1024, .f32⟩
  | .hbm, ⟨4, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S2048x2816 : Shape := ⟨2, ![2048, 2816]⟩
abbrev S2x2816x1024 : Shape := ⟨3, ![2, 2816, 1024]⟩
abbrev S2048x1024 : Shape := ⟨2, ![2048, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2x2816x1024, .f32⟩
  | .hbm, ⟨2, _⟩ => ⟨S2048x2816, .bf16⟩
  | .hbm, ⟨3, _⟩ => ⟨S2x2816x1024, .bf16⟩
  | .hbm, ⟨4, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2816 : Shape := ⟨2, ![2048, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2x2816x1024, .f32⟩
  | .hbm, ⟨2, _⟩ => ⟨S1x2816x1024, .f32⟩
  | .hbm, ⟨3, _⟩ => ⟨S2816x1024, .f32⟩
  | .hbm, ⟨4, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S2048x1024 : Shape := ⟨2, ![2048, 1024]⟩
abbrev S1x1024x2048 : Shape := ⟨3, ![1, 1024, 2048]⟩
abbrev S1x1024x4x512 : Shape := ⟨4, ![1, 1024, 4, 512]⟩
abbrev S4x1x1024x512 : Shape := ⟨4, ![4, 1, 1024, 512]⟩
abbrev S2048x2048 : Shape := ⟨2, ![2048, 2048]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024x2048, .f32⟩
  | .hbm, ⟨2, _⟩ => ⟨S2048x1024, .bf16⟩
  | .hbm, ⟨3, _⟩ => ⟨S1x1024x4x512, .f32⟩
  | .hbm, ⟨4, _⟩ => ⟨S4x1x1024x512, .f32⟩
  | .hbm, ⟨5, _⟩ => ⟨S4x1x1024x512, .bf16⟩
  | .hbm, ⟨6, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S1x1024x2048 : Shape := ⟨3, ![1, 1024, 2048]⟩
abbrev S1024x2048 : Shape := ⟨2, ![1024, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024x2048, .f32⟩
  | .hbm, ⟨2, _⟩ => ⟨S1024x2048, .f32⟩
  | .hbm, ⟨3, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S2304x1024 : Shape := ⟨2, ![2304, 1024]⟩
abbrev S1024x6208 : Shape := ⟨2, ![1024, 6208]⟩
abbrev S2304x6208 : Shape := ⟨2, ![2304, 6208]⟩
abbrev S768x1024 : Shape := ⟨2, ![768, 1024]⟩
abbrev S1024x896 : Shape := ⟨2, ![1024, 896]⟩
abbrev S768x896 : Shape := ⟨2, ![768, 896]⟩

abbrev nBuf : Space → Nat
  | .hbm => 5
  | .vmem => 7
  | .smem => 0
  | _ => 0

abbrev bufTy : (tb : Table) → Fin (tcTables nBuf tb) → BufTy
  | .hbm, ⟨0, _⟩ => ⟨S2304x1024, .f32⟩
  | .hbm, ⟨1, _⟩ => ⟨S1024x6208, .f32⟩
  | .hbm, ⟨2, _⟩ => ⟨S2304x1024, .bf16⟩
  | .hbm, ⟨3, _⟩ => ⟨S1024x6208, .bf16⟩
  | .hbm, ⟨4, _⟩ => ⟨S2304x6208, .f32⟩
  | .local _ .vmem, ⟨0, _⟩ => ⟨S768x1024, .bf16⟩
  | .local _ .vmem, ⟨1, _⟩ => ⟨S768x1024, .bf16⟩
  | .local _ .vmem, ⟨2, _⟩ => ⟨S1024x896, .bf16⟩
  | .local _ .vmem, ⟨3, _⟩ => ⟨S1024x896, .bf16⟩
  | .local _ .vmem, ⟨4, _⟩ => ⟨S768x896, .f32⟩
  | .local _ .vmem, ⟨5, _⟩ => ⟨S768x896, .f32⟩
  | .local _ .vmem, ⟨6, _⟩ => ⟨S768x896, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 7, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2304x1024 : Shape := ⟨2, ![2304, 1024]⟩
abbrev S1024x6208 : Shape := ⟨2, ![1024, 6208]⟩
abbrev S2304x6208 : Shape := ⟨2, ![2304, 6208]⟩

abbrev nBuf : Space → Nat
  | .hbm => 3
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x6208, .f32⟩
  | .hbm, ⟨2, _⟩ => ⟨S2304x6208, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S2304x6208 : Shape := ⟨2, ![2304, 6208]⟩
abbrev S1024x6208 : Shape := ⟨2, ![1024, 6208]⟩
abbrev S2304x1024 : Shape := ⟨2, ![2304, 1024]⟩
abbrev S768x896 : Shape := ⟨2, ![768, 896]⟩
abbrev S1024x896 : Shape := ⟨2, ![1024, 896]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2304x6208, .f32⟩
  | .hbm, ⟨1, _⟩ => ⟨S1024x6208, .f32⟩
  | .hbm, ⟨2, _⟩ => ⟨S2304x6208, .bf16⟩
  | .hbm, ⟨3, _⟩ => ⟨S1024x6208, .bf16⟩
  | .hbm, ⟨4, _⟩ => ⟨S2304x1024, .f32⟩
  | .local _ .vmem, ⟨0, _⟩ => ⟨S768x896, .bf16⟩
  | .local _ .vmem, ⟨1, _⟩ => ⟨S768x896, .bf16⟩
  | .local _ .vmem, ⟨2, _⟩ => ⟨S1024x896, .bf16⟩
  | .local _ .vmem, ⟨3, _⟩ => ⟨S1024x896, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x6208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 7], ![false, false, false]⟩

def k0_cond2 (i : grid0.Coords) : BitVec 1 :=
  let arg2 : BitVec 32 := BitVec.ofNat 32 (i 2).val
  let c6_i32 : BitVec 32 := 6#32
  let v25 : BitVec 1 := Scalar.cmpi .eq arg2 c6_i32
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2304x6208 : Shape := ⟨2, ![2304, 6208]⟩
abbrev S1024x6208 : Shape := ⟨2, ![1024, 6208]⟩
abbrev S_ : Shape := ⟨0, ![]⟩
abbrev S2304x1024 : Shape := ⟨2, ![2304, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2304x6208, .f32⟩
  | .hbm, ⟨1, _⟩ => ⟨S1024x6208, .f32⟩
  | .hbm, ⟨2, _⟩ => ⟨S_, .f32⟩
  | .hbm, ⟨3, _⟩ => ⟨S2304x1024, .f32⟩
  | .hbm, ⟨4, _⟩ => ⟨S2304x6208, .f32⟩
  | .hbm, ⟨5, _⟩ => ⟨S2304x1024, .f32⟩
  | _, _ => ⟨S2304x6208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S2304x1024 : Shape := ⟨2, ![2304, 1024]⟩
abbrev S2304x6208 : Shape := ⟨2, ![2304, 6208]⟩
abbrev S1024x6208 : Shape := ⟨2, ![1024, 6208]⟩
abbrev S1152x1024 : Shape := ⟨2, ![1152, 1024]⟩
abbrev S1152x896 : Shape := ⟨2, ![1152, 896]⟩
abbrev S1024x896 : Shape := ⟨2, ![1024, 896]⟩

abbrev nBuf : Space → Nat
  | .hbm => 5
  | .vmem => 7
  | .smem => 0
  | _ => 0

abbrev bufTy : (tb : Table) → Fin (tcTables nBuf tb) → BufTy
  | .hbm, ⟨0, _⟩ => ⟨S2304x1024, .f32⟩
  | .hbm, ⟨1, _⟩ => ⟨S2304x6208, .f32⟩
  | .hbm, ⟨2, _⟩ => ⟨S2304x1024, .bf16⟩
  | .hbm, ⟨3, _⟩ => ⟨S2304x6208, .bf16⟩
  | .hbm, ⟨4, _⟩ => ⟨S1024x6208, .bf16⟩
  | .local _ .vmem, ⟨0, _⟩ => ⟨S1152x1024, .bf16⟩
  | .local _ .vmem, ⟨1, _⟩ => ⟨S1152x1024, .bf16⟩
  | .local _ .vmem, ⟨2, _⟩ => ⟨S1152x896, .bf16⟩
  | .local _ .vmem, ⟨3, _⟩ => ⟨S1152x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2304x1024 : Shape := ⟨2, ![2304, 1024]⟩
abbrev S2304x6208 : Shape := ⟨2, ![2304, 6208]⟩
abbrev S_ : Shape := ⟨0, ![]⟩
abbrev S1024x6208 : Shape := ⟨2, ![1024, 6208]⟩
abbrev S6208x1024 : Shape := ⟨2, ![6208, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x6208, .f32⟩
  | .hbm, ⟨2, _⟩ => ⟨S_, .f32⟩
  | .hbm, ⟨3, _⟩ => ⟨S1024x6208, .f32⟩
  | .hbm, ⟨4, _⟩ => ⟨S2304x6208, .f32⟩
  | .hbm, ⟨5, _⟩ => ⟨S6208x1024, .f32⟩
  | .hbm, ⟨6, _⟩ => ⟨S1024x6208, .f32⟩
  | .hbm, ⟨7, _⟩ => ⟨S1024x6208, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S2048x5632 : Shape := ⟨2, ![2048, 5632]⟩
abbrev S2048x2816 : Shape := ⟨2, ![2048, 2816]⟩
abbrev S256x1408 : Shape := ⟨2, ![256, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .f32⟩
  | .hbm, ⟨3, _⟩ => ⟨S2048x2816, .bf16⟩
  | .hbm, ⟨4, _⟩ => ⟨S2048x2816, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .bf16⟩
  | .local _ .vmem, ⟨7, _⟩ => ⟨S256x1408, .bf16⟩
  | .local _ .vmem, ⟨8, _⟩ => ⟨S256x1408, .f32⟩
  | .local _ .vmem, ⟨9, _⟩ => ⟨S256x1408, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 arg0
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 arg0
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 arg0
  let c0_i32_2 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![v1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference23Ideal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Kernel24.lean ====
abbrev S2048x1024 : Shape := ⟨2, ![2048, 1024]⟩
abbrev S1024 : Shape := ⟨1, ![1024]⟩
abbrev S1x1024 : Shape := ⟨2, ![1, 1024]⟩
abbrev S1x1x1024 : Shape := ⟨3, ![1, 1, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x1x1024, .f32⟩
  | .hbm, ⟨5, _⟩ => ⟨S2048x1024, .bf16⟩
  | .hbm, ⟨6, _⟩ => ⟨S1x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg1 : BitVec 32 := BitVec.ofNat 32 (i 1).val
  let c0_i32 : BitVec 32 := 0#32
  let v11 : BitVec 1 := Scalar.cmpi .eq arg1 c0_i32
  let v_true : BitVec 1 := 1#1
  let v14 : BitVec 1 := Scalar.xori v11 v_true
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![v1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference24Ideal.lean ====
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S2048x1024, .bf16⟩
  | .hbm, ⟨15, _⟩ => ⟨S1x1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel25.lean ====
abbrev S2048x1024 : Shape := ⟨2, ![2048, 1024]⟩
abbrev S1024 : Shape := ⟨1, ![1024]⟩
abbrev S1x1024 : Shape := ⟨2, ![1, 1024]⟩
abbrev S1x1x1024 : Shape := ⟨3, ![1, 1, 1024]⟩
abbrev S512x1024 : Shape := ⟨2, ![512, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S1x1x1024, .f32⟩
  | .hbm, ⟨6, _⟩ => ⟨S1x1024, .f32⟩
  | .hbm, ⟨7, _⟩ => ⟨S1x1x1024, .f32⟩
  | .hbm, ⟨8, _⟩ => ⟨S2048x1024, .bf16⟩
  | .hbm, ⟨9, _⟩ => ⟨S1x1x1024, .f32⟩
  | .hbm, ⟨10, _⟩ => ⟨S1x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_12 : BitVec 32 := 0#32
  let v19 : BitVec 1 := Scalar.cmpi .ne v18 c0_i32_12
  v19

def k0_cond2 (i : grid0.Coords) : BitVec 1 :=
  let arg1 : BitVec 32 := BitVec.ofNat 32 (i 1).val
  let c0_i32 : BitVec 32 := 0#32
  let v17 : BitVec 1 := Scalar.cmpi .eq arg1 c0_i32
  let v_true : BitVec 1 := 1#1
  let v20 : BitVec 1 := Scalar.xori v17 v_true
  let v21 : BitVec 32 := Scalar.extui v20
  let c0_i32_13 : BitVec 32 := 0#32
  let v22 : BitVec 1 := Scalar.cmpi .ne v21 c0_i32_13
  v22

def k0_cond3 (i : grid0.Coords) : BitVec 1 :=
  let arg1 : BitVec 32 := BitVec.ofNat 32 (i 1).val
  let c0_i32_14 : BitVec 32 := 0#32
  let v23 : BitVec 1 := Scalar.cmpi .eq arg1 c0_i32_14
  let v24 : BitVec 32 := Scalar.extui v23
  let c0_i32_15 : BitVec 32 := 0#32
  let v25 : BitVec 1 := Scalar.cmpi .ne v24 c0_i32_15
  v25

def k0_cond4 (i : grid0.Coords) : BitVec 1 :=
  let arg1 : BitVec 32 := BitVec.ofNat 32 (i 1).val
  let c0_i32_14 : BitVec 32 := 0#32
  let v23 : BitVec 1 := Scalar.cmpi .eq arg1 c0_i32_14
  let true_16 : BitVec 1 := 1#1
  let v26 : BitVec 1 := Scalar.xori v23 true_16
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![v1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference25Ideal.lean ====
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S_, .f32⟩
  | .hbm, ⟨22, _⟩ => ⟨S1024, .f32⟩
  | .hbm, ⟨23, _⟩ => ⟨S2048x1024, .bf16⟩
  | .hbm, ⟨24, _⟩ => ⟨S1x1x1024, .f32⟩
  | .hbm, ⟨25, _⟩ => ⟨S1x1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel26.lean ====
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S1x1024 : Shape := ⟨2, ![1, 1024]⟩
abbrev S1x1x1024 : Shape := ⟨3, ![1, 1, 1024]⟩
abbrev S512x1024 : Shape := ⟨2, ![512, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S1x1x1024, .f32⟩
  | .hbm, ⟨9, _⟩ => ⟨S2048x1024, .bf16⟩
  | .hbm, ⟨10, _⟩ => ⟨S2048x1024, .bf16⟩
  | .hbm, ⟨11, _⟩ => ⟨S1x1x1024, .f32⟩
  | .hbm, ⟨12, _⟩ => ⟨S1x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1x1024, .f32⟩
  | .local _ .vmem, ⟨13, _⟩ => ⟨S1x1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_17 : BitVec 32 := 0#32
  let v28 : BitVec 1 := Scalar.cmpi .ne v27 c0_i32_17
  v28

def k0_cond2 (i : grid0.Coords) : BitVec 1 :=
  let arg1 : BitVec 32 := BitVec.ofNat 32 (i 1).val
  let c0_i32 : BitVec 32 := 0#32
  let v26 : BitVec 1 := Scalar.cmpi .eq arg1 c0_i32
  let v_true : BitVec 1 := 1#1
  let v29 : BitVec 1 := Scalar.xori v26 v_true
  let v30 : BitVec 32 := Scalar.extui v29
  let c0_i32_18 : BitVec 32 := 0#32
  let v31 : BitVec 1 := Scalar.cmpi .ne v30 c0_i32_18
  v31

def k0_cond3 (i : grid0.Coords) : BitVec 1 :=
  let arg1 : BitVec 32 := BitVec.ofNat 32 (i 1).val
  let c0_i32_19 : BitVec 32 := 0#32
  let v32 : BitVec 1 := Scalar.cmpi .eq arg1 c0_i32_19
  let v33 : BitVec 32 := Scalar.extui v32
  let c0_i32_20 : BitVec 32 := 0#32
  let v34 : BitVec 1 := Scalar.cmpi .ne v33 c0_i32_20
  v34

def k0_cond4 (i : grid0.Coords) : BitVec 1 :=
  let arg1 : BitVec 32 := BitVec.ofNat 32 (i 1).val
  let c0_i32_19 : BitVec 32 := 0#32
  let v32 : BitVec 1 := Scalar.cmpi .eq arg1 c0_i32_19
  let true_21 : BitVec 1 := 1#1
  let v35 : BitVec 1 := Scalar.xori v32 true_21
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c1_i32 : BitVec 32 := 1#32
  let v3 : BitVec 32 := Scalar.addi c1_i32 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![v1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference26Ideal.lean ====
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S1024, .f32⟩
  | .hbm, ⟨39, _⟩ => ⟨S2048x1024, .bf16⟩
  | .hbm, ⟨40, _⟩ => ⟨S2048x1024, .bf16⟩
  | .hbm, ⟨41, _⟩ => ⟨S1x1x1024, .f32⟩
  | .hbm, ⟨42, _⟩ => ⟨S1x1x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel27.lean ====
abbrev S2048x1024 : Shape := ⟨2, ![2048, 1024]⟩
abbrev S1024 : Shape := ⟨1, ![1024]⟩
abbrev S1x1024 : Shape := ⟨2, ![1, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S1x1x1024, .f32⟩
  | .hbm, ⟨6, _⟩ => ⟨S1x1024, .f32⟩
  | .hbm, ⟨7, _⟩ => ⟨S1x1x1024, .f32⟩
  | .hbm, ⟨8, _⟩ => ⟨S2048x1024, .f32⟩
  | .hbm, ⟨9, _⟩ => ⟨S1x1x1024, .f32⟩
  | .hbm, ⟨10, _⟩ => ⟨S1x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v70 : BitVec 1 := Scalar.cmpi .eq arg1 c0_i32
  let v71 : BitVec 32 := Scalar.extui v70
  let c0_i32_26 : BitVec 32 := 0#32
  let v72 : BitVec 1 := Scalar.cmpi .ne v71 c0_i32_26
  v72

def k0_cond2 (i : grid0.Coords) : BitVec 1 :=
  let arg1 : BitVec 32 := BitVec.ofNat 32 (i 1).val
  let c0_i32 : BitVec 32 := 0#32
  let v70 : BitVec 1 := Scalar.cmpi .eq arg1 c0_i32
  let v_true : BitVec 1 := 1#1
  let v73 : BitVec 1 := Scalar.xori v70 v_true
  let v74 : BitVec 32 := Scalar.extui v73
  let c0_i32_27 : BitVec 32 := 0#32
  let v75 : BitVec 1 := Scalar.cmpi .ne v74 c0_i32_27
  v75

def k0_cond3 (i : grid0.Coords) : BitVec 1 :=
  let arg1 : BitVec 32 := BitVec.ofNat 32 (i 1).val
  let c0_i32_28 : BitVec 32 := 0#32
  let v76 : BitVec 1 := Scalar.cmpi .eq arg1 c0_i32_28
  let v77 : BitVec 32 := Scalar.extui v76
  let c0_i32_29 : BitVec 32 := 0#32
  let v78 : BitVec 1 := Scalar.cmpi .ne v77 c0_i32_29
  v78

def k0_cond4 (i : grid0.Coords) : BitVec 1 :=
  let arg1 : BitVec 32 := BitVec.ofNat 32 (i 1).val
  let c0_i32_28 : BitVec 32 := 0#32
  let v76 : BitVec 1 := Scalar.cmpi .eq arg1 c0_i32_28
  let true_30 : BitVec 1 := 1#1
  let v79 : BitVec 1 := Scalar.xori v76 true_30
  let v80 : BitVec 32 := Scalar.extui v79
  let c0_i32_31 : BitVec 32 := 0#32
  let v81 : BitVec 1 := Scalar.cmpi .ne v80 c0_i32_31
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![v1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference27Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1x1024 : Shape := ⟨3, ![1, 1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x1024, .f32⟩
  | .hbm, ⟨92, _⟩ => ⟨S2048x1024, .f32⟩
  | .hbm, ⟨93, _⟩ => ⟨S1x1x1024, .f32⟩
  | .hbm, ⟨94, _⟩ => ⟨S1x1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel28.lean ====
abbrev S2048x1024 : Shape := ⟨2, ![2048, 1024]⟩
abbrev S1024 : Shape := ⟨1, ![1024]⟩
abbrev S1x1024 : Shape := ⟨2, ![1, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1024, .f32⟩
  | .hbm, ⟨11, _⟩ => ⟨S1x1x1024, .f32⟩
  | .hbm, ⟨12, _⟩ => ⟨S2048x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v54 : BitVec 1 := Scalar.cmpi .eq arg1 c0_i32
  let v55 : BitVec 32 := Scalar.extui v54
  let c0_i32_23 : BitVec 32 := 0#32
  let v56 : BitVec 1 := Scalar.cmpi .ne v55 c0_i32_23
  v56

def k0_cond2 (i : grid0.Coords) : BitVec 1 :=
  let arg1 : BitVec 32 := BitVec.ofNat 32 (i 1).val
  let c0_i32 : BitVec 32 := 0#32
  let v54 : BitVec 1 := Scalar.cmpi .eq arg1 c0_i32
  let v_true : BitVec 1 := 1#1
  let v57 : BitVec 1 := Scalar.xori v54 v_true
  let v58 : BitVec 32 := Scalar.extui v57
  let c0_i32_24 : BitVec 32 := 0#32
  let v59 : BitVec 1 := Scalar.cmpi .ne v58 c0_i32_24
  v59

def k0_cond3 (i : grid0.Coords) : BitVec 1 :=
  let arg1 : BitVec 32 := BitVec.ofNat 32 (i 1).val
  let c0_i32_25 : BitVec 32 := 0#32
  let v60 : BitVec 1 := Scalar.cmpi .eq arg1 c0_i32_25
  let v61 : BitVec 32 := Scalar.extui v60
  let c0_i32_26 : BitVec 32 := 0#32
  let v62 : BitVec 1 := Scalar.cmpi .ne v61 c0_i32_26
  v62

def k0_cond4 (i : grid0.Coords) : BitVec 1 :=
  let arg1 : BitVec 32 := BitVec.ofNat 32 (i 1).val
  let c0_i32_25 : BitVec 32 := 0#32
  let v60 : BitVec 1 := Scalar.cmpi .eq arg1 c0_i32_25
  let true_27 : BitVec 1 := 1#1
  let v63 : BitVec 1 := Scalar.xori v60 true_27
  let v64 : BitVec 32 := Scalar.extui v63
  let c0_i32_28 : BitVec 32 := 0#32
  let v65 : BitVec 1 := Scalar.cmpi .ne v64 c0_i32_28
  v65

def k0_cond5 (i : grid0.Coords) : BitVec 1 :=
  let arg1 : BitVec 32 := BitVec.ofNat 32 (i 1).val
  let c0_i32_29 : BitVec 32 := 0#32
  let v66 : BitVec 1 := Scalar.cmpi .eq arg1 c0_i32_29
  let v67 : BitVec 32 := Scalar.extui v66
  let c0_i32_30 : BitVec 32 := 0#32
  let v68 : BitVec 1 := Scalar.cmpi .ne v67 c0_i32_30
  v68

def k0_cond6 (i : grid0.Coords) : BitVec 1 :=
  let arg1 : BitVec 32 := BitVec.ofNat 32 (i 1).val
  let c0_i32_29 : BitVec 32 := 0#32
  let v66 : BitVec 1 := Scalar.cmpi .eq arg1 c0_i32_29
  let true_31 : BitVec 1 := 1#1
  let v69 : BitVec 1 := Scalar.xori v66 true_31
  let v70 : BitVec 32 := Scalar.extui v69
  let c0_i32_32 : BitVec 32 := 0#32
  let v71 : BitVec 1 := Scalar.cmpi .ne v70 c0_i32_32
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 arg0
  let c0_i32_2 : BitVec 32 := 0#32
  ![v2.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![v1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference28Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1x1x1024, .f32⟩
  | .hbm, ⟨76, _⟩ => ⟨S1x1x1024, .f32⟩
  | .hbm, ⟨77, _⟩ => ⟨S1x1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Proof.Blocks.lean ====
/-
  Products computed block by block: an accumulator that starts at the first block of terms and gains one block per step
  holds the sum of all terms so far. Also the reading of an array at natural-number coordinates, which the programs'
  blocks and the references share.
-/
module

public import Idealize.ShloMosaic.PureOps.Ideal.Laws
public import Idealize.ShloMosaic.Lib.Pointwise

@[expose] public section

noncomputable section

namespace Cert.Blocks

open Idealize.ShloMosaic
open scoped BigOperators

/-- A matrix read at natural-number coordinates, zero outside its extents. -/
def at2 {M N : ℕ} (x : (⟨2, ![M, N]⟩ : Shape).Idx → EReal) (r k : ℕ) : EReal :=
  if h : r < M ∧ k < N then x (ix2 ⟨r, h.1⟩ ⟨k, h.2⟩) else 0

/-- Inside the extents that is the matrix's element. -/
theorem at2_of {M N : ℕ} (x : (⟨2, ![M, N]⟩ : Shape).Idx → EReal) {r k : ℕ} (hr : r < M) (hk : k < N) :
    at2 x r k = x (ix2 ⟨r, hr⟩ ⟨k, hk⟩) := dif_pos ⟨hr, hk⟩

/-- A stack of matrices read at natural-number coordinates, zero outside its extents. -/
def at3 {L M N : ℕ} (x : (⟨3, ![L, M, N]⟩ : Shape).Idx → EReal) (l r k : ℕ) : EReal :=
  if h : l < L ∧ r < M ∧ k < N then x (ix3 ⟨l, h.1⟩ ⟨r, h.2.1⟩ ⟨k, h.2.2⟩) else 0

/-- Inside the extents that is the stack's element. -/
theorem at3_of {L M N : ℕ} (x : (⟨3, ![L, M, N]⟩ : Shape).Idx → EReal) {l r k : ℕ} (hl : l < L) (hr : r < M) (hk : k < N) :
    at3 x l r k = x (ix3 ⟨l, hl⟩ ⟨r, hr⟩ ⟨k, hk⟩) := dif_pos ⟨hl, hr, hk⟩

/-- One more block of terms: the sum of the first `s` blocks and the next block's sum are the sum of `s + 1` blocks. -/
theorem add_block (tk s : ℕ) (f : ℕ → EReal) :
    (∑ k ∈ Finset.range (tk * s), f k) + ∑ k : Fin tk, f (tk * s + k.val) = ∑ k ∈ Finset.range (tk * (s + 1)), f k := by
  rw [Nat.mul_succ, Finset.sum_range_add, Fin.sum_univ_eq_sum_range (fun k => f (tk * s + k)) tk]

/-- An accumulator that holds the first block's sum at step 0 and gains the next block's sum at every later step holds,
    after step `s`, the sum of the first `s + 1` blocks. -/
theorem sweep (S tk : ℕ) (f : ℕ → EReal) (acc : ℕ → EReal) (h0 : 0 < S → acc 0 = ∑ k : Fin tk, f k.val)
    (hs : ∀ s, s + 1 < S → acc (s + 1) = acc s + ∑ k : Fin tk, f (tk * (s + 1) + k.val)) :
    ∀ s, s < S → acc s = ∑ k ∈ Finset.range (tk * (s + 1)), f k := by
  intro s
  induction s with
  | zero =>
    intro h
    rw [h0 h, Fin.sum_univ_eq_sum_range (fun k => f k) tk, Nat.mul_succ, Nat.mul_zero, Nat.zero_add]
  | succ s ih =>
    intro h
    rw [hs s h, ih (by omega), add_block]

end Cert.Blocks

end
-- ==== Proof.UpDw.lean ====
/-
  The weight's gradient of the feed-forward's first product: `cc0_l0_w_up_dw` leaves, at chip's block `p`, row `r` and column `j`, the sum
  over the 2048 rows `k` of `u[k, r] * g[k, 1408 * p + j]`, gathered in two blocks of 1024.
-/
module

public import proofs.«01_k».proof.Defs
public import proofs.«01_k».proof.Proof.Gen.KernelIdeal.Value
public import proofs.«01_k».proof.Proof.Gen.ReferenceIdeal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.KernelIdeal.Product

open Cert.KernelIdeal Cert.KernelIdeal.Gen Cert.KernelIdeal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1024 .bf16) (x1 : Vec F S1024x1408 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz, View.ld_unit_zero (S := S1024x1408) hz]

/-- The last step adds the block's product to what the scratch held. -/
theorem sout_B (c : Dev nD) (i : grid0.Coords) (a3 h3 a4 h4 a5 h5 a6 h6 hc0 hc1) (x0 : Vec F S1024x1024 .bf16) (x1 : Vec F S1024x1408 .bf16) (xs : Vec F S1024x1408 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1024x1408) hz]

/-- … and writes what the scratch then holds, rounded, to the output block. -/
theorem out_B (c : Dev nD) (i : grid0.Coords) (a3 h3 a4 h4 a5 h5 a6 h6 hc0 hc1) (x0 : Vec F S1024x1024 .bf16) (x1 : Vec F S1024x1408 .bf16) (xs : Vec F S1024x1408 .f32) :
    out0_B_2 c i a3 h3 a4 h4 a5 h5 a6 h6 hc0 hc1 x0 x1 xs = k0_pay3 (k0_pay2 x0 x1 xs) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero _ hz]
  simp only [View.readAt_eq_ld, h3.read_unread, h4.read_unread, h6.read_unread, View.ld_unit_zero (S := S1024x1024) hz, View.ld_unit_zero (S := S1024x1408) hz]

end cases

variable (m : (ℓ : Loc nD τ sig) → Buf (Elt Ideal) ℓ)

/-- A step's payload at an index: what the accumulator held plus the block's products. -/
theorem pay2_apply (x0 : Vec Ideal S1024x1024 .bf16) (x1 : Vec Ideal S1024x1408 .bf16) (acc : Vec Ideal S1024x1408 .f32) (i : Fin 1024) (j : Fin 1408) :
    k0_pay2 x0 x1 acc (ix2 i j) = (acc (ix2 i j) : EReal) + ∑ k : Fin 1024, (x0 (ix2 k i) : EReal) * (x1 (ix2 k j) : EReal) := by
  pointwise [k0_pay2]

theorem pay1_apply (i : Fin 1024) (j : Fin 1408) : k0_pay1 (F := Ideal) (ix2 i j) = (0 : EReal) := by
  pointwise [k0_pay1]

/-- The rounding to the result's format changes no value. -/
theorem pay3_apply (acc : Vec Ideal S1024x1408 .f32) (i : Fin 1024) (j : Fin 1408) : k0_pay3 acc (ix3 0 i j) = (acc (ix2 i j) : EReal) := by
  pointwise [k0_pay3]

theorem idx0 : ∀ t : Fin cfg0.N, win0_0.index t 0 = t.val % 2 ∧ win0_0.index t 1 = 0 :=
  (by decide +kernel : ∀ t : Fin grid0.N, _)
theorem idx1 : ∀ t : Fin cfg0.N, win0_1.index t 0 = t.val % 2 ∧ win0_1.index t 1 = (t.val / 2) :=
  (by decide +kernel : ∀ t : Fin grid0.N, _)

/-- The rows' block of a grid point. -/
theorem blk0 (c : Dev nD) (t : Fin cfg0.N) (k : Fin 1024) (i : Fin 1024) :
    (iblk m c 0 t : Vec Ideal S1024x1024 .bf16) (ix2 k i)
      = at2 (M := 2048) (N := 1024) (m ((c : Thread nD τ).loc main_arg0)) (1024 * (t.val % 2) + k.val) (i.val) := by
  have hN : t.val < 8 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val % 2) + k.val, by omega⟩ : Fin 2048) (⟨i.val, by omega⟩ : Fin 1024))
      = (m ((c : Thread nD τ).loc main_arg0) : (⟨2, ![2048, 1024]⟩ : Shape).Idx → EReal) (ix2 ⟨1024 * (t.val % 2) + k.val, by omega⟩ ⟨i.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * k.val = _; rw [e0]; show _ = 1024 * (t.val % 2) + k.val; omega
  | ⟨1, _⟩ => show win0_0.index t 1 * 1024 + 1 * i.val = _; rw [e1]; show _ = i.val; omega

/-- The cotangent's block of a grid point. -/
theorem blk1 (c : Dev nD) (t : Fin cfg0.N) (k : Fin 1024) (j : Fin 1408) :
    (iblk m c 1 t : Vec Ideal S1024x1408 .bf16) (ix2 k j)
      = at2 (M := 2048) (N := 5632) (m ((c : Thread nD τ).loc main_arg1)) (1024 * (t.val % 2) + k.val) (1408 * (t.val / 2) + j.val) := by
  have hN : t.val < 8 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨1024 * (t.val % 2) + k.val, by omega⟩ : Fin 2048) (⟨1408 * (t.val / 2) + j.val, by omega⟩ : Fin 5632))
      = (m ((c : Thread nD τ).loc main_arg1) : (⟨2, ![2048, 5632]⟩ : Shape).Idx → EReal) (ix2 ⟨1024 * (t.val % 2) + k.val, by omega⟩ ⟨1408 * (t.val / 2) + j.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * k.val = _; rw [e0]; show _ = 1024 * (t.val % 2) + k.val; omega
  | ⟨1, _⟩ => show win0_1.index t 1 * 1408 + 1 * j.val = _; rw [e1]; show _ = 1408 * (t.val / 2) + j.val; omega

/-- The term a row `k` contributes to row `r` and column `j` of the product. -/
abbrev term (c : Dev nD) (r j k : ℕ) : EReal :=
  at2 (M := 2048) (N := 1024) (m ((c : Thread nD τ).loc main_arg0)) k r * at2 (M := 2048) (N := 5632) (m ((c : Thread nD τ).loc main_arg1)) k j

/-- A step adds the block's terms to what the accumulator held. -/
theorem step_apply (c : Dev nD) (t : Fin cfg0.N) (acc : Vec Ideal S1024x1408 .f32) (i : Fin 1024) (j : Fin 1408) :
    k0_pay2 (iblk m c 0 t) (iblk m c 1 t) acc (ix2 i j)
      = (acc (ix2 i j) : EReal) + ∑ k : Fin 1024, term m c (i.val) (1408 * (t.val / 2) + j.val) (1024 * (t.val % 2) + k.val) := by
  rw [pay2_apply]
  refine congrArg _ (Finset.sum_congr rfl fun k _ => ?_)
  rw [blk0, blk1]

/-- The scratch after step `s` of the block `q`: the terms of the first `s + 1` blocks of rows. -/
theorem scratch_apply (c : Dev nD) (q : ℕ) (hq : q < 4) (i : Fin 1024) (j : Fin 1408) (s : ℕ) (hs : s < 2) (h : 2 * q + s < cfg0.N) :
    ((outsAt0 m c (2 * q + s) h).2 (ix2 i j) : EReal) = ∑ k ∈ Finset.range (1024 * (s + 1)), term m c (i.val) (1408 * q + j.val) k := by
  have hN : cfg0.N = 8 := N_0
  have key := sweep 2 1024 (term m c (i.val) (1408 * q + j.val))
    (fun s => if h : 2 * q + s < cfg0.N then ((outsAt0 m c (2 * q + s) h).2 (ix2 i j) : EReal) else 0)
    (fun _ => by
      have hb : 2 * q + 0 < cfg0.N := by omega
      have hA := outsAt0_A m c ⟨2 * q + 0, hb⟩ (by show (2 * q + 0) % 2 = 0; omega) (by show ¬(2 * q + 0) % 2 = 1; omega)
      simp only [dif_pos hb]
      rw [hA]
      dsimp only
      rw [sout_A, step_apply, pay1_apply, zero_add]
      refine Finset.sum_congr rfl fun k _ => ?_
      show term m c (i.val) (1408 * ((2 * q + 0) / 2) + j.val) (1024 * ((2 * q + 0) % 2) + k.val) = _
      rw [show (2 * q + 0) / 2 = q by omega, show (2 * q + 0) % 2 = 0 by omega, Nat.mul_zero, Nat.zero_add])
    (fun s hs => by
      have hb : 2 * q + (s + 1) < cfg0.N := by omega
      have hb' : 2 * q + s < cfg0.N := by omega
      have h1 : (2 * q + (s + 1)) % 2 = 1 := by omega
      simp only [dif_pos hb, dif_pos hb']
      have e : (outsAt0 m c (2 * q + (s + 1)) hb).2
          = k0_pay2 (iblk m c 0 ⟨2 * q + (s + 1), hb⟩) (iblk m c 1 ⟨2 * q + (s + 1), hb⟩) (outsAt0 m c (2 * q + s) hb').2 := by
        have hB := outsAt0_B m c ⟨2 * q + (s + 1), hb⟩ (by show ¬(2 * q + (s + 1)) % 2 = 0; omega) h1
        rw [hB]
        dsimp only
        rw [sout_B]
        rfl
      rw [e, step_apply]
      refine congrArg _ (Finset.sum_congr rfl fun k _ => ?_)
      show term m c (i.val) (1408 * ((2 * q + (s + 1)) / 2) + j.val) (1024 * ((2 * q + (s + 1)) % 2) + k.val) = _
      rw [show (2 * q + (s + 1)) / 2 = q by omega, show (2 * q + (s + 1)) % 2 = s + 1 by omega])
    s hs
  simpa only [dif_pos h] using key

/-- The output block after the last step of a block: the sum over all rows. -/
theorem out_apply (c : Dev nD) (q : ℕ) (hq : q < 4) (i : Fin 1024) (j : Fin 1408) (h : 2 * q + 1 < cfg0.N) :
    ((outsAt0 m c (2 * q + 1) h).1 (ix3 0 i j) : EReal) = ∑ k ∈ Finset.range 2048, term m c (i.val) (1408 * q + j.val) k := by
  have hs := scratch_apply m c q hq i j 1 (by omega) h
  have hB := outsAt0_B m c ⟨2 * q + 1, h⟩ (by show ¬(2 * q + 1) % 2 = 0; omega) (by show (2 * q + 1) % 2 = 1; omega)
  rw [hB] at hs ⊢
  dsimp only at hs ⊢
  rw [sout_B] at hs
  rw [out_B, pay3_apply]
  exact hs

/-- The result array: at the chip's block `p`, row `r` and column `j` the sum over all rows of the terms. -/
theorem array_apply (c : Dev nD) (p : Fin 4) (r : Fin 1024) (j : Fin 1408) :
    (G2 m c (ix3 p r j) : EReal) = ∑ k ∈ Finset.range 2048, term m c r.val (1408 * p.val + j.val) k := by
  have hq := p.isLt
  have hr := r.isLt
  have hj := j.isLt
  have hN : cfg0.N = 8 := N_0
  have hp : pt2Of (ix3 p r j) = 2 * p.val + 1 := by
    show 2 * (1 * (p.val / 1 - 0) + 1 * (r.val / 1024 - 0) + 1 * (j.val / 1408 - 0)) + 1 = _
    omega
  have hlt : pt2Of (ix3 p r j) < cfg0.N := by rw [hp]; omega
  have hl : loc2Of (ix3 p r j) = ix3 (0 : Fin 1) r j := by
    funext a
    apply Fin.ext
    match a with
    | ⟨0, _⟩ => exact Nat.mod_one _
    | ⟨1, _⟩ => exact Nat.mod_eq_of_lt hr
    | ⟨2, _⟩ => exact Nat.mod_eq_of_lt hj
  unfold G2
  rw [dif_pos hlt, ← outsAt0_sweep m c _ hlt, hl]
  have := out_apply m c p.val hq r j (by omega)
  rw [← this]
  congr 2
  simp only [hp]

/-- The reference's contraction, rounded and laid out in the chips' blocks, at an index: a sum over the rows. -/
theorem reference_apply (u : FVec Ideal Cert.ReferenceIdeal.S2048x1024 .f32) (g : FVec Ideal Cert.ReferenceIdeal.S2048x5632 .f32) (p : Fin 4) (r : Fin 1024) (j : Fin 1408) :
    (transpose Cert.ReferenceIdeal.S4x1024x1408 [1, 0, 2] (shapeCast _ (truncf .bf16 (transpose Cert.ReferenceIdeal.S1024x5632 [1, 0]
        (Host.dotGeneral (φ₁ := .f32) (φ₂ := .f32) Cert.ReferenceIdeal.dot_S2048x5632_S2048x1024_S5632x1024_0_0_1_1_n_n none g u)
        Cert.ReferenceIdeal.Gen.transposes_S5632x1024_S1024x5632_1_0) Cert.ReferenceIdeal.Gen.bitsLt_bf16_f32)
        Cert.ReferenceIdeal.Gen.shapeCasts_S1024x5632_S1024x4x1408) Cert.ReferenceIdeal.Gen.transposes_S1024x4x1408_S4x1024x1408_1_0_2
      : FVec Ideal Cert.ReferenceIdeal.S4x1024x1408 .bf16) (ix3 p r j)
      = ∑ k ∈ Finset.range 2048, (at2 u k r.val * at2 g k (1408 * p.val + j.val) : EReal) := by
  have hp := p.isLt
  have hj := j.isLt
  pointwise
  rw [← Fin.sum_univ_eq_sum_range]
  refine Finset.sum_congr rfl fun k _ => ?_
  rw [at2_of _ k.isLt r.isLt, at2_of _ k.isLt (by omega), mul_comm]
  refine congrArg₂ (fun a b : EReal => a * b) rfl (congrArg (fun z : Fin 5632 => (g (ix2 k z) : EReal)) (Fin.ext ?_))
  show p.val * 1408 + j.val = 1408 * p.val + j.val
  omega

/-- The reference runs to the end, its arguments unchanged; it has no semaphore at all. -/
theorem reference_frame : Cert.quiescent_ReferenceIdeal (hReferenceIdeal := Cert.ReferenceIdeal.Gen.facts) := fun m g _ =>
  (θ_run _ _ _).mono (fun r h => ⟨fun c => (h c).2, funext fun s => match s with
    | (_, .reg s) => s.elim0
    | (_, .dma s) => s.elim0⟩) (Cert.ReferenceIdeal.Value.run m g)

/-- The two runs end with the same array. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => G2 m c, Cert.KernelIdeal.Value.run m g, ?_⟩
  refine (θ_run _ _ _).mono (fun r h c => ⟨(h c).1.trans ?_, (h c).2⟩) (Cert.ReferenceIdeal.Value.run m' g')
  rw [(hargs c).1, (hargs c).2]
  funext i
  obtain ⟨p, r, j, rfl⟩ : ∃ (p : Fin 4) (r : Fin 1024) (j : Fin 1408), i = ix3 p r j := ⟨i 0, i 1, i 2, (ix3_eta i).symm⟩
  exact (reference_apply _ _ p r j).trans (array_apply m c p r j).symm

end Cert.KernelIdeal.Product
-- ==== Proof.UpDx.lean ====
/-
  The rows' gradient of the feed-forward's first product: `cc0_l0_w_up_dx` leaves, at row `r` and column `j`, the sum
  over the 5632 columns `k` of `dhh[r, k] * w_up[0, j, k]`, gathered in four blocks of 1408.
-/
module

public import proofs.«01_k».proof.Defs
public import proofs.«01_k».proof.Proof.Gen.Kernel2Ideal.Value
public import proofs.«01_k».proof.Proof.Gen.Reference2Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel2Ideal.Product

open Cert.Kernel2Ideal Cert.Kernel2Ideal.Gen Cert.Kernel2Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz4 : (![0, 0, 0, 0] : Fin 4 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1408 .bf16) (x1 : Vec F S1x1x1024x1408 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1408) hz, View.ld_unit_zero (S := S1x1x1024x1408) hz4]

/-- A middle step adds the block's product to what the scratch held. -/
theorem sout_B (c : Dev nD) (i : grid0.Coords) (a3 h3 a4 h4 a5 h5 a6 h6 hc0 hc1) (x0 : Vec F S1024x1408 .bf16) (x1 : Vec F S1x1x1024x1408 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1408) hz, View.ld_unit_zero (S := S1x1x1024x1408) hz4, View.ld_unit_zero (S := S1024x1024) hz]

/-- The last step adds the block's product too. -/
theorem sout_C (c : Dev nD) (i : grid0.Coords) (a3 h3 a4 h4 a5 h5 a6 h6 hc0 hc1) (x0 : Vec F S1024x1408 .bf16) (x1 : Vec F S1x1x1024x1408 .bf16) (xs : Vec F S1024x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1408) hz, View.ld_unit_zero (S := S1x1x1024x1408) hz4, View.ld_unit_zero (S := S1024x1024) hz]

/-- … and writes what the scratch then holds to the output block. -/
theorem out_C (c : Dev nD) (i : grid0.Coords) (a3 h3 a4 h4 a5 h5 a6 h6 hc0 hc1) (x0 : Vec F S1024x1408 .bf16) (x1 : Vec F S1x1x1024x1408 .bf16) (xs : Vec F S1024x1024 .f32) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x1408) hz, View.ld_unit_zero (S := S1x1x1024x1408) hz4, View.ld_unit_zero (S := S1024x1024) hz]

end cases

variable (m : (ℓ : Loc nD τ sig) → Buf (Elt Ideal) ℓ)

/-- A step's payload at an index: what the accumulator held plus the block's products. -/
theorem pay2_apply (x0 : Vec Ideal S1024x1408 .bf16) (x1 : Vec Ideal S1x1x1024x1408 .bf16) (acc : Vec Ideal S1024x1024 .f32) (i j : Fin 1024) :
    k0_pay2 x0 x1 acc (ix2 i j) = (acc (ix2 i j) : EReal) + ∑ k : Fin 1408, (x0 (ix2 i k) : EReal) * (x1 (ix4 0 0 j k) : EReal) := by
  pointwise [k0_pay2]

theorem pay1_apply (i j : Fin 1024) : k0_pay1 (F := Ideal) (ix2 i j) = (0 : EReal) := by
  pointwise [k0_pay1]

theorem idx0 : ∀ t : Fin cfg0.N, win0_0.index t 0 = t.val / 4 ∧ win0_0.index t 1 = t.val % 4 :=
  (by decide +kernel : ∀ t : Fin grid0.N, _)
theorem idx1 : ∀ t : Fin cfg0.N, win0_1.index t 0 = t.val % 4 ∧ win0_1.index t 1 = 0 ∧ win0_1.index t 2 = 0 ∧ win0_1.index t 3 = 0 :=
  (by decide +kernel : ∀ t : Fin grid0.N, _)

/-- The rows' block of a grid point. -/
theorem blk0 (c : Dev nD) (t : Fin cfg0.N) (i : Fin 1024) (k : Fin 1408) :
    (iblk m c 0 t : Vec Ideal S1024x1408 .bf16) (ix2 i k)
      = at2 (M := 2048) (N := 5632) (m ((c : Thread nD τ).loc main_arg0)) (1024 * (t.val / 4) + i.val) (1408 * (t.val % 4) + k.val) := by
  have hN : t.val < 8 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 4) + i.val, by omega⟩ : Fin 2048) (⟨1408 * (t.val % 4) + k.val, by omega⟩ : Fin 5632))
      = (m ((c : Thread nD τ).loc main_arg0) : (⟨2, ![2048, 5632]⟩ : Shape).Idx → EReal) (ix2 ⟨1024 * (t.val / 4) + i.val, by omega⟩ ⟨1408 * (t.val % 4) + k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 4) + i.val; omega
  | ⟨1, _⟩ => show win0_0.index t 1 * 1408 + 1 * k.val = _; rw [e1]; show _ = 1408 * (t.val % 4) + k.val; omega

/-- The weight's block of a grid point: one chip's columns. -/
theorem blk1 (c : Dev nD) (t : Fin cfg0.N) (j : Fin 1024) (k : Fin 1408) :
    (iblk m c 1 t : Vec Ideal S1x1x1024x1408 .bf16) (ix4 0 0 j k)
      = at3 (L := 2) (M := 1024) (N := 5632) (m ((c : Thread nD τ).loc main_arg1)) 0 j.val (1408 * (t.val % 4) + k.val) := by
  have hN : t.val < 8 := lt_of_lt_of_eq t.isLt N_0
  have hi := j.isLt
  have hk := k.isLt
  obtain ⟨e0, e1, e2, e3⟩ := idx1 t
  rw [at3_of _ (by omega) (by omega) (by omega)]
  unfold iblk
  rw [View.read_apply]
  have e : V m c main_v3 (ix4 (⟨t.val % 4, by omega⟩ : Fin 4) (0 : Fin 2) j k)
      = (m ((c : Thread nD τ).loc main_arg1) : (⟨3, ![2, 1024, 5632]⟩ : Shape).Idx → EReal) (ix3 ⟨0, by omega⟩ ⟨j.val, by omega⟩ ⟨1408 * (t.val % 4) + k.val, by omega⟩) := by
    unfold V
    after_reads_at
    exact congrArg (fun z : Fin 5632 => (m ((c : Thread nD τ).loc main_arg1) : (⟨3, ![2, 1024, 5632]⟩ : Shape).Idx → EReal) (ix3 0 j z))
      (Fin.ext (by show t.val % 4 * 1408 + k.val = 1408 * (t.val % 4) + k.val; omega))
  refine Eq.trans ?_ e
  show V m c main_v3 _ = V m c main_v3 _
  congr 1
  funext a
  apply Fin.ext
  match a with
  | ⟨0, _⟩ => show win0_1.index t 0 * 1 + 1 * 0 = _; rw [e0]; show _ = t.val % 4; omega
  | ⟨1, _⟩ => show win0_1.index t 1 * 1 + 1 * 0 = _; rw [e1]; rfl
  | ⟨2, _⟩ => show win0_1.index t 2 * 1024 + 1 * j.val = _; rw [e2]; show _ = j.val; omega
  | ⟨3, _⟩ => show win0_1.index t 3 * 1408 + 1 * k.val = _; rw [e3]; show _ = k.val; omega

/-- The term a column contributes to row `r` and column `j` of the product. -/
abbrev term (c : Dev nD) (r j k : ℕ) : EReal :=
  at2 (M := 2048) (N := 5632) (m ((c : Thread nD τ).loc main_arg0)) r k * at3 (L := 2) (M := 1024) (N := 5632) (m ((c : Thread nD τ).loc main_arg1)) 0 j k

/-- A step adds the block's terms to what the accumulator held. -/
theorem step_apply (c : Dev nD) (t : Fin cfg0.N) (acc : Vec Ideal S1024x1024 .f32) (i j : Fin 1024) :
    k0_pay2 (iblk m c 0 t) (iblk m c 1 t) acc (ix2 i j)
      = (acc (ix2 i j) : EReal) + ∑ k : Fin 1408, term m c (1024 * (t.val / 4) + i.val) j.val (1408 * (t.val % 4) + k.val) := by
  rw [pay2_apply]
  refine congrArg _ (Finset.sum_congr rfl fun k _ => ?_)
  rw [blk0, blk1]

/-- The scratch after step `s` of the row block `q`: the terms of the first `s + 1` blocks of columns. -/
theorem scratch_apply (c : Dev nD) (q : ℕ) (hq : q < 2) (i j : Fin 1024) (s : ℕ) (hs : s < 4) (h : 4 * q + s < cfg0.N) :
    ((outsAt0 m c (4 * q + s) h).2 (ix2 i j) : EReal) = ∑ k ∈ Finset.range (1408 * (s + 1)), term m c (1024 * q + i.val) j.val k := by
  have hN : cfg0.N = 8 := N_0
  have key := sweep 4 1408 (term m c (1024 * q + i.val) j.val)
    (fun s => if h : 4 * q + s < cfg0.N then ((outsAt0 m c (4 * q + s) h).2 (ix2 i j) : EReal) else 0)
    (fun _ => by
      have hb : 4 * q + 0 < cfg0.N := by omega
      have hA := outsAt0_A m c ⟨4 * q + 0, hb⟩ (by show (4 * q + 0) % 4 = 0; omega) (by show ¬(4 * q + 0) % 4 = 3; omega)
      simp only [dif_pos hb]
      rw [hA]
      dsimp only
      rw [sout_A, step_apply, pay1_apply, zero_add]
      refine Finset.sum_congr rfl fun k _ => ?_
      show term m c (1024 * ((4 * q + 0) / 4) + i.val) j.val (1408 * ((4 * q + 0) % 4) + k.val) = _
      rw [show (4 * q + 0) / 4 = q by omega, show (4 * q + 0) % 4 = 0 by omega, Nat.mul_zero, Nat.zero_add])
    (fun s hs => by
      have hb : 4 * q + (s + 1) < cfg0.N := by omega
      have hb' : 4 * q + s < cfg0.N := by omega
      simp only [dif_pos hb, dif_pos hb']
      have e : (outsAt0 m c (4 * q + (s + 1)) hb).2
          = k0_pay2 (iblk m c 0 ⟨4 * q + (s + 1), hb⟩) (iblk m c 1 ⟨4 * q + (s + 1), hb⟩) (outsAt0 m c (4 * q + s) hb').2 := by
        by_cases h3 : (4 * q + (s + 1)) % 4 = 3
        · have hC := outsAt0_C m c ⟨4 * q + (s + 1), hb⟩ (by show ¬(4 * q + (s + 1)) % 4 = 0; omega) h3
          rw [hC]
          dsimp only
          rw [sout_C]
          rfl
        · have hB := outsAt0_B m c ⟨4 * q + (s + 1), hb⟩ (by show ¬(4 * q + (s + 1)) % 4 = 0; omega) h3
          rw [hB]
          dsimp only
          rw [sout_B]
          rfl
      rw [e, step_apply]
      refine congrArg _ (Finset.sum_congr rfl fun k _ => ?_)
      show term m c (1024 * ((4 * q + (s + 1)) / 4) + i.val) j.val (1408 * ((4 * q + (s + 1)) % 4) + k.val) = _
      rw [show (4 * q + (s + 1)) / 4 = q by omega, show (4 * q + (s + 1)) % 4 = s + 1 by omega])
    s hs
  simpa only [dif_pos h] using key

/-- The output block after the last step of a row block: the sum over all columns. -/
theorem out_apply (c : Dev nD) (q : ℕ) (hq : q < 2) (i j : Fin 1024) (h : 4 * q + 3 < cfg0.N) :
    ((outsAt0 m c (4 * q + 3) h).1 (ix2 i j) : EReal) = ∑ k ∈ Finset.range 5632, term m c (1024 * q + i.val) j.val k := by
  have hs := scratch_apply m c q hq i j 3 (by omega) h
  have hC := outsAt0_C m c ⟨4 * q + 3, h⟩ (by show ¬(4 * q + 3) % 4 = 0; omega) (by show (4 * q + 3) % 4 = 3; omega)
  rw [hC] at hs ⊢
  dsimp only at hs ⊢
  rw [sout_C] at hs
  rw [out_C]
  exact hs

/-- The result array: at row `r` and column `j` the sum over all columns of the terms. -/
theorem array_apply (c : Dev nD) (r : Fin 2048) (j : Fin 1024) :
    (G2 m c (ix2 r j) : EReal) = ∑ k ∈ Finset.range 5632, term m c r.val j.val k := by
  have hr := r.isLt
  have hj := j.isLt
  have hN : cfg0.N = 8 := N_0
  have hp : pt2Of (ix2 r j) = 4 * (r.val / 1024) + 3 := by
    show 4 * (1 * (r.val / 1024 - 0) + 1 * (j.val / 1024 - 0)) + 3 = _
    omega
  have hlt : pt2Of (ix2 r j) < cfg0.N := by rw [hp]; omega
  have hl : loc2Of (ix2 r j) = ix2 (⟨r.val % 1024, by omega⟩ : Fin 1024) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 1024) (by omega) ⟨r.val % 1024, by omega⟩ j (by omega)
  rw [show 1024 * (r.val / 1024) + (⟨r.val % 1024, by omega⟩ : Fin 1024).val = r.val from by show 1024 * (r.val / 1024) + r.val % 1024 = r.val; omega] at this
  rw [← this]
  congr 2
  simp only [hp]

/-- The reference's one contraction at row `r` and column `j`, as a sum over the columns. -/
theorem reference_apply (x : FVec Ideal Cert.Reference2Ideal.S2048x5632 .f32) (w : FVec Ideal Cert.Reference2Ideal.S2x1024x5632 .f32)
    (r : Fin 2048) (j : Fin 1024) :
    (Host.dotGeneral (φ₁ := .f32) (φ₂ := .f32) Cert.Reference2Ideal.dot_S2048x5632_S1024x5632_S2048x1024_1_1_0_0_n_n none x
        (shapeCast _ (extractStridedSlice Cert.Reference2Ideal.S1x1024x5632 ![0, 0, 0] w
          Cert.Reference2Ideal.Gen.slices_S2x1024x5632_S1x1024x5632_0_0_0) Cert.Reference2Ideal.Gen.shapeCasts_S1x1024x5632_S1024x5632)
      : FVec Ideal Cert.Reference2Ideal.S2048x1024 .f32) (ix2 r j)
      = ∑ k ∈ Finset.range 5632, (at2 x r.val k * at3 w 0 j.val k : EReal) := by
  pointwise
  rw [← Fin.sum_univ_eq_sum_range]
  refine Finset.sum_congr rfl fun k _ => ?_
  rw [at2_of _ r.isLt k.isLt, at3_of _ (by omega) j.isLt k.isLt]
  rfl

/-- The reference runs to the end, its arguments unchanged; it has no semaphore at all. -/
theorem reference_frame : Cert.quiescent_Reference2Ideal (hReference2Ideal := Cert.Reference2Ideal.Gen.facts) := fun m g _ =>
  (θ_run _ _ _).mono (fun r h => ⟨fun c => (h c).2, funext fun s => match s with
    | (_, .reg s) => s.elim0
    | (_, .dma s) => s.elim0⟩) (Cert.Reference2Ideal.Value.run m g)

/-- The two runs end with the same array. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => G2 m c, Cert.Kernel2Ideal.Value.run m g, ?_⟩
  refine (θ_run _ _ _).mono (fun r h c => ⟨(h c).1.trans ?_, (h c).2⟩) (Cert.Reference2Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel2Ideal.Product

end
-- ==== Proof.DownDw.lean ====
/-
  The weight's gradient of the feed-forward's second product: `cc0_l0_w_down_dw` leaves, at row `r` and column `j`, the sum
  over the 2048 rows `k` of `u[k, r] * g[k, j]`, gathered in two blocks of 1024.
-/
module

public import proofs.«01_k».proof.Defs
public import proofs.«01_k».proof.Proof.Gen.Kernel3Ideal.Value
public import proofs.«01_k».proof.Proof.Gen.Reference3Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel3Ideal.Product

open Cert.Kernel3Ideal Cert.Kernel3Ideal.Gen Cert.Kernel3Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x256 .bf16) (x1 : Vec F S1024x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz, View.ld_unit_zero (S := S1024x256) hz]

/-- The last step adds the block's product to what the scratch held. -/
theorem sout_B (c : Dev nD) (i : grid0.Coords) (a3 h3 a4 h4 a5 h5 a6 h6 hc0 hc1) (x0 : Vec F S1024x256 .bf16) (x1 : Vec F S1024x1024 .bf16) (xs : Vec F S256x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1024x256) hz, View.ld_unit_zero (S := S256x1024) hz]

/-- … and writes what the scratch then holds, rounded, to the output block. -/
theorem out_B (c : Dev nD) (i : grid0.Coords) (a3 h3 a4 h4 a5 h5 a6 h6 hc0 hc1) (x0 : Vec F S1024x256 .bf16) (x1 : Vec F S1024x1024 .bf16) (xs : Vec F S256x1024 .f32) :
    out0_B_2 c i a3 h3 a4 h4 a5 h5 a6 h6 hc0 hc1 x0 x1 xs = k0_pay3 (k0_pay2 x0 x1 xs) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero _ hz]
  simp only [View.readAt_eq_ld, h3.read_unread, h4.read_unread, h6.read_unread, View.ld_unit_zero (S := S1024x1024) hz, View.ld_unit_zero (S := S1024x256) hz, View.ld_unit_zero (S := S256x1024) hz]

end cases

variable (m : (ℓ : Loc nD τ sig) → Buf (Elt Ideal) ℓ)

/-- A step's payload at an index: what the accumulator held plus the block's products. -/
theorem pay2_apply (x0 : Vec Ideal S1024x256 .bf16) (x1 : Vec Ideal S1024x1024 .bf16) (acc : Vec Ideal S256x1024 .f32) (i : Fin 256) (j : Fin 1024) :
    k0_pay2 x0 x1 acc (ix2 i j) = (acc (ix2 i j) : EReal) + ∑ k : Fin 1024, (x0 (ix2 k i) : EReal) * (x1 (ix2 k j) : EReal) := by
  pointwise [k0_pay2]

theorem pay1_apply (i : Fin 256) (j : Fin 1024) : k0_pay1 (F := Ideal) (ix2 i j) = (0 : EReal) := by
  pointwise [k0_pay1]

/-- The rounding to the result's format changes no value. -/
theorem pay3_apply (acc : Vec Ideal S256x1024 .f32) (i : Fin 256) (j : Fin 1024) : k0_pay3 acc (ix2 i j) = (acc (ix2 i j) : EReal) := by
  pointwise [k0_pay3]

theorem idx0 : ∀ t : Fin cfg0.N, win0_0.index t 0 = t.val % 2 ∧ win0_0.index t 1 = (t.val / 2) :=
  (by decide +kernel : ∀ t : Fin grid0.N, _)
theorem idx1 : ∀ t : Fin cfg0.N, win0_1.index t 0 = t.val % 2 ∧ win0_1.index t 1 = 0 :=
  (by decide +kernel : ∀ t : Fin grid0.N, _)

/-- The rows' block of a grid point. -/
theorem blk0 (c : Dev nD) (t : Fin cfg0.N) (k : Fin 1024) (i : Fin 256) :
    (iblk m c 0 t : Vec Ideal S1024x256 .bf16) (ix2 k i)
      = at2 (M := 2048) (N := 2816) (m ((c : Thread nD τ).loc main_arg0)) (1024 * (t.val % 2) + k.val) (256 * (t.val / 2) + i.val) := by
  have hN : t.val < 22 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val % 2) + k.val, by omega⟩ : Fin 2048) (⟨256 * (t.val / 2) + i.val, by omega⟩ : Fin 2816))
      = (m ((c : Thread nD τ).loc main_arg0) : (⟨2, ![2048, 2816]⟩ : Shape).Idx → EReal) (ix2 ⟨1024 * (t.val % 2) + k.val, by omega⟩ ⟨256 * (t.val / 2) + i.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * k.val = _; rw [e0]; show _ = 1024 * (t.val % 2) + k.val; omega
  | ⟨1, _⟩ => show win0_0.index t 1 * 256 + 1 * i.val = _; rw [e1]; show _ = 256 * (t.val / 2) + i.val; omega

/-- The cotangent's block of a grid point. -/
theorem blk1 (c : Dev nD) (t : Fin cfg0.N) (k : Fin 1024) (j : Fin 1024) :
    (iblk m c 1 t : Vec Ideal S1024x1024 .bf16) (ix2 k j)
      = at2 (M := 2048) (N := 1024) (m ((c : Thread nD τ).loc main_arg1)) (1024 * (t.val % 2) + k.val) (j.val) := by
  have hN : t.val < 22 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨1024 * (t.val % 2) + k.val, by omega⟩ : Fin 2048) (⟨j.val, by omega⟩ : Fin 1024))
      = (m ((c : Thread nD τ).loc main_arg1) : (⟨2, ![2048, 1024]⟩ : Shape).Idx → EReal) (ix2 ⟨1024 * (t.val % 2) + k.val, by omega⟩ ⟨j.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * k.val = _; rw [e0]; show _ = 1024 * (t.val % 2) + k.val; omega
  | ⟨1, _⟩ => show win0_1.index t 1 * 1024 + 1 * j.val = _; rw [e1]; show _ = j.val; omega

/-- The term a row `k` contributes to row `r` and column `j` of the product. -/
abbrev term (c : Dev nD) (r j k : ℕ) : EReal :=
  at2 (M := 2048) (N := 2816) (m ((c : Thread nD τ).loc main_arg0)) k r * at2 (M := 2048) (N := 1024) (m ((c : Thread nD τ).loc main_arg1)) k j

/-- A step adds the block's terms to what the accumulator held. -/
theorem step_apply (c : Dev nD) (t : Fin cfg0.N) (acc : Vec Ideal S256x1024 .f32) (i : Fin 256) (j : Fin 1024) :
    k0_pay2 (iblk m c 0 t) (iblk m c 1 t) acc (ix2 i j)
      = (acc (ix2 i j) : EReal) + ∑ k : Fin 1024, term m c (256 * (t.val / 2) + i.val) (j.val) (1024 * (t.val % 2) + k.val) := by
  rw [pay2_apply]
  refine congrArg _ (Finset.sum_congr rfl fun k _ => ?_)
  rw [blk0, blk1]

/-- The scratch after step `s` of the block `q`: the terms of the first `s + 1` blocks of rows. -/
theorem scratch_apply (c : Dev nD) (q : ℕ) (hq : q < 11) (i : Fin 256) (j : Fin 1024) (s : ℕ) (hs : s < 2) (h : 2 * q + s < cfg0.N) :
    ((outsAt0 m c (2 * q + s) h).2 (ix2 i j) : EReal) = ∑ k ∈ Finset.range (1024 * (s + 1)), term m c (256 * q + i.val) (j.val) k := by
  have hN : cfg0.N = 22 := N_0
  have key := sweep 2 1024 (term m c (256 * q + i.val) (j.val))
    (fun s => if h : 2 * q + s < cfg0.N then ((outsAt0 m c (2 * q + s) h).2 (ix2 i j) : EReal) else 0)
    (fun _ => by
      have hb : 2 * q + 0 < cfg0.N := by omega
      have hA := outsAt0_A m c ⟨2 * q + 0, hb⟩ (by show (2 * q + 0) % 2 = 0; omega) (by show ¬(2 * q + 0) % 2 = 1; omega)
      simp only [dif_pos hb]
      rw [hA]
      dsimp only
      rw [sout_A, step_apply, pay1_apply, zero_add]
      refine Finset.sum_congr rfl fun k _ => ?_
      show term m c (256 * ((2 * q + 0) / 2) + i.val) (j.val) (1024 * ((2 * q + 0) % 2) + k.val) = _
      rw [show (2 * q + 0) / 2 = q by omega, show (2 * q + 0) % 2 = 0 by omega, Nat.mul_zero, Nat.zero_add])
    (fun s hs => by
      have hb : 2 * q + (s + 1) < cfg0.N := by omega
      have hb' : 2 * q + s < cfg0.N := by omega
      have h1 : (2 * q + (s + 1)) % 2 = 1 := by omega
      simp only [dif_pos hb, dif_pos hb']
      have e : (outsAt0 m c (2 * q + (s + 1)) hb).2
          = k0_pay2 (iblk m c 0 ⟨2 * q + (s + 1), hb⟩) (iblk m c 1 ⟨2 * q + (s + 1), hb⟩) (outsAt0 m c (2 * q + s) hb').2 := by
        have hB := outsAt0_B m c ⟨2 * q + (s + 1), hb⟩ (by show ¬(2 * q + (s + 1)) % 2 = 0; omega) h1
        rw [hB]
        dsimp only
        rw [sout_B]
        rfl
      rw [e, step_apply]
      refine congrArg _ (Finset.sum_congr rfl fun k _ => ?_)
      show term m c (256 * ((2 * q + (s + 1)) / 2) + i.val) (j.val) (1024 * ((2 * q + (s + 1)) % 2) + k.val) = _
      rw [show (2 * q + (s + 1)) / 2 = q by omega, show (2 * q + (s + 1)) % 2 = s + 1 by omega])
    s hs
  simpa only [dif_pos h] using key

/-- The output block after the last step of a block: the sum over all rows. -/
theorem out_apply (c : Dev nD) (q : ℕ) (hq : q < 11) (i : Fin 256) (j : Fin 1024) (h : 2 * q + 1 < cfg0.N) :
    ((outsAt0 m c (2 * q + 1) h).1 (ix2 i j) : EReal) = ∑ k ∈ Finset.range 2048, term m c (256 * q + i.val) (j.val) k := by
  have hs := scratch_apply m c q hq i j 1 (by omega) h
  have hB := outsAt0_B m c ⟨2 * q + 1, h⟩ (by show ¬(2 * q + 1) % 2 = 0; omega) (by show (2 * q + 1) % 2 = 1; omega)
  rw [hB] at hs ⊢
  dsimp only at hs ⊢
  rw [sout_B] at hs
  rw [out_B, pay3_apply]
  exact hs

/-- The result array: at row `r` and column `j` the sum over all rows of the terms. -/
theorem array_apply (c : Dev nD) (r : Fin 2816) (j : Fin 1024) :
    (G2 m c (ix2 r j) : EReal) = ∑ k ∈ Finset.range 2048, term m c r.val j.val k := by
  have hr := r.isLt
  have hj := j.isLt
  have hN : cfg0.N = 22 := N_0
  have hp : pt2Of (ix2 r j) = 2 * (r.val / 256) + 1 := by
    show 2 * (1 * (r.val / 256 - 0) + 1 * (j.val / 1024 - 0)) + 1 = _
    omega
  have hlt : pt2Of (ix2 r j) < cfg0.N := by rw [hp]; omega
  have hl : loc2Of (ix2 r j) = ix2 (⟨r.val % 256, by omega⟩ : Fin 256) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 256) (by omega) ⟨r.val % 256, by omega⟩ j (by omega)
  rw [show 256 * (r.val / 256) + (⟨r.val % 256, by omega⟩ : Fin 256).val = r.val from by show 256 * (r.val / 256) + r.val % 256 = r.val; omega] at this
  rw [← this]
  congr 2
  simp only [hp]

/-- The reference's contraction, rounded, at an index: a sum over the rows. -/
theorem reference_apply (u : FVec Ideal Cert.Reference3Ideal.S2048x2816 .f32) (g : FVec Ideal Cert.Reference3Ideal.S2048x1024 .f32) (r : Fin 2816) (j : Fin 1024) :
    (truncf .bf16 (transpose Cert.Reference3Ideal.S2816x1024 [1, 0]
        (Host.dotGeneral (φ₁ := .f32) (φ₂ := .f32) Cert.Reference3Ideal.dot_S2048x1024_S2048x2816_S1024x2816_0_0_1_1_n_n none g u)
        Cert.Reference3Ideal.Gen.transposes_S1024x2816_S2816x1024_1_0) Cert.Reference3Ideal.Gen.bitsLt_bf16_f32
      : FVec Ideal Cert.Reference3Ideal.S2816x1024 .bf16) (ix2 r j)
      = ∑ k ∈ Finset.range 2048, (at2 u k r.val * at2 g k j.val : EReal) := by
  pointwise
  rw [← Fin.sum_univ_eq_sum_range]
  refine Finset.sum_congr rfl fun k _ => ?_
  rw [at2_of _ k.isLt r.isLt, at2_of _ k.isLt j.isLt, mul_comm]

/-- The reference runs to the end, its arguments unchanged; it has no semaphore at all. -/
theorem reference_frame : Cert.quiescent_Reference3Ideal (hReference3Ideal := Cert.Reference3Ideal.Gen.facts) := fun m g _ =>
  (θ_run _ _ _).mono (fun r h => ⟨fun c => (h c).2, funext fun s => match s with
    | (_, .reg s) => s.elim0
    | (_, .dma s) => s.elim0⟩) (Cert.Reference3Ideal.Value.run m g)

/-- The two runs end with the same array. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => G2 m c, Cert.Kernel3Ideal.Value.run m g, ?_⟩
  refine (θ_run _ _ _).mono (fun r h c => ⟨(h c).1.trans ?_, (h c).2⟩) (Cert.Reference3Ideal.Value.run m' g')
  rw [(hargs c).1, (hargs c).2]
  funext i
  obtain ⟨r, j, rfl⟩ : ∃ (r : Fin 2816) (j : Fin 1024), i = ix2 r j := ⟨i 0, i 1, (ix2_eta i).symm⟩
  exact (reference_apply _ _ r j).trans (array_apply m c r j).symm

end Cert.Kernel3Ideal.Product
-- ==== Proof.DownDx.lean ====
/-
  The rows' gradient of the feed-forward's second product: `cc0_l0_w_down_dx` leaves, at row `r` and column `j`, the sum
  over the 1024 columns `k` of `g[r, k] * w_down[0, j, k]`, each block of the result in one step.
-/
module

public import proofs.«01_k».proof.Defs
public import proofs.«01_k».proof.Proof.Gen.Kernel4Ideal.Value
public import proofs.«01_k».proof.Proof.Gen.Reference4Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel4Ideal.Product

open Cert.Kernel4Ideal Cert.Kernel4Ideal.Gen Cert.Kernel4Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- A step writes the block's product over the zero block to the output block. -/
theorem out_A (c : Dev nD) (i : grid0.Coords) (a3 h3 a4 h4 a5 h5 a6 h6 hc0 hc1) (x0 : Vec F S1024x1024 .bf16) (x1 : Vec F S1x1408x1024 .bf16) :
    out0_A_2 c i a3 h3 a4 h4 a5 h5 a6 h6 hc0 hc1 x0 x1 = k0_pay2 x0 x1 (k0_pay1 (F := F)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero _ hz]
  simp only [View.readAt_eq_ld, h3.read_unread, h4.read_unread, View.ld_unit_zero (S := S1024x1024) hz, View.ld_unit_zero (S := S1x1408x1024) hz3]

end cases

variable (m : (ℓ : Loc nD τ sig) → Buf (Elt Ideal) ℓ)

/-- A step's payload at an index: what the accumulator held plus the block's products. -/
theorem pay2_apply (x0 : Vec Ideal S1024x1024 .bf16) (x1 : Vec Ideal S1x1408x1024 .bf16) (acc : Vec Ideal S1024x1408 .f32) (i : Fin 1024) (j : Fin 1408) :
    k0_pay2 x0 x1 acc (ix2 i j) = (acc (ix2 i j) : EReal) + ∑ k : Fin 1024, (x0 (ix2 i k) : EReal) * (x1 (ix3 0 j k) : EReal) := by
  pointwise [k0_pay2]

theorem pay1_apply (i : Fin 1024) (j : Fin 1408) : k0_pay1 (F := Ideal) (ix2 i j) = (0 : EReal) := by
  pointwise [k0_pay1]

theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = 0 ∧ win0_1.index t 1 = t.val % 2 ∧ win0_1.index t 2 = 0 :=
  (by decide +kernel : ∀ t : Fin grid0.N, _)
theorem idx2 : ∀ t : Fin cfg0.N, win0_2.index t 0 = t.val / 2 ∧ win0_2.index t 1 = t.val % 2 :=
  (by decide +kernel : ∀ t : Fin grid0.N, _)
theorem flush2 : ∀ t : Fin cfg0.N, (cfg0.win 2).flush t = true :=
  (by decide +kernel : ∀ t : Fin grid0.N, _)

/-- The rows' block of a grid point. -/
theorem blk0 (c : Dev nD) (t : Fin cfg0.N) (i k : Fin 1024) :
    (iblk m c 0 t : Vec Ideal S1024x1024 .bf16) (ix2 i k)
      = at2 (M := 2048) (N := 1024) (m ((c : Thread nD τ).loc main_arg0)) (1024 * (t.val / 2) + i.val) k.val := by
  have hN : t.val < 4 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 2) + i.val, by omega⟩ : Fin 2048) (⟨k.val, by omega⟩ : Fin 1024))
      = (m ((c : Thread nD τ).loc main_arg0) : (⟨2, ![2048, 1024]⟩ : Shape).Idx → EReal) (ix2 ⟨1024 * (t.val / 2) + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 2) + i.val; omega
  | ⟨1, _⟩ => show win0_0.index t 1 * 1024 + 1 * k.val = _; rw [e1]; show _ = k.val; omega

/-- The weight's block of a grid point. -/
theorem blk1 (c : Dev nD) (t : Fin cfg0.N) (j : Fin 1408) (k : Fin 1024) :
    (iblk m c 1 t : Vec Ideal S1x1408x1024 .bf16) (ix3 0 j k)
      = at3 (L := 2) (M := 2816) (N := 1024) (m ((c : Thread nD τ).loc main_arg1)) 0 (1408 * (t.val % 2) + j.val) k.val := by
  have hN : t.val < 4 := lt_of_lt_of_eq t.isLt N_0
  have hi := j.isLt
  have hk := k.isLt
  obtain ⟨e0, e1, e2⟩ := idx1 t
  rw [at3_of _ (by omega) (by omega) (by omega)]
  unfold iblk
  rw [View.read_apply]
  have e : V m c main_v1 (ix3 (⟨0, by omega⟩ : Fin 2) (⟨1408 * (t.val % 2) + j.val, by omega⟩ : Fin 2816) (⟨k.val, by omega⟩ : Fin 1024))
      = (m ((c : Thread nD τ).loc main_arg1) : (⟨3, ![2, 2816, 1024]⟩ : Shape).Idx → EReal) (ix3 ⟨0, by omega⟩ ⟨1408 * (t.val % 2) + j.val, by omega⟩ ⟨k.val, by omega⟩) := by
    unfold V
    after_reads_at
  refine Eq.trans ?_ e
  show V m c main_v1 _ = V m c main_v1 _
  congr 1
  funext a
  apply Fin.ext
  match a with
  | ⟨0, _⟩ => show win0_1.index t 0 * 1 + 1 * 0 = _; rw [e0]; rfl
  | ⟨1, _⟩ => show win0_1.index t 1 * 1408 + 1 * j.val = _; rw [e1]; show _ = 1408 * (t.val % 2) + j.val; omega
  | ⟨2, _⟩ => show win0_1.index t 2 * 1024 + 1 * k.val = _; rw [e2]; show _ = k.val; omega

/-- The term a column contributes to row `r` and column `j` of the product. -/
abbrev term (c : Dev nD) (r j k : ℕ) : EReal :=
  at2 (M := 2048) (N := 1024) (m ((c : Thread nD τ).loc main_arg0)) r k * at3 (L := 2) (M := 2816) (N := 1024) (m ((c : Thread nD τ).loc main_arg1)) 0 j k

/-- What a grid point leaves in its output block: the sum over all columns. -/
theorem out_apply (c : Dev nD) (t : Fin cfg0.N) (i : Fin 1024) (j : Fin 1408) :
    (outsAt0 m c t (ix2 i j) : EReal) = ∑ k ∈ Finset.range 1024, term m c (1024 * (t.val / 2) + i.val) (1408 * (t.val % 2) + j.val) k := by
  unfold outsAt0
  rw [out_A, pay2_apply, pay1_apply, zero_add, ← Fin.sum_univ_eq_sum_range]
  refine Finset.sum_congr rfl fun k _ => ?_
  rw [blk0, blk1]

/-- The array the run leaves. -/
abbrev result (c : Dev nD) : Buf (Elt Ideal) ((c : Thread nD τ).loc main_v2) := (dats m 0 c).arrAt 2 cfg0.N

/-- The result array: at row `r` and column `j` the sum over all columns of the terms. -/
theorem array_apply (c : Dev nD) (r : Fin 2048) (j : Fin 2816) :
    (result m c (ix2 r j) : EReal) = ∑ k ∈ Finset.range 1024, term m c r.val j.val k := by
  have hr := r.isLt
  have hj := j.isLt
  have hN : cfg0.N = 4 := N_0
  obtain ⟨t, ht⟩ : ∃ t : Fin cfg0.N, t.val = 2 * (r.val / 1024) + j.val / 1408 := ⟨⟨2 * (r.val / 1024) + j.val / 1408, by omega⟩, rfl⟩
  obtain ⟨e0, e1⟩ := idx2 t
  have hb := congrFun ((blocks2 m c t (flush2 t)).trans (flushed2 m c t)) (ix2 (⟨r.val % 1024, by omega⟩ : Fin 1024) (⟨j.val % 1408, by omega⟩ : Fin 1408))
  rw [View.read_apply] at hb
  have he : ((cfg0.win 2).blk t).view.emb (ix2 (⟨r.val % 1024, by omega⟩ : Fin 1024) (⟨j.val % 1408, by omega⟩ : Fin 1408)) = ix2 r j := by
    funext a
    apply Fin.ext
    match a with
    | ⟨0, _⟩ => show win0_2.index t 0 * 1024 + 1 * (r.val % 1024) = r.val; rw [e0, ht]; omega
    | ⟨1, _⟩ => show win0_2.index t 1 * 1408 + 1 * (j.val % 1408) = j.val; rw [e1, ht]; omega
  rw [he] at hb
  refine hb.trans ?_
  refine (out_apply m c t ⟨r.val % 1024, by omega⟩ ⟨j.val % 1408, by omega⟩).trans ?_
  rw [show 1024 * (t.val / 2) + r.val % 1024 = r.val by rw [ht]; omega, show 1408 * (t.val % 2) + j.val % 1408 = j.val by rw [ht]; omega]

/-- The reference's one contraction at row `r` and column `j`, as a sum over the columns. -/
theorem reference_apply (x : FVec Ideal Cert.Reference4Ideal.S2048x1024 .f32) (w : FVec Ideal Cert.Reference4Ideal.S2x2816x1024 .f32)
    (r : Fin 2048) (j : Fin 2816) :
    (Host.dotGeneral (φ₁ := .f32) (φ₂ := .f32) Cert.Reference4Ideal.dot_S2048x1024_S2816x1024_S2048x2816_1_1_0_0_n_n none x
        (shapeCast _ (extractStridedSlice Cert.Reference4Ideal.S1x2816x1024 ![0, 0, 0] w
          Cert.Reference4Ideal.Gen.slices_S2x2816x1024_S1x2816x1024_0_0_0) Cert.Reference4Ideal.Gen.shapeCasts_S1x2816x1024_S2816x1024)
      : FVec Ideal Cert.Reference4Ideal.S2048x2816 .f32) (ix2 r j)
      = ∑ k ∈ Finset.range 1024, (at2 x r.val k * at3 w 0 j.val k : EReal) := by
  pointwise
  rw [← Fin.sum_univ_eq_sum_range]
  refine Finset.sum_congr rfl fun k _ => ?_
  rw [at2_of _ r.isLt k.isLt, at3_of _ (by omega) j.isLt k.isLt]
  rfl

/-- The reference runs to the end, its arguments unchanged; it has no semaphore at all. -/
theorem reference_frame : Cert.quiescent_Reference4Ideal (hReference4Ideal := Cert.Reference4Ideal.Gen.facts) := fun m g _ =>
  (θ_run _ _ _).mono (fun r h => ⟨fun c => (h c).2, funext fun s => match s with
    | (_, .reg s) => s.elim0
    | (_, .dma s) => s.elim0⟩) (Cert.Reference4Ideal.Value.run m g)

/-- The two runs end with the same array. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => result m c, Cert.Kernel4Ideal.Value.run_blocks m g, ?_⟩
  refine (θ_run _ _ _).mono (fun r h c => ⟨(h c).1.trans ?_, (h c).2⟩) (Cert.Reference4Ideal.Value.run m' g')
  rw [(hargs c).1, (hargs c).2]
  funext i
  obtain ⟨r, j, rfl⟩ : ∃ (r : Fin 2048) (j : Fin 2816), i = ix2 r j := ⟨i 0, i 1, (ix2_eta i).symm⟩
  exact (reference_apply _ _ r j).trans (array_apply m c r j).symm

end Cert.Kernel4Ideal.Product
-- ==== Proof.OutDw.lean ====
/-
  The weight's gradient of the mixer's output product: `cc0_l0_w_out_dw` leaves, at row `r` and column `j`, the sum
  over the 2048 rows `k` of `u[k, r] * g[k, j]`, gathered in two blocks of 1024.
-/
module

public import proofs.«01_k».proof.Defs
public import proofs.«01_k».proof.Proof.Gen.Kernel5Ideal.Value
public import proofs.«01_k».proof.Proof.Gen.Reference5Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel5Ideal.Product

open Cert.Kernel5Ideal Cert.Kernel5Ideal.Gen Cert.Kernel5Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1024 .bf16) (x1 : Vec F S1024x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz]

/-- The last step adds the block's product to what the scratch held. -/
theorem sout_B (c : Dev nD) (i : grid0.Coords) (a3 h3 a4 h4 a5 h5 a6 h6 hc0 hc1) (x0 : Vec F S1024x1024 .bf16) (x1 : Vec F S1024x1024 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz]

/-- … and writes what the scratch then holds, rounded, to the output block. -/
theorem out_B (c : Dev nD) (i : grid0.Coords) (a3 h3 a4 h4 a5 h5 a6 h6 hc0 hc1) (x0 : Vec F S1024x1024 .bf16) (x1 : Vec F S1024x1024 .bf16) (xs : Vec F S1024x1024 .f32) :
    out0_B_2 c i a3 h3 a4 h4 a5 h5 a6 h6 hc0 hc1 x0 x1 xs = k0_pay3 (k0_pay2 x0 x1 xs) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero _ hz]
  simp only [View.readAt_eq_ld, h3.read_unread, h4.read_unread, h6.read_unread, View.ld_unit_zero (S := S1024x1024) hz]

end cases

variable (m : (ℓ : Loc nD τ sig) → Buf (Elt Ideal) ℓ)

/-- A step's payload at an index: what the accumulator held plus the block's products. -/
theorem pay2_apply (x0 : Vec Ideal S1024x1024 .bf16) (x1 : Vec Ideal S1024x1024 .bf16) (acc : Vec Ideal S1024x1024 .f32) (i : Fin 1024) (j : Fin 1024) :
    k0_pay2 x0 x1 acc (ix2 i j) = (acc (ix2 i j) : EReal) + ∑ k : Fin 1024, (x0 (ix2 k i) : EReal) * (x1 (ix2 k j) : EReal) := by
  pointwise [k0_pay2]

theorem pay1_apply (i : Fin 1024) (j : Fin 1024) : k0_pay1 (F := Ideal) (ix2 i j) = (0 : EReal) := by
  pointwise [k0_pay1]

/-- The rounding to the result's format changes no value. -/
theorem pay3_apply (acc : Vec Ideal S1024x1024 .f32) (i : Fin 1024) (j : Fin 1024) : k0_pay3 acc (ix2 i j) = (acc (ix2 i j) : EReal) := by
  pointwise [k0_pay3]

theorem idx0 : ∀ t : Fin cfg0.N, win0_0.index t 0 = t.val % 2 ∧ win0_0.index t 1 = (t.val / 2) :=
  (by decide +kernel : ∀ t : Fin grid0.N, _)
theorem idx1 : ∀ t : Fin cfg0.N, win0_1.index t 0 = t.val % 2 ∧ win0_1.index t 1 = 0 :=
  (by decide +kernel : ∀ t : Fin grid0.N, _)

/-- The rows' block of a grid point. -/
theorem blk0 (c : Dev nD) (t : Fin cfg0.N) (k : Fin 1024) (i : Fin 1024) :
    (iblk m c 0 t : Vec Ideal S1024x1024 .bf16) (ix2 k i)
      = at2 (M := 2048) (N := 2048) (m ((c : Thread nD τ).loc main_arg0)) (1024 * (t.val % 2) + k.val) (1024 * (t.val / 2) + i.val) := by
  have hN : t.val < 4 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val % 2) + k.val, by omega⟩ : Fin 2048) (⟨1024 * (t.val / 2) + i.val, by omega⟩ : Fin 2048))
      = (m ((c : Thread nD τ).loc main_arg0) : (⟨2, ![2048, 2048]⟩ : Shape).Idx → EReal) (ix2 ⟨1024 * (t.val % 2) + k.val, by omega⟩ ⟨1024 * (t.val / 2) + i.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * k.val = _; rw [e0]; show _ = 1024 * (t.val % 2) + k.val; omega
  | ⟨1, _⟩ => show win0_0.index t 1 * 1024 + 1 * i.val = _; rw [e1]; show _ = 1024 * (t.val / 2) + i.val; omega

/-- The cotangent's block of a grid point. -/
theorem blk1 (c : Dev nD) (t : Fin cfg0.N) (k : Fin 1024) (j : Fin 1024) :
    (iblk m c 1 t : Vec Ideal S1024x1024 .bf16) (ix2 k j)
      = at2 (M := 2048) (N := 1024) (m ((c : Thread nD τ).loc main_arg1)) (1024 * (t.val % 2) + k.val) (j.val) := by
  have hN : t.val < 4 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨1024 * (t.val % 2) + k.val, by omega⟩ : Fin 2048) (⟨j.val, by omega⟩ : Fin 1024))
      = (m ((c : Thread nD τ).loc main_arg1) : (⟨2, ![2048, 1024]⟩ : Shape).Idx → EReal) (ix2 ⟨1024 * (t.val % 2) + k.val, by omega⟩ ⟨j.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * k.val = _; rw [e0]; show _ = 1024 * (t.val % 2) + k.val; omega
  | ⟨1, _⟩ => show win0_1.index t 1 * 1024 + 1 * j.val = _; rw [e1]; show _ = j.val; omega

/-- The term a row `k` contributes to row `r` and column `j` of the product. -/
abbrev term (c : Dev nD) (r j k : ℕ) : EReal :=
  at2 (M := 2048) (N := 2048) (m ((c : Thread nD τ).loc main_arg0)) k r * at2 (M := 2048) (N := 1024) (m ((c : Thread nD τ).loc main_arg1)) k j

/-- A step adds the block's terms to what the accumulator held. -/
theorem step_apply (c : Dev nD) (t : Fin cfg0.N) (acc : Vec Ideal S1024x1024 .f32) (i : Fin 1024) (j : Fin 1024) :
    k0_pay2 (iblk m c 0 t) (iblk m c 1 t) acc (ix2 i j)
      = (acc (ix2 i j) : EReal) + ∑ k : Fin 1024, term m c (1024 * (t.val / 2) + i.val) (j.val) (1024 * (t.val % 2) + k.val) := by
  rw [pay2_apply]
  refine congrArg _ (Finset.sum_congr rfl fun k _ => ?_)
  rw [blk0, blk1]

/-- The scratch after step `s` of the block `q`: the terms of the first `s + 1` blocks of rows. -/
theorem scratch_apply (c : Dev nD) (q : ℕ) (hq : q < 2) (i : Fin 1024) (j : Fin 1024) (s : ℕ) (hs : s < 2) (h : 2 * q + s < cfg0.N) :
    ((outsAt0 m c (2 * q + s) h).2 (ix2 i j) : EReal) = ∑ k ∈ Finset.range (1024 * (s + 1)), term m c (1024 * q + i.val) (j.val) k := by
  have hN : cfg0.N = 4 := N_0
  have key := sweep 2 1024 (term m c (1024 * q + i.val) (j.val))
    (fun s => if h : 2 * q + s < cfg0.N then ((outsAt0 m c (2 * q + s) h).2 (ix2 i j) : EReal) else 0)
    (fun _ => by
      have hb : 2 * q + 0 < cfg0.N := by omega
      have hA := outsAt0_A m c ⟨2 * q + 0, hb⟩ (by show (2 * q + 0) % 2 = 0; omega) (by show ¬(2 * q + 0) % 2 = 1; omega)
      simp only [dif_pos hb]
      rw [hA]
      dsimp only
      rw [sout_A, step_apply, pay1_apply, zero_add]
      refine Finset.sum_congr rfl fun k _ => ?_
      show term m c (1024 * ((2 * q + 0) / 2) + i.val) (j.val) (1024 * ((2 * q + 0) % 2) + k.val) = _
      rw [show (2 * q + 0) / 2 = q by omega, show (2 * q + 0) % 2 = 0 by omega, Nat.mul_zero, Nat.zero_add])
    (fun s hs => by
      have hb : 2 * q + (s + 1) < cfg0.N := by omega
      have hb' : 2 * q + s < cfg0.N := by omega
      have h1 : (2 * q + (s + 1)) % 2 = 1 := by omega
      simp only [dif_pos hb, dif_pos hb']
      have e : (outsAt0 m c (2 * q + (s + 1)) hb).2
          = k0_pay2 (iblk m c 0 ⟨2 * q + (s + 1), hb⟩) (iblk m c 1 ⟨2 * q + (s + 1), hb⟩) (outsAt0 m c (2 * q + s) hb').2 := by
        have hB := outsAt0_B m c ⟨2 * q + (s + 1), hb⟩ (by show ¬(2 * q + (s + 1)) % 2 = 0; omega) h1
        rw [hB]
        dsimp only
        rw [sout_B]
        rfl
      rw [e, step_apply]
      refine congrArg _ (Finset.sum_congr rfl fun k _ => ?_)
      show term m c (1024 * ((2 * q + (s + 1)) / 2) + i.val) (j.val) (1024 * ((2 * q + (s + 1)) % 2) + k.val) = _
      rw [show (2 * q + (s + 1)) / 2 = q by omega, show (2 * q + (s + 1)) % 2 = s + 1 by omega])
    s hs
  simpa only [dif_pos h] using key

/-- The output block after the last step of a block: the sum over all rows. -/
theorem out_apply (c : Dev nD) (q : ℕ) (hq : q < 2) (i : Fin 1024) (j : Fin 1024) (h : 2 * q + 1 < cfg0.N) :
    ((outsAt0 m c (2 * q + 1) h).1 (ix2 i j) : EReal) = ∑ k ∈ Finset.range 2048, term m c (1024 * q + i.val) (j.val) k := by
  have hs := scratch_apply m c q hq i j 1 (by omega) h
  have hB := outsAt0_B m c ⟨2 * q + 1, h⟩ (by show ¬(2 * q + 1) % 2 = 0; omega) (by show (2 * q + 1) % 2 = 1; omega)
  rw [hB] at hs ⊢
  dsimp only at hs ⊢
  rw [sout_B] at hs
  rw [out_B, pay3_apply]
  exact hs

/-- The result array: at row `r` and column `j` the sum over all rows of the terms. -/
theorem array_apply (c : Dev nD) (r : Fin 2048) (j : Fin 1024) :
    (G2 m c (ix2 r j) : EReal) = ∑ k ∈ Finset.range 2048, term m c r.val j.val k := by
  have hr := r.isLt
  have hj := j.isLt
  have hN : cfg0.N = 4 := N_0
  have hp : pt2Of (ix2 r j) = 2 * (r.val / 1024) + 1 := by
    show 2 * (1 * (r.val / 1024 - 0) + 1 * (j.val / 1024 - 0)) + 1 = _
    omega
  have hlt : pt2Of (ix2 r j) < cfg0.N := by rw [hp]; omega
  have hl : loc2Of (ix2 r j) = ix2 (⟨r.val % 1024, by omega⟩ : Fin 1024) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 1024) (by omega) ⟨r.val % 1024, by omega⟩ j (by omega)
  rw [show 1024 * (r.val / 1024) + (⟨r.val % 1024, by omega⟩ : Fin 1024).val = r.val from by show 1024 * (r.val / 1024) + r.val % 1024 = r.val; omega] at this
  rw [← this]
  congr 2
  simp only [hp]

/-- The reference's contraction, rounded, at an index: a sum over the rows. -/
theorem reference_apply (u : FVec Ideal Cert.Reference5Ideal.S2048x2048 .f32) (g : FVec Ideal Cert.Reference5Ideal.S2048x1024 .f32) (r : Fin 2048) (j : Fin 1024) :
    (truncf .bf16 (transpose Cert.Reference5Ideal.S2048x1024 [1, 0]
        (Host.dotGeneral (φ₁ := .f32) (φ₂ := .f32) Cert.Reference5Ideal.dot_S2048x1024_S2048x2048_S1024x2048_0_0_1_1_n_n none g u)
        Cert.Reference5Ideal.Gen.transposes_S1024x2048_S2048x1024_1_0) Cert.Reference5Ideal.Gen.bitsLt_bf16_f32
      : FVec Ideal Cert.Reference5Ideal.S2048x1024 .bf16) (ix2 r j)
      = ∑ k ∈ Finset.range 2048, (at2 u k r.val * at2 g k j.val : EReal) := by
  pointwise
  rw [← Fin.sum_univ_eq_sum_range]
  refine Finset.sum_congr rfl fun k _ => ?_
  rw [at2_of _ k.isLt r.isLt, at2_of _ k.isLt j.isLt, mul_comm]

/-- The reference runs to the end, its arguments unchanged; it has no semaphore at all. -/
theorem reference_frame : Cert.quiescent_Reference5Ideal (hReference5Ideal := Cert.Reference5Ideal.Gen.facts) := fun m g _ =>
  (θ_run _ _ _).mono (fun r h => ⟨fun c => (h c).2, funext fun s => match s with
    | (_, .reg s) => s.elim0
    | (_, .dma s) => s.elim0⟩) (Cert.Reference5Ideal.Value.run m g)

/-- The two runs end with the same array. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => G2 m c, Cert.Kernel5Ideal.Value.run m g, ?_⟩
  refine (θ_run _ _ _).mono (fun r h c => ⟨(h c).1.trans ?_, (h c).2⟩) (Cert.Reference5Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel5Ideal.Product
-- ==== Proof.OutDx.lean ====
/-
  The rows' gradient of the mixer's output product: `cc0_l0_w_out_dx` leaves, at row `r` and column `j`, the sum
  over the 1024 columns `k` of `g[r, k] * w_out[j, k]`, each block of the result in one step.
-/
module

public import proofs.«01_k».proof.Defs
public import proofs.«01_k».proof.Proof.Gen.Kernel6Ideal.Value
public import proofs.«01_k».proof.Proof.Gen.Reference6Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel6Ideal.Product

open Cert.Kernel6Ideal Cert.Kernel6Ideal.Gen Cert.Kernel6Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- A step writes the block's product over the zero block to the output block. -/
theorem out_A (c : Dev nD) (i : grid0.Coords) (a3 h3 a4 h4 a5 h5 a6 h6 hc0 hc1) (x0 : Vec F S1024x1024 .bf16) (x1 : Vec F S1024x1024 .bf16) :
    out0_A_2 c i a3 h3 a4 h4 a5 h5 a6 h6 hc0 hc1 x0 x1 = k0_pay2 x0 x1 (k0_pay1 (F := F)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero _ hz]
  simp only [View.readAt_eq_ld, h3.read_unread, h4.read_unread, View.ld_unit_zero (S := S1024x1024) hz]

end cases

variable (m : (ℓ : Loc nD τ sig) → Buf (Elt Ideal) ℓ)

/-- A step's payload at an index: what the accumulator held plus the block's products. -/
theorem pay2_apply (x0 : Vec Ideal S1024x1024 .bf16) (x1 : Vec Ideal S1024x1024 .bf16) (acc : Vec Ideal S1024x1024 .f32) (i : Fin 1024) (j : Fin 1024) :
    k0_pay2 x0 x1 acc (ix2 i j) = (acc (ix2 i j) : EReal) + ∑ k : Fin 1024, (x0 (ix2 i k) : EReal) * (x1 (ix2 j k) : EReal) := by
  pointwise [k0_pay2]

theorem pay1_apply (i : Fin 1024) (j : Fin 1024) : k0_pay1 (F := Ideal) (ix2 i j) = (0 : EReal) := by
  pointwise [k0_pay1]

theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = t.val % 2 ∧ win0_1.index t 1 = 0 :=
  (by decide +kernel : ∀ t : Fin grid0.N, _)
theorem idx2 : ∀ t : Fin cfg0.N, win0_2.index t 0 = t.val / 2 ∧ win0_2.index t 1 = t.val % 2 :=
  (by decide +kernel : ∀ t : Fin grid0.N, _)
theorem flush2 : ∀ t : Fin cfg0.N, (cfg0.win 2).flush t = true :=
  (by decide +kernel : ∀ t : Fin grid0.N, _)

/-- The rows' block of a grid point. -/
theorem blk0 (c : Dev nD) (t : Fin cfg0.N) (i k : Fin 1024) :
    (iblk m c 0 t : Vec Ideal S1024x1024 .bf16) (ix2 i k)
      = at2 (M := 2048) (N := 1024) (m ((c : Thread nD τ).loc main_arg0)) (1024 * (t.val / 2) + i.val) k.val := by
  have hN : t.val < 4 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 2) + i.val, by omega⟩ : Fin 2048) (⟨k.val, by omega⟩ : Fin 1024))
      = (m ((c : Thread nD τ).loc main_arg0) : (⟨2, ![2048, 1024]⟩ : Shape).Idx → EReal) (ix2 ⟨1024 * (t.val / 2) + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 2) + i.val; omega
  | ⟨1, _⟩ => show win0_0.index t 1 * 1024 + 1 * k.val = _; rw [e1]; show _ = k.val; omega

/-- The weight's block of a grid point. -/
theorem blk1 (c : Dev nD) (t : Fin cfg0.N) (j : Fin 1024) (k : Fin 1024) :
    (iblk m c 1 t : Vec Ideal S1024x1024 .bf16) (ix2 j k)
      = at2 (M := 2048) (N := 1024) (m ((c : Thread nD τ).loc main_arg1)) (1024 * (t.val % 2) + j.val) k.val := by
  have hN : t.val < 4 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨1024 * (t.val % 2) + j.val, by omega⟩ : Fin 2048) (⟨k.val, by omega⟩ : Fin 1024))
      = (m ((c : Thread nD τ).loc main_arg1) : (⟨2, ![2048, 1024]⟩ : Shape).Idx → EReal) (ix2 ⟨1024 * (t.val % 2) + j.val, by omega⟩ ⟨k.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * j.val = _; rw [e0]; show _ = 1024 * (t.val % 2) + j.val; omega
  | ⟨1, _⟩ => show win0_1.index t 1 * 1024 + 1 * k.val = _; rw [e1]; show _ = k.val; omega

/-- The term a column contributes to row `r` and column `j` of the product. -/
abbrev term (c : Dev nD) (r j k : ℕ) : EReal :=
  at2 (M := 2048) (N := 1024) (m ((c : Thread nD τ).loc main_arg0)) r k * at2 (M := 2048) (N := 1024) (m ((c : Thread nD τ).loc main_arg1)) j k

/-- What a grid point leaves in its output block: the sum over all columns. -/
theorem out_apply (c : Dev nD) (t : Fin cfg0.N) (i : Fin 1024) (j : Fin 1024) :
    (outsAt0 m c t (ix2 i j) : EReal) = ∑ k ∈ Finset.range 1024, term m c (1024 * (t.val / 2) + i.val) (1024 * (t.val % 2) + j.val) k := by
  unfold outsAt0
  rw [out_A, pay2_apply, pay1_apply, zero_add, ← Fin.sum_univ_eq_sum_range]
  refine Finset.sum_congr rfl fun k _ => ?_
  rw [blk0, blk1]

/-- The array the run leaves. -/
abbrev result (c : Dev nD) : Buf (Elt Ideal) ((c : Thread nD τ).loc main_v2) := (dats m 0 c).arrAt 2 cfg0.N

/-- The result array: at row `r` and column `j` the sum over all columns of the terms. -/
theorem array_apply (c : Dev nD) (r : Fin 2048) (j : Fin 2048) :
    (result m c (ix2 r j) : EReal) = ∑ k ∈ Finset.range 1024, term m c r.val j.val k := by
  have hr := r.isLt
  have hj := j.isLt
  have hN : cfg0.N = 4 := N_0
  obtain ⟨t, ht⟩ : ∃ t : Fin cfg0.N, t.val = 2 * (r.val / 1024) + j.val / 1024 := ⟨⟨2 * (r.val / 1024) + j.val / 1024, by omega⟩, rfl⟩
  obtain ⟨e0, e1⟩ := idx2 t
  have hb := congrFun ((blocks2 m c t (flush2 t)).trans (flushed2 m c t)) (ix2 (⟨r.val % 1024, by omega⟩ : Fin 1024) (⟨j.val % 1024, by omega⟩ : Fin 1024))
  rw [View.read_apply] at hb
  have he : ((cfg0.win 2).blk t).view.emb (ix2 (⟨r.val % 1024, by omega⟩ : Fin 1024) (⟨j.val % 1024, by omega⟩ : Fin 1024)) = ix2 r j := by
    funext a
    apply Fin.ext
    match a with
    | ⟨0, _⟩ => show win0_2.index t 0 * 1024 + 1 * (r.val % 1024) = r.val; rw [e0, ht]; omega
    | ⟨1, _⟩ => show win0_2.index t 1 * 1024 + 1 * (j.val % 1024) = j.val; rw [e1, ht]; omega
  rw [he] at hb
  refine hb.trans ?_
  refine (out_apply m c t ⟨r.val % 1024, by omega⟩ ⟨j.val % 1024, by omega⟩).trans ?_
  rw [show 1024 * (t.val / 2) + r.val % 1024 = r.val by rw [ht]; omega, show 1024 * (t.val % 2) + j.val % 1024 = j.val by rw [ht]; omega]

/-- The reference's one contraction at row `r` and column `j`, as a sum over the columns. -/
theorem reference_apply (x : FVec Ideal Cert.Reference6Ideal.S2048x1024 .f32) (w : FVec Ideal Cert.Reference6Ideal.S2048x1024 .f32)
    (r : Fin 2048) (j : Fin 2048) :
    (Host.dotGeneral (φ₁ := .f32) (φ₂ := .f32) Cert.Reference6Ideal.dot_S2048x1024_S2048x1024_S2048x2048_1_1_0_0_n_n none x
        w
      : FVec Ideal Cert.Reference6Ideal.S2048x2048 .f32) (ix2 r j)
      = ∑ k ∈ Finset.range 1024, (at2 x r.val k * at2 w j.val k : EReal) := by
  pointwise
  rw [← Fin.sum_univ_eq_sum_range]
  refine Finset.sum_congr rfl fun k _ => ?_
  rw [at2_of _ r.isLt k.isLt, at2_of _ j.isLt k.isLt]

/-- The reference runs to the end, its arguments unchanged; it has no semaphore at all. -/
theorem reference_frame : Cert.quiescent_Reference6Ideal (hReference6Ideal := Cert.Reference6Ideal.Gen.facts) := fun m g _ =>
  (θ_run _ _ _).mono (fun r h => ⟨fun c => (h c).2, funext fun s => match s with
    | (_, .reg s) => s.elim0
    | (_, .dma s) => s.elim0⟩) (Cert.Reference6Ideal.Value.run m g)

/-- The two runs end with the same array. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => result m c, Cert.Kernel6Ideal.Value.run_blocks m g, ?_⟩
  refine (θ_run _ _ _).mono (fun r h c => ⟨(h c).1.trans ?_, (h c).2⟩) (Cert.Reference6Ideal.Value.run m' g')
  rw [(hargs c).1, (hargs c).2]
  funext i
  obtain ⟨r, j, rfl⟩ : ∃ (r : Fin 2048) (j : Fin 2048), i = ix2 r j := ⟨i 0, i 1, (ix2_eta i).symm⟩
  exact (reference_apply _ _ r j).trans (array_apply m c r j).symm

end Cert.Kernel6Ideal.Product
-- ==== Proof.Pw1Dw.lean ====
/-
  The weight's gradient of the first pointwise product: `cc0_l0_pw1_dw` leaves, at chip's block `p`, row `r` and column `j`, the sum
  over the 2048 rows `k` of `u[k, r] * g[k, 512 * p + j]`, gathered in two blocks of 1024.
-/
module

public import proofs.«01_k».proof.Defs
public import proofs.«01_k».proof.Proof.Gen.Kernel7Ideal.Value
public import proofs.«01_k».proof.Proof.Gen.Reference7Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel7Ideal.Product

open Cert.Kernel7Ideal Cert.Kernel7Ideal.Gen Cert.Kernel7Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1024 .bf16) (x1 : Vec F S1024x512 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz, View.ld_unit_zero (S := S1024x512) hz]

/-- The last step adds the block's product to what the scratch held. -/
theorem sout_B (c : Dev nD) (i : grid0.Coords) (a3 h3 a4 h4 a5 h5 a6 h6 hc0 hc1) (x0 : Vec F S1024x1024 .bf16) (x1 : Vec F S1024x512 .bf16) (xs : Vec F S1024x512 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1024x512) hz]

/-- … and writes what the scratch then holds, rounded, to the output block. -/
theorem out_B (c : Dev nD) (i : grid0.Coords) (a3 h3 a4 h4 a5 h5 a6 h6 hc0 hc1) (x0 : Vec F S1024x1024 .bf16) (x1 : Vec F S1024x512 .bf16) (xs : Vec F S1024x512 .f32) :
    out0_B_2 c i a3 h3 a4 h4 a5 h5 a6 h6 hc0 hc1 x0 x1 xs = k0_pay3 (k0_pay2 x0 x1 xs) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero _ hz]
  simp only [View.readAt_eq_ld, h3.read_unread, h4.read_unread, h6.read_unread, View.ld_unit_zero (S := S1024x1024) hz, View.ld_unit_zero (S := S1024x512) hz]

end cases

variable (m : (ℓ : Loc nD τ sig) → Buf (Elt Ideal) ℓ)

/-- A step's payload at an index: what the accumulator held plus the block's products. -/
theorem pay2_apply (x0 : Vec Ideal S1024x1024 .bf16) (x1 : Vec Ideal S1024x512 .bf16) (acc : Vec Ideal S1024x512 .f32) (i : Fin 1024) (j : Fin 512) :
    k0_pay2 x0 x1 acc (ix2 i j) = (acc (ix2 i j) : EReal) + ∑ k : Fin 1024, (x0 (ix2 k i) : EReal) * (x1 (ix2 k j) : EReal) := by
  pointwise [k0_pay2]

theorem pay1_apply (i : Fin 1024) (j : Fin 512) : k0_pay1 (F := Ideal) (ix2 i j) = (0 : EReal) := by
  pointwise [k0_pay1]

/-- The rounding to the result's format changes no value. -/
theorem pay3_apply (acc : Vec Ideal S1024x512 .f32) (i : Fin 1024) (j : Fin 512) : k0_pay3 acc (ix3 0 i j) = (acc (ix2 i j) : EReal) := by
  pointwise [k0_pay3]

theorem idx0 : ∀ t : Fin cfg0.N, win0_0.index t 0 = t.val % 2 ∧ win0_0.index t 1 = 0 :=
  (by decide +kernel : ∀ t : Fin grid0.N, _)
theorem idx1 : ∀ t : Fin cfg0.N, win0_1.index t 0 = t.val % 2 ∧ win0_1.index t 1 = (t.val / 2) :=
  (by decide +kernel : ∀ t : Fin grid0.N, _)

/-- The rows' block of a grid point. -/
theorem blk0 (c : Dev nD) (t : Fin cfg0.N) (k : Fin 1024) (i : Fin 1024) :
    (iblk m c 0 t : Vec Ideal S1024x1024 .bf16) (ix2 k i)
      = at2 (M := 2048) (N := 1024) (m ((c : Thread nD τ).loc main_arg0)) (1024 * (t.val % 2) + k.val) (i.val) := by
  have hN : t.val < 8 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val % 2) + k.val, by omega⟩ : Fin 2048) (⟨i.val, by omega⟩ : Fin 1024))
      = (m ((c : Thread nD τ).loc main_arg0) : (⟨2, ![2048, 1024]⟩ : Shape).Idx → EReal) (ix2 ⟨1024 * (t.val % 2) + k.val, by omega⟩ ⟨i.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * k.val = _; rw [e0]; show _ = 1024 * (t.val % 2) + k.val; omega
  | ⟨1, _⟩ => show win0_0.index t 1 * 1024 + 1 * i.val = _; rw [e1]; show _ = i.val; omega

/-- The cotangent's block of a grid point. -/
theorem blk1 (c : Dev nD) (t : Fin cfg0.N) (k : Fin 1024) (j : Fin 512) :
    (iblk m c 1 t : Vec Ideal S1024x512 .bf16) (ix2 k j)
      = at2 (M := 2048) (N := 2048) (m ((c : Thread nD τ).loc main_arg1)) (1024 * (t.val % 2) + k.val) (512 * (t.val / 2) + j.val) := by
  have hN : t.val < 8 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨1024 * (t.val % 2) + k.val, by omega⟩ : Fin 2048) (⟨512 * (t.val / 2) + j.val, by omega⟩ : Fin 2048))
      = (m ((c : Thread nD τ).loc main_arg1) : (⟨2, ![2048, 2048]⟩ : Shape).Idx → EReal) (ix2 ⟨1024 * (t.val % 2) + k.val, by omega⟩ ⟨512 * (t.val / 2) + j.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * k.val = _; rw [e0]; show _ = 1024 * (t.val % 2) + k.val; omega
  | ⟨1, _⟩ => show win0_1.index t 1 * 512 + 1 * j.val = _; rw [e1]; show _ = 512 * (t.val / 2) + j.val; omega

/-- The term a row `k` contributes to row `r` and column `j` of the product. -/
abbrev term (c : Dev nD) (r j k : ℕ) : EReal :=
  at2 (M := 2048) (N := 1024) (m ((c : Thread nD τ).loc main_arg0)) k r * at2 (M := 2048) (N := 2048) (m ((c : Thread nD τ).loc main_arg1)) k j

/-- A step adds the block's terms to what the accumulator held. -/
theorem step_apply (c : Dev nD) (t : Fin cfg0.N) (acc : Vec Ideal S1024x512 .f32) (i : Fin 1024) (j : Fin 512) :
    k0_pay2 (iblk m c 0 t) (iblk m c 1 t) acc (ix2 i j)
      = (acc (ix2 i j) : EReal) + ∑ k : Fin 1024, term m c (i.val) (512 * (t.val / 2) + j.val) (1024 * (t.val % 2) + k.val) := by
  rw [pay2_apply]
  refine congrArg _ (Finset.sum_congr rfl fun k _ => ?_)
  rw [blk0, blk1]

/-- The scratch after step `s` of the block `q`: the terms of the first `s + 1` blocks of rows. -/
theorem scratch_apply (c : Dev nD) (q : ℕ) (hq : q < 4) (i : Fin 1024) (j : Fin 512) (s : ℕ) (hs : s < 2) (h : 2 * q + s < cfg0.N) :
    ((outsAt0 m c (2 * q + s) h).2 (ix2 i j) : EReal) = ∑ k ∈ Finset.range (1024 * (s + 1)), term m c (i.val) (512 * q + j.val) k := by
  have hN : cfg0.N = 8 := N_0
  have key := sweep 2 1024 (term m c (i.val) (512 * q + j.val))
    (fun s => if h : 2 * q + s < cfg0.N then ((outsAt0 m c (2 * q + s) h).2 (ix2 i j) : EReal) else 0)
    (fun _ => by
      have hb : 2 * q + 0 < cfg0.N := by omega
      have hA := outsAt0_A m c ⟨2 * q + 0, hb⟩ (by show (2 * q + 0) % 2 = 0; omega) (by show ¬(2 * q + 0) % 2 = 1; omega)
      simp only [dif_pos hb]
      rw [hA]
      dsimp only
      rw [sout_A, step_apply, pay1_apply, zero_add]
      refine Finset.sum_congr rfl fun k _ => ?_
      show term m c (i.val) (512 * ((2 * q + 0) / 2) + j.val) (1024 * ((2 * q + 0) % 2) + k.val) = _
      rw [show (2 * q + 0) / 2 = q by omega, show (2 * q + 0) % 2 = 0 by omega, Nat.mul_zero, Nat.zero_add])
    (fun s hs => by
      have hb : 2 * q + (s + 1) < cfg0.N := by omega
      have hb' : 2 * q + s < cfg0.N := by omega
      have h1 : (2 * q + (s + 1)) % 2 = 1 := by omega
      simp only [dif_pos hb, dif_pos hb']
      have e : (outsAt0 m c (2 * q + (s + 1)) hb).2
          = k0_pay2 (iblk m c 0 ⟨2 * q + (s + 1), hb⟩) (iblk m c 1 ⟨2 * q + (s + 1), hb⟩) (outsAt0 m c (2 * q + s) hb').2 := by
        have hB := outsAt0_B m c ⟨2 * q + (s + 1), hb⟩ (by show ¬(2 * q + (s + 1)) % 2 = 0; omega) h1
        rw [hB]
        dsimp only
        rw [sout_B]
        rfl
      rw [e, step_apply]
      refine congrArg _ (Finset.sum_congr rfl fun k _ => ?_)
      show term m c (i.val) (512 * ((2 * q + (s + 1)) / 2) + j.val) (1024 * ((2 * q + (s + 1)) % 2) + k.val) = _
      rw [show (2 * q + (s + 1)) / 2 = q by omega, show (2 * q + (s + 1)) % 2 = s + 1 by omega])
    s hs
  simpa only [dif_pos h] using key

/-- The output block after the last step of a block: the sum over all rows. -/
theorem out_apply (c : Dev nD) (q : ℕ) (hq : q < 4) (i : Fin 1024) (j : Fin 512) (h : 2 * q + 1 < cfg0.N) :
    ((outsAt0 m c (2 * q + 1) h).1 (ix3 0 i j) : EReal) = ∑ k ∈ Finset.range 2048, term m c (i.val) (512 * q + j.val) k := by
  have hs := scratch_apply m c q hq i j 1 (by omega) h
  have hB := outsAt0_B m c ⟨2 * q + 1, h⟩ (by show ¬(2 * q + 1) % 2 = 0; omega) (by show (2 * q + 1) % 2 = 1; omega)
  rw [hB] at hs ⊢
  dsimp only at hs ⊢
  rw [sout_B] at hs
  rw [out_B, pay3_apply]
  exact hs

/-- The result array: at the chip's block `p`, row `r` and column `j` the sum over all rows of the terms. -/
theorem array_apply (c : Dev nD) (p : Fin 4) (r : Fin 1024) (j : Fin 512) :
    (G2 m c (ix3 p r j) : EReal) = ∑ k ∈ Finset.range 2048, term m c r.val (512 * p.val + j.val) k := by
  have hq := p.isLt
  have hr := r.isLt
  have hj := j.isLt
  have hN : cfg0.N = 8 := N_0
  have hp : pt2Of (ix3 p r j) = 2 * p.val + 1 := by
    show 2 * (1 * (p.val / 1 - 0) + 1 * (r.val / 1024 - 0) + 1 * (j.val / 512 - 0)) + 1 = _
    omega
  have hlt : pt2Of (ix3 p r j) < cfg0.N := by rw [hp]; omega
  have hl : loc2Of (ix3 p r j) = ix3 (0 : Fin 1) r j := by
    funext a
    apply Fin.ext
    match a with
    | ⟨0, _⟩ => exact Nat.mod_one _
    | ⟨1, _⟩ => exact Nat.mod_eq_of_lt hr
    | ⟨2, _⟩ => exact Nat.mod_eq_of_lt hj
  unfold G2
  rw [dif_pos hlt, ← outsAt0_sweep m c _ hlt, hl]
  have := out_apply m c p.val hq r j (by omega)
  rw [← this]
  congr 2
  simp only [hp]

/-- The reference's contraction, rounded and laid out in the chips' blocks, at an index: a sum over the rows. -/
theorem reference_apply (u : FVec Ideal Cert.Reference7Ideal.S2048x1024 .f32) (g : FVec Ideal Cert.Reference7Ideal.S2048x2048 .f32) (p : Fin 4) (r : Fin 1024) (j : Fin 512) :
    (transpose Cert.Reference7Ideal.S4x1024x512 [1, 0, 2] (shapeCast _ (truncf .bf16 (transpose Cert.Reference7Ideal.S1024x2048 [1, 0]
        (Host.dotGeneral (φ₁ := .f32) (φ₂ := .f32) Cert.Reference7Ideal.dot_S2048x2048_S2048x1024_S2048x1024_0_0_1_1_n_n none g u)
        Cert.Reference7Ideal.Gen.transposes_S2048x1024_S1024x2048_1_0) Cert.Reference7Ideal.Gen.bitsLt_bf16_f32)
        Cert.Reference7Ideal.Gen.shapeCasts_S1024x2048_S1024x4x512) Cert.Reference7Ideal.Gen.transposes_S1024x4x512_S4x1024x512_1_0_2
      : FVec Ideal Cert.Reference7Ideal.S4x1024x512 .bf16) (ix3 p r j)
      = ∑ k ∈ Finset.range 2048, (at2 u k r.val * at2 g k (512 * p.val + j.val) : EReal) := by
  have hp := p.isLt
  have hj := j.isLt
  pointwise
  rw [← Fin.sum_univ_eq_sum_range]
  refine Finset.sum_congr rfl fun k _ => ?_
  rw [at2_of _ k.isLt r.isLt, at2_of _ k.isLt (by omega), mul_comm]
  refine congrArg₂ (fun a b : EReal => a * b) rfl (congrArg (fun z : Fin 2048 => (g (ix2 k z) : EReal)) (Fin.ext ?_))
  show p.val * 512 + j.val = 512 * p.val + j.val
  omega

/-- The reference runs to the end, its arguments unchanged; it has no semaphore at all. -/
theorem reference_frame : Cert.quiescent_Reference7Ideal (hReference7Ideal := Cert.Reference7Ideal.Gen.facts) := fun m g _ =>
  (θ_run _ _ _).mono (fun r h => ⟨fun c => (h c).2, funext fun s => match s with
    | (_, .reg s) => s.elim0
    | (_, .dma s) => s.elim0⟩) (Cert.Reference7Ideal.Value.run m g)

/-- The two runs end with the same array. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => G2 m c, Cert.Kernel7Ideal.Value.run m g, ?_⟩
  refine (θ_run _ _ _).mono (fun r h c => ⟨(h c).1.trans ?_, (h c).2⟩) (Cert.Reference7Ideal.Value.run m' g')
  rw [(hargs c).1, (hargs c).2]
  funext i
  obtain ⟨p, r, j, rfl⟩ : ∃ (p : Fin 4) (r : Fin 1024) (j : Fin 512), i = ix3 p r j := ⟨i 0, i 1, i 2, (ix3_eta i).symm⟩
  exact (reference_apply _ _ p r j).trans (array_apply m c p r j).symm

end Cert.Kernel7Ideal.Product
-- ==== Proof.Pw1Dx.lean ====
/-
  The rows' gradient of the first pointwise product: `cc0_l0_pw1_dx` leaves, at row `r` and column `j`, the sum
  over the 2048 columns `k` of `g[r, k] * pw1[0, j, k]`, gathered in four blocks of 512.
-/
module

public import proofs.«01_k».proof.Defs
public import proofs.«01_k».proof.Proof.Gen.Kernel8Ideal.Value
public import proofs.«01_k».proof.Proof.Gen.Reference8Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel8Ideal.Product

open Cert.Kernel8Ideal Cert.Kernel8Ideal.Gen Cert.Kernel8Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz4 : (![0, 0, 0, 0] : Fin 4 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x512 .bf16) (x1 : Vec F S1x1x1024x512 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x512) hz, View.ld_unit_zero (S := S1x1x1024x512) hz4]

/-- A middle step adds the block's product to what the scratch held. -/
theorem sout_B (c : Dev nD) (i : grid0.Coords) (a3 h3 a4 h4 a5 h5 a6 h6 hc0 hc1) (x0 : Vec F S1024x512 .bf16) (x1 : Vec F S1x1x1024x512 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x512) hz, View.ld_unit_zero (S := S1x1x1024x512) hz4, View.ld_unit_zero (S := S1024x1024) hz]

/-- The last step adds the block's product too. -/
theorem sout_C (c : Dev nD) (i : grid0.Coords) (a3 h3 a4 h4 a5 h5 a6 h6 hc0 hc1) (x0 : Vec F S1024x512 .bf16) (x1 : Vec F S1x1x1024x512 .bf16) (xs : Vec F S1024x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x512) hz, View.ld_unit_zero (S := S1x1x1024x512) hz4, View.ld_unit_zero (S := S1024x1024) hz]

/-- … and writes what the scratch then holds to the output block. -/
theorem out_C (c : Dev nD) (i : grid0.Coords) (a3 h3 a4 h4 a5 h5 a6 h6 hc0 hc1) (x0 : Vec F S1024x512 .bf16) (x1 : Vec F S1x1x1024x512 .bf16) (xs : Vec F S1024x1024 .f32) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x512) hz, View.ld_unit_zero (S := S1x1x1024x512) hz4, View.ld_unit_zero (S := S1024x1024) hz]

end cases

variable (m : (ℓ : Loc nD τ sig) → Buf (Elt Ideal) ℓ)

/-- A step's payload at an index: what the accumulator held plus the block's products. -/
theorem pay2_apply (x0 : Vec Ideal S1024x512 .bf16) (x1 : Vec Ideal S1x1x1024x512 .bf16) (acc : Vec Ideal S1024x1024 .f32) (i j : Fin 1024) :
    k0_pay2 x0 x1 acc (ix2 i j) = (acc (ix2 i j) : EReal) + ∑ k : Fin 512, (x0 (ix2 i k) : EReal) * (x1 (ix4 0 0 j k) : EReal) := by
  pointwise [k0_pay2]

theorem pay1_apply (i j : Fin 1024) : k0_pay1 (F := Ideal) (ix2 i j) = (0 : EReal) := by
  pointwise [k0_pay1]

theorem idx0 : ∀ t : Fin cfg0.N, win0_0.index t 0 = t.val / 4 ∧ win0_0.index t 1 = t.val % 4 :=
  (by decide +kernel : ∀ t : Fin grid0.N, _)
theorem idx1 : ∀ t : Fin cfg0.N, win0_1.index t 0 = t.val % 4 ∧ win0_1.index t 1 = 0 ∧ win0_1.index t 2 = 0 ∧ win0_1.index t 3 = 0 :=
  (by decide +kernel : ∀ t : Fin grid0.N, _)

/-- The rows' block of a grid point. -/
theorem blk0 (c : Dev nD) (t : Fin cfg0.N) (i : Fin 1024) (k : Fin 512) :
    (iblk m c 0 t : Vec Ideal S1024x512 .bf16) (ix2 i k)
      = at2 (M := 2048) (N := 2048) (m ((c : Thread nD τ).loc main_arg0)) (1024 * (t.val / 4) + i.val) (512 * (t.val % 4) + k.val) := by
  have hN : t.val < 8 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 4) + i.val, by omega⟩ : Fin 2048) (⟨512 * (t.val % 4) + k.val, by omega⟩ : Fin 2048))
      = (m ((c : Thread nD τ).loc main_arg0) : (⟨2, ![2048, 2048]⟩ : Shape).Idx → EReal) (ix2 ⟨1024 * (t.val / 4) + i.val, by omega⟩ ⟨512 * (t.val % 4) + k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 4) + i.val; omega
  | ⟨1, _⟩ => show win0_0.index t 1 * 512 + 1 * k.val = _; rw [e1]; show _ = 512 * (t.val % 4) + k.val; omega

/-- The weight's block of a grid point: one chip's columns. -/
theorem blk1 (c : Dev nD) (t : Fin cfg0.N) (j : Fin 1024) (k : Fin 512) :
    (iblk m c 1 t : Vec Ideal S1x1x1024x512 .bf16) (ix4 0 0 j k)
      = at3 (L := 1) (M := 1024) (N := 2048) (m ((c : Thread nD τ).loc main_arg1)) 0 j.val (512 * (t.val % 4) + k.val) := by
  have hN : t.val < 8 := lt_of_lt_of_eq t.isLt N_0
  have hi := j.isLt
  have hk := k.isLt
  obtain ⟨e0, e1, e2, e3⟩ := idx1 t
  rw [at3_of _ (by omega) (by omega) (by omega)]
  unfold iblk
  rw [View.read_apply]
  have e : V m c main_v3 (ix4 (⟨t.val % 4, by omega⟩ : Fin 4) (0 : Fin 1) j k)
      = (m ((c : Thread nD τ).loc main_arg1) : (⟨3, ![1, 1024, 2048]⟩ : Shape).Idx → EReal) (ix3 ⟨0, by omega⟩ ⟨j.val, by omega⟩ ⟨512 * (t.val % 4) + k.val, by omega⟩) := by
    unfold V
    after_reads_at
    exact congrArg (fun z : Fin 2048 => (m ((c : Thread nD τ).loc main_arg1) : (⟨3, ![1, 1024, 2048]⟩ : Shape).Idx → EReal) (ix3 0 j z))
      (Fin.ext (by show t.val % 4 * 512 + k.val = 512 * (t.val % 4) + k.val; omega))
  refine Eq.trans ?_ e
  show V m c main_v3 _ = V m c main_v3 _
  congr 1
  funext a
  apply Fin.ext
  match a with
  | ⟨0, _⟩ => show win0_1.index t 0 * 1 + 1 * 0 = _; rw [e0]; show _ = t.val % 4; omega
  | ⟨1, _⟩ => show win0_1.index t 1 * 1 + 1 * 0 = _; rw [e1]; rfl
  | ⟨2, _⟩ => show win0_1.index t 2 * 1024 + 1 * j.val = _; rw [e2]; show _ = j.val; omega
  | ⟨3, _⟩ => show win0_1.index t 3 * 512 + 1 * k.val = _; rw [e3]; show _ = k.val; omega

/-- The term a column contributes to row `r` and column `j` of the product. -/
abbrev term (c : Dev nD) (r j k : ℕ) : EReal :=
  at2 (M := 2048) (N := 2048) (m ((c : Thread nD τ).loc main_arg0)) r k * at3 (L := 1) (M := 1024) (N := 2048) (m ((c : Thread nD τ).loc main_arg1)) 0 j k

/-- A step adds the block's terms to what the accumulator held. -/
theorem step_apply (c : Dev nD) (t : Fin cfg0.N) (acc : Vec Ideal S1024x1024 .f32) (i j : Fin 1024) :
    k0_pay2 (iblk m c 0 t) (iblk m c 1 t) acc (ix2 i j)
      = (acc (ix2 i j) : EReal) + ∑ k : Fin 512, term m c (1024 * (t.val / 4) + i.val) j.val (512 * (t.val % 4) + k.val) := by
  rw [pay2_apply]
  refine congrArg _ (Finset.sum_congr rfl fun k _ => ?_)
  rw [blk0, blk1]

/-- The scratch after step `s` of the row block `q`: the terms of the first `s + 1` blocks of columns. -/
theorem scratch_apply (c : Dev nD) (q : ℕ) (hq : q < 2) (i j : Fin 1024) (s : ℕ) (hs : s < 4) (h : 4 * q + s < cfg0.N) :
    ((outsAt0 m c (4 * q + s) h).2 (ix2 i j) : EReal) = ∑ k ∈ Finset.range (512 * (s + 1)), term m c (1024 * q + i.val) j.val k := by
  have hN : cfg0.N = 8 := N_0
  have key := sweep 4 512 (term m c (1024 * q + i.val) j.val)
    (fun s => if h : 4 * q + s < cfg0.N then ((outsAt0 m c (4 * q + s) h).2 (ix2 i j) : EReal) else 0)
    (fun _ => by
      have hb : 4 * q + 0 < cfg0.N := by omega
      have hA := outsAt0_A m c ⟨4 * q + 0, hb⟩ (by show (4 * q + 0) % 4 = 0; omega) (by show ¬(4 * q + 0) % 4 = 3; omega)
      simp only [dif_pos hb]
      rw [hA]
      dsimp only
      rw [sout_A, step_apply, pay1_apply, zero_add]
      refine Finset.sum_congr rfl fun k _ => ?_
      show term m c (1024 * ((4 * q + 0) / 4) + i.val) j.val (512 * ((4 * q + 0) % 4) + k.val) = _
      rw [show (4 * q + 0) / 4 = q by omega, show (4 * q + 0) % 4 = 0 by omega, Nat.mul_zero, Nat.zero_add])
    (fun s hs => by
      have hb : 4 * q + (s + 1) < cfg0.N := by omega
      have hb' : 4 * q + s < cfg0.N := by omega
      simp only [dif_pos hb, dif_pos hb']
      have e : (outsAt0 m c (4 * q + (s + 1)) hb).2
          = k0_pay2 (iblk m c 0 ⟨4 * q + (s + 1), hb⟩) (iblk m c 1 ⟨4 * q + (s + 1), hb⟩) (outsAt0 m c (4 * q + s) hb').2 := by
        by_cases h3 : (4 * q + (s + 1)) % 4 = 3
        · have hC := outsAt0_C m c ⟨4 * q + (s + 1), hb⟩ (by show ¬(4 * q + (s + 1)) % 4 = 0; omega) h3
          rw [hC]
          dsimp only
          rw [sout_C]
          rfl
        · have hB := outsAt0_B m c ⟨4 * q + (s + 1), hb⟩ (by show ¬(4 * q + (s + 1)) % 4 = 0; omega) h3
          rw [hB]
          dsimp only
          rw [sout_B]
          rfl
      rw [e, step_apply]
      refine congrArg _ (Finset.sum_congr rfl fun k _ => ?_)
      show term m c (1024 * ((4 * q + (s + 1)) / 4) + i.val) j.val (512 * ((4 * q + (s + 1)) % 4) + k.val) = _
      rw [show (4 * q + (s + 1)) / 4 = q by omega, show (4 * q + (s + 1)) % 4 = s + 1 by omega])
    s hs
  simpa only [dif_pos h] using key

/-- The output block after the last step of a row block: the sum over all columns. -/
theorem out_apply (c : Dev nD) (q : ℕ) (hq : q < 2) (i j : Fin 1024) (h : 4 * q + 3 < cfg0.N) :
    ((outsAt0 m c (4 * q + 3) h).1 (ix2 i j) : EReal) = ∑ k ∈ Finset.range 2048, term m c (1024 * q + i.val) j.val k := by
  have hs := scratch_apply m c q hq i j 3 (by omega) h
  have hC := outsAt0_C m c ⟨4 * q + 3, h⟩ (by show ¬(4 * q + 3) % 4 = 0; omega) (by show (4 * q + 3) % 4 = 3; omega)
  rw [hC] at hs ⊢
  dsimp only at hs ⊢
  rw [sout_C] at hs
  rw [out_C]
  exact hs

/-- The result array: at row `r` and column `j` the sum over all columns of the terms. -/
theorem array_apply (c : Dev nD) (r : Fin 2048) (j : Fin 1024) :
    (G2 m c (ix2 r j) : EReal) = ∑ k ∈ Finset.range 2048, term m c r.val j.val k := by
  have hr := r.isLt
  have hj := j.isLt
  have hN : cfg0.N = 8 := N_0
  have hp : pt2Of (ix2 r j) = 4 * (r.val / 1024) + 3 := by
    show 4 * (1 * (r.val / 1024 - 0) + 1 * (j.val / 1024 - 0)) + 3 = _
    omega
  have hlt : pt2Of (ix2 r j) < cfg0.N := by rw [hp]; omega
  have hl : loc2Of (ix2 r j) = ix2 (⟨r.val % 1024, by omega⟩ : Fin 1024) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 1024) (by omega) ⟨r.val % 1024, by omega⟩ j (by omega)
  rw [show 1024 * (r.val / 1024) + (⟨r.val % 1024, by omega⟩ : Fin 1024).val = r.val from by show 1024 * (r.val / 1024) + r.val % 1024 = r.val; omega] at this
  rw [← this]
  congr 2
  simp only [hp]

/-- The reference's one contraction at row `r` and column `j`, as a sum over the columns. -/
theorem reference_apply (x : FVec Ideal Cert.Reference8Ideal.S2048x2048 .f32) (w : FVec Ideal Cert.Reference8Ideal.S1x1024x2048 .f32)
    (r : Fin 2048) (j : Fin 1024) :
    (Host.dotGeneral (φ₁ := .f32) (φ₂ := .f32) Cert.Reference8Ideal.dot_S2048x2048_S1024x2048_S2048x1024_1_1_0_0_n_n none x
        (shapeCast _ w Cert.Reference8Ideal.Gen.shapeCasts_S1x1024x2048_S1024x2048)
      : FVec Ideal Cert.Reference8Ideal.S2048x1024 .f32) (ix2 r j)
      = ∑ k ∈ Finset.range 2048, (at2 x r.val k * at3 w 0 j.val k : EReal) := by
  pointwise
  rw [← Fin.sum_univ_eq_sum_range]
  refine Finset.sum_congr rfl fun k _ => ?_
  rw [at2_of _ r.isLt k.isLt, at3_of _ (by omega) j.isLt k.isLt]
  rfl

/-- The reference runs to the end, its arguments unchanged; it has no semaphore at all. -/
theorem reference_frame : Cert.quiescent_Reference8Ideal (hReference8Ideal := Cert.Reference8Ideal.Gen.facts) := fun m g _ =>
  (θ_run _ _ _).mono (fun r h => ⟨fun c => (h c).2, funext fun s => match s with
    | (_, .reg s) => s.elim0
    | (_, .dma s) => s.elim0⟩) (Cert.Reference8Ideal.Value.run m g)

/-- The two runs end with the same array. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => G2 m c, Cert.Kernel8Ideal.Value.run m g, ?_⟩
  refine (θ_run _ _ _).mono (fun r h c => ⟨(h c).1.trans ?_, (h c).2⟩) (Cert.Reference8Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel8Ideal.Product

end
-- ==== Proof.Pw2Dw.lean ====
/-
  The weight's gradient of the second pointwise product: `cc0_l0_pw2_dw` leaves, at row `r` and column `j`, the sum
  over the 2048 rows `k` of `u[k, r] * g[k, j]`, gathered in two blocks of 1024.
-/
module

public import proofs.«01_k».proof.Defs
public import proofs.«01_k».proof.Proof.Gen.Kernel9Ideal.Value
public import proofs.«01_k».proof.Proof.Gen.Reference9Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel9Ideal.Product

open Cert.Kernel9Ideal Cert.Kernel9Ideal.Gen Cert.Kernel9Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1024 .bf16) (x1 : Vec F S1024x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz]

/-- The last step adds the block's product to what the scratch held. -/
theorem sout_B (c : Dev nD) (i : grid0.Coords) (a3 h3 a4 h4 a5 h5 a6 h6 hc0 hc1) (x0 : Vec F S1024x1024 .bf16) (x1 : Vec F S1024x1024 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz]

/-- … and writes what the scratch then holds, rounded, to the output block. -/
theorem out_B (c : Dev nD) (i : grid0.Coords) (a3 h3 a4 h4 a5 h5 a6 h6 hc0 hc1) (x0 : Vec F S1024x1024 .bf16) (x1 : Vec F S1024x1024 .bf16) (xs : Vec F S1024x1024 .f32) :
    out0_B_2 c i a3 h3 a4 h4 a5 h5 a6 h6 hc0 hc1 x0 x1 xs = k0_pay3 (k0_pay2 x0 x1 xs) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero _ hz]
  simp only [View.readAt_eq_ld, h3.read_unread, h4.read_unread, h6.read_unread, View.ld_unit_zero (S := S1024x1024) hz]

end cases

variable (m : (ℓ : Loc nD τ sig) → Buf (Elt Ideal) ℓ)

/-- A step's payload at an index: what the accumulator held plus the block's products. -/
theorem pay2_apply (x0 : Vec Ideal S1024x1024 .bf16) (x1 : Vec Ideal S1024x1024 .bf16) (acc : Vec Ideal S1024x1024 .f32) (i : Fin 1024) (j : Fin 1024) :
    k0_pay2 x0 x1 acc (ix2 i j) = (acc (ix2 i j) : EReal) + ∑ k : Fin 1024, (x0 (ix2 k i) : EReal) * (x1 (ix2 k j) : EReal) := by
  pointwise [k0_pay2]

theorem pay1_apply (i : Fin 1024) (j : Fin 1024) : k0_pay1 (F := Ideal) (ix2 i j) = (0 : EReal) := by
  pointwise [k0_pay1]

/-- The rounding to the result's format changes no value. -/
theorem pay3_apply (acc : Vec Ideal S1024x1024 .f32) (i : Fin 1024) (j : Fin 1024) : k0_pay3 acc (ix2 i j) = (acc (ix2 i j) : EReal) := by
  pointwise [k0_pay3]

theorem idx0 : ∀ t : Fin cfg0.N, win0_0.index t 0 = t.val % 2 ∧ win0_0.index t 1 = (t.val / 2) :=
  (by decide +kernel : ∀ t : Fin grid0.N, _)
theorem idx1 : ∀ t : Fin cfg0.N, win0_1.index t 0 = t.val % 2 ∧ win0_1.index t 1 = 0 :=
  (by decide +kernel : ∀ t : Fin grid0.N, _)

/-- The rows' block of a grid point. -/
theorem blk0 (c : Dev nD) (t : Fin cfg0.N) (k : Fin 1024) (i : Fin 1024) :
    (iblk m c 0 t : Vec Ideal S1024x1024 .bf16) (ix2 k i)
      = at2 (M := 2048) (N := 1024) (m ((c : Thread nD τ).loc main_arg0)) (1024 * (t.val % 2) + k.val) (1024 * (t.val / 2) + i.val) := by
  have hN : t.val < 2 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val % 2) + k.val, by omega⟩ : Fin 2048) (⟨1024 * (t.val / 2) + i.val, by omega⟩ : Fin 1024))
      = (m ((c : Thread nD τ).loc main_arg0) : (⟨2, ![2048, 1024]⟩ : Shape).Idx → EReal) (ix2 ⟨1024 * (t.val % 2) + k.val, by omega⟩ ⟨1024 * (t.val / 2) + i.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * k.val = _; rw [e0]; show _ = 1024 * (t.val % 2) + k.val; omega
  | ⟨1, _⟩ => show win0_0.index t 1 * 1024 + 1 * i.val = _; rw [e1]; show _ = 1024 * (t.val / 2) + i.val; omega

/-- The cotangent's block of a grid point. -/
theorem blk1 (c : Dev nD) (t : Fin cfg0.N) (k : Fin 1024) (j : Fin 1024) :
    (iblk m c 1 t : Vec Ideal S1024x1024 .bf16) (ix2 k j)
      = at2 (M := 2048) (N := 1024) (m ((c : Thread nD τ).loc main_arg1)) (1024 * (t.val % 2) + k.val) (j.val) := by
  have hN : t.val < 2 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨1024 * (t.val % 2) + k.val, by omega⟩ : Fin 2048) (⟨j.val, by omega⟩ : Fin 1024))
      = (m ((c : Thread nD τ).loc main_arg1) : (⟨2, ![2048, 1024]⟩ : Shape).Idx → EReal) (ix2 ⟨1024 * (t.val % 2) + k.val, by omega⟩ ⟨j.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * k.val = _; rw [e0]; show _ = 1024 * (t.val % 2) + k.val; omega
  | ⟨1, _⟩ => show win0_1.index t 1 * 1024 + 1 * j.val = _; rw [e1]; show _ = j.val; omega

/-- The term a row `k` contributes to row `r` and column `j` of the product. -/
abbrev term (c : Dev nD) (r j k : ℕ) : EReal :=
  at2 (M := 2048) (N := 1024) (m ((c : Thread nD τ).loc main_arg0)) k r * at2 (M := 2048) (N := 1024) (m ((c : Thread nD τ).loc main_arg1)) k j

/-- A step adds the block's terms to what the accumulator held. -/
theorem step_apply (c : Dev nD) (t : Fin cfg0.N) (acc : Vec Ideal S1024x1024 .f32) (i : Fin 1024) (j : Fin 1024) :
    k0_pay2 (iblk m c 0 t) (iblk m c 1 t) acc (ix2 i j)
      = (acc (ix2 i j) : EReal) + ∑ k : Fin 1024, term m c (1024 * (t.val / 2) + i.val) (j.val) (1024 * (t.val % 2) + k.val) := by
  rw [pay2_apply]
  refine congrArg _ (Finset.sum_congr rfl fun k _ => ?_)
  rw [blk0, blk1]

/-- The scratch after step `s` of the block `q`: the terms of the first `s + 1` blocks of rows. -/
theorem scratch_apply (c : Dev nD) (q : ℕ) (hq : q < 1) (i : Fin 1024) (j : Fin 1024) (s : ℕ) (hs : s < 2) (h : 2 * q + s < cfg0.N) :
    ((outsAt0 m c (2 * q + s) h).2 (ix2 i j) : EReal) = ∑ k ∈ Finset.range (1024 * (s + 1)), term m c (1024 * q + i.val) (j.val) k := by
  have hN : cfg0.N = 2 := N_0
  have key := sweep 2 1024 (term m c (1024 * q + i.val) (j.val))
    (fun s => if h : 2 * q + s < cfg0.N then ((outsAt0 m c (2 * q + s) h).2 (ix2 i j) : EReal) else 0)
    (fun _ => by
      have hb : 2 * q + 0 < cfg0.N := by omega
      have hA := outsAt0_A m c ⟨2 * q + 0, hb⟩ (by show (2 * q + 0) % 2 = 0; omega) (by show ¬(2 * q + 0) % 2 = 1; omega)
      simp only [dif_pos hb]
      rw [hA]
      dsimp only
      rw [sout_A, step_apply, pay1_apply, zero_add]
      refine Finset.sum_congr rfl fun k _ => ?_
      show term m c (1024 * ((2 * q + 0) / 2) + i.val) (j.val) (1024 * ((2 * q + 0) % 2) + k.val) = _
      rw [show (2 * q + 0) / 2 = q by omega, show (2 * q + 0) % 2 = 0 by omega, Nat.mul_zero, Nat.zero_add])
    (fun s hs => by
      have hb : 2 * q + (s + 1) < cfg0.N := by omega
      have hb' : 2 * q + s < cfg0.N := by omega
      have h1 : (2 * q + (s + 1)) % 2 = 1 := by omega
      simp only [dif_pos hb, dif_pos hb']
      have e : (outsAt0 m c (2 * q + (s + 1)) hb).2
          = k0_pay2 (iblk m c 0 ⟨2 * q + (s + 1), hb⟩) (iblk m c 1 ⟨2 * q + (s + 1), hb⟩) (outsAt0 m c (2 * q + s) hb').2 := by
        have hB := outsAt0_B m c ⟨2 * q + (s + 1), hb⟩ (by show ¬(2 * q + (s + 1)) % 2 = 0; omega) h1
        rw [hB]
        dsimp only
        rw [sout_B]
        rfl
      rw [e, step_apply]
      refine congrArg _ (Finset.sum_congr rfl fun k _ => ?_)
      show term m c (1024 * ((2 * q + (s + 1)) / 2) + i.val) (j.val) (1024 * ((2 * q + (s + 1)) % 2) + k.val) = _
      rw [show (2 * q + (s + 1)) / 2 = q by omega, show (2 * q + (s + 1)) % 2 = s + 1 by omega])
    s hs
  simpa only [dif_pos h] using key

/-- The output block after the last step of a block: the sum over all rows. -/
theorem out_apply (c : Dev nD) (q : ℕ) (hq : q < 1) (i : Fin 1024) (j : Fin 1024) (h : 2 * q + 1 < cfg0.N) :
    ((outsAt0 m c (2 * q + 1) h).1 (ix2 i j) : EReal) = ∑ k ∈ Finset.range 2048, term m c (1024 * q + i.val) (j.val) k := by
  have hs := scratch_apply m c q hq i j 1 (by omega) h
  have hB := outsAt0_B m c ⟨2 * q + 1, h⟩ (by show ¬(2 * q + 1) % 2 = 0; omega) (by show (2 * q + 1) % 2 = 1; omega)
  rw [hB] at hs ⊢
  dsimp only at hs ⊢
  rw [sout_B] at hs
  rw [out_B, pay3_apply]
  exact hs

/-- The result array: at row `r` and column `j` the sum over all rows of the terms. -/
theorem array_apply (c : Dev nD) (r : Fin 1024) (j : Fin 1024) :
    (G2 m c (ix2 r j) : EReal) = ∑ k ∈ Finset.range 2048, term m c r.val j.val k := by
  have hr := r.isLt
  have hj := j.isLt
  have hN : cfg0.N = 2 := N_0
  have hp : pt2Of (ix2 r j) = 2 * (r.val / 1024) + 1 := by
    show 2 * (1 * (r.val / 1024 - 0) + 1 * (j.val / 1024 - 0)) + 1 = _
    omega
  have hlt : pt2Of (ix2 r j) < cfg0.N := by rw [hp]; omega
  have hl : loc2Of (ix2 r j) = ix2 (⟨r.val % 1024, by omega⟩ : Fin 1024) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 1024) (by omega) ⟨r.val % 1024, by omega⟩ j (by omega)
  rw [show 1024 * (r.val / 1024) + (⟨r.val % 1024, by omega⟩ : Fin 1024).val = r.val from by show 1024 * (r.val / 1024) + r.val % 1024 = r.val; omega] at this
  rw [← this]
  congr 2
  simp only [hp]

/-- The reference's contraction, rounded, at an index: a sum over the rows. -/
theorem reference_apply (u : FVec Ideal Cert.Reference9Ideal.S2048x1024 .f32) (g : FVec Ideal Cert.Reference9Ideal.S2048x1024 .f32) (r : Fin 1024) (j : Fin 1024) :
    (truncf .bf16 (transpose Cert.Reference9Ideal.S1024x1024 [1, 0]
        (Host.dotGeneral (φ₁ := .f32) (φ₂ := .f32) Cert.Reference9Ideal.dot_S2048x1024_S2048x1024_S1024x1024_0_0_1_1_n_n none g u)
        Cert.Reference9Ideal.Gen.transposes_S1024x1024_S1024x1024_1_0) Cert.Reference9Ideal.Gen.bitsLt_bf16_f32
      : FVec Ideal Cert.Reference9Ideal.S1024x1024 .bf16) (ix2 r j)
      = ∑ k ∈ Finset.range 2048, (at2 u k r.val * at2 g k j.val : EReal) := by
  pointwise
  rw [← Fin.sum_univ_eq_sum_range]
  refine Finset.sum_congr rfl fun k _ => ?_
  rw [at2_of _ k.isLt r.isLt, at2_of _ k.isLt j.isLt, mul_comm]

/-- The reference runs to the end, its arguments unchanged; it has no semaphore at all. -/
theorem reference_frame : Cert.quiescent_Reference9Ideal (hReference9Ideal := Cert.Reference9Ideal.Gen.facts) := fun m g _ =>
  (θ_run _ _ _).mono (fun r h => ⟨fun c => (h c).2, funext fun s => match s with
    | (_, .reg s) => s.elim0
    | (_, .dma s) => s.elim0⟩) (Cert.Reference9Ideal.Value.run m g)

/-- The two runs end with the same array. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => G2 m c, Cert.Kernel9Ideal.Value.run m g, ?_⟩
  refine (θ_run _ _ _).mono (fun r h c => ⟨(h c).1.trans ?_, (h c).2⟩) (Cert.Reference9Ideal.Value.run m' g')
  rw [(hargs c).1, (hargs c).2]
  funext i
  obtain ⟨r, j, rfl⟩ : ∃ (r : Fin 1024) (j : Fin 1024), i = ix2 r j := ⟨i 0, i 1, (ix2_eta i).symm⟩
  exact (reference_apply _ _ r j).trans (array_apply m c r j).symm

end Cert.Kernel9Ideal.Product
-- ==== Proof.Pw2Dx.lean ====
/-
  The rows' gradient of the second pointwise product: `cc0_l0_pw2_dx` leaves, at row `r` and column `j`, the sum
  over the 1024 columns `k` of `g[r, k] * pw2[j, k]`, each block of the result in one step.
-/
module

public import proofs.«01_k».proof.Defs
public import proofs.«01_k».proof.Proof.Gen.Kernel10Ideal.Value
public import proofs.«01_k».proof.Proof.Gen.Reference10Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel10Ideal.Product

open Cert.Kernel10Ideal Cert.Kernel10Ideal.Gen Cert.Kernel10Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- A step writes the block's product over the zero block to the output block. -/
theorem out_A (c : Dev nD) (i : grid0.Coords) (a3 h3 a4 h4 a5 h5 a6 h6 hc0 hc1) (x0 : Vec F S1024x1024 .bf16) (x1 : Vec F S1024x1024 .bf16) :
    out0_A_2 c i a3 h3 a4 h4 a5 h5 a6 h6 hc0 hc1 x0 x1 = k0_pay2 x0 x1 (k0_pay1 (F := F)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero _ hz]
  simp only [View.readAt_eq_ld, h3.read_unread, h4.read_unread, View.ld_unit_zero (S := S1024x1024) hz]

end cases

variable (m : (ℓ : Loc nD τ sig) → Buf (Elt Ideal) ℓ)

/-- A step's payload at an index: what the accumulator held plus the block's products. -/
theorem pay2_apply (x0 : Vec Ideal S1024x1024 .bf16) (x1 : Vec Ideal S1024x1024 .bf16) (acc : Vec Ideal S1024x1024 .f32) (i : Fin 1024) (j : Fin 1024) :
    k0_pay2 x0 x1 acc (ix2 i j) = (acc (ix2 i j) : EReal) + ∑ k : Fin 1024, (x0 (ix2 i k) : EReal) * (x1 (ix2 j k) : EReal) := by
  pointwise [k0_pay2]

theorem pay1_apply (i : Fin 1024) (j : Fin 1024) : k0_pay1 (F := Ideal) (ix2 i j) = (0 : EReal) := by
  pointwise [k0_pay1]

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem flush2 : ∀ t : Fin cfg0.N, (cfg0.win 2).flush t = true :=
  (by decide +kernel : ∀ t : Fin grid0.N, _)

/-- The rows' block of a grid point. -/
theorem blk0 (c : Dev nD) (t : Fin cfg0.N) (i k : Fin 1024) :
    (iblk m c 0 t : Vec Ideal S1024x1024 .bf16) (ix2 i k)
      = at2 (M := 2048) (N := 1024) (m ((c : Thread nD τ).loc main_arg0)) (1024 * t.val + i.val) k.val := by
  have hN : t.val < 2 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * t.val + i.val, by omega⟩ : Fin 2048) (⟨k.val, by omega⟩ : Fin 1024))
      = (m ((c : Thread nD τ).loc main_arg0) : (⟨2, ![2048, 1024]⟩ : Shape).Idx → EReal) (ix2 ⟨1024 * t.val + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * t.val + i.val; omega
  | ⟨1, _⟩ => show win0_0.index t 1 * 1024 + 1 * k.val = _; rw [e1]; show _ = k.val; omega

/-- The weight's block of a grid point. -/
theorem blk1 (c : Dev nD) (t : Fin cfg0.N) (j : Fin 1024) (k : Fin 1024) :
    (iblk m c 1 t : Vec Ideal S1024x1024 .bf16) (ix2 j k)
      = at2 (M := 1024) (N := 1024) (m ((c : Thread nD τ).loc main_arg1)) (j.val) k.val := by
  have hN : t.val < 2 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨j.val, by omega⟩ : Fin 1024) (⟨k.val, by omega⟩ : Fin 1024))
      = (m ((c : Thread nD τ).loc main_arg1) : (⟨2, ![1024, 1024]⟩ : Shape).Idx → EReal) (ix2 ⟨j.val, by omega⟩ ⟨k.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * j.val = _; rw [e0]; show _ = j.val; omega
  | ⟨1, _⟩ => show win0_1.index t 1 * 1024 + 1 * k.val = _; rw [e1]; show _ = k.val; omega

/-- The term a column contributes to row `r` and column `j` of the product. -/
abbrev term (c : Dev nD) (r j k : ℕ) : EReal :=
  at2 (M := 2048) (N := 1024) (m ((c : Thread nD τ).loc main_arg0)) r k * at2 (M := 1024) (N := 1024) (m ((c : Thread nD τ).loc main_arg1)) j k

/-- What a grid point leaves in its output block: the sum over all columns. -/
theorem out_apply (c : Dev nD) (t : Fin cfg0.N) (i : Fin 1024) (j : Fin 1024) :
    (outsAt0 m c t (ix2 i j) : EReal) = ∑ k ∈ Finset.range 1024, term m c (1024 * t.val + i.val) (j.val) k := by
  unfold outsAt0
  rw [out_A, pay2_apply, pay1_apply, zero_add, ← Fin.sum_univ_eq_sum_range]
  refine Finset.sum_congr rfl fun k _ => ?_
  rw [blk0, blk1]

/-- The array the run leaves. -/
abbrev result (c : Dev nD) : Buf (Elt Ideal) ((c : Thread nD τ).loc main_v2) := (dats m 0 c).arrAt 2 cfg0.N

/-- The result array: at row `r` and column `j` the sum over all columns of the terms. -/
theorem array_apply (c : Dev nD) (r : Fin 2048) (j : Fin 1024) :
    (result m c (ix2 r j) : EReal) = ∑ k ∈ Finset.range 1024, term m c r.val j.val k := by
  have hr := r.isLt
  have hj := j.isLt
  have hN : cfg0.N = 2 := N_0
  obtain ⟨t, ht⟩ : ∃ t : Fin cfg0.N, t.val = r.val / 1024 := ⟨⟨r.val / 1024, by omega⟩, rfl⟩
  obtain ⟨e0, e1⟩ := idx2 t
  have hb := congrFun ((blocks2 m c t (flush2 t)).trans (flushed2 m c t)) (ix2 (⟨r.val % 1024, by omega⟩ : Fin 1024) j)
  rw [View.read_apply] at hb
  have he : ((cfg0.win 2).blk t).view.emb (ix2 (⟨r.val % 1024, by omega⟩ : Fin 1024) j) = ix2 r j := by
    funext a
    apply Fin.ext
    match a with
    | ⟨0, _⟩ => show win0_2.index t 0 * 1024 + 1 * (r.val % 1024) = r.val; rw [e0, ht]; omega
    | ⟨1, _⟩ => show win0_2.index t 1 * 1024 + 1 * j.val = j.val; rw [e1]; omega
  rw [he] at hb
  refine hb.trans ?_
  refine (out_apply m c t ⟨r.val % 1024, by omega⟩ j).trans ?_
  rw [show 1024 * t.val + r.val % 1024 = r.val by rw [ht]; omega]

/-- The reference's one contraction at row `r` and column `j`, as a sum over the columns. -/
theorem reference_apply (x : FVec Ideal Cert.Reference10Ideal.S2048x1024 .f32) (w : FVec Ideal Cert.Reference10Ideal.S1024x1024 .f32)
    (r : Fin 2048) (j : Fin 1024) :
    (Host.dotGeneral (φ₁ := .f32) (φ₂ := .f32) Cert.Reference10Ideal.dot_S2048x1024_S1024x1024_S2048x1024_1_1_0_0_n_n none x
        w
      : FVec Ideal Cert.Reference10Ideal.S2048x1024 .f32) (ix2 r j)
      = ∑ k ∈ Finset.range 1024, (at2 x r.val k * at2 w j.val k : EReal) := by
  pointwise
  rw [← Fin.sum_univ_eq_sum_range]
  refine Finset.sum_congr rfl fun k _ => ?_
  rw [at2_of _ r.isLt k.isLt, at2_of _ j.isLt k.isLt]

/-- The reference runs to the end, its arguments unchanged; it has no semaphore at all. -/
theorem reference_frame : Cert.quiescent_Reference10Ideal (hReference10Ideal := Cert.Reference10Ideal.Gen.facts) := fun m g _ =>
  (θ_run _ _ _).mono (fun r h => ⟨fun c => (h c).2, funext fun s => match s with
    | (_, .reg s) => s.elim0
    | (_, .dma s) => s.elim0⟩) (Cert.Reference10Ideal.Value.run m g)

/-- The two runs end with the same array. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => result m c, Cert.Kernel10Ideal.Value.run_blocks m g, ?_⟩
  refine (θ_run _ _ _).mono (fun r h c => ⟨(h c).1.trans ?_, (h c).2⟩) (Cert.Reference10Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel10Ideal.Product
-- ==== Proof.UpDx1.lean ====
/-
  Layer 1's rows' gradient of the feed-forward's first product: `cc0_l1_w_up_dx` leaves, at row `r` and column `j`, the sum
  over the 5632 columns `k` of `dhh[r, k] * w_up[1, j, k]`, gathered in four blocks of 1408.
-/
module

public import proofs.«01_k».proof.Defs
public import proofs.«01_k».proof.Proof.Gen.Kernel11Ideal.Value
public import proofs.«01_k».proof.Proof.Gen.Reference11Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel11Ideal.Product

open Cert.Kernel11Ideal Cert.Kernel11Ideal.Gen Cert.Kernel11Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz4 : (![0, 0, 0, 0] : Fin 4 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1408 .bf16) (x1 : Vec F S1x1x1024x1408 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1408) hz, View.ld_unit_zero (S := S1x1x1024x1408) hz4]

/-- A middle step adds the block's product to what the scratch held. -/
theorem sout_B (c : Dev nD) (i : grid0.Coords) (a3 h3 a4 h4 a5 h5 a6 h6 hc0 hc1) (x0 : Vec F S1024x1408 .bf16) (x1 : Vec F S1x1x1024x1408 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1408) hz, View.ld_unit_zero (S := S1x1x1024x1408) hz4, View.ld_unit_zero (S := S1024x1024) hz]

/-- The last step adds the block's product too. -/
theorem sout_C (c : Dev nD) (i : grid0.Coords) (a3 h3 a4 h4 a5 h5 a6 h6 hc0 hc1) (x0 : Vec F S1024x1408 .bf16) (x1 : Vec F S1x1x1024x1408 .bf16) (xs : Vec F S1024x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1408) hz, View.ld_unit_zero (S := S1x1x1024x1408) hz4, View.ld_unit_zero (S := S1024x1024) hz]

/-- … and writes what the scratch then holds to the output block. -/
theorem out_C (c : Dev nD) (i : grid0.Coords) (a3 h3 a4 h4 a5 h5 a6 h6 hc0 hc1) (x0 : Vec F S1024x1408 .bf16) (x1 : Vec F S1x1x1024x1408 .bf16) (xs : Vec F S1024x1024 .f32) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x1408) hz, View.ld_unit_zero (S := S1x1x1024x1408) hz4, View.ld_unit_zero (S := S1024x1024) hz]

end cases

variable (m : (ℓ : Loc nD τ sig) → Buf (Elt Ideal) ℓ)

/-- A step's payload at an index: what the accumulator held plus the block's products. -/
theorem pay2_apply (x0 : Vec Ideal S1024x1408 .bf16) (x1 : Vec Ideal S1x1x1024x1408 .bf16) (acc : Vec Ideal S1024x1024 .f32) (i j : Fin 1024) :
    k0_pay2 x0 x1 acc (ix2 i j) = (acc (ix2 i j) : EReal) + ∑ k : Fin 1408, (x0 (ix2 i k) : EReal) * (x1 (ix4 0 0 j k) : EReal) := by
  pointwise [k0_pay2]

theorem pay1_apply (i j : Fin 1024) : k0_pay1 (F := Ideal) (ix2 i j) = (0 : EReal) := by
  pointwise [k0_pay1]

theorem idx0 : ∀ t : Fin cfg0.N, win0_0.index t 0 = t.val / 4 ∧ win0_0.index t 1 = t.val % 4 :=
  (by decide +kernel : ∀ t : Fin grid0.N, _)
theorem idx1 : ∀ t : Fin cfg0.N, win0_1.index t 0 = t.val % 4 ∧ win0_1.index t 1 = 1 ∧ win0_1.index t 2 = 0 ∧ win0_1.index t 3 = 0 :=
  (by decide +kernel : ∀ t : Fin grid0.N, _)

/-- The rows' block of a grid point. -/
theorem blk0 (c : Dev nD) (t : Fin cfg0.N) (i : Fin 1024) (k : Fin 1408) :
    (iblk m c 0 t : Vec Ideal S1024x1408 .bf16) (ix2 i k)
      = at2 (M := 2048) (N := 5632) (m ((c : Thread nD τ).loc main_arg0)) (1024 * (t.val / 4) + i.val) (1408 * (t.val % 4) + k.val) := by
  have hN : t.val < 8 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 4) + i.val, by omega⟩ : Fin 2048) (⟨1408 * (t.val % 4) + k.val, by omega⟩ : Fin 5632))
      = (m ((c : Thread nD τ).loc main_arg0) : (⟨2, ![2048, 5632]⟩ : Shape).Idx → EReal) (ix2 ⟨1024 * (t.val / 4) + i.val, by omega⟩ ⟨1408 * (t.val % 4) + k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 4) + i.val; omega
  | ⟨1, _⟩ => show win0_0.index t 1 * 1408 + 1 * k.val = _; rw [e1]; show _ = 1408 * (t.val % 4) + k.val; omega

/-- The weight's block of a grid point: one chip's columns. -/
theorem blk1 (c : Dev nD) (t : Fin cfg0.N) (j : Fin 1024) (k : Fin 1408) :
    (iblk m c 1 t : Vec Ideal S1x1x1024x1408 .bf16) (ix4 0 0 j k)
      = at3 (L := 2) (M := 1024) (N := 5632) (m ((c : Thread nD τ).loc main_arg1)) 1 j.val (1408 * (t.val % 4) + k.val) := by
  have hN : t.val < 8 := lt_of_lt_of_eq t.isLt N_0
  have hi := j.isLt
  have hk := k.isLt
  obtain ⟨e0, e1, e2, e3⟩ := idx1 t
  rw [at3_of _ (by omega) (by omega) (by omega)]
  unfold iblk
  rw [View.read_apply]
  have e : V m c main_v3 (ix4 (⟨t.val % 4, by omega⟩ : Fin 4) (1 : Fin 2) j k)
      = (m ((c : Thread nD τ).loc main_arg1) : (⟨3, ![2, 1024, 5632]⟩ : Shape).Idx → EReal) (ix3 ⟨1, by omega⟩ ⟨j.val, by omega⟩ ⟨1408 * (t.val % 4) + k.val, by omega⟩) := by
    unfold V
    after_reads_at
    exact congrArg (fun z : Fin 5632 => (m ((c : Thread nD τ).loc main_arg1) : (⟨3, ![2, 1024, 5632]⟩ : Shape).Idx → EReal) (ix3 1 j z))
      (Fin.ext (by show t.val % 4 * 1408 + k.val = 1408 * (t.val % 4) + k.val; omega))
  refine Eq.trans ?_ e
  show V m c main_v3 _ = V m c main_v3 _
  congr 1
  funext a
  apply Fin.ext
  match a with
  | ⟨0, _⟩ => show win0_1.index t 0 * 1 + 1 * 0 = _; rw [e0]; show _ = t.val % 4; omega
  | ⟨1, _⟩ => show win0_1.index t 1 * 1 + 1 * 0 = _; rw [e1]; rfl
  | ⟨2, _⟩ => show win0_1.index t 2 * 1024 + 1 * j.val = _; rw [e2]; show _ = j.val; omega
  | ⟨3, _⟩ => show win0_1.index t 3 * 1408 + 1 * k.val = _; rw [e3]; show _ = k.val; omega

/-- The term a column contributes to row `r` and column `j` of the product. -/
abbrev term (c : Dev nD) (r j k : ℕ) : EReal :=
  at2 (M := 2048) (N := 5632) (m ((c : Thread nD τ).loc main_arg0)) r k * at3 (L := 2) (M := 1024) (N := 5632) (m ((c : Thread nD τ).loc main_arg1)) 1 j k

/-- A step adds the block's terms to what the accumulator held. -/
theorem step_apply (c : Dev nD) (t : Fin cfg0.N) (acc : Vec Ideal S1024x1024 .f32) (i j : Fin 1024) :
    k0_pay2 (iblk m c 0 t) (iblk m c 1 t) acc (ix2 i j)
      = (acc (ix2 i j) : EReal) + ∑ k : Fin 1408, term m c (1024 * (t.val / 4) + i.val) j.val (1408 * (t.val % 4) + k.val) := by
  rw [pay2_apply]
  refine congrArg _ (Finset.sum_congr rfl fun k _ => ?_)
  rw [blk0, blk1]

/-- The scratch after step `s` of the row block `q`: the terms of the first `s + 1` blocks of columns. -/
theorem scratch_apply (c : Dev nD) (q : ℕ) (hq : q < 2) (i j : Fin 1024) (s : ℕ) (hs : s < 4) (h : 4 * q + s < cfg0.N) :
    ((outsAt0 m c (4 * q + s) h).2 (ix2 i j) : EReal) = ∑ k ∈ Finset.range (1408 * (s + 1)), term m c (1024 * q + i.val) j.val k := by
  have hN : cfg0.N = 8 := N_0
  have key := sweep 4 1408 (term m c (1024 * q + i.val) j.val)
    (fun s => if h : 4 * q + s < cfg0.N then ((outsAt0 m c (4 * q + s) h).2 (ix2 i j) : EReal) else 0)
    (fun _ => by
      have hb : 4 * q + 0 < cfg0.N := by omega
      have hA := outsAt0_A m c ⟨4 * q + 0, hb⟩ (by show (4 * q + 0) % 4 = 0; omega) (by show ¬(4 * q + 0) % 4 = 3; omega)
      simp only [dif_pos hb]
      rw [hA]
      dsimp only
      rw [sout_A, step_apply, pay1_apply, zero_add]
      refine Finset.sum_congr rfl fun k _ => ?_
      show term m c (1024 * ((4 * q + 0) / 4) + i.val) j.val (1408 * ((4 * q + 0) % 4) + k.val) = _
      rw [show (4 * q + 0) / 4 = q by omega, show (4 * q + 0) % 4 = 0 by omega, Nat.mul_zero, Nat.zero_add])
    (fun s hs => by
      have hb : 4 * q + (s + 1) < cfg0.N := by omega
      have hb' : 4 * q + s < cfg0.N := by omega
      simp only [dif_pos hb, dif_pos hb']
      have e : (outsAt0 m c (4 * q + (s + 1)) hb).2
          = k0_pay2 (iblk m c 0 ⟨4 * q + (s + 1), hb⟩) (iblk m c 1 ⟨4 * q + (s + 1), hb⟩) (outsAt0 m c (4 * q + s) hb').2 := by
        by_cases h3 : (4 * q + (s + 1)) % 4 = 3
        · have hC := outsAt0_C m c ⟨4 * q + (s + 1), hb⟩ (by show ¬(4 * q + (s + 1)) % 4 = 0; omega) h3
          rw [hC]
          dsimp only
          rw [sout_C]
          rfl
        · have hB := outsAt0_B m c ⟨4 * q + (s + 1), hb⟩ (by show ¬(4 * q + (s + 1)) % 4 = 0; omega) h3
          rw [hB]
          dsimp only
          rw [sout_B]
          rfl
      rw [e, step_apply]
      refine congrArg _ (Finset.sum_congr rfl fun k _ => ?_)
      show term m c (1024 * ((4 * q + (s + 1)) / 4) + i.val) j.val (1408 * ((4 * q + (s + 1)) % 4) + k.val) = _
      rw [show (4 * q + (s + 1)) / 4 = q by omega, show (4 * q + (s + 1)) % 4 = s + 1 by omega])
    s hs
  simpa only [dif_pos h] using key

/-- The output block after the last step of a row block: the sum over all columns. -/
theorem out_apply (c : Dev nD) (q : ℕ) (hq : q < 2) (i j : Fin 1024) (h : 4 * q + 3 < cfg0.N) :
    ((outsAt0 m c (4 * q + 3) h).1 (ix2 i j) : EReal) = ∑ k ∈ Finset.range 5632, term m c (1024 * q + i.val) j.val k := by
  have hs := scratch_apply m c q hq i j 3 (by omega) h
  have hC := outsAt0_C m c ⟨4 * q + 3, h⟩ (by show ¬(4 * q + 3) % 4 = 0; omega) (by show (4 * q + 3) % 4 = 3; omega)
  rw [hC] at hs ⊢
  dsimp only at hs ⊢
  rw [sout_C] at hs
  rw [out_C]
  exact hs

/-- The result array: at row `r` and column `j` the sum over all columns of the terms. -/
theorem array_apply (c : Dev nD) (r : Fin 2048) (j : Fin 1024) :
    (G2 m c (ix2 r j) : EReal) = ∑ k ∈ Finset.range 5632, term m c r.val j.val k := by
  have hr := r.isLt
  have hj := j.isLt
  have hN : cfg0.N = 8 := N_0
  have hp : pt2Of (ix2 r j) = 4 * (r.val / 1024) + 3 := by
    show 4 * (1 * (r.val / 1024 - 0) + 1 * (j.val / 1024 - 0)) + 3 = _
    omega
  have hlt : pt2Of (ix2 r j) < cfg0.N := by rw [hp]; omega
  have hl : loc2Of (ix2 r j) = ix2 (⟨r.val % 1024, by omega⟩ : Fin 1024) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 1024) (by omega) ⟨r.val % 1024, by omega⟩ j (by omega)
  rw [show 1024 * (r.val / 1024) + (⟨r.val % 1024, by omega⟩ : Fin 1024).val = r.val from by show 1024 * (r.val / 1024) + r.val % 1024 = r.val; omega] at this
  rw [← this]
  congr 2
  simp only [hp]

/-- The reference's one contraction at row `r` and column `j`, as a sum over the columns. -/
theorem reference_apply (x : FVec Ideal Cert.Reference11Ideal.S2048x5632 .f32) (w : FVec Ideal Cert.Reference11Ideal.S2x1024x5632 .f32)
    (r : Fin 2048) (j : Fin 1024) :
    (Host.dotGeneral (φ₁ := .f32) (φ₂ := .f32) Cert.Reference11Ideal.dot_S2048x5632_S1024x5632_S2048x1024_1_1_0_0_n_n none x
        (shapeCast _ (extractStridedSlice Cert.Reference11Ideal.S1x1024x5632 ![1, 0, 0] w
          Cert.Reference11Ideal.Gen.slices_S2x1024x5632_S1x1024x5632_1_0_0) Cert.Reference11Ideal.Gen.shapeCasts_S1x1024x5632_S1024x5632)
      : FVec Ideal Cert.Reference11Ideal.S2048x1024 .f32) (ix2 r j)
      = ∑ k ∈ Finset.range 5632, (at2 x r.val k * at3 w 1 j.val k : EReal) := by
  pointwise
  rw [← Fin.sum_univ_eq_sum_range]
  refine Finset.sum_congr rfl fun k _ => ?_
  rw [at2_of _ r.isLt k.isLt, at3_of _ (by omega) j.isLt k.isLt]
  rfl

/-- The reference runs to the end, its arguments unchanged; it has no semaphore at all. -/
theorem reference_frame : Cert.quiescent_Reference11Ideal (hReference11Ideal := Cert.Reference11Ideal.Gen.facts) := fun m g _ =>
  (θ_run _ _ _).mono (fun r h => ⟨fun c => (h c).2, funext fun s => match s with
    | (_, .reg s) => s.elim0
    | (_, .dma s) => s.elim0⟩) (Cert.Reference11Ideal.Value.run m g)

/-- The two runs end with the same array. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => G2 m c, Cert.Kernel11Ideal.Value.run m g, ?_⟩
  refine (θ_run _ _ _).mono (fun r h c => ⟨(h c).1.trans ?_, (h c).2⟩) (Cert.Reference11Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel11Ideal.Product

end
-- ==== Proof.DownDx1.lean ====
/-
  Layer 1's rows' gradient of the feed-forward's second product: `cc0_l1_w_down_dx` leaves, at row `r` and column `j`, the sum
  over the 1024 columns `k` of `g[r, k] * w_down[1, j, k]`, each block of the result in one step.
-/
module

public import proofs.«01_k».proof.Defs
public import proofs.«01_k».proof.Proof.Gen.Kernel12Ideal.Value
public import proofs.«01_k».proof.Proof.Gen.Reference12Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel12Ideal.Product

open Cert.Kernel12Ideal Cert.Kernel12Ideal.Gen Cert.Kernel12Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- A step writes the block's product over the zero block to the output block. -/
theorem out_A (c : Dev nD) (i : grid0.Coords) (a3 h3 a4 h4 a5 h5 a6 h6 hc0 hc1) (x0 : Vec F S1024x1024 .bf16) (x1 : Vec F S1x1408x1024 .bf16) :
    out0_A_2 c i a3 h3 a4 h4 a5 h5 a6 h6 hc0 hc1 x0 x1 = k0_pay2 x0 x1 (k0_pay1 (F := F)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero _ hz]
  simp only [View.readAt_eq_ld, h3.read_unread, h4.read_unread, View.ld_unit_zero (S := S1024x1024) hz, View.ld_unit_zero (S := S1x1408x1024) hz3]

end cases

variable (m : (ℓ : Loc nD τ sig) → Buf (Elt Ideal) ℓ)

/-- A step's payload at an index: what the accumulator held plus the block's products. -/
theorem pay2_apply (x0 : Vec Ideal S1024x1024 .bf16) (x1 : Vec Ideal S1x1408x1024 .bf16) (acc : Vec Ideal S1024x1408 .f32) (i : Fin 1024) (j : Fin 1408) :
    k0_pay2 x0 x1 acc (ix2 i j) = (acc (ix2 i j) : EReal) + ∑ k : Fin 1024, (x0 (ix2 i k) : EReal) * (x1 (ix3 0 j k) : EReal) := by
  pointwise [k0_pay2]

theorem pay1_apply (i : Fin 1024) (j : Fin 1408) : k0_pay1 (F := Ideal) (ix2 i j) = (0 : EReal) := by
  pointwise [k0_pay1]

theorem idx0 : ∀ t : Fin cfg0.N, win0_0.index t 0 = t.val / 2 ∧ win0_0.index t 1 = 0 :=
  (by decide +kernel : ∀ t : Fin grid0.N, _)
theorem idx1 : ∀ t : Fin cfg0.N, win0_1.index t 0 = 1 ∧ win0_1.index t 1 = t.val % 2 ∧ win0_1.index t 2 = 0 :=
  (by decide +kernel : ∀ t : Fin grid0.N, _)
theorem idx2 : ∀ t : Fin cfg0.N, win0_2.index t 0 = t.val / 2 ∧ win0_2.index t 1 = t.val % 2 :=
  (by decide +kernel : ∀ t : Fin grid0.N, _)
theorem flush2 : ∀ t : Fin cfg0.N, (cfg0.win 2).flush t = true :=
  (by decide +kernel : ∀ t : Fin grid0.N, _)

/-- The rows' block of a grid point. -/
theorem blk0 (c : Dev nD) (t : Fin cfg0.N) (i k : Fin 1024) :
    (iblk m c 0 t : Vec Ideal S1024x1024 .bf16) (ix2 i k)
      = at2 (M := 2048) (N := 1024) (m ((c : Thread nD τ).loc main_arg0)) (1024 * (t.val / 2) + i.val) k.val := by
  have hN : t.val < 4 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 2) + i.val, by omega⟩ : Fin 2048) (⟨k.val, by omega⟩ : Fin 1024))
      = (m ((c : Thread nD τ).loc main_arg0) : (⟨2, ![2048, 1024]⟩ : Shape).Idx → EReal) (ix2 ⟨1024 * (t.val / 2) + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 2) + i.val; omega
  | ⟨1, _⟩ => show win0_0.index t 1 * 1024 + 1 * k.val = _; rw [e1]; show _ = k.val; omega

/-- The weight's block of a grid point. -/
theorem blk1 (c : Dev nD) (t : Fin cfg0.N) (j : Fin 1408) (k : Fin 1024) :
    (iblk m c 1 t : Vec Ideal S1x1408x1024 .bf16) (ix3 0 j k)
      = at3 (L := 2) (M := 2816) (N := 1024) (m ((c : Thread nD τ).loc main_arg1)) 1 (1408 * (t.val % 2) + j.val) k.val := by
  have hN : t.val < 4 := lt_of_lt_of_eq t.isLt N_0
  have hi := j.isLt
  have hk := k.isLt
  obtain ⟨e0, e1, e2⟩ := idx1 t
  rw [at3_of _ (by omega) (by omega) (by omega)]
  unfold iblk
  rw [View.read_apply]
  have e : V m c main_v1 (ix3 (⟨1, by omega⟩ : Fin 2) (⟨1408 * (t.val % 2) + j.val, by omega⟩ : Fin 2816) (⟨k.val, by omega⟩ : Fin 1024))
      = (m ((c : Thread nD τ).loc main_arg1) : (⟨3, ![2, 2816, 1024]⟩ : Shape).Idx → EReal) (ix3 ⟨1, by omega⟩ ⟨1408 * (t.val % 2) + j.val, by omega⟩ ⟨k.val, by omega⟩) := by
    unfold V
    after_reads_at
  refine Eq.trans ?_ e
  show V m c main_v1 _ = V m c main_v1 _
  congr 1
  funext a
  apply Fin.ext
  match a with
  | ⟨0, _⟩ => show win0_1.index t 0 * 1 + 1 * 0 = _; rw [e0]; rfl
  | ⟨1, _⟩ => show win0_1.index t 1 * 1408 + 1 * j.val = _; rw [e1]; show _ = 1408 * (t.val % 2) + j.val; omega
  | ⟨2, _⟩ => show win0_1.index t 2 * 1024 + 1 * k.val = _; rw [e2]; show _ = k.val; omega

/-- The term a column contributes to row `r` and column `j` of the product. -/
abbrev term (c : Dev nD) (r j k : ℕ) : EReal :=
  at2 (M := 2048) (N := 1024) (m ((c : Thread nD τ).loc main_arg0)) r k * at3 (L := 2) (M := 2816) (N := 1024) (m ((c : Thread nD τ).loc main_arg1)) 1 j k

/-- What a grid point leaves in its output block: the sum over all columns. -/
theorem out_apply (c : Dev nD) (t : Fin cfg0.N) (i : Fin 1024) (j : Fin 1408) :
    (outsAt0 m c t (ix2 i j) : EReal) = ∑ k ∈ Finset.range 1024, term m c (1024 * (t.val / 2) + i.val) (1408 * (t.val % 2) + j.val) k := by
  unfold outsAt0
  rw [out_A, pay2_apply, pay1_apply, zero_add, ← Fin.sum_univ_eq_sum_range]
  refine Finset.sum_congr rfl fun k _ => ?_
  rw [blk0, blk1]

/-- The array the run leaves. -/
abbrev result (c : Dev nD) : Buf (Elt Ideal) ((c : Thread nD τ).loc main_v2) := (dats m 0 c).arrAt 2 cfg0.N

/-- The result array: at row `r` and column `j` the sum over all columns of the terms. -/
theorem array_apply (c : Dev nD) (r : Fin 2048) (j : Fin 2816) :
    (result m c (ix2 r j) : EReal) = ∑ k ∈ Finset.range 1024, term m c r.val j.val k := by
  have hr := r.isLt
  have hj := j.isLt
  have hN : cfg0.N = 4 := N_0
  obtain ⟨t, ht⟩ : ∃ t : Fin cfg0.N, t.val = 2 * (r.val / 1024) + j.val / 1408 := ⟨⟨2 * (r.val / 1024) + j.val / 1408, by omega⟩, rfl⟩
  obtain ⟨e0, e1⟩ := idx2 t
  have hb := congrFun ((blocks2 m c t (flush2 t)).trans (flushed2 m c t)) (ix2 (⟨r.val % 1024, by omega⟩ : Fin 1024) (⟨j.val % 1408, by omega⟩ : Fin 1408))
  rw [View.read_apply] at hb
  have he : ((cfg0.win 2).blk t).view.emb (ix2 (⟨r.val % 1024, by omega⟩ : Fin 1024) (⟨j.val % 1408, by omega⟩ : Fin 1408)) = ix2 r j := by
    funext a
    apply Fin.ext
    match a with
    | ⟨0, _⟩ => show win0_2.index t 0 * 1024 + 1 * (r.val % 1024) = r.val; rw [e0, ht]; omega
    | ⟨1, _⟩ => show win0_2.index t 1 * 1408 + 1 * (j.val % 1408) = j.val; rw [e1, ht]; omega
  rw [he] at hb
  refine hb.trans ?_
  refine (out_apply m c t ⟨r.val % 1024, by omega⟩ ⟨j.val % 1408, by omega⟩).trans ?_
  rw [show 1024 * (t.val / 2) + r.val % 1024 = r.val by rw [ht]; omega, show 1408 * (t.val % 2) + j.val % 1408 = j.val by rw [ht]; omega]

/-- The reference's one contraction at row `r` and column `j`, as a sum over the columns. -/
theorem reference_apply (x : FVec Ideal Cert.Reference12Ideal.S2048x1024 .f32) (w : FVec Ideal Cert.Reference12Ideal.S2x2816x1024 .f32)
    (r : Fin 2048) (j : Fin 2816) :
    (Host.dotGeneral (φ₁ := .f32) (φ₂ := .f32) Cert.Reference12Ideal.dot_S2048x1024_S2816x1024_S2048x2816_1_1_0_0_n_n none x
        (shapeCast _ (extractStridedSlice Cert.Reference12Ideal.S1x2816x1024 ![1, 0, 0] w
          Cert.Reference12Ideal.Gen.slices_S2x2816x1024_S1x2816x1024_1_0_0) Cert.Reference12Ideal.Gen.shapeCasts_S1x2816x1024_S2816x1024)
      : FVec Ideal Cert.Reference12Ideal.S2048x2816 .f32) (ix2 r j)
      = ∑ k ∈ Finset.range 1024, (at2 x r.val k * at3 w 1 j.val k : EReal) := by
  pointwise
  rw [← Fin.sum_univ_eq_sum_range]
  refine Finset.sum_congr rfl fun k _ => ?_
  rw [at2_of _ r.isLt k.isLt, at3_of _ (by omega) j.isLt k.isLt]
  rfl

/-- The reference runs to the end, its arguments unchanged; it has no semaphore at all. -/
theorem reference_frame : Cert.quiescent_Reference12Ideal (hReference12Ideal := Cert.Reference12Ideal.Gen.facts) := fun m g _ =>
  (θ_run _ _ _).mono (fun r h => ⟨fun c => (h c).2, funext fun s => match s with
    | (_, .reg s) => s.elim0
    | (_, .dma s) => s.elim0⟩) (Cert.Reference12Ideal.Value.run m g)

/-- The two runs end with the same array. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨fun c => result m c, Cert.Kernel12Ideal.Value.run_blocks m g, ?_⟩
  refine (θ_run _ _ _).mono (fun r h c => ⟨(h c).1.trans ?_, (h c).2⟩) (Cert.Reference12Ideal.Value.run m' g')
  rw [(hargs c).1, (hargs c).2]
  funext i
  obtain ⟨r, j, rfl⟩ : ∃ (r : Fin 2048) (j : Fin 2816), i = ix2 r j := ⟨i 0, i 1, (ix2_eta i).symm⟩
  exact (reference_apply _ _ r j).trans (array_apply m c r j).symm

end Cert.Kernel12Ideal.Product
-- ==== Proof.UpFw.lean ====
/-
  Layer 0's first product of the feed-forward: `cc0_l0_w_up` leaves, at row `r` and column `j`, the sum
  over the 1024 columns `k` of the rows of `u[r, k] * w_up[0, k, j]`, each block of the result in one step.
-/
module

public import proofs.«01_k».proof.Defs
public import proofs.«01_k».proof.Proof.Gen.Kernel13Ideal.Value
public import proofs.«01_k».proof.Proof.Gen.Reference13Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel13Ideal.Product

open Cert.Kernel13Ideal Cert.Kernel13Ideal.Gen Cert.Kernel13Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz4 : (![0, 0, 0, 0] : Fin 4 → Nat) = fun _ => 0 := funext fun a => by fin_cases a <;> rfl

section cases

variable {F : FTy → Type} [FloatOps F]

/-- A step writes the block's product over the zero block to the output block. -/
theorem out_A (c : Dev nD) (i : grid0.Coords) (a3 h3 a4 h4 a5 h5 a6 h6 hc0 hc1) (x0 : Vec F S1024x1024 .bf16) (x1 : Vec F S1x1x1024x1408 .bf16) :
    out0_A_2 c i a3 h3 a4 h4 a5 h5 a6 h6 hc0 hc1 x0 x1 = k0_pay2 x0 x1 (k0_pay1 (F := F)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero _ hz]
  simp only [View.readAt_eq_ld, h3.read_unread, h4.read_unread, View.ld_unit_zero (S := S1024x1024) hz, View.ld_unit_zero (S := S1x1x1024x1408) hz4]

end cases

variable (m : (ℓ : Loc nD τ sig) → Buf (Elt Ideal) ℓ)

/-- A step's payload at an index: what the accumulator held plus the block's products. -/
theorem pay2_apply (x0 : Vec Ideal S1024x1024 .bf16) (x1 : Vec Ideal S1x1x1024x1408 .bf16) (acc : Vec Ideal S1024x1408 .f32) (i : Fin 1024) (j : Fin 1408) :
    k0_pay2 x0 x1 acc (ix2 i j) = (acc (ix2 i j) : EReal) + ∑ k : Fin 1024, (x0 (ix2 i k) : EReal) * (x1 (ix4 0 0 k j) : EReal) := by
  pointwise [k0_pay2]

theorem pay1_apply (i : Fin 1024) (j : Fin 1408) : k0_pay1 (F := Ideal) (ix2 i j) = (0 : EReal) := by
  pointwise [k0_pay1]

theorem idx0 : ∀ t : Fin cfg0.N, win0_0.index t 0 = t.val / 4 ∧ win0_0.index t 1 = 0 :=
  (by decide +kernel : ∀ t : Fin grid0.N, _)
theorem idx1 : ∀ t : Fin cfg0.N, win0_1.index t 0 = t.val % 4 ∧ win0_1.index t 1 = 0 ∧ win0_1.index t 2 = 0 ∧ win0_1.index t 3 = 0 :=
  (by decide +kernel : ∀ t : Fin grid0.N, _)
theorem idx2 : ∀ t : Fin cfg0.N, win0_2.index t 0 = t.val / 4 ∧ win0_2.index t 1 = t.val % 4 :=
  (by decide +kernel : ∀ t : Fin grid0.N, _)
theorem flush2 : ∀ t : Fin cfg0.N, (cfg0.win 2).flush t = true :=
  (by decide +kernel : ∀ t : Fin grid0.N, _)

/-- The rows' block of a grid point. -/
theorem blk0 (c : Dev nD) (t : Fin cfg0.N) (i k : Fin 1024) :
    (iblk m c 0 t : Vec Ideal S1024x1024 .bf16) (ix2 i k)
      = at2 (M := 2048) (N := 1024) (m ((c : Thread nD τ).loc main_arg0)) (1024 * (t.val / 4) + i.val) k.val := by
  have hN : t.val < 8 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 4) + i.val, by omega⟩ : Fin 2048) (⟨k.val, by omega⟩ : Fin 1024))
      = (m ((c : Thread nD τ).loc main_arg0) : (⟨2, ![2048, 1024]⟩ : Shape).Idx → EReal) (ix2 ⟨1024 * (t.val / 4) + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 4) + i.val; omega
  | ⟨1, _⟩ => show win0_0.index t 1 * 1024 + 1 * k.val = _; rw [e1]; show _ = k.val; omega

/-- The weight's block of a grid point. -/
theorem blk1 (c : Dev nD) (t : Fin cfg0.N) (k : Fin 1024) (j : Fin 1408) :
    (iblk m c 1 t : Vec Ideal S1x1x1024x1408 .bf16) (ix4 0 0 k j)
      = at3 (L := 2) (M := 1024) (N := 5632) (m ((c : Thread nD τ).loc main_arg1)) 0 k.val (1408 * (t.val % 4) + j.val) := by
  have hN : t.val < 8 := lt_of_lt_of_eq t.isLt N_0
  have hi := j.isLt
  have hk := k.isLt
  obtain ⟨e0, e1, e2, e3⟩ := idx1 t
  rw [at3_of _ (by omega) (by omega) (by omega)]
  unfold iblk
  rw [View.read_apply]
  have e : V m c main_v3 (ix4 (⟨t.val % 4, by omega⟩ : Fin 4) (0 : Fin 2) k j)
      = (m ((c : Thread nD τ).loc main_arg1) : (⟨3, ![2, 1024, 5632]⟩ : Shape).Idx → EReal) (ix3 ⟨0, by omega⟩ ⟨k.val, by omega⟩ ⟨1408 * (t.val % 4) + j.val, by omega⟩) := by
    unfold V
    after_reads_at
    exact congrArg (fun z : Fin 5632 => (m ((c : Thread nD τ).loc main_arg1) : (⟨3, ![2, 1024, 5632]⟩ : Shape).Idx → EReal) (ix3 0 k z))
      (Fin.ext (by show t.val % 4 * 1408 + j.val = 1408 * (t.val % 4) + j.val; omega))
  refine Eq.trans ?_ e
  show V m c main_v3 _ = V m c main_v3 _
  congr 1
  funext a
  apply Fin.ext
  match a with
  | ⟨0, _⟩ => show win0_1.index t 0 * 1 + 1 * 0 = _; rw [e0]; show _ = t.val % 4; omega
  | ⟨1, _⟩ => show win0_1.index t 1 * 1 + 1 * 0 = _; rw [e1]; rfl
  | ⟨2, _⟩ => show win0_1.index t 2 * 1024 + 1 * k.val = _; rw [e2]; show _ = k.val; omega
  | ⟨3, _⟩ => show win0_1.index t 3 * 1408 + 1 * j.val = _; rw [e3]; show _ = j.val; omega

/-- The term a column `k` contributes to row `r` and column `j` of the product. -/
abbrev term (c : Dev nD) (r j k : ℕ) : EReal :=
  at2 (M := 2048) (N := 1024) (m ((c : Thread nD τ).loc main_arg0)) r k * at3 (L := 2) (M := 1024) (N := 5632) (m ((c : Thread nD τ).loc main_arg1)) 0 k j

/-- What a grid point leaves in its output block: the sum over all columns. -/
theorem out_apply (c : Dev nD) (t : Fin cfg0.N) (i : Fin 1024) (j : Fin 1408) :
    (outsAt0 m c t (ix2 i j) : EReal) = ∑ k ∈ Finset.range 1024, term m c (1024 * (t.val / 4) + i.val) (1408 * (t.val % 4) + j.val) k := by
  unfold outsAt0
  rw [out_A, pay2_apply, pay1_apply, zero_add, ← Fin.sum_univ_eq_sum_range]
  refine Finset.sum_congr rfl fun k _ => ?_
  rw [blk0, blk1]

/-- The array the run leaves. -/
abbrev result (c : Dev nD) : Buf (Elt Ideal) ((c : Thread nD τ).loc main_v4) := (dats m 0 c).arrAt 2 cfg0.N

/-- The result array: at row `r` and column `j` the sum over all columns of the terms. -/
theorem array_apply (c : Dev nD) (r : Fin 2048) (j : Fin 5632) :
    (result m c (ix2 r j) : EReal) = ∑ k ∈ Finset.range 1024, term m c r.val j.val k := by
  have hr := r.isLt
  have hj := j.isLt
  have hN : cfg0.N = 8 := N_0
  obtain ⟨t, ht⟩ : ∃ t : Fin cfg0.N, t.val = 4 * (r.val / 1024) + j.val / 1408 := ⟨⟨4 * (r.val / 1024) + j.val / 1408, by omega⟩, rfl⟩
  obtain ⟨e0, e1⟩ := idx2 t
  have hb := congrFun ((blocks2 m c t (flush2 t)).trans (flushed2 m c t)) (ix2 (⟨r.val % 1024, by omega⟩ : Fin 1024) (⟨j.val % 1408, by omega⟩ : Fin 1408))
  rw [View.read_apply] at hb
  have he : ((cfg0.win 2).blk t).view.emb (ix2 (⟨r.val % 1024, by omega⟩ : Fin 1024) (⟨j.val % 1408, by omega⟩ : Fin 1408)) = ix2 r j := by
    funext a
    apply Fin.ext
    match a with
    | ⟨0, _⟩ => show win0_2.index t 0 * 1024 + 1 * (r.val % 1024) = r.val; rw [e0, ht]; omega
    | ⟨1, _⟩ => show win0_2.index t 1 * 1408 + 1 * (j.val % 1408) = j.val; rw [e1, ht]; omega
  rw [he] at hb
  refine hb.trans ?_
  refine (out_apply m c t ⟨r.val % 1024, by omega⟩ ⟨j.val % 1408, by omega⟩).trans ?_
  rw [show 1024 * (t.val / 4) + r.val % 1024 = r.val by rw [ht]; omega, show 1408 * (t.val % 4) + j.val % 1408 = j.val by rw [ht]; omega]

/-- The reference's one contraction at row `r` and column `j`, as a sum over the columns. -/
theorem reference_apply (x : FVec Ideal Cert.Reference13Ideal.S2048x1024 .f32) (w : FVec Ideal Cert.Reference13Ideal.S2x1024x5632 .f32)
    (r : Fin 2048) (j : Fin 5632) :
    (Host.dotGeneral (φ₁ := .f32) (φ₂ := .f32) Cert.Reference13Ideal.dot_S2048x1024_S1024x5632_S2048x5632_1_0_0_1_n_n none x
        (shapeCast _ (extractStridedSlice Cert.Reference13Ideal.S1x1024x5632 ![0, 0, 0] w
          Cert.Reference13Ideal.Gen.slices_S2x1024x5632_S1x1024x5632_0_0_0) Cert.Reference13Ideal.Gen.shapeCasts_S1x1024x5632_S1024x5632)
      : FVec Ideal Cert.Reference13Ideal.S2048x5632 .f32) (ix2 r j)
      = ∑ k ∈ Finset.range 1024, (at2 x r.val k * at3 w 0 k j.val : EReal) := by
  pointwise
  rw [← Fin.sum_univ_eq_sum_range]
  refine Finset.sum_congr rfl fun k _ => ?_
  rw [at2_of _ r.isLt k.isLt, at3_of _ (by omega) k.isLt j.isLt]
  rfl

/-- The reference runs to the end, its arguments unchanged; it has no semaphore at all. -/
theorem reference_frame : Cert.quiescent_Reference13Ideal (hReference13Ideal := Cert.Reference13Ideal.Gen.facts) := fun m g _ =>
  (θ_run _ _ _).mono (fun r h => ⟨fun c => (h c).2, funext fun s => match s with
    | (_, .reg s) => s.elim0
    | (_, .dma s) => s.elim0⟩) (Cert.Reference13Ideal.Value.run m g)

/-- The two runs end with the same array. -/
theorem algebraic : Cert.algebraic_Kernel13Ideal_Reference13Ideal (hKernel13Ideal := Cert.Kernel13Ideal.Gen.facts)
    (hReference13Ideal := Cert.Reference13Ideal.Gen.facts) := by
  intro m g m' g' _ hargs
  refine ⟨fun c => result m c, Cert.Kernel13Ideal.Value.run_blocks m g, ?_⟩
  refine (θ_run _ _ _).mono (fun r h c => ⟨(h c).1.trans ?_, (h c).2⟩) (Cert.Reference13Ideal.Value.run m' g')
  rw [(hargs c).1, (hargs c).2]
  funext i
  obtain ⟨r, j, rfl⟩ : ∃ (r : Fin 2048) (j : Fin 5632), i = ix2 r j := ⟨i 0, i 1, (ix2_eta i).symm⟩
  exact (reference_apply _ _ r j).trans (array_apply m c r j).symm

end Cert.Kernel13Ideal.Product
-- ==== Proof.UpFw1.lean ====
/-
  Layer 1's first product of the feed-forward: `cc0_l1_w_up` leaves, at row `r` and column `j`, the sum
  over the 1024 columns `k` of the rows of `u[r, k] * w_up[1, k, j]`, each block of the result in one step.
-/
module

public import proofs.«01_k».proof.Defs
public import proofs.«01_k».proof.Proof.Gen.Kernel14Ideal.Value
public import proofs.«01_k».proof.Proof.Gen.Reference14Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel14Ideal.Product

open Cert.Kernel14Ideal Cert.Kernel14Ideal.Gen Cert.Kernel14Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz4 : (![0, 0, 0, 0] : Fin 4 → Nat) = fun _ => 0 := funext fun a => by fin_cases a <;> rfl

section cases

variable {F : FTy → Type} [FloatOps F]

/-- A step writes the block's product over the zero block to the output block. -/
theorem out_A (c : Dev nD) (i : grid0.Coords) (a3 h3 a4 h4 a5 h5 a6 h6 hc0 hc1) (x0 : Vec F S1024x1024 .bf16) (x1 : Vec F S1x1x1024x1408 .bf16) :
    out0_A_2 c i a3 h3 a4 h4 a5 h5 a6 h6 hc0 hc1 x0 x1 = k0_pay2 x0 x1 (k0_pay1 (F := F)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero _ hz]
  simp only [View.readAt_eq_ld, h3.read_unread, h4.read_unread, View.ld_unit_zero (S := S1024x1024) hz, View.ld_unit_zero (S := S1x1x1024x1408) hz4]

end cases

variable (m : (ℓ : Loc nD τ sig) → Buf (Elt Ideal) ℓ)

/-- A step's payload at an index: what the accumulator held plus the block's products. -/
theorem pay2_apply (x0 : Vec Ideal S1024x1024 .bf16) (x1 : Vec Ideal S1x1x1024x1408 .bf16) (acc : Vec Ideal S1024x1408 .f32) (i : Fin 1024) (j : Fin 1408) :
    k0_pay2 x0 x1 acc (ix2 i j) = (acc (ix2 i j) : EReal) + ∑ k : Fin 1024, (x0 (ix2 i k) : EReal) * (x1 (ix4 0 0 k j) : EReal) := by
  pointwise [k0_pay2]

theorem pay1_apply (i : Fin 1024) (j : Fin 1408) : k0_pay1 (F := Ideal) (ix2 i j) = (0 : EReal) := by
  pointwise [k0_pay1]

theorem idx0 : ∀ t : Fin cfg0.N, win0_0.index t 0 = t.val / 4 ∧ win0_0.index t 1 = 0 :=
  (by decide +kernel : ∀ t : Fin grid0.N, _)
theorem idx1 : ∀ t : Fin cfg0.N, win0_1.index t 0 = t.val % 4 ∧ win0_1.index t 1 = 1 ∧ win0_1.index t 2 = 0 ∧ win0_1.index t 3 = 0 :=
  (by decide +kernel : ∀ t : Fin grid0.N, _)
theorem idx2 : ∀ t : Fin cfg0.N, win0_2.index t 0 = t.val / 4 ∧ win0_2.index t 1 = t.val % 4 :=
  (by decide +kernel : ∀ t : Fin grid0.N, _)
theorem flush2 : ∀ t : Fin cfg0.N, (cfg0.win 2).flush t = true :=
  (by decide +kernel : ∀ t : Fin grid0.N, _)

/-- The rows' block of a grid point. -/
theorem blk0 (c : Dev nD) (t : Fin cfg0.N) (i k : Fin 1024) :
    (iblk m c 0 t : Vec Ideal S1024x1024 .bf16) (ix2 i k)
      = at2 (M := 2048) (N := 1024) (m ((c : Thread nD τ).loc main_arg0)) (1024 * (t.val / 4) + i.val) k.val := by
  have hN : t.val < 8 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 4) + i.val, by omega⟩ : Fin 2048) (⟨k.val, by omega⟩ : Fin 1024))
      = (m ((c : Thread nD τ).loc main_arg0) : (⟨2, ![2048, 1024]⟩ : Shape).Idx → EReal) (ix2 ⟨1024 * (t.val / 4) + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 4) + i.val; omega
  | ⟨1, _⟩ => show win0_0.index t 1 * 1024 + 1 * k.val = _; rw [e1]; show _ = k.val; omega

/-- The weight's block of a grid point. -/
theorem blk1 (c : Dev nD) (t : Fin cfg0.N) (k : Fin 1024) (j : Fin 1408) :
    (iblk m c 1 t : Vec Ideal S1x1x1024x1408 .bf16) (ix4 0 0 k j)
      = at3 (L := 2) (M := 1024) (N := 5632) (m ((c : Thread nD τ).loc main_arg1)) 1 k.val (1408 * (t.val % 4) + j.val) := by
  have hN : t.val < 8 := lt_of_lt_of_eq t.isLt N_0
  have hi := j.isLt
  have hk := k.isLt
  obtain ⟨e0, e1, e2, e3⟩ := idx1 t
  rw [at3_of _ (by omega) (by omega) (by omega)]
  unfold iblk
  rw [View.read_apply]
  have e : V m c main_v3 (ix4 (⟨t.val % 4, by omega⟩ : Fin 4) (1 : Fin 2) k j)
      = (m ((c : Thread nD τ).loc main_arg1) : (⟨3, ![2, 1024, 5632]⟩ : Shape).Idx → EReal) (ix3 ⟨1, by omega⟩ ⟨k.val, by omega⟩ ⟨1408 * (t.val % 4) + j.val, by omega⟩) := by
    unfold V
    after_reads_at
    exact congrArg (fun z : Fin 5632 => (m ((c : Thread nD τ).loc main_arg1) : (⟨3, ![2, 1024, 5632]⟩ : Shape).Idx → EReal) (ix3 1 k z))
      (Fin.ext (by show t.val % 4 * 1408 + j.val = 1408 * (t.val % 4) + j.val; omega))
  refine Eq.trans ?_ e
  show V m c main_v3 _ = V m c main_v3 _
  congr 1
  funext a
  apply Fin.ext
  match a with
  | ⟨0, _⟩ => show win0_1.index t 0 * 1 + 1 * 0 = _; rw [e0]; show _ = t.val % 4; omega
  | ⟨1, _⟩ => show win0_1.index t 1 * 1 + 1 * 0 = _; rw [e1]; rfl
  | ⟨2, _⟩ => show win0_1.index t 2 * 1024 + 1 * k.val = _; rw [e2]; show _ = k.val; omega
  | ⟨3, _⟩ => show win0_1.index t 3 * 1408 + 1 * j.val = _; rw [e3]; show _ = j.val; omega

/-- The term a column `k` contributes to row `r` and column `j` of the product. -/
abbrev term (c : Dev nD) (r j k : ℕ) : EReal :=
  at2 (M := 2048) (N := 1024) (m ((c : Thread nD τ).loc main_arg0)) r k * at3 (L := 2) (M := 1024) (N := 5632) (m ((c : Thread nD τ).loc main_arg1)) 1 k j

/-- What a grid point leaves in its output block: the sum over all columns. -/
theorem out_apply (c : Dev nD) (t : Fin cfg0.N) (i : Fin 1024) (j : Fin 1408) :
    (outsAt0 m c t (ix2 i j) : EReal) = ∑ k ∈ Finset.range 1024, term m c (1024 * (t.val / 4) + i.val) (1408 * (t.val % 4) + j.val) k := by
  unfold outsAt0
  rw [out_A, pay2_apply, pay1_apply, zero_add, ← Fin.sum_univ_eq_sum_range]
  refine Finset.sum_congr rfl fun k _ => ?_
  rw [blk0, blk1]

/-- The array the run leaves. -/
abbrev result (c : Dev nD) : Buf (Elt Ideal) ((c : Thread nD τ).loc main_v4) := (dats m 0 c).arrAt 2 cfg0.N

/-- The result array: at row `r` and column `j` the sum over all columns of the terms. -/
theorem array_apply (c : Dev nD) (r : Fin 2048) (j : Fin 5632) :
    (result m c (ix2 r j) : EReal) = ∑ k ∈ Finset.range 1024, term m c r.val j.val k := by
  have hr := r.isLt
  have hj := j.isLt
  have hN : cfg0.N = 8 := N_0
  obtain ⟨t, ht⟩ : ∃ t : Fin cfg0.N, t.val = 4 * (r.val / 1024) + j.val / 1408 := ⟨⟨4 * (r.val / 1024) + j.val / 1408, by omega⟩, rfl⟩
  obtain ⟨e0, e1⟩ := idx2 t
  have hb := congrFun ((blocks2 m c t (flush2 t)).trans (flushed2 m c t)) (ix2 (⟨r.val % 1024, by omega⟩ : Fin 1024) (⟨j.val % 1408, by omega⟩ : Fin 1408))
  rw [View.read_apply] at hb
  have he : ((cfg0.win 2).blk t).view.emb (ix2 (⟨r.val % 1024, by omega⟩ : Fin 1024) (⟨j.val % 1408, by omega⟩ : Fin 1408)) = ix2 r j := by
    funext a
    apply Fin.ext
    match a with
    | ⟨0, _⟩ => show win0_2.index t 0 * 1024 + 1 * (r.val % 1024) = r.val; rw [e0, ht]; omega
    | ⟨1, _⟩ => show win0_2.index t 1 * 1408 + 1 * (j.val % 1408) = j.val; rw [e1, ht]; omega
  rw [he] at hb
  refine hb.trans ?_
  refine (out_apply m c t ⟨r.val % 1024, by omega⟩ ⟨j.val % 1408, by omega⟩).trans ?_
  rw [show 1024 * (t.val / 4) + r.val % 1024 = r.val by rw [ht]; omega, show 1408 * (t.val % 4) + j.val % 1408 = j.val by rw [ht]; omega]

/-- The reference's one contraction at row `r` and column `j`, as a sum over the columns. -/
theorem reference_apply (x : FVec Ideal Cert.Reference14Ideal.S2048x1024 .f32) (w : FVec Ideal Cert.Reference14Ideal.S2x1024x5632 .f32)
    (r : Fin 2048) (j : Fin 5632) :
    (Host.dotGeneral (φ₁ := .f32) (φ₂ := .f32) Cert.Reference14Ideal.dot_S2048x1024_S1024x5632_S2048x5632_1_0_0_1_n_n none x
        (shapeCast _ (extractStridedSlice Cert.Reference14Ideal.S1x1024x5632 ![1, 0, 0] w
          Cert.Reference14Ideal.Gen.slices_S2x1024x5632_S1x1024x5632_1_0_0) Cert.Reference14Ideal.Gen.shapeCasts_S1x1024x5632_S1024x5632)
      : FVec Ideal Cert.Reference14Ideal.S2048x5632 .f32) (ix2 r j)
      = ∑ k ∈ Finset.range 1024, (at2 x r.val k * at3 w 1 k j.val : EReal) := by
  pointwise
  rw [← Fin.sum_univ_eq_sum_range]
  refine Finset.sum_congr rfl fun k _ => ?_
  rw [at2_of _ r.isLt k.isLt, at3_of _ (by omega) k.isLt j.isLt]
  rfl

/-- The reference runs to the end, its arguments unchanged; it has no semaphore at all. -/
theorem reference_frame : Cert.quiescent_Reference14Ideal (hReference14Ideal := Cert.Reference14Ideal.Gen.facts) := fun m g _ =>
  (θ_run _ _ _).mono (fun r h => ⟨fun c => (h c).2, funext fun s => match s with
    | (_, .reg s) => s.elim0
    | (_, .dma s) => s.elim0⟩) (Cert.Reference14Ideal.Value.run m g)

/-- The two runs end with the same array. -/
theorem algebraic : Cert.algebraic_Kernel14Ideal_Reference14Ideal (hKernel14Ideal := Cert.Kernel14Ideal.Gen.facts)
    (hReference14Ideal := Cert.Reference14Ideal.Gen.facts) := by
  intro m g m' g' _ hargs
  refine ⟨fun c => result m c, Cert.Kernel14Ideal.Value.run_blocks m g, ?_⟩
  refine (θ_run _ _ _).mono (fun r h c => ⟨(h c).1.trans ?_, (h c).2⟩) (Cert.Reference14Ideal.Value.run m' g')
  rw [(hargs c).1, (hargs c).2]
  funext i
  obtain ⟨r, j, rfl⟩ : ∃ (r : Fin 2048) (j : Fin 5632), i = ix2 r j := ⟨i 0, i 1, (ix2_eta i).symm⟩
  exact (reference_apply _ _ r j).trans (array_apply m c r j).symm

end Cert.Kernel14Ideal.Product
-- ==== Proof.DownFw.lean ====
/-
  Layer 0's second product of the feed-forward: `cc0_l0_w_down` leaves, at row `r` and column `j`, the sum
  over the 2816 columns `k` of the rows of `u[r, k] * w_down[0, k, j]`, gathered in two blocks of 1408.
-/
module

public import proofs.«01_k».proof.Defs
public import proofs.«01_k».proof.Proof.Gen.Kernel15Ideal.Value
public import proofs.«01_k».proof.Proof.Gen.Reference15Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel15Ideal.Product

open Cert.Kernel15Ideal Cert.Kernel15Ideal.Gen Cert.Kernel15Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1408 .bf16) (x1 : Vec F S1x1408x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1408) hz, View.ld_unit_zero (S := S1x1408x1024) hz3]

/-- The last step adds the block's product to what the scratch held. -/
theorem sout_B (c : Dev nD) (i : grid0.Coords) (a3 h3 a4 h4 a5 h5 a6 h6 hc0 hc1) (x0 : Vec F S1024x1408 .bf16) (x1 : Vec F S1x1408x1024 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1024x1408) hz, View.ld_unit_zero (S := S1x1408x1024) hz3]

/-- … and writes what the scratch then holds to the output block. -/
theorem out_B (c : Dev nD) (i : grid0.Coords) (a3 h3 a4 h4 a5 h5 a6 h6 hc0 hc1) (x0 : Vec F S1024x1408 .bf16) (x1 : Vec F S1x1408x1024 .bf16) (xs : Vec F S1024x1024 .f32) :
    out0_B_2 c i a3 h3 a4 h4 a5 h5 a6 h6 hc0 hc1 x0 x1 xs = k0_pay2 x0 x1 xs := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero _ hz]
  simp only [View.readAt_eq_ld, h3.read_unread, h4.read_unread, h6.read_unread, View.ld_unit_zero (S := S1024x1024) hz, View.ld_unit_zero (S := S1024x1408) hz, View.ld_unit_zero (S := S1x1408x1024) hz3]

end cases

variable (m : (ℓ : Loc nD τ sig) → Buf (Elt Ideal) ℓ)

/-- A step's payload at an index: what the accumulator held plus the block's products. -/
theorem pay2_apply (x0 : Vec Ideal S1024x1408 .bf16) (x1 : Vec Ideal S1x1408x1024 .bf16) (acc : Vec Ideal S1024x1024 .f32) (i j : Fin 1024) :
    k0_pay2 x0 x1 acc (ix2 i j) = (acc (ix2 i j) : EReal) + ∑ k : Fin 1408, (x0 (ix2 i k) : EReal) * (x1 (ix3 0 k j) : EReal) := by
  pointwise [k0_pay2]

theorem pay1_apply (i j : Fin 1024) : k0_pay1 (F := Ideal) (ix2 i j) = (0 : EReal) := by
  pointwise [k0_pay1]

theorem idx0 : ∀ t : Fin cfg0.N, win0_0.index t 0 = t.val / 2 ∧ win0_0.index t 1 = t.val % 2 :=
  (by decide +kernel : ∀ t : Fin grid0.N, _)
theorem idx1 : ∀ t : Fin cfg0.N, win0_1.index t 0 = 0 ∧ win0_1.index t 1 = t.val % 2 ∧ win0_1.index t 2 = 0 :=
  (by decide +kernel : ∀ t : Fin grid0.N, _)

/-- The rows' block of a grid point. -/
theorem blk0 (c : Dev nD) (t : Fin cfg0.N) (i : Fin 1024) (k : Fin 1408) :
    (iblk m c 0 t : Vec Ideal S1024x1408 .bf16) (ix2 i k)
      = at2 (M := 2048) (N := 2816) (m ((c : Thread nD τ).loc main_arg0)) (1024 * (t.val / 2) + i.val) (1408 * (t.val % 2) + k.val) := by
  have hN : t.val < 4 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 2) + i.val, by omega⟩ : Fin 2048) (⟨1408 * (t.val % 2) + k.val, by omega⟩ : Fin 2816))
      = (m ((c : Thread nD τ).loc main_arg0) : (⟨2, ![2048, 2816]⟩ : Shape).Idx → EReal) (ix2 ⟨1024 * (t.val / 2) + i.val, by omega⟩ ⟨1408 * (t.val % 2) + k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 2) + i.val; omega
  | ⟨1, _⟩ => show win0_0.index t 1 * 1408 + 1 * k.val = _; rw [e1]; show _ = 1408 * (t.val % 2) + k.val; omega

/-- The weight's block of a grid point. -/
theorem blk1 (c : Dev nD) (t : Fin cfg0.N) (k : Fin 1408) (j : Fin 1024) :
    (iblk m c 1 t : Vec Ideal S1x1408x1024 .bf16) (ix3 0 k j)
      = at3 (L := 2) (M := 2816) (N := 1024) (m ((c : Thread nD τ).loc main_arg1)) 0 (1408 * (t.val % 2) + k.val) j.val := by
  have hN : t.val < 4 := lt_of_lt_of_eq t.isLt N_0
  have hi := j.isLt
  have hk := k.isLt
  obtain ⟨e0, e1, e2⟩ := idx1 t
  rw [at3_of _ (by omega) (by omega) (by omega)]
  unfold iblk
  rw [View.read_apply]
  have e : V m c main_v1 (ix3 (⟨0, by omega⟩ : Fin 2) (⟨1408 * (t.val % 2) + k.val, by omega⟩ : Fin 2816) (⟨j.val, by omega⟩ : Fin 1024))
      = (m ((c : Thread nD τ).loc main_arg1) : (⟨3, ![2, 2816, 1024]⟩ : Shape).Idx → EReal) (ix3 ⟨0, by omega⟩ ⟨1408 * (t.val % 2) + k.val, by omega⟩ ⟨j.val, by omega⟩) := by
    unfold V
    after_reads_at
  refine Eq.trans ?_ e
  show V m c main_v1 _ = V m c main_v1 _
  congr 1
  funext a
  apply Fin.ext
  match a with
  | ⟨0, _⟩ => show win0_1.index t 0 * 1 + 1 * 0 = _; rw [e0]; rfl
  | ⟨1, _⟩ => show win0_1.index t 1 * 1408 + 1 * k.val = _; rw [e1]; show _ = 1408 * (t.val % 2) + k.val; omega
  | ⟨2, _⟩ => show win0_1.index t 2 * 1024 + 1 * j.val = _; rw [e2]; show _ = j.val; omega

/-- The term a column `k` contributes to row `r` and column `j` of the product. -/
abbrev term (c : Dev nD) (r j k : ℕ) : EReal :=
  at2 (M := 2048) (N := 2816) (m ((c : Thread nD τ).loc main_arg0)) r k * at3 (L := 2) (M := 2816) (N := 1024) (m ((c : Thread nD τ).loc main_arg1)) 0 k j

/-- A step adds the block's terms to what the accumulator held. -/
theorem step_apply (c : Dev nD) (t : Fin cfg0.N) (acc : Vec Ideal S1024x1024 .f32) (i j : Fin 1024) :
    k0_pay2 (iblk m c 0 t) (iblk m c 1 t) acc (ix2 i j)
      = (acc (ix2 i j) : EReal) + ∑ k : Fin 1408, term m c (1024 * (t.val / 2) + i.val) j.val (1408 * (t.val % 2) + k.val) := by
  rw [pay2_apply]
  refine congrArg _ (Finset.sum_congr rfl fun k _ => ?_)
  rw [blk0, blk1]

/-- The scratch after step `s` of the row block `q`: the terms of the first `s + 1` blocks of columns. -/
theorem scratch_apply (c : Dev nD) (q : ℕ) (hq : q < 2) (i j : Fin 1024) (s : ℕ) (hs : s < 2) (h : 2 * q + s < cfg0.N) :
    ((outsAt0 m c (2 * q + s) h).2 (ix2 i j) : EReal) = ∑ k ∈ Finset.range (1408 * (s + 1)), term m c (1024 * q + i.val) j.val k := by
  have hN : cfg0.N = 4 := N_0
  have key := sweep 2 1408 (term m c (1024 * q + i.val) j.val)
    (fun s => if h : 2 * q + s < cfg0.N then ((outsAt0 m c (2 * q + s) h).2 (ix2 i j) : EReal) else 0)
    (fun _ => by
      have hb : 2 * q + 0 < cfg0.N := by omega
      have hA := outsAt0_A m c ⟨2 * q + 0, hb⟩ (by show (2 * q + 0) % 2 = 0; omega) (by show ¬(2 * q + 0) % 2 = 1; omega)
      simp only [dif_pos hb]
      rw [hA]
      dsimp only
      rw [sout_A, step_apply, pay1_apply, zero_add]
      refine Finset.sum_congr rfl fun k _ => ?_
      show term m c (1024 * ((2 * q + 0) / 2) + i.val) j.val (1408 * ((2 * q + 0) % 2) + k.val) = _
      rw [show (2 * q + 0) / 2 = q by omega, show (2 * q + 0) % 2 = 0 by omega, Nat.mul_zero, Nat.zero_add])
    (fun s hs => by
      have hb : 2 * q + (s + 1) < cfg0.N := by omega
      have hb' : 2 * q + s < cfg0.N := by omega
      have h1 : (2 * q + (s + 1)) % 2 = 1 := by omega
      simp only [dif_pos hb, dif_pos hb']
      have e : (outsAt0 m c (2 * q + (s + 1)) hb).2
          = k0_pay2 (iblk m c 0 ⟨2 * q + (s + 1), hb⟩) (iblk m c 1 ⟨2 * q + (s + 1), hb⟩) (outsAt0 m c (2 * q + s) hb').2 := by
        have hB := outsAt0_B m c ⟨2 * q + (s + 1), hb⟩ (by show ¬(2 * q + (s + 1)) % 2 = 0; omega) h1
        rw [hB]
        dsimp only
        rw [sout_B]
        rfl
      rw [e, step_apply]
      refine congrArg _ (Finset.sum_congr rfl fun k _ => ?_)
      show term m c (1024 * ((2 * q + (s + 1)) / 2) + i.val) j.val (1408 * ((2 * q + (s + 1)) % 2) + k.val) = _
      rw [show (2 * q + (s + 1)) / 2 = q by omega, show (2 * q + (s + 1)) % 2 = s + 1 by omega])
    s hs
  simpa only [dif_pos h] using key

/-- The output block after the last step of a row block: the sum over all columns. -/
theorem out_apply (c : Dev nD) (q : ℕ) (hq : q < 2) (i j : Fin 1024) (h : 2 * q + 1 < cfg0.N) :
    ((outsAt0 m c (2 * q + 1) h).1 (ix2 i j) : EReal) = ∑ k ∈ Finset.range 2816, term m c (1024 * q + i.val) j.val k := by
  have hs := scratch_apply m c q hq i j 1 (by omega) h
  have hB := outsAt0_B m c ⟨2 * q + 1, h⟩ (by show ¬(2 * q + 1) % 2 = 0; omega) (by show (2 * q + 1) % 2 = 1; omega)
  rw [hB] at hs ⊢
  dsimp only at hs ⊢
  rw [sout_B] at hs
  rw [out_B]
  exact hs

/-- The result array: at row `r` and column `j` the sum over all columns of the terms. -/
theorem array_apply (c : Dev nD) (r : Fin 2048) (j : Fin 1024) :
    (G2 m c (ix2 r j) : EReal) = ∑ k ∈ Finset.range 2816, term m c r.val j.val k := by
  have hr := r.isLt
  have hj := j.isLt
  have hN : cfg0.N = 4 := N_0
  have hp : pt2Of (ix2 r j) = 2 * (r.val / 1024) + 1 := by
    show 2 * (1 * (r.val / 1024 - 0) + 1 * (j.val / 1024 - 0)) + 1 = _
    omega
  have hlt : pt2Of (ix2 r j) < cfg0.N := by rw [hp]; omega
  have hl : loc2Of (ix2 r j) = ix2 (⟨r.val % 1024, by omega⟩ : Fin 1024) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 1024) (by omega) ⟨r.val % 1024, by omega⟩ j (by omega)
  rw [show 1024 * (r.val / 1024) + (⟨r.val % 1024, by omega⟩ : Fin 1024).val = r.val from by show 1024 * (r.val / 1024) + r.val % 1024 = r.val; omega] at this
  rw [← this]
  congr 2
  simp only [hp]

/-- The reference's one contraction at row `r` and column `j`, as a sum over the columns. -/
theorem reference_apply (x : FVec Ideal Cert.Reference15Ideal.S2048x2816 .f32) (w : FVec Ideal Cert.Reference15Ideal.S2x2816x1024 .f32)
    (r : Fin 2048) (j : Fin 1024) :
    (Host.dotGeneral (φ₁ := .f32) (φ₂ := .f32) Cert.Reference15Ideal.dot_S2048x2816_S2816x1024_S2048x1024_1_0_0_1_n_n none x
        (shapeCast _ (extractStridedSlice Cert.Reference15Ideal.S1x2816x1024 ![0, 0, 0] w
          Cert.Reference15Ideal.Gen.slices_S2x2816x1024_S1x2816x1024_0_0_0) Cert.Reference15Ideal.Gen.shapeCasts_S1x2816x1024_S2816x1024)
      : FVec Ideal Cert.Reference15Ideal.S2048x1024 .f32) (ix2 r j)
      = ∑ k ∈ Finset.range 2816, (at2 x r.val k * at3 w 0 k j.val : EReal) := by
  pointwise
  rw [← Fin.sum_univ_eq_sum_range]
  refine Finset.sum_congr rfl fun k _ => ?_
  rw [at2_of _ r.isLt k.isLt, at3_of _ (by omega) k.isLt j.isLt]
  rfl

/-- The reference runs to the end, its arguments unchanged; it has no semaphore at all. -/
theorem reference_frame : Cert.quiescent_Reference15Ideal (hReference15Ideal := Cert.Reference15Ideal.Gen.facts) := fun m g _ =>
  (θ_run _ _ _).mono (fun r h => ⟨fun c => (h c).2, funext fun s => match s with
    | (_, .reg s) => s.elim0
    | (_, .dma s) => s.elim0⟩) (Cert.Reference15Ideal.Value.run m g)

/-- The two runs end with the same array. -/
theorem algebraic : Cert.algebraic_Kernel15Ideal_Reference15Ideal (hKernel15Ideal := Cert.Kernel15Ideal.Gen.facts)
    (hReference15Ideal := Cert.Reference15Ideal.Gen.facts) := by
  intro m g m' g' _ hargs
  refine ⟨fun c => G2 m c, Cert.Kernel15Ideal.Value.run m g, ?_⟩
  refine (θ_run _ _ _).mono (fun r h c => ⟨(h c).1.trans ?_, (h c).2⟩) (Cert.Reference15Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel15Ideal.Product
-- ==== Proof.DownFw1.lean ====
/-
  Layer 1's second product of the feed-forward: `cc0_l1_w_down` leaves, at row `r` and column `j`, the sum
  over the 2816 columns `k` of the rows of `u[r, k] * w_down[1, k, j]`, gathered in two blocks of 1408.
-/
module

public import proofs.«01_k».proof.Defs
public import proofs.«01_k».proof.Proof.Gen.Kernel16Ideal.Value
public import proofs.«01_k».proof.Proof.Gen.Reference16Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel16Ideal.Product

open Cert.Kernel16Ideal Cert.Kernel16Ideal.Gen Cert.Kernel16Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1408 .bf16) (x1 : Vec F S1x1408x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1408) hz, View.ld_unit_zero (S := S1x1408x1024) hz3]

/-- The last step adds the block's product to what the scratch held. -/
theorem sout_B (c : Dev nD) (i : grid0.Coords) (a3 h3 a4 h4 a5 h5 a6 h6 hc0 hc1) (x0 : Vec F S1024x1408 .bf16) (x1 : Vec F S1x1408x1024 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1024x1408) hz, View.ld_unit_zero (S := S1x1408x1024) hz3]

/-- … and writes what the scratch then holds to the output block. -/
theorem out_B (c : Dev nD) (i : grid0.Coords) (a3 h3 a4 h4 a5 h5 a6 h6 hc0 hc1) (x0 : Vec F S1024x1408 .bf16) (x1 : Vec F S1x1408x1024 .bf16) (xs : Vec F S1024x1024 .f32) :
    out0_B_2 c i a3 h3 a4 h4 a5 h5 a6 h6 hc0 hc1 x0 x1 xs = k0_pay2 x0 x1 xs := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero _ hz]
  simp only [View.readAt_eq_ld, h3.read_unread, h4.read_unread, h6.read_unread, View.ld_unit_zero (S := S1024x1024) hz, View.ld_unit_zero (S := S1024x1408) hz, View.ld_unit_zero (S := S1x1408x1024) hz3]

end cases

variable (m : (ℓ : Loc nD τ sig) → Buf (Elt Ideal) ℓ)

/-- A step's payload at an index: what the accumulator held plus the block's products. -/
theorem pay2_apply (x0 : Vec Ideal S1024x1408 .bf16) (x1 : Vec Ideal S1x1408x1024 .bf16) (acc : Vec Ideal S1024x1024 .f32) (i j : Fin 1024) :
    k0_pay2 x0 x1 acc (ix2 i j) = (acc (ix2 i j) : EReal) + ∑ k : Fin 1408, (x0 (ix2 i k) : EReal) * (x1 (ix3 0 k j) : EReal) := by
  pointwise [k0_pay2]

theorem pay1_apply (i j : Fin 1024) : k0_pay1 (F := Ideal) (ix2 i j) = (0 : EReal) := by
  pointwise [k0_pay1]

theorem idx0 : ∀ t : Fin cfg0.N, win0_0.index t 0 = t.val / 2 ∧ win0_0.index t 1 = t.val % 2 :=
  (by decide +kernel : ∀ t : Fin grid0.N, _)
theorem idx1 : ∀ t : Fin cfg0.N, win0_1.index t 0 = 1 ∧ win0_1.index t 1 = t.val % 2 ∧ win0_1.index t 2 = 0 :=
  (by decide +kernel : ∀ t : Fin grid0.N, _)

/-- The rows' block of a grid point. -/
theorem blk0 (c : Dev nD) (t : Fin cfg0.N) (i : Fin 1024) (k : Fin 1408) :
    (iblk m c 0 t : Vec Ideal S1024x1408 .bf16) (ix2 i k)
      = at2 (M := 2048) (N := 2816) (m ((c : Thread nD τ).loc main_arg0)) (1024 * (t.val / 2) + i.val) (1408 * (t.val % 2) + k.val) := by
  have hN : t.val < 4 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 2) + i.val, by omega⟩ : Fin 2048) (⟨1408 * (t.val % 2) + k.val, by omega⟩ : Fin 2816))
      = (m ((c : Thread nD τ).loc main_arg0) : (⟨2, ![2048, 2816]⟩ : Shape).Idx → EReal) (ix2 ⟨1024 * (t.val / 2) + i.val, by omega⟩ ⟨1408 * (t.val % 2) + k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 2) + i.val; omega
  | ⟨1, _⟩ => show win0_0.index t 1 * 1408 + 1 * k.val = _; rw [e1]; show _ = 1408 * (t.val % 2) + k.val; omega

/-- The weight's block of a grid point. -/
theorem blk1 (c : Dev nD) (t : Fin cfg0.N) (k : Fin 1408) (j : Fin 1024) :
    (iblk m c 1 t : Vec Ideal S1x1408x1024 .bf16) (ix3 0 k j)
      = at3 (L := 2) (M := 2816) (N := 1024) (m ((c : Thread nD τ).loc main_arg1)) 1 (1408 * (t.val % 2) + k.val) j.val := by
  have hN : t.val < 4 := lt_of_lt_of_eq t.isLt N_0
  have hi := j.isLt
  have hk := k.isLt
  obtain ⟨e0, e1, e2⟩ := idx1 t
  rw [at3_of _ (by omega) (by omega) (by omega)]
  unfold iblk
  rw [View.read_apply]
  have e : V m c main_v1 (ix3 (⟨1, by omega⟩ : Fin 2) (⟨1408 * (t.val % 2) + k.val, by omega⟩ : Fin 2816) (⟨j.val, by omega⟩ : Fin 1024))
      = (m ((c : Thread nD τ).loc main_arg1) : (⟨3, ![2, 2816, 1024]⟩ : Shape).Idx → EReal) (ix3 ⟨1, by omega⟩ ⟨1408 * (t.val % 2) + k.val, by omega⟩ ⟨j.val, by omega⟩) := by
    unfold V
    after_reads_at
  refine Eq.trans ?_ e
  show V m c main_v1 _ = V m c main_v1 _
  congr 1
  funext a
  apply Fin.ext
  match a with
  | ⟨0, _⟩ => show win0_1.index t 0 * 1 + 1 * 0 = _; rw [e0]; rfl
  | ⟨1, _⟩ => show win0_1.index t 1 * 1408 + 1 * k.val = _; rw [e1]; show _ = 1408 * (t.val % 2) + k.val; omega
  | ⟨2, _⟩ => show win0_1.index t 2 * 1024 + 1 * j.val = _; rw [e2]; show _ = j.val; omega

/-- The term a column `k` contributes to row `r` and column `j` of the product. -/
abbrev term (c : Dev nD) (r j k : ℕ) : EReal :=
  at2 (M := 2048) (N := 2816) (m ((c : Thread nD τ).loc main_arg0)) r k * at3 (L := 2) (M := 2816) (N := 1024) (m ((c : Thread nD τ).loc main_arg1)) 1 k j

/-- A step adds the block's terms to what the accumulator held. -/
theorem step_apply (c : Dev nD) (t : Fin cfg0.N) (acc : Vec Ideal S1024x1024 .f32) (i j : Fin 1024) :
    k0_pay2 (iblk m c 0 t) (iblk m c 1 t) acc (ix2 i j)
      = (acc (ix2 i j) : EReal) + ∑ k : Fin 1408, term m c (1024 * (t.val / 2) + i.val) j.val (1408 * (t.val % 2) + k.val) := by
  rw [pay2_apply]
  refine congrArg _ (Finset.sum_congr rfl fun k _ => ?_)
  rw [blk0, blk1]

/-- The scratch after step `s` of the row block `q`: the terms of the first `s + 1` blocks of columns. -/
theorem scratch_apply (c : Dev nD) (q : ℕ) (hq : q < 2) (i j : Fin 1024) (s : ℕ) (hs : s < 2) (h : 2 * q + s < cfg0.N) :
    ((outsAt0 m c (2 * q + s) h).2 (ix2 i j) : EReal) = ∑ k ∈ Finset.range (1408 * (s + 1)), term m c (1024 * q + i.val) j.val k := by
  have hN : cfg0.N = 4 := N_0
  have key := sweep 2 1408 (term m c (1024 * q + i.val) j.val)
    (fun s => if h : 2 * q + s < cfg0.N then ((outsAt0 m c (2 * q + s) h).2 (ix2 i j) : EReal) else 0)
    (fun _ => by
      have hb : 2 * q + 0 < cfg0.N := by omega
      have hA := outsAt0_A m c ⟨2 * q + 0, hb⟩ (by show (2 * q + 0) % 2 = 0; omega) (by show ¬(2 * q + 0) % 2 = 1; omega)
      simp only [dif_pos hb]
      rw [hA]
      dsimp only
      rw [sout_A, step_apply, pay1_apply, zero_add]
      refine Finset.sum_congr rfl fun k _ => ?_
      show term m c (1024 * ((2 * q + 0) / 2) + i.val) j.val (1408 * ((2 * q + 0) % 2) + k.val) = _
      rw [show (2 * q + 0) / 2 = q by omega, show (2 * q + 0) % 2 = 0 by omega, Nat.mul_zero, Nat.zero_add])
    (fun s hs => by
      have hb : 2 * q + (s + 1) < cfg0.N := by omega
      have hb' : 2 * q + s < cfg0.N := by omega
      have h1 : (2 * q + (s + 1)) % 2 = 1 := by omega
      simp only [dif_pos hb, dif_pos hb']
      have e : (outsAt0 m c (2 * q + (s + 1)) hb).2
          = k0_pay2 (iblk m c 0 ⟨2 * q + (s + 1), hb⟩) (iblk m c 1 ⟨2 * q + (s + 1), hb⟩) (outsAt0 m c (2 * q + s) hb').2 := by
        have hB := outsAt0_B m c ⟨2 * q + (s + 1), hb⟩ (by show ¬(2 * q + (s + 1)) % 2 = 0; omega) h1
        rw [hB]
        dsimp only
        rw [sout_B]
        rfl
      rw [e, step_apply]
      refine congrArg _ (Finset.sum_congr rfl fun k _ => ?_)
      show term m c (1024 * ((2 * q + (s + 1)) / 2) + i.val) j.val (1408 * ((2 * q + (s + 1)) % 2) + k.val) = _
      rw [show (2 * q + (s + 1)) / 2 = q by omega, show (2 * q + (s + 1)) % 2 = s + 1 by omega])
    s hs
  simpa only [dif_pos h] using key

/-- The output block after the last step of a row block: the sum over all columns. -/
theorem out_apply (c : Dev nD) (q : ℕ) (hq : q < 2) (i j : Fin 1024) (h : 2 * q + 1 < cfg0.N) :
    ((outsAt0 m c (2 * q + 1) h).1 (ix2 i j) : EReal) = ∑ k ∈ Finset.range 2816, term m c (1024 * q + i.val) j.val k := by
  have hs := scratch_apply m c q hq i j 1 (by omega) h
  have hB := outsAt0_B m c ⟨2 * q + 1, h⟩ (by show ¬(2 * q + 1) % 2 = 0; omega) (by show (2 * q + 1) % 2 = 1; omega)
  rw [hB] at hs ⊢
  dsimp only at hs ⊢
  rw [sout_B] at hs
  rw [out_B]
  exact hs

/-- The result array: at row `r` and column `j` the sum over all columns of the terms. -/
theorem array_apply (c : Dev nD) (r : Fin 2048) (j : Fin 1024) :
    (G2 m c (ix2 r j) : EReal) = ∑ k ∈ Finset.range 2816, term m c r.val j.val k := by
  have hr := r.isLt
  have hj := j.isLt
  have hN : cfg0.N = 4 := N_0
  have hp : pt2Of (ix2 r j) = 2 * (r.val / 1024) + 1 := by
    show 2 * (1 * (r.val / 1024 - 0) + 1 * (j.val / 1024 - 0)) + 1 = _
    omega
  have hlt : pt2Of (ix2 r j) < cfg0.N := by rw [hp]; omega
  have hl : loc2Of (ix2 r j) = ix2 (⟨r.val % 1024, by omega⟩ : Fin 1024) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 1024) (by omega) ⟨r.val % 1024, by omega⟩ j (by omega)
  rw [show 1024 * (r.val / 1024) + (⟨r.val % 1024, by omega⟩ : Fin 1024).val = r.val from by show 1024 * (r.val / 1024) + r.val % 1024 = r.val; omega] at this
  rw [← this]
  congr 2
  simp only [hp]

/-- The reference's one contraction at row `r` and column `j`, as a sum over the columns. -/
theorem reference_apply (x : FVec Ideal Cert.Reference16Ideal.S2048x2816 .f32) (w : FVec Ideal Cert.Reference16Ideal.S2x2816x1024 .f32)
    (r : Fin 2048) (j : Fin 1024) :
    (Host.dotGeneral (φ₁ := .f32) (φ₂ := .f32) Cert.Reference16Ideal.dot_S2048x2816_S2816x1024_S2048x1024_1_0_0_1_n_n none x
        (shapeCast _ (extractStridedSlice Cert.Reference16Ideal.S1x2816x1024 ![1, 0, 0] w
          Cert.Reference16Ideal.Gen.slices_S2x2816x1024_S1x2816x1024_1_0_0) Cert.Reference16Ideal.Gen.shapeCasts_S1x2816x1024_S2816x1024)
      : FVec Ideal Cert.Reference16Ideal.S2048x1024 .f32) (ix2 r j)
      = ∑ k ∈ Finset.range 2816, (at2 x r.val k * at3 w 1 k j.val : EReal) := by
  pointwise
  rw [← Fin.sum_univ_eq_sum_range]
  refine Finset.sum_congr rfl fun k _ => ?_
  rw [at2_of _ r.isLt k.isLt, at3_of _ (by omega) k.isLt j.isLt]
  rfl

/-- The reference runs to the end, its arguments unchanged; it has no semaphore at all. -/
theorem reference_frame : Cert.quiescent_Reference16Ideal (hReference16Ideal := Cert.Reference16Ideal.Gen.facts) := fun m g _ =>
  (θ_run _ _ _).mono (fun r h => ⟨fun c => (h c).2, funext fun s => match s with
    | (_, .reg s) => s.elim0
    | (_, .dma s) => s.elim0⟩) (Cert.Reference16Ideal.Value.run m g)

/-- The two runs end with the same array. -/
theorem algebraic : Cert.algebraic_Kernel16Ideal_Reference16Ideal (hKernel16Ideal := Cert.Kernel16Ideal.Gen.facts)
    (hReference16Ideal := Cert.Reference16Ideal.Gen.facts) := by
  intro m g m' g' _ hargs
  refine ⟨fun c => G2 m c, Cert.Kernel16Ideal.Value.run m g, ?_⟩
  refine (θ_run _ _ _).mono (fun r h c => ⟨(h c).1.trans ?_, (h c).2⟩) (Cert.Reference16Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel16Ideal.Product
-- ==== Proof.OutFw.lean ====
/-
  The mixer's output product: `cc0_l0_w_out` leaves, at row `r` and column `j`, the sum
  over the 2048 columns `k` of the rows of `u[r, k] * w_out[k, j]`, gathered in two blocks of 1024.
-/
module

public import proofs.«01_k».proof.Defs
public import proofs.«01_k».proof.Proof.Gen.Kernel17Ideal.Value
public import proofs.«01_k».proof.Proof.Gen.Reference17Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel17Ideal.Product

open Cert.Kernel17Ideal Cert.Kernel17Ideal.Gen Cert.Kernel17Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- The first step leaves the block's product over the zero block. -/
theorem sout_A (c : Dev nD) (i : grid0.Coords) (a3 h3 a4 h4 a5 h5 a6 h6 hc0 hc1) (x0 : Vec F S1024x1024 .bf16) (x1 : Vec F S1024x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz]

/-- The last step adds the block's product to what the scratch held. -/
theorem sout_B (c : Dev nD) (i : grid0.Coords) (a3 h3 a4 h4 a5 h5 a6 h6 hc0 hc1) (x0 : Vec F S1024x1024 .bf16) (x1 : Vec F S1024x1024 .bf16) (xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz]

/-- … and writes what the scratch then holds to the output block. -/
theorem out_B (c : Dev nD) (i : grid0.Coords) (a3 h3 a4 h4 a5 h5 a6 h6 hc0 hc1) (x0 : Vec F S1024x1024 .bf16) (x1 : Vec F S1024x1024 .bf16) (xs : Vec F S1024x1024 .f32) :
    out0_B_2 c i a3 h3 a4 h4 a5 h5 a6 h6 hc0 hc1 x0 x1 xs = k0_pay2 x0 x1 xs := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz, View.readCov_unit_zero _ hz]
  simp only [View.readAt_eq_ld, h3.read_unread, h4.read_unread, h6.read_unread, View.ld_unit_zero (S := S1024x1024) hz]

end cases

variable (m : (ℓ : Loc nD τ sig) → Buf (Elt Ideal) ℓ)

/-- A step's payload at an index: what the accumulator held plus the block's products. -/
theorem pay2_apply (x0 : Vec Ideal S1024x1024 .bf16) (x1 : Vec Ideal S1024x1024 .bf16) (acc : Vec Ideal S1024x1024 .f32) (i j : Fin 1024) :
    k0_pay2 x0 x1 acc (ix2 i j) = (acc (ix2 i j) : EReal) + ∑ k : Fin 1024, (x0 (ix2 i k) : EReal) * (x1 (ix2 k j) : EReal) := by
  pointwise [k0_pay2]

theorem pay1_apply (i j : Fin 1024) : k0_pay1 (F := Ideal) (ix2 i j) = (0 : EReal) := by
  pointwise [k0_pay1]

theorem idx0 : ∀ t : Fin cfg0.N, win0_0.index t 0 = t.val / 2 ∧ win0_0.index t 1 = t.val % 2 :=
  (by decide +kernel : ∀ t : Fin grid0.N, _)
theorem idx1 : ∀ t : Fin cfg0.N, win0_1.index t 0 = t.val % 2 ∧ win0_1.index t 1 = 0 :=
  (by decide +kernel : ∀ t : Fin grid0.N, _)

/-- The rows' block of a grid point. -/
theorem blk0 (c : Dev nD) (t : Fin cfg0.N) (i : Fin 1024) (k : Fin 1024) :
    (iblk m c 0 t : Vec Ideal S1024x1024 .bf16) (ix2 i k)
      = at2 (M := 2048) (N := 2048) (m ((c : Thread nD τ).loc main_arg0)) (1024 * (t.val / 2) + i.val) (1024 * (t.val % 2) + k.val) := by
  have hN : t.val < 4 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 2) + i.val, by omega⟩ : Fin 2048) (⟨1024 * (t.val % 2) + k.val, by omega⟩ : Fin 2048))
      = (m ((c : Thread nD τ).loc main_arg0) : (⟨2, ![2048, 2048]⟩ : Shape).Idx → EReal) (ix2 ⟨1024 * (t.val / 2) + i.val, by omega⟩ ⟨1024 * (t.val % 2) + k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 2) + i.val; omega
  | ⟨1, _⟩ => show win0_0.index t 1 * 1024 + 1 * k.val = _; rw [e1]; show _ = 1024 * (t.val % 2) + k.val; omega

/-- The weight's block of a grid point. -/
theorem blk1 (c : Dev nD) (t : Fin cfg0.N) (k : Fin 1024) (j : Fin 1024) :
    (iblk m c 1 t : Vec Ideal S1024x1024 .bf16) (ix2 k j)
      = at2 (M := 2048) (N := 1024) (m ((c : Thread nD τ).loc main_arg1)) (1024 * (t.val % 2) + k.val) j.val := by
  have hN : t.val < 4 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨1024 * (t.val % 2) + k.val, by omega⟩ : Fin 2048) (⟨j.val, by omega⟩ : Fin 1024))
      = (m ((c : Thread nD τ).loc main_arg1) : (⟨2, ![2048, 1024]⟩ : Shape).Idx → EReal) (ix2 ⟨1024 * (t.val % 2) + k.val, by omega⟩ ⟨j.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * k.val = _; rw [e0]; show _ = 1024 * (t.val % 2) + k.val; omega
  | ⟨1, _⟩ => show win0_1.index t 1 * 1024 + 1 * j.val = _; rw [e1]; show _ = j.val; omega

/-- The term a column `k` contributes to row `r` and column `j` of the product. -/
abbrev term (c : Dev nD) (r j k : ℕ) : EReal :=
  at2 (M := 2048) (N := 2048) (m ((c : Thread nD τ).loc main_arg0)) r k * at2 (M := 2048) (N := 1024) (m ((c : Thread nD τ).loc main_arg1)) k j

/-- A step adds the block's terms to what the accumulator held. -/
theorem step_apply (c : Dev nD) (t : Fin cfg0.N) (acc : Vec Ideal S1024x1024 .f32) (i j : Fin 1024) :
    k0_pay2 (iblk m c 0 t) (iblk m c 1 t) acc (ix2 i j)
      = (acc (ix2 i j) : EReal) + ∑ k : Fin 1024, term m c (1024 * (t.val / 2) + i.val) j.val (1024 * (t.val % 2) + k.val) := by
  rw [pay2_apply]
  refine congrArg _ (Finset.sum_congr rfl fun k _ => ?_)
  rw [blk0, blk1]

/-- The scratch after step `s` of the row block `q`: the terms of the first `s + 1` blocks of columns. -/
theorem scratch_apply (c : Dev nD) (q : ℕ) (hq : q < 2) (i j : Fin 1024) (s : ℕ) (hs : s < 2) (h : 2 * q + s < cfg0.N) :
    ((outsAt0 m c (2 * q + s) h).2 (ix2 i j) : EReal) = ∑ k ∈ Finset.range (1024 * (s + 1)), term m c (1024 * q + i.val) j.val k := by
  have hN : cfg0.N = 4 := N_0
  have key := sweep 2 1024 (term m c (1024 * q + i.val) j.val)
    (fun s => if h : 2 * q + s < cfg0.N then ((outsAt0 m c (2 * q + s) h).2 (ix2 i j) : EReal) else 0)
    (fun _ => by
      have hb : 2 * q + 0 < cfg0.N := by omega
      have hA := outsAt0_A m c ⟨2 * q + 0, hb⟩ (by show (2 * q + 0) % 2 = 0; omega) (by show ¬(2 * q + 0) % 2 = 1; omega)
      simp only [dif_pos hb]
      rw [hA]
      dsimp only
      rw [sout_A, step_apply, pay1_apply, zero_add]
      refine Finset.sum_congr rfl fun k _ => ?_
      show term m c (1024 * ((2 * q + 0) / 2) + i.val) j.val (1024 * ((2 * q + 0) % 2) + k.val) = _
      rw [show (2 * q + 0) / 2 = q by omega, show (2 * q + 0) % 2 = 0 by omega, Nat.mul_zero, Nat.zero_add])
    (fun s hs => by
      have hb : 2 * q + (s + 1) < cfg0.N := by omega
      have hb' : 2 * q + s < cfg0.N := by omega
      have h1 : (2 * q + (s + 1)) % 2 = 1 := by omega
      simp only [dif_pos hb, dif_pos hb']
      have e : (outsAt0 m c (2 * q + (s + 1)) hb).2
          = k0_pay2 (iblk m c 0 ⟨2 * q + (s + 1), hb⟩) (iblk m c 1 ⟨2 * q + (s + 1), hb⟩) (outsAt0 m c (2 * q + s) hb').2 := by
        have hB := outsAt0_B m c ⟨2 * q + (s + 1), hb⟩ (by show ¬(2 * q + (s + 1)) % 2 = 0; omega) h1
        rw [hB]
        dsimp only
        rw [sout_B]
        rfl
      rw [e, step_apply]
      refine congrArg _ (Finset.sum_congr rfl fun k _ => ?_)
      show term m c (1024 * ((2 * q + (s + 1)) / 2) + i.val) j.val (1024 * ((2 * q + (s + 1)) % 2) + k.val) = _
      rw [show (2 * q + (s + 1)) / 2 = q by omega, show (2 * q + (s + 1)) % 2 = s + 1 by omega])
    s hs
  simpa only [dif_pos h] using key

/-- The output block after the last step of a row block: the sum over all columns. -/
theorem out_apply (c : Dev nD) (q : ℕ) (hq : q < 2) (i j : Fin 1024) (h : 2 * q + 1 < cfg0.N) :
    ((outsAt0 m c (2 * q + 1) h).1 (ix2 i j) : EReal) = ∑ k ∈ Finset.range 2048, term m c (1024 * q + i.val) j.val k := by
  have hs := scratch_apply m c q hq i j 1 (by omega) h
  have hB := outsAt0_B m c ⟨2 * q + 1, h⟩ (by show ¬(2 * q + 1) % 2 = 0; omega) (by show (2 * q + 1) % 2 = 1; omega)
  rw [hB] at hs ⊢
  dsimp only at hs ⊢
  rw [sout_B] at hs
  rw [out_B]
  exact hs

/-- The result array: at row `r` and column `j` the sum over all columns of the terms. -/
theorem array_apply (c : Dev nD) (r : Fin 2048) (j : Fin 1024) :
    (G2 m c (ix2 r j) : EReal) = ∑ k ∈ Finset.range 2048, term m c r.val j.val k := by
  have hr := r.isLt
  have hj := j.isLt
  have hN : cfg0.N = 4 := N_0
  have hp : pt2Of (ix2 r j) = 2 * (r.val / 1024) + 1 := by
    show 2 * (1 * (r.val / 1024 - 0) + 1 * (j.val / 1024 - 0)) + 1 = _
    omega
  have hlt : pt2Of (ix2 r j) < cfg0.N := by rw [hp]; omega
  have hl : loc2Of (ix2 r j) = ix2 (⟨r.val % 1024, by omega⟩ : Fin 1024) j := by
    funext a
    apply Fin.ext
    match a with
    | ⟨0, _⟩ => rfl
    | ⟨1, _⟩ => exact Nat.mod_eq_of_lt hj
  unfold G2
  rw [dif_pos hlt, ← outsAt0_sweep m c _ hlt, hl]
  have := out_apply m c (r.val / 1024) (by omega) ⟨r.val % 1024, by omega⟩ j (by omega)
  rw [show 1024 * (r.val / 1024) + (⟨r.val % 1024, by omega⟩ : Fin 1024).val = r.val from by show 1024 * (r.val / 1024) + r.val % 1024 = r.val; omega] at this
  rw [← this]
  congr 2
  simp only [hp]

/-- The reference's one contraction at row `r` and column `j`, as a sum over the columns. -/
theorem reference_apply (x : FVec Ideal Cert.Reference17Ideal.S2048x2048 .f32) (w : FVec Ideal Cert.Reference17Ideal.S2048x1024 .f32)
    (r : Fin 2048) (j : Fin 1024) :
    (Host.dotGeneral (φ₁ := .f32) (φ₂ := .f32) Cert.Reference17Ideal.dot_S2048x2048_S2048x1024_S2048x1024_1_0_0_1_n_n none x
        w
      : FVec Ideal Cert.Reference17Ideal.S2048x1024 .f32) (ix2 r j)
      = ∑ k ∈ Finset.range 2048, (at2 x r.val k * at2 w k j.val : EReal) := by
  pointwise
  rw [← Fin.sum_univ_eq_sum_range]
  refine Finset.sum_congr rfl fun k _ => ?_
  rw [at2_of _ r.isLt k.isLt, at2_of _ k.isLt j.isLt]

/-- The reference runs to the end, its arguments unchanged; it has no semaphore at all. -/
theorem reference_frame : Cert.quiescent_Reference17Ideal (hReference17Ideal := Cert.Reference17Ideal.Gen.facts) := fun m g _ =>
  (θ_run _ _ _).mono (fun r h => ⟨fun c => (h c).2, funext fun s => match s with
    | (_, .reg s) => s.elim0
    | (_, .dma s) => s.elim0⟩) (Cert.Reference17Ideal.Value.run m g)

/-- The two runs end with the same array. -/
theorem algebraic : Cert.algebraic_Kernel17Ideal_Reference17Ideal (hKernel17Ideal := Cert.Kernel17Ideal.Gen.facts)
    (hReference17Ideal := Cert.Reference17Ideal.Gen.facts) := by
  intro m g m' g' _ hargs
  refine ⟨fun c => G2 m c, Cert.Kernel17Ideal.Value.run m g, ?_⟩
  refine (θ_run _ _ _).mono (fun r h c => ⟨(h c).1.trans ?_, (h c).2⟩) (Cert.Reference17Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel17Ideal.Product
-- ==== Proof.Pw1Fw.lean ====
/-
  The first pointwise product: `cc0_l1_pw1` leaves, at row `r` and column `j`, the sum
  over the 1024 columns `k` of the rows of `u[r, k] * w_pw1[0, k, j]`, each block of the result in one step.
-/
module

public import proofs.«01_k».proof.Defs
public import proofs.«01_k».proof.Proof.Gen.Kernel18Ideal.Value
public import proofs.«01_k».proof.Proof.Gen.Reference18Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel18Ideal.Product

open Cert.Kernel18Ideal Cert.Kernel18Ideal.Gen Cert.Kernel18Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz4 : (![0, 0, 0, 0] : Fin 4 → Nat) = fun _ => 0 := funext fun a => by fin_cases a <;> rfl

section cases

variable {F : FTy → Type} [FloatOps F]

/-- A step writes the block's product over the zero block to the output block. -/
theorem out_A (c : Dev nD) (i : grid0.Coords) (a3 h3 a4 h4 a5 h5 a6 h6 hc0 hc1) (x0 : Vec F S1024x1024 .bf16) (x1 : Vec F S1x1x1024x512 .bf16) :
    out0_A_2 c i a3 h3 a4 h4 a5 h5 a6 h6 hc0 hc1 x0 x1 = k0_pay2 x0 x1 (k0_pay1 (F := F)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero _ hz]
  simp only [View.readAt_eq_ld, h3.read_unread, h4.read_unread, View.ld_unit_zero (S := S1024x1024) hz, View.ld_unit_zero (S := S1x1x1024x512) hz4]

end cases

variable (m : (ℓ : Loc nD τ sig) → Buf (Elt Ideal) ℓ)

/-- A step's payload at an index: what the accumulator held plus the block's products. -/
theorem pay2_apply (x0 : Vec Ideal S1024x1024 .bf16) (x1 : Vec Ideal S1x1x1024x512 .bf16) (acc : Vec Ideal S1024x512 .f32) (i : Fin 1024) (j : Fin 512) :
    k0_pay2 x0 x1 acc (ix2 i j) = (acc (ix2 i j) : EReal) + ∑ k : Fin 1024, (x0 (ix2 i k) : EReal) * (x1 (ix4 0 0 k j) : EReal) := by
  pointwise [k0_pay2]

theorem pay1_apply (i : Fin 1024) (j : Fin 512) : k0_pay1 (F := Ideal) (ix2 i j) = (0 : EReal) := by
  pointwise [k0_pay1]

theorem idx0 : ∀ t : Fin cfg0.N, win0_0.index t 0 = t.val / 4 ∧ win0_0.index t 1 = 0 :=
  (by decide +kernel : ∀ t : Fin grid0.N, _)
theorem idx1 : ∀ t : Fin cfg0.N, win0_1.index t 0 = t.val % 4 ∧ win0_1.index t 1 = 0 ∧ win0_1.index t 2 = 0 ∧ win0_1.index t 3 = 0 :=
  (by decide +kernel : ∀ t : Fin grid0.N, _)
theorem idx2 : ∀ t : Fin cfg0.N, win0_2.index t 0 = t.val / 4 ∧ win0_2.index t 1 = t.val % 4 :=
  (by decide +kernel : ∀ t : Fin grid0.N, _)
theorem flush2 : ∀ t : Fin cfg0.N, (cfg0.win 2).flush t = true :=
  (by decide +kernel : ∀ t : Fin grid0.N, _)

/-- The rows' block of a grid point. -/
theorem blk0 (c : Dev nD) (t : Fin cfg0.N) (i k : Fin 1024) :
    (iblk m c 0 t : Vec Ideal S1024x1024 .bf16) (ix2 i k)
      = at2 (M := 2048) (N := 1024) (m ((c : Thread nD τ).loc main_arg0)) (1024 * (t.val / 4) + i.val) k.val := by
  have hN : t.val < 8 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * (t.val / 4) + i.val, by omega⟩ : Fin 2048) (⟨k.val, by omega⟩ : Fin 1024))
      = (m ((c : Thread nD τ).loc main_arg0) : (⟨2, ![2048, 1024]⟩ : Shape).Idx → EReal) (ix2 ⟨1024 * (t.val / 4) + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * (t.val / 4) + i.val; omega
  | ⟨1, _⟩ => show win0_0.index t 1 * 1024 + 1 * k.val = _; rw [e1]; show _ = k.val; omega

/-- The weight's block of a grid point. -/
theorem blk1 (c : Dev nD) (t : Fin cfg0.N) (k : Fin 1024) (j : Fin 512) :
    (iblk m c 1 t : Vec Ideal S1x1x1024x512 .bf16) (ix4 0 0 k j)
      = at3 (L := 1) (M := 1024) (N := 2048) (m ((c : Thread nD τ).loc main_arg1)) 0 k.val (512 * (t.val % 4) + j.val) := by
  have hN : t.val < 8 := lt_of_lt_of_eq t.isLt N_0
  have hi := j.isLt
  have hk := k.isLt
  obtain ⟨e0, e1, e2, e3⟩ := idx1 t
  rw [at3_of _ (by omega) (by omega) (by omega)]
  unfold iblk
  rw [View.read_apply]
  have e : V m c main_v3 (ix4 (⟨t.val % 4, by omega⟩ : Fin 4) (0 : Fin 1) k j)
      = (m ((c : Thread nD τ).loc main_arg1) : (⟨3, ![1, 1024, 2048]⟩ : Shape).Idx → EReal) (ix3 ⟨0, by omega⟩ ⟨k.val, by omega⟩ ⟨512 * (t.val % 4) + j.val, by omega⟩) := by
    unfold V
    after_reads_at
    exact congrArg (fun z : Fin 2048 => (m ((c : Thread nD τ).loc main_arg1) : (⟨3, ![1, 1024, 2048]⟩ : Shape).Idx → EReal) (ix3 0 k z))
      (Fin.ext (by show t.val % 4 * 512 + j.val = 512 * (t.val % 4) + j.val; omega))
  refine Eq.trans ?_ e
  show V m c main_v3 _ = V m c main_v3 _
  congr 1
  funext a
  apply Fin.ext
  match a with
  | ⟨0, _⟩ => show win0_1.index t 0 * 1 + 1 * 0 = _; rw [e0]; show _ = t.val % 4; omega
  | ⟨1, _⟩ => show win0_1.index t 1 * 1 + 1 * 0 = _; rw [e1]; rfl
  | ⟨2, _⟩ => show win0_1.index t 2 * 1024 + 1 * k.val = _; rw [e2]; show _ = k.val; omega
  | ⟨3, _⟩ => show win0_1.index t 3 * 512 + 1 * j.val = _; rw [e3]; show _ = j.val; omega

/-- The term a column `k` contributes to row `r` and column `j` of the product. -/
abbrev term (c : Dev nD) (r j k : ℕ) : EReal :=
  at2 (M := 2048) (N := 1024) (m ((c : Thread nD τ).loc main_arg0)) r k * at3 (L := 1) (M := 1024) (N := 2048) (m ((c : Thread nD τ).loc main_arg1)) 0 k j

/-- What a grid point leaves in its output block: the sum over all columns. -/
theorem out_apply (c : Dev nD) (t : Fin cfg0.N) (i : Fin 1024) (j : Fin 512) :
    (outsAt0 m c t (ix2 i j) : EReal) = ∑ k ∈ Finset.range 1024, term m c (1024 * (t.val / 4) + i.val) (512 * (t.val % 4) + j.val) k := by
  unfold outsAt0
  rw [out_A, pay2_apply, pay1_apply, zero_add, ← Fin.sum_univ_eq_sum_range]
  refine Finset.sum_congr rfl fun k _ => ?_
  rw [blk0, blk1]

/-- The array the run leaves. -/
abbrev result (c : Dev nD) : Buf (Elt Ideal) ((c : Thread nD τ).loc main_v4) := (dats m 0 c).arrAt 2 cfg0.N

/-- The result array: at row `r` and column `j` the sum over all columns of the terms. -/
theorem array_apply (c : Dev nD) (r : Fin 2048) (j : Fin 2048) :
    (result m c (ix2 r j) : EReal) = ∑ k ∈ Finset.range 1024, term m c r.val j.val k := by
  have hr := r.isLt
  have hj := j.isLt
  have hN : cfg0.N = 8 := N_0
  obtain ⟨t, ht⟩ : ∃ t : Fin cfg0.N, t.val = 4 * (r.val / 1024) + j.val / 512 := ⟨⟨4 * (r.val / 1024) + j.val / 512, by omega⟩, rfl⟩
  obtain ⟨e0, e1⟩ := idx2 t
  have hb := congrFun ((blocks2 m c t (flush2 t)).trans (flushed2 m c t)) (ix2 (⟨r.val % 1024, by omega⟩ : Fin 1024) (⟨j.val % 512, by omega⟩ : Fin 512))
  rw [View.read_apply] at hb
  have he : ((cfg0.win 2).blk t).view.emb (ix2 (⟨r.val % 1024, by omega⟩ : Fin 1024) (⟨j.val % 512, by omega⟩ : Fin 512)) = ix2 r j := by
    funext a
    apply Fin.ext
    match a with
    | ⟨0, _⟩ => show win0_2.index t 0 * 1024 + 1 * (r.val % 1024) = r.val; rw [e0, ht]; omega
    | ⟨1, _⟩ => show win0_2.index t 1 * 512 + 1 * (j.val % 512) = j.val; rw [e1, ht]; omega
  rw [he] at hb
  refine hb.trans ?_
  refine (out_apply m c t ⟨r.val % 1024, by omega⟩ ⟨j.val % 512, by omega⟩).trans ?_
  rw [show 1024 * (t.val / 4) + r.val % 1024 = r.val by rw [ht]; omega, show 512 * (t.val % 4) + j.val % 512 = j.val by rw [ht]; omega]

/-- The reference's one contraction at row `r` and column `j`, as a sum over the columns. -/
theorem reference_apply (x : FVec Ideal Cert.Reference18Ideal.S2048x1024 .f32) (w : FVec Ideal Cert.Reference18Ideal.S1x1024x2048 .f32)
    (r : Fin 2048) (j : Fin 2048) :
    (Host.dotGeneral (φ₁ := .f32) (φ₂ := .f32) Cert.Reference18Ideal.dot_S2048x1024_S1024x2048_S2048x2048_1_0_0_1_n_n none x
        (shapeCast _ w Cert.Reference18Ideal.Gen.shapeCasts_S1x1024x2048_S1024x2048)
      : FVec Ideal Cert.Reference18Ideal.S2048x2048 .f32) (ix2 r j)
      = ∑ k ∈ Finset.range 1024, (at2 x r.val k * at3 w 0 k j.val : EReal) := by
  pointwise
  rw [← Fin.sum_univ_eq_sum_range]
  refine Finset.sum_congr rfl fun k _ => ?_
  rw [at2_of _ r.isLt k.isLt, at3_of _ (by omega) k.isLt j.isLt]
  rfl

/-- The reference runs to the end, its arguments unchanged; it has no semaphore at all. -/
theorem reference_frame : Cert.quiescent_Reference18Ideal (hReference18Ideal := Cert.Reference18Ideal.Gen.facts) := fun m g _ =>
  (θ_run _ _ _).mono (fun r h => ⟨fun c => (h c).2, funext fun s => match s with
    | (_, .reg s) => s.elim0
    | (_, .dma s) => s.elim0⟩) (Cert.Reference18Ideal.Value.run m g)

/-- The two runs end with the same array. -/
theorem algebraic : Cert.algebraic_Kernel18Ideal_Reference18Ideal (hKernel18Ideal := Cert.Kernel18Ideal.Gen.facts)
    (hReference18Ideal := Cert.Reference18Ideal.Gen.facts) := by
  intro m g m' g' _ hargs
  refine ⟨fun c => result m c, Cert.Kernel18Ideal.Value.run_blocks m g, ?_⟩
  refine (θ_run _ _ _).mono (fun r h c => ⟨(h c).1.trans ?_, (h c).2⟩) (Cert.Reference18Ideal.Value.run m' g')
  rw [(hargs c).1, (hargs c).2]
  funext i
  obtain ⟨r, j, rfl⟩ : ∃ (r : Fin 2048) (j : Fin 2048), i = ix2 r j := ⟨i 0, i 1, (ix2_eta i).symm⟩
  exact (reference_apply _ _ r j).trans (array_apply m c r j).symm

end Cert.Kernel18Ideal.Product
-- ==== Proof.Pw2Fw.lean ====
/-
  The second pointwise product: `cc0_l1_pw2` leaves, at row `r` and column `j`, the sum
  over the 1024 columns `k` of the rows of `u[r, k] * w_pw2[k, j]`, each block of the result in one step.
-/
module

public import proofs.«01_k».proof.Defs
public import proofs.«01_k».proof.Proof.Gen.Kernel19Ideal.Value
public import proofs.«01_k».proof.Proof.Gen.Reference19Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel19Ideal.Product

open Cert.Kernel19Ideal Cert.Kernel19Ideal.Gen Cert.Kernel19Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz4 : (![0, 0, 0, 0] : Fin 4 → Nat) = fun _ => 0 := funext fun a => by fin_cases a <;> rfl

section cases

variable {F : FTy → Type} [FloatOps F]

/-- A step writes the block's product over the zero block to the output block. -/
theorem out_A (c : Dev nD) (i : grid0.Coords) (a3 h3 a4 h4 a5 h5 a6 h6 hc0 hc1) (x0 : Vec F S1024x1024 .bf16) (x1 : Vec F S1024x1024 .bf16) :
    out0_A_2 c i a3 h3 a4 h4 a5 h5 a6 h6 hc0 hc1 x0 x1 = k0_pay2 x0 x1 (k0_pay1 (F := F)) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero _ hz]
  simp only [View.readAt_eq_ld, h3.read_unread, h4.read_unread, View.ld_unit_zero (S := S1024x1024) hz]

end cases

variable (m : (ℓ : Loc nD τ sig) → Buf (Elt Ideal) ℓ)

/-- A step's payload at an index: what the accumulator held plus the block's products. -/
theorem pay2_apply (x0 : Vec Ideal S1024x1024 .bf16) (x1 : Vec Ideal S1024x1024 .bf16) (acc : Vec Ideal S1024x1024 .f32) (i : Fin 1024) (j : Fin 1024) :
    k0_pay2 x0 x1 acc (ix2 i j) = (acc (ix2 i j) : EReal) + ∑ k : Fin 1024, (x0 (ix2 i k) : EReal) * (x1 (ix2 k j) : EReal) := by
  pointwise [k0_pay2]

theorem pay1_apply (i : Fin 1024) (j : Fin 1024) : k0_pay1 (F := Ideal) (ix2 i j) = (0 : EReal) := by
  pointwise [k0_pay1]

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem flush2 : ∀ t : Fin cfg0.N, (cfg0.win 2).flush t = true :=
  (by decide +kernel : ∀ t : Fin grid0.N, _)

/-- The rows' block of a grid point. -/
theorem blk0 (c : Dev nD) (t : Fin cfg0.N) (i k : Fin 1024) :
    (iblk m c 0 t : Vec Ideal S1024x1024 .bf16) (ix2 i k)
      = at2 (M := 2048) (N := 1024) (m ((c : Thread nD τ).loc main_arg0)) (1024 * t.val + i.val) k.val := by
  have hN : t.val < 2 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨1024 * t.val + i.val, by omega⟩ : Fin 2048) (⟨k.val, by omega⟩ : Fin 1024))
      = (m ((c : Thread nD τ).loc main_arg0) : (⟨2, ![2048, 1024]⟩ : Shape).Idx → EReal) (ix2 ⟨1024 * t.val + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 1024 + 1 * i.val = _; rw [e0]; show _ = 1024 * t.val + i.val; omega
  | ⟨1, _⟩ => show win0_0.index t 1 * 1024 + 1 * k.val = _; rw [e1]; show _ = k.val; omega

/-- The weight's block of a grid point. -/
theorem blk1 (c : Dev nD) (t : Fin cfg0.N) (k : Fin 1024) (j : Fin 1024) :
    (iblk m c 1 t : Vec Ideal S1024x1024 .bf16) (ix2 k j)
      = at2 (M := 1024) (N := 1024) (m ((c : Thread nD τ).loc main_arg1)) k.val (j.val) := by
  have hN : t.val < 2 := lt_of_lt_of_eq t.isLt N_0
  have hi := j.isLt
  have hk := k.isLt
  obtain ⟨e0, e1⟩ := idx1 t
  rw [at2_of _ (by omega) (by omega)]
  unfold iblk
  rw [View.read_apply]
  have e : V m c main_v1 (ix2 (⟨k.val, by omega⟩ : Fin 1024) (⟨j.val, by omega⟩ : Fin 1024))
      = (m ((c : Thread nD τ).loc main_arg1) : (⟨2, ![1024, 1024]⟩ : Shape).Idx → EReal) (ix2 ⟨k.val, by omega⟩ ⟨j.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * k.val = _; rw [e0]; show _ = k.val; omega
  | ⟨1, _⟩ => show win0_1.index t 1 * 1024 + 1 * j.val = _; rw [e1]; show _ = j.val; omega

/-- The term a column `k` contributes to row `r` and column `j` of the product. -/
abbrev term (c : Dev nD) (r j k : ℕ) : EReal :=
  at2 (M := 2048) (N := 1024) (m ((c : Thread nD τ).loc main_arg0)) r k * at2 (M := 1024) (N := 1024) (m ((c : Thread nD τ).loc main_arg1)) k j

/-- What a grid point leaves in its output block: the sum over all columns. -/
theorem out_apply (c : Dev nD) (t : Fin cfg0.N) (i : Fin 1024) (j : Fin 1024) :
    (outsAt0 m c t (ix2 i j) : EReal) = ∑ k ∈ Finset.range 1024, term m c (1024 * t.val + i.val) (j.val) k := by
  unfold outsAt0
  rw [out_A, pay2_apply, pay1_apply, zero_add, ← Fin.sum_univ_eq_sum_range]
  refine Finset.sum_congr rfl fun k _ => ?_
  rw [blk0, blk1]

/-- The array the run leaves. -/
abbrev result (c : Dev nD) : Buf (Elt Ideal) ((c : Thread nD τ).loc main_v2) := (dats m 0 c).arrAt 2 cfg0.N

/-- The result array: at row `r` and column `j` the sum over all columns of the terms. -/
theorem array_apply (c : Dev nD) (r : Fin 2048) (j : Fin 1024) :
    (result m c (ix2 r j) : EReal) = ∑ k ∈ Finset.range 1024, term m c r.val j.val k := by
  have hr := r.isLt
  have hj := j.isLt
  have hN : cfg0.N = 2 := N_0
  obtain ⟨t, ht⟩ : ∃ t : Fin cfg0.N, t.val = r.val / 1024 := ⟨⟨r.val / 1024, by omega⟩, rfl⟩
  obtain ⟨e0, e1⟩ := idx2 t
  have hb := congrFun ((blocks2 m c t (flush2 t)).trans (flushed2 m c t)) (ix2 (⟨r.val % 1024, by omega⟩ : Fin 1024) j)
  rw [View.read_apply] at hb
  have he : ((cfg0.win 2).blk t).view.emb (ix2 (⟨r.val % 1024, by omega⟩ : Fin 1024) j) = ix2 r j := by
    funext a
    apply Fin.ext
    match a with
    | ⟨0, _⟩ => show win0_2.index t 0 * 1024 + 1 * (r.val % 1024) = r.val; rw [e0, ht]; omega
    | ⟨1, _⟩ => show win0_2.index t 1 * 1024 + 1 * j.val = j.val; rw [e1]; omega
  rw [he] at hb
  refine hb.trans ?_
  refine (out_apply m c t ⟨r.val % 1024, by omega⟩ j).trans ?_
  rw [show 1024 * t.val + r.val % 1024 = r.val by rw [ht]; omega]

/-- The reference's one contraction at row `r` and column `j`, as a sum over the columns. -/
theorem reference_apply (x : FVec Ideal Cert.Reference19Ideal.S2048x1024 .f32) (w : FVec Ideal Cert.Reference19Ideal.S1024x1024 .f32)
    (r : Fin 2048) (j : Fin 1024) :
    (Host.dotGeneral (φ₁ := .f32) (φ₂ := .f32) Cert.Reference19Ideal.dot_S2048x1024_S1024x1024_S2048x1024_1_0_0_1_n_n none x
        w
      : FVec Ideal Cert.Reference19Ideal.S2048x1024 .f32) (ix2 r j)
      = ∑ k ∈ Finset.range 1024, (at2 x r.val k * at2 w k j.val : EReal) := by
  pointwise
  rw [← Fin.sum_univ_eq_sum_range]
  refine Finset.sum_congr rfl fun k _ => ?_
  rw [at2_of _ r.isLt k.isLt, at2_of _ k.isLt j.isLt]

/-- The reference runs to the end, its arguments unchanged; it has no semaphore at all. -/
theorem reference_frame : Cert.quiescent_Reference19Ideal (hReference19Ideal := Cert.Reference19Ideal.Gen.facts) := fun m g _ =>
  (θ_run _ _ _).mono (fun r h => ⟨fun c => (h c).2, funext fun s => match s with
    | (_, .reg s) => s.elim0
    | (_, .dma s) => s.elim0⟩) (Cert.Reference19Ideal.Value.run m g)

/-- The two runs end with the same array. -/
theorem algebraic : Cert.algebraic_Kernel19Ideal_Reference19Ideal (hKernel19Ideal := Cert.Kernel19Ideal.Gen.facts)
    (hReference19Ideal := Cert.Reference19Ideal.Gen.facts) := by
  intro m g m' g' _ hargs
  refine ⟨fun c => result m c, Cert.Kernel19Ideal.Value.run_blocks m g, ?_⟩
  refine (θ_run _ _ _).mono (fun r h c => ⟨(h c).1.trans ?_, (h c).2⟩) (Cert.Reference19Ideal.Value.run m' g')
  rw [(hargs c).1, (hargs c).2]
  funext i
  obtain ⟨r, j, rfl⟩ : ∃ (r : Fin 2048) (j : Fin 1024), i = ix2 r j := ⟨i 0, i 1, (ix2_eta i).symm⟩
  exact (reference_apply _ _ r j).trans (array_apply m c r j).symm

end Cert.Kernel19Ideal.Product
-- ==== Proof.InFw.lean ====
/-
  The mixer's input product: `cc0_l0_w_in` leaves, at row `r` and column `j`, the sum over the 1024 columns `k` of the
  rows of `u[r, k] * w_in[k, j]`. The weight's 6208 columns are no multiple of the tile's 896: the last tile of columns
  reaches past the array's end, and there its buffer holds words nothing names.
-/
module

public import proofs.«01_k».proof.Defs
public import proofs.«01_k».proof.Proof.Gen.Kernel20
public import proofs.«01_k».proof.Proof.Gen.Kernel20Ideal.Skeleton
public import proofs.«01_k».proof.Proof.Gen.Kernel20Ideal.Frame
public import proofs.«01_k».proof.Proof.Gen.Reference20Ideal.Run
public import proofs.«01_k».proof.Proof.Blocks
public import Idealize.ShloMosaic.Lib.Pointwise
public import Idealize.ShloMosaic.Lib.StableHlo.ReadAt
public import Idealize.ShloMosaic.Lib.WholeRead
public import Idealize.ShloMosaic.Lib.Pipeline.Value

@[expose] public section

set_option maxRecDepth 16384

noncomputable section

namespace Cert.Kernel20Ideal.Product

open Cert.Kernel20Ideal Cert.Kernel20Ideal.Gen Cert.Blocks
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

theorem hz : (![0, 0] : Fin 2 → Nat) = fun _ => 0 := funext fun a => by fin_cases a <;> rfl

section body

variable {F : FTy → Type} [FloatOps F]

local notation "𝕄" => MT nD τ sig Unit (Elt F) ℕ (UR sig nD τ) ℕ

/-! ## The body's two conditions hold at every grid point -/

abbrev first (i : grid0.Coords) : Prop := (Scalar.cmpi .ne (Scalar.extui (Scalar.cmpi .eq (BitVec.ofNat 32 (i 2).val) 0#32)) 0#32) = 1#1
abbrev last (i : grid0.Coords) : Prop := k0_cond2 i = 1#1

theorem first_all : ∀ t : Fin cfg0.N, first (grid0.coords t) := (by decide +kernel : ∀ t : Fin grid0.N, first (grid0.coords t))
theorem last_all : ∀ t : Fin cfg0.N, last (grid0.coords t) := (by decide +kernel : ∀ t : Fin grid0.N, last (grid0.coords t))

/-! ## One run of the body -/

set_option maxHeartbeats 1000000 in
/-- The body on whole buffers: the inputs' end as they were, the output's ends at the pieces found here, the
    accumulator's at some contents. -/
noncomputable def bodyRun (c : Dev nD) (i : grid0.Coords) (a3 : Memref sig .tc .vmem S768x1024 .bf16) (h3 : a3.IsWhole)
    (a4 : Memref sig .tc .vmem S1024x896 .bf16) (h4 : a4.IsWhole) (a5 : Memref sig .tc .vmem S768x896 .f32) (h5 : a5.IsWhole)
    (a6 : Memref sig .tc .vmem S768x896 .f32) (h6 : a6.IsWhole) (hc0 : first i) (hc1 : last i)
    (x0 : Vec F S768x1024 .bf16) (x1 : Vec F S1024x896 .bf16) :
    Σ' (L : List (View.Piece (Elt F) S768x896 .f32)), { T : List (View.Piece (Elt F) S768x896 .f32) //
      ∀ (E : Set ℕ) (K : PUnit → sProp 𝕄),
        iprop(owns (c : Thread nD τ) a3 fullShare x0 ∗ owns (c : Thread nD τ) a4 fullShare x1
            ∗ (∃ d, owns (c : Thread nD τ) a5 fullShare d) ∗ (∃ d, owns (c : Thread nD τ) a6 fullShare d)
            ∗ (iprop(owns (c : Thread nD τ) a3 fullShare x0 ∗ owns (c : Thread nD τ) a4 fullShare x1
                ∗ (∃ f, a5.view.loc (c : Thread nD τ) ↦[a5.view.set]{fullShare} a5.view.writes (Elt F) f L)
                ∗ (∃ f, a6.view.loc (c : Thread nD τ) ↦[a6.view.set]{fullShare} a6.view.writes (Elt F) f T)) -∗ K ⟨⟩))
          ⊢ wp frame (wpE (defs₀ (F := F)) Variants.none c none) E (cc0_l0_w_in i a3 h3 a4 h4 a5 h5 a6 h6) K } := by
  refine ⟨?_, ?_, fun E K => ?run⟩
  case run =>
    simp only [cc0_l0_w_in_eq_skeleton]; unfold cc0_l0_w_in_skel
    unfold owns
    iintro ⟨⟨%f0, %hf0, H0⟩, ⟨%f1, %hf1, H1⟩, ⟨%d2, %f2, -, H2⟩, ⟨%ds0, %fs0, -, HS0⟩, Hk⟩
    obtain rfl := h3.eq_unread hf0; obtain rfl := h4.eq_unread hf1
    sl_exec (disch := first | sl_exact hc0 | sl_exact hc1)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    iexists _; iexact HS0

/-- The output's pieces cover its buffer. -/
theorem body_covers (c : Dev nD) (i : grid0.Coords) (a3 h3 a4 h4 a5 h5 a6 h6 hc0 hc1) (x0 : Vec F S768x1024 .bf16) (x1 : Vec F S1024x896 .bf16)
    (y : S768x896.Idx) : ∃ pc ∈ (bodyRun c i a3 h3 a4 h4 a5 h5 a6 h6 hc0 hc1 x0 x1).1, y ∈ pc.1.set :=
  View.cover_of_tiledL (bodyRun c i a3 h3 a4 h4 a5 h5 a6 h6 hc0 hc1 x0 x1).1 S768x896.size (by sl_kernel_rfl) y

/-- The output's buffer ends at the block's product over the zero block. -/
theorem body_out (c : Dev nD) (i : grid0.Coords) (a3 h3 a4 h4) (a5 : Memref sig .tc .vmem S768x896 .f32) (h5 a6 h6 hc0 hc1)
    (x0 : Vec F S768x1024 .bf16) (x1 : Vec F S1024x896 .bf16) (f) :
    a5.view.read (Elt F) (a5.view.writes (Elt F) f (bodyRun c i a3 h3 a4 h4 a5 h5 a6 h6 hc0 hc1 x0 x1).1) = k0_pay2 x0 x1 (k0_pay1 (F := F)) := by
  rw [View.read_writes_eq_canon _ _ _ (body_covers c i a3 h3 a4 h4 a5 h5 a6 h6 hc0 hc1 x0 x1)]
  unfold bodyRun
  dsimp only
  sl_unfold_words
  rw [View.canon_unit_zero hz, View.readCov_cons_toLoadRect, View.readCov_unit_zero _ hz]
  simp only [View.readAt_eq_ld, h3.read_unread, h4.read_unread, View.ld_unit_zero (S := S768x1024) hz, View.ld_unit_zero (S := S1024x896) hz]

/-! ## The proof data -/

variable (m : (ℓ : Loc nD τ sig) → Buf (Elt F) ℓ) (ρ : Dev nD → PrngReg)

/-- The weight's block at a point, filled out past the array's end with zeros. -/
def weights (c : Dev nD) (t : Fin cfg0.N) : Vec F S1024x896 .bf16 :=
  win0_1.fill (grid0.coords t) (fun _ => Scalar.ofBits .bf16 0#16) (iblk m c 1 t)

/-- After the body the inputs' buffers hold their blocks and the output's the block's product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => weights m c t
    | ⟨2, _⟩ => k0_pay2 (iblk m c 0 t) (weights m c t) (k0_pay1 (F := F))
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = weights m c t := by dsimp only [dats]
theorem after_2 (c : Dev nD) (t : Fin cfg0.N) :
    (dats m 0 c).after 2 t = k0_pay2 (iblk m c 0 t) (weights m c t) (k0_pay1 (F := F)) := by dsimp only [dats]

theorem before_0 (c : Dev nD) (t : Fin cfg0.N) (d) : (dats m 0 c).before 0 t d = iblk m c 0 t :=
  before0_0_of m (dats m 0 c) (A_eq m c 0) (after_0 m c) t d
/-- The weight's buffer is fetched at every point: its block inside the array, anything past it. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

abbrev scM : Memref sig .tc .vmem S768x896 .f32 := Memref.whole cc0_scratch0

theorem invariant_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The body at a point: the output's buffer ends at the product of what the two inputs' buffers hold. -/
theorem body_at (c : Dev nD) (t : Fin cfg0.N) (x0 : Vec F S768x1024 .bf16) (x1 : Vec F S1024x896 .bf16) (K : PUnit → sProp 𝕄) :
    iprop(Pipeline.ΦA spec0 c ∗ owns (c : Thread nD τ) (st0_0 t) fullShare x0 ∗ owns (c : Thread nD τ) (st0_1 t) fullShare x1
        ∗ (∃ d, owns (c : Thread nD τ) (st0_2 t) fullShare d)
        ∗ (iprop(Pipeline.ΦA spec0 c ∗ owns (c : Thread nD τ) (st0_0 t) fullShare x0 ∗ owns (c : Thread nD τ) (st0_1 t) fullShare x1
            ∗ owns (c : Thread nD τ) (st0_2 t) fullShare (k0_pay2 x0 x1 (k0_pay1 (F := F)))) -∗ K ⟨⟩))
      ⊢ wp frame (wpE (defs₀ (F := F)) Variants.none c none) Set.univ (bodyAt0 t) K := by
  unfold bodyAt0
  rw [invariant_eq]
  iintro ⟨⟨HS0, Hg⟩, H0, H1, H2, Hk⟩
  iapply ((bodyRun c (grid0.coords t) _ _ _ _ _ _ _ _ (first_all t) (last_all t) x0 x1).2.2 Set.univ _)
  isplitl [H0]; · iexact H0
  isplitl [H1]; · iexact H1
  isplitl [H2]; · iexact H2
  isplitl [HS0]; · iexact HS0
  iintro ⟨H0, H1, ⟨%e2, H2⟩, ⟨%fT0, HS0⟩⟩
  iapply Hk
  isplitl [HS0 Hg]
  · isplitl [HS0]
    · iexists _; unfold owns; iexists _; isplitr
      swap; · iexact HS0
      ipureintro; rfl
    iexact Hg
  isplitl [H0]; · iexact H0
  isplitl [H1]; · iexact H1
  unfold owns; iexists _; isplitr
  swap; · iexact H2
  ipureintro; exact body_out c _ _ _ _ _ _ _ _ _ _ _ x0 x1 _

theorem defs₀_row (t : Fin cfg0.N) :
    defs₀ (F := F) .tc cfg0.body (cfg0.bodyArgs t (cfg0.slots t)) = bodyAt0 t := by
  unfold defs₀; rw [Defs.onTc_tc]

theorem cut_weights (c : Dev nD) (t : Fin cfg0.N) :
    win0_1.cut (grid0.coords t) (weights m c t) = iblk m c 1 t := win0_1.cut_fill _ _ _

theorem live2 : ∀ t : Fin cfg0.N, cfg0.idle 2 (grid0.coords t) = false :=
  (by decide +kernel : ∀ t : Fin grid0.N, cfg0.idle 2 (grid0.coords t) = false)

/-! ## The frame: nothing is said of what the output ends with -/

/-- Which window's contents the frame leaves open: the output's. -/
abbrev open2 : Fin cfg0.W → Bool := fun | 0 => false | 1 => false | 2 => true | ⟨_ + 3, h⟩ => absurd h (Nat.not_lt.2 (Nat.le_add_left _ _))

theorem obligation_open (c : Dev nD) : BodyObligationLoose (dats m 0 c) (defs₀ (F := F)) Variants.none () Set.univ open2 := fun t => by
  rw [bigSep_W0, bigSep_W0, defs₀_row]
  simp only [before_0, before_1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  iintro ⟨HΦ, Ho, ⟨%d0, H0⟩, ⟨%d1, H1⟩, H2⟩
  iapply (body_at c t (iblk m c 0 t) (win0_1.fill (grid0.coords t) d1 (iblk m c 1 t)) _)
  isplitl [HΦ]; · iexact HΦ
  isplitl [H0]; · iexact H0
  isplitl [H1]; · iexact H1
  isplitl [H2]; · iexact H2
  iintro ⟨HΦ, H0, H1, H2⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (weights m c t)))
    rw [cut_weights]; try iexact H1
  iexists _; iexact H2

set_option backward.isDefEq.respectTransparency.types false in
theorem run_open : θ_run defs (onTc (τ := τ) (main (F := F))) (s₀ m ρ)
    (fun r => Pipeline.RDat.FramePost cfg0 (fun c => (dats m 0 c).toRForget open2) (V m) r ∧ r.2.sem = fun _ => 0) :=
  Pipeline.θ_run_frame_forget (Q' := _) cfgs (dats m) (0 : Fin 1) launch0 defs₀ Variants.none open2 m ρ main
    (hbody := obligation_open m) (hshare := fun c => (dats m 0 c).share_full fun _ => rfl)
    (howed := fun _ _ => rfl) (V := V m) (hmain := hmain m Variants.none) (hA := A_eq m) (hΦ := fun _ _ => rfl)

/-- The run ends, leaves both arguments as they were and every semaphore at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩, h.2⟩)
    (run_open m ρ)

end body

/-! ## The values, over the extended reals -/

local notation "𝕀" => MT nD τ sig Unit (Elt Ideal) ℕ (UR sig nD τ) ℕ

variable (m : (ℓ : Loc nD τ sig) → Buf (Elt Ideal) ℓ) (ρ : Dev nD → PrngReg)

/-- A step's payload at an index: what the accumulator held plus the block's products. -/
theorem pay2_apply (x0 : Vec Ideal S768x1024 .bf16) (x1 : Vec Ideal S1024x896 .bf16) (acc : Vec Ideal S768x896 .f32) (i : Fin 768) (j : Fin 896) :
    k0_pay2 x0 x1 acc (ix2 i j) = (acc (ix2 i j) : EReal) + ∑ k : Fin 1024, (x0 (ix2 i k) : EReal) * (x1 (ix2 k j) : EReal) := by
  pointwise [k0_pay2]

theorem pay1_apply (i : Fin 768) (j : Fin 896) : k0_pay1 (F := Ideal) (ix2 i j) = (0 : EReal) := by
  pointwise [k0_pay1]

theorem idx0 : ∀ t : Fin cfg0.N, win0_0.index t 0 = t.val / 7 ∧ win0_0.index t 1 = 0 :=
  (by decide +kernel : ∀ t : Fin grid0.N, _)
theorem idx1 : ∀ t : Fin cfg0.N, win0_1.index t 0 = 0 ∧ win0_1.index t 1 = t.val % 7 :=
  (by decide +kernel : ∀ t : Fin grid0.N, _)
theorem idx2 : ∀ t : Fin cfg0.N, win0_2.index t 0 = t.val / 7 ∧ win0_2.index t 1 = t.val % 7 :=
  (by decide +kernel : ∀ t : Fin grid0.N, _)
/-- How much of a block lies inside the array: all rows, and of the last block of columns 832. -/
theorem ext1 : ∀ t : Fin cfg0.N, win0_1.xsize (grid0.coords t) 0 = 1024 ∧ win0_1.xsize (grid0.coords t) 1 = min 896 (6208 - 896 * (t.val % 7)) :=
  (by decide +kernel : ∀ t : Fin grid0.N, _)
theorem ext2 : ∀ t : Fin cfg0.N, win0_2.xsize (grid0.coords t) 0 = 768 ∧ win0_2.xsize (grid0.coords t) 1 = min 896 (6208 - 896 * (t.val % 7)) :=
  (by decide +kernel : ∀ t : Fin grid0.N, _)

/-- The rows' block of a grid point. -/
theorem blk0 (c : Dev nD) (t : Fin cfg0.N) (i : Fin 768) (k : Fin 1024) :
    (iblk m c 0 t : Vec Ideal S768x1024 .bf16) (ix2 i k)
      = at2 (M := 2304) (N := 1024) (m ((c : Thread nD τ).loc main_arg0)) (768 * (t.val / 7) + i.val) k.val := by
  have hN : t.val < 21 := lt_of_lt_of_eq t.isLt N_0
  have hi := i.isLt
  have hk := k.isLt
  obtain ⟨e0, e1⟩ := idx0 t
  rw [at2_of _ (by omega) (by omega)]
  unfold iblk
  rw [View.read_apply]
  have e : V m c main_v0 (ix2 (⟨768 * (t.val / 7) + i.val, by omega⟩ : Fin 2304) (⟨k.val, by omega⟩ : Fin 1024))
      = (m ((c : Thread nD τ).loc main_arg0) : (⟨2, ![2304, 1024]⟩ : Shape).Idx → EReal) (ix2 ⟨768 * (t.val / 7) + i.val, by omega⟩ ⟨k.val, by omega⟩) := by
    unfold V
    after_reads_at
  refine Eq.trans ?_ e
  show V m c main_v0 _ = V m c main_v0 _
  congr 1
  funext a
  apply Fin.ext
  match a with
  | ⟨0, _⟩ => show win0_0.index t 0 * 768 + 1 * i.val = _; rw [e0]; show _ = 768 * (t.val / 7) + i.val; omega
  | ⟨1, _⟩ => show win0_0.index t 1 * 1024 + 1 * k.val = _; rw [e1]; show _ = k.val; omega

/-- The weight's buffer at a grid point, whatever fills it past the array's end: inside the array, the weight. -/
theorem blk1 (c : Dev nD) (t : Fin cfg0.N) (d : Vec Ideal S1024x896 .bf16) (k : Fin 1024) (j : Fin 896) (hj : 896 * (t.val % 7) + j.val < 6208) :
    (win0_1.fill (grid0.coords t) d (iblk m c 1 t) : Vec Ideal S1024x896 .bf16) (ix2 k j)
      = at2 (M := 1024) (N := 6208) (m ((c : Thread nD τ).loc main_arg1)) k.val (896 * (t.val % 7) + j.val) := by
  have hN : t.val < 21 := lt_of_lt_of_eq t.isLt N_0
  have hi := j.isLt
  have hk := k.isLt
  obtain ⟨e0, e1⟩ := idx1 t
  obtain ⟨x0, x1⟩ := ext1 t
  rw [at2_of _ (by omega) hj]
  have hm : win0_1.moved (grid0.coords t) (ix2 k j) = true := (win0_1.moved_iff _ _).mpr fun a => by
    match a with
    | ⟨0, _⟩ => show k.val < win0_1.xsize (grid0.coords t) 0; rw [x0]; exact hk
    | ⟨1, _⟩ => show j.val < win0_1.xsize (grid0.coords t) 1; rw [x1]; omega
  unfold Window.fill
  rw [dif_pos hm]
  unfold iblk
  rw [View.read_apply]
  have e : V m c main_v1 (ix2 (⟨k.val, by omega⟩ : Fin 1024) (⟨896 * (t.val % 7) + j.val, by omega⟩ : Fin 6208))
      = (m ((c : Thread nD τ).loc main_arg1) : (⟨2, ![1024, 6208]⟩ : Shape).Idx → EReal) (ix2 ⟨k.val, by omega⟩ ⟨896 * (t.val % 7) + j.val, by omega⟩) := by
    unfold V
    after_reads_at
  refine Eq.trans ?_ e
  show V m c main_v1 _ = V m c main_v1 _
  congr 1
  funext a
  apply Fin.ext
  match a with
  | ⟨0, _⟩ => show win0_1.index t 0 * 1024 + 1 * k.val = _; rw [e0]; show _ = k.val; omega
  | ⟨1, _⟩ => show win0_1.index t 1 * 896 + 1 * j.val = _; rw [e1]; show _ = 896 * (t.val % 7) + j.val; omega

/-- The term a column `k` contributes to row `r` and column `j` of the product. -/
abbrev term (c : Dev nD) (r j k : ℕ) : EReal :=
  at2 (M := 2304) (N := 1024) (m ((c : Thread nD τ).loc main_arg0)) r k * at2 (M := 1024) (N := 6208) (m ((c : Thread nD τ).loc main_arg1)) k j

/-- What a grid point leaves inside the array: the sum over all columns, whatever filled the weight's buffer. -/
theorem out_apply (c : Dev nD) (t : Fin cfg0.N) (d : Vec Ideal S1024x896 .bf16) (i : Fin 768) (j : Fin 896) (hj : 896 * (t.val % 7) + j.val < 6208) :
    k0_pay2 (iblk m c 0 t) (win0_1.fill (grid0.coords t) d (iblk m c 1 t)) (k0_pay1 (F := Ideal)) (ix2 i j)
      = ∑ k ∈ Finset.range 1024, term m c (768 * (t.val / 7) + i.val) (896 * (t.val % 7) + j.val) k := by
  rw [pay2_apply, pay1_apply, zero_add, ← Fin.sum_univ_eq_sum_range]
  refine Finset.sum_congr rfl fun k _ => ?_
  rw [blk0, blk1 m c t d k j hj]

/-- So what the body leaves agrees with the proof data's inside the array. -/
theorem cut_out (c : Dev nD) (t : Fin cfg0.N) (d : Vec Ideal S1024x896 .bf16) :
    win0_2.cut (grid0.coords t) (k0_pay2 (iblk m c 0 t) (win0_1.fill (grid0.coords t) d (iblk m c 1 t)) (k0_pay1 (F := Ideal)))
      = win0_2.cut (grid0.coords t) (k0_pay2 (iblk m c 0 t) (weights m c t) (k0_pay1 (F := Ideal))) := by
  obtain ⟨x0, x1⟩ := ext2 t
  funext y
  have h1 : (y 1).val < 896 := lt_of_lt_of_le (y 1).isLt (win0_2.xsize_le (grid0.coords t) 1)
  have h0 : (y 0).val < 768 := lt_of_lt_of_le (y 0).isLt (win0_2.xsize_le (grid0.coords t) 0)
  have hj : 896 * (t.val % 7) + (y 1).val < 6208 := by
    have h : (y 1).val < win0_2.xsize (grid0.coords t) 1 := (y 1).isLt
    rw [x1] at h; omega
  have hy : win0_2.xinj (grid0.coords t) y = ix2 (⟨(y 0).val, h0⟩ : Fin 768) (⟨(y 1).val, h1⟩ : Fin 896) := (ix2_eta _).symm
  show k0_pay2 _ _ _ (win0_2.xinj (grid0.coords t) y) = k0_pay2 _ _ _ (win0_2.xinj (grid0.coords t) y)
  rw [hy]
  unfold weights
  rw [out_apply m c t d _ _ hj, out_apply m c t _ _ _ hj]

theorem obligation (c : Dev nD) : BodyObligationLoose (dats m 0 c) (defs₀ (F := Ideal)) Variants.none () Set.univ := fun t => by
  rw [bigSep_W0, bigSep_W0, defs₀_row]
  simp only [before_0, before_1, live2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  rw [show idle0 2 (grid0.coords t) = false from live2 t]
  dsimp only
  iintro ⟨HΦ, Ho, ⟨%d0, H0⟩, ⟨%d1, H1⟩, ⟨%d2, H2⟩⟩
  iapply (body_at c t (iblk m c 0 t) (win0_1.fill (grid0.coords t) d1 (iblk m c 1 t)) _)
  isplitl [HΦ]; · iexact HΦ
  isplitl [H0]; · iexact H0
  isplitl [H1]; · iexact H1
  isplitl [H2]; · iexists _; iexact H2
  iintro ⟨HΦ, H0, H1, H2⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (weights m c t)))
    rw [cut_weights]; try iexact H1
  iexists (k0_pay2 (iblk m c 0 t) (win0_1.fill (grid0.coords t) d1 (iblk m c 1 t)) (k0_pay1 (F := Ideal)))
  change _ ⊢ owns (c : Thread nD τ) (st0_2 t) fullShare (win0_2.fill (grid0.coords t) _
    (win0_2.cut (α := Elt Ideal win0_2.elt) (grid0.coords t) (k0_pay2 (iblk m c 0 t) (weights m c t) (k0_pay1 (F := Ideal)))))
  rw [← cut_out m c t d1, win0_2.fill_cut]; try iexact H2

set_option backward.isDefEq.respectTransparency.types false in
theorem run_main : θ_run defs (onTc (τ := τ) (main (F := Ideal))) (s₀ m ρ) (Pipeline.FramePost cfgs (dats m) 0 (V m)) :=
  Pipeline.θ_run_frame (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hΦ := fun _ _ => rfl)

/-- The array the run leaves. -/
abbrev result (c : Dev nD) : Buf (Elt Ideal) ((c : Thread nD τ).loc main_v2) := (dats m 0 c).arrAt 2 cfg0.N

theorem run_result : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

/-! ## The result array -/

theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- A block of the result array is what its point wrote back. -/
theorem block_eq (c : Dev nD) (t : Fin cfg0.N) :
    ((cfg0.win 2).blk t).view.read (Elt Ideal) (result m c)
      = win0_2.cut (grid0.coords t) (k0_pay2 (iblk m c 0 t) (weights m c t) (k0_pay1 (F := Ideal))) := by
  refine ((dats m 0 c).read_blk_arrAt_eq_flushed 2 disjoint2 cfg0.N t t.isLt (flush0_2 t)).trans ?_
  show (cfg0.win 2).cut (grid0.coords t) ((dats m 0 c).after 2 t) = _
  rw [after_2]

/-- The result array: at row `r` and column `j` the sum over all columns of the terms. -/
theorem array_apply (c : Dev nD) (r : Fin 2304) (j : Fin 6208) :
    (result m c (ix2 r j) : EReal) = ∑ k ∈ Finset.range 1024, term m c r.val j.val k := by
  have hr := r.isLt
  have hj := j.isLt
  have hN : cfg0.N = 21 := N_0
  obtain ⟨t, ht⟩ : ∃ t : Fin cfg0.N, t.val = 7 * (r.val / 768) + j.val / 896 := ⟨⟨7 * (r.val / 768) + j.val / 896, by omega⟩, rfl⟩
  have hq : t.val / 7 = r.val / 768 := by omega
  have hp : t.val % 7 = j.val / 896 := by omega
  obtain ⟨e0, e1⟩ := idx2 t
  obtain ⟨x0, x1⟩ := ext2 t
  let y : (win0_2.xblock (grid0.coords t)).Idx := fun a => match a with
    | ⟨0, _⟩ => ⟨r.val % 768, by show _ < win0_2.xsize (grid0.coords t) 0; rw [x0]; omega⟩
    | ⟨1, _⟩ => ⟨j.val % 896, by show _ < win0_2.xsize (grid0.coords t) 1; rw [x1]; omega⟩
  have hb := congrFun (block_eq m c t) y
  rw [View.read_apply] at hb
  have he : ((cfg0.win 2).blk t).view.emb y = ix2 r j := by
    funext a
    apply Fin.ext
    match a with
    | ⟨0, _⟩ => show win0_2.index t 0 * 768 + 1 * (r.val % 768) = r.val; rw [e0]; omega
    | ⟨1, _⟩ => show win0_2.index t 1 * 896 + 1 * (j.val % 896) = j.val; rw [e1]; omega
  rw [he] at hb
  refine hb.trans ?_
  have hy : win0_2.xinj (grid0.coords t) y = ix2 (⟨r.val % 768, by omega⟩ : Fin 768) (⟨j.val % 896, by omega⟩ : Fin 896) := by
    funext a
    match a with
    | ⟨0, _⟩ => rfl
    | ⟨1, _⟩ => rfl
  show k0_pay2 _ _ _ (win0_2.xinj (grid0.coords t) y) = _
  rw [hy]
  unfold weights
  refine (out_apply m c t _ ⟨r.val % 768, by omega⟩ ⟨j.val % 896, by omega⟩ (by show 896 * (t.val % 7) + j.val % 896 < 6208; omega)).trans ?_
  rw [show 768 * (t.val / 7) + r.val % 768 = r.val by omega, show 896 * (t.val % 7) + j.val % 896 = j.val by omega]

/-- The reference's one contraction at row `r` and column `j`, as a sum over the columns. -/
theorem reference_apply (x : FVec Ideal Cert.Reference20Ideal.S2304x1024 .f32) (w : FVec Ideal Cert.Reference20Ideal.S1024x6208 .f32)
    (r : Fin 2304) (j : Fin 6208) :
    (Host.dotGeneral (φ₁ := .f32) (φ₂ := .f32) Cert.Reference20Ideal.dot_S2304x1024_S1024x6208_S2304x6208_1_0_0_1_n_n none x
        w
      : FVec Ideal Cert.Reference20Ideal.S2304x6208 .f32) (ix2 r j)
      = ∑ k ∈ Finset.range 1024, (at2 x r.val k * at2 w k j.val : EReal) := by
  pointwise
  rw [← Fin.sum_univ_eq_sum_range]
  refine Finset.sum_congr rfl fun k _ => ?_
  rw [at2_of _ r.isLt k.isLt, at2_of _ k.isLt j.isLt]

/-- The reference runs to the end, its arguments unchanged; it has no semaphore at all. -/
theorem reference_frame : Cert.quiescent_Reference20Ideal (hReference20Ideal := Cert.Reference20Ideal.Gen.facts) := fun m g _ =>
  (θ_run _ _ _).mono (fun r h => ⟨fun c => (h c).2, funext fun s => match s with
    | (_, .reg s) => s.elim0
    | (_, .dma s) => s.elim0⟩) (Cert.Reference20Ideal.Value.run m g)

/-- The two runs end with the same array. -/
theorem algebraic : Cert.algebraic_Kernel20Ideal_Reference20Ideal (hKernel20Ideal := Cert.Kernel20Ideal.Gen.facts)
    (hReference20Ideal := Cert.Reference20Ideal.Gen.facts) := by
  intro m g m' g' _ hargs
  refine ⟨fun c => result m c, run_result m g, ?_⟩
  refine (θ_run _ _ _).mono (fun r h c => ⟨(h c).1.trans ?_, (h c).2⟩) (Cert.Reference20Ideal.Value.run m' g')
  rw [(hargs c).1, (hargs c).2]
  funext i
  obtain ⟨r, j, rfl⟩ : ∃ (r : Fin 2304) (j : Fin 6208), i = ix2 r j := ⟨i 0, i 1, (ix2_eta i).symm⟩
  exact (reference_apply _ _ r j).trans (array_apply m c r j).symm

/-- The two programs run the same bodies. -/
theorem defs₀_eq : Cert.Kernel20.defs₀ (F := Bits) = Cert.Kernel20Ideal.defs₀ (F := Bits) := by
  unfold Cert.Kernel20.defs₀ Cert.Kernel20Ideal.defs₀
  refine congrArg (Defs.onTc (nD := nD) (τ := τ) (sig := sig) (Val := Elt Bits) (Λ := Λ₀)) ?_
  funext l a
  match l, a with
  | 0, (t, s) => rfl

/-- And the same calls. -/
theorem defs_eq : Cert.Kernel20.defs (F := Bits) = Cert.Kernel20Ideal.defs (F := Bits) :=
  congrArg (Pipeline.defs (pcfgs (F := Bits))) defs₀_eq

/-- The kernel's own frame. -/
theorem kernel_frame : Cert.quiescent_Kernel20 (hKernel20 := Cert.Kernel20.Gen.facts) := fun m ρ _ => by
  have h := frame (F := Bits) m ρ
  rw [← defs_eq] at h
  exact h
/-- The idealization's frame. -/
theorem ideal_frame : Cert.quiescent_Kernel20Ideal (hKernel20Ideal := Cert.Kernel20Ideal.Gen.facts) := fun m ρ _ => frame m ρ

end Cert.Kernel20Ideal.Product
-- ==== Proof.InDx.lean ====
/-
  The mixer's input product, backward to the rows: `cc0_l0_w_in_dx` leaves, at row `r` and column `j`, the sum over the
  6208 columns `k` of `dproj[r, k] * w_in[j, k]`. The 6208 columns are summed in seven blocks of 896; the last block
  reaches past both arrays' ends, and there the kernel puts zeros before it multiplies.
-/
module

public import proofs.«01_k».proof.Defs
public import proofs.«01_k».proof.Proof.Gen.Kernel21
public import proofs.«01_k».proof.Proof.Gen.Kernel21Ideal.Skeleton
public import proofs.«01_k».proof.Proof.Gen.Kernel21Ideal.Frame
public import proofs.«01_k».proof.Proof.Gen.Reference21Ideal.Run
public import proofs.«01_k».proof.Proof.Blocks
public import Idealize.ShloMosaic.Lib.Pointwise
public import Idealize.ShloMosaic.Lib.StableHlo.ReadAt
public import Idealize.ShloMosaic.Lib.WholeRead
public import Idealize.ShloMosaic.Lib.Pipeline.Value

@[expose] public section

set_option maxRecDepth 16384

noncomputable section

namespace Cert.Kernel21Ideal.Product

open Cert.Kernel21Ideal Cert.Kernel21Ideal.Gen Cert.Blocks
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

theorem hz : (![0, 0] : Fin 2 → Nat) = fun _ => 0 := funext fun a => by fin_cases a <;> rfl

section body

variable {F : FTy → Type} [FloatOps F]

local notation "𝕄" => MT nD τ sig Unit (Elt F) ℕ (UR sig nD τ) ℕ

/-! ## The body's two conditions, over the grid -/

abbrev first (i : grid0.Coords) : Prop := (Scalar.cmpi .ne (Scalar.extui (Scalar.cmpi .eq (BitVec.ofNat 32 (i 2).val) 0#32)) 0#32) = 1#1
abbrev last (i : grid0.Coords) : Prop := k0_cond2 i = 1#1

theorem first_iff : ∀ t : Fin cfg0.N, first (grid0.coords t) ↔ t.val % 7 = 0 :=
  (by decide +kernel : ∀ t : Fin grid0.N, first (grid0.coords t) ↔ t.val % 7 = 0)
theorem last_iff : ∀ t : Fin cfg0.N, last (grid0.coords t) ↔ t.val % 7 = 6 :=
  (by decide +kernel : ∀ t : Fin grid0.N, last (grid0.coords t) ↔ t.val % 7 = 6)

/-! ## Runs of the body, case by case -/

section runs

variable (c : Dev nD) (i : grid0.Coords) (a3 : Memref sig .tc .vmem S768x896 .bf16) (h3 : a3.IsWhole)
  (a4 : Memref sig .tc .vmem S1024x896 .bf16) (h4 : a4.IsWhole) (a5 : Memref sig .tc .vmem S768x1024 .f32) (h5 : a5.IsWhole)
  (a6 : Memref sig .tc .vmem S768x1024 .f32) (h6 : a6.IsWhole)
  (x0 : Vec F S768x896 .bf16) (x1 : Vec F S1024x896 .bf16) (y a : Vec F S768x1024 .f32)

set_option maxHeartbeats 1000000 in
/-- The first step: the accumulator restarts at zero, the output is left alone. -/
theorem run_first (E : Set ℕ) (K : PUnit → sProp 𝕄) (hc0 : first i) (hc1 : ¬ last i) :
    iprop(owns (c : Thread nD τ) a3 fullShare x0 ∗ owns (c : Thread nD τ) a4 fullShare x1
        ∗ owns (c : Thread nD τ) a5 fullShare y ∗ owns (c : Thread nD τ) a6 fullShare a
        ∗ (iprop(owns (c : Thread nD τ) a3 fullShare x0 ∗ owns (c : Thread nD τ) a4 fullShare x1
            ∗ owns (c : Thread nD τ) a5 fullShare y
            ∗ owns (c : Thread nD τ) a6 fullShare (k0_pay2 i x0 x1 (k0_pay1 (F := F)))) -∗ K ⟨⟩))
      ⊢ wp frame (wpE (defs₀ (F := F)) Variants.none c none) E (cc0_l0_w_in_dx i a3 h3 a4 h4 a5 h5 a6 h6) K := by
  simp only [cc0_l0_w_in_dx_eq_skeleton]; unfold cc0_l0_w_in_dx_skel
  unfold owns
  iintro ⟨⟨%f0, %hf0, H0⟩, ⟨%f1, %hf1, H1⟩, ⟨%f2, %hf2, H2⟩, ⟨%fs, %hfs, HS⟩, Hk⟩
  obtain rfl := h3.eq_unread hf0; obtain rfl := h4.eq_unread hf1
  sl_exec (disch := first | sl_exact hc0 | sl_exact hc1)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact hf2
    iexact H2
  iexists _; isplitr
  swap; · iexact HS
  ipureintro
  rw [View.read_writes_eq_canon _ _ _ (View.cover_of_tiledL _ S768x1024.size (by sl_kernel_rfl))]
  sl_unfold_words
  rw [View.canon_cons_unit_zero hz, View.readCov_unit_zero _ hz]
  simp only [View.readAt_eq_ld, h3.read_unread, h4.read_unread, View.ld_unit_zero (S := S768x896) hz, View.ld_unit_zero (S := S1024x896) hz]

set_option maxHeartbeats 1000000 in
/-- A middle step: the accumulator gains the block's product, the output is left alone. -/
theorem run_middle (E : Set ℕ) (K : PUnit → sProp 𝕄) (hc0 : ¬ first i) (hc1 : ¬ last i) :
    iprop(owns (c : Thread nD τ) a3 fullShare x0 ∗ owns (c : Thread nD τ) a4 fullShare x1
        ∗ owns (c : Thread nD τ) a5 fullShare y ∗ owns (c : Thread nD τ) a6 fullShare a
        ∗ (iprop(owns (c : Thread nD τ) a3 fullShare x0 ∗ owns (c : Thread nD τ) a4 fullShare x1
            ∗ owns (c : Thread nD τ) a5 fullShare y
            ∗ owns (c : Thread nD τ) a6 fullShare (k0_pay2 i x0 x1 a)) -∗ K ⟨⟩))
      ⊢ wp frame (wpE (defs₀ (F := F)) Variants.none c none) E (cc0_l0_w_in_dx i a3 h3 a4 h4 a5 h5 a6 h6) K := by
  simp only [cc0_l0_w_in_dx_eq_skeleton]; unfold cc0_l0_w_in_dx_skel
  unfold owns
  iintro ⟨⟨%f0, %hf0, H0⟩, ⟨%f1, %hf1, H1⟩, ⟨%f2, %hf2, H2⟩, ⟨%fs, %hfs, HS⟩, Hk⟩
  obtain rfl := h3.eq_unread hf0; obtain rfl := h4.eq_unread hf1; obtain rfl := h6.eq_unread hfs
  sl_exec (disch := first | sl_exact hc0 | sl_exact hc1)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact hf2
    iexact H2
  iexists _; isplitr
  swap; · iexact HS
  ipureintro
  rw [View.read_writes_eq_canon _ _ _ (View.cover_of_tiledL _ S768x1024.size (by sl_kernel_rfl))]
  sl_unfold_words
  rw [View.canon_unit_zero hz]
  simp only [View.readAt_eq_ld, h3.read_unread, h4.read_unread, h6.read_unread, View.ld_unit_zero (S := S768x896) hz, View.ld_unit_zero (S := S1024x896) hz, View.ld_unit_zero (S := S768x1024) hz]

set_option maxHeartbeats 1000000 in
/-- The last step: the accumulator gains the block's product and is copied to the output. -/
theorem run_last (E : Set ℕ) (K : PUnit → sProp 𝕄) (hc0 : ¬ first i) (hc1 : last i) :
    iprop(owns (c : Thread nD τ) a3 fullShare x0 ∗ owns (c : Thread nD τ) a4 fullShare x1
        ∗ owns (c : Thread nD τ) a5 fullShare y ∗ owns (c : Thread nD τ) a6 fullShare a
        ∗ (iprop(owns (c : Thread nD τ) a3 fullShare x0 ∗ owns (c : Thread nD τ) a4 fullShare x1
            ∗ owns (c : Thread nD τ) a5 fullShare (k0_pay2 i x0 x1 a)
            ∗ owns (c : Thread nD τ) a6 fullShare (k0_pay2 i x0 x1 a)) -∗ K ⟨⟩))
      ⊢ wp frame (wpE (defs₀ (F := F)) Variants.none c none) E (cc0_l0_w_in_dx i a3 h3 a4 h4 a5 h5 a6 h6) K := by
  simp only [cc0_l0_w_in_dx_eq_skeleton]; unfold cc0_l0_w_in_dx_skel
  unfold owns
  iintro ⟨⟨%f0, %hf0, H0⟩, ⟨%f1, %hf1, H1⟩, ⟨%f2, %hf2, H2⟩, ⟨%fs, %hfs, HS⟩, Hk⟩
  obtain rfl := h3.eq_unread hf0; obtain rfl := h4.eq_unread hf1; obtain rfl := h6.eq_unread hfs
  sl_exec (disch := first | sl_exact hc0 | sl_exact hc1)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr
    swap; · iexact H2
    ipureintro
    rw [View.read_writes_eq_canon _ _ _ (View.cover_of_tiledL _ S768x1024.size (by sl_kernel_rfl))]
    sl_unfold_words
    rw [View.canon_unit_zero hz, View.readCov_unit_zero _ hz]
    simp only [View.readAt_eq_ld, h3.read_unread, h4.read_unread, h6.read_unread, View.ld_unit_zero (S := S768x896) hz, View.ld_unit_zero (S := S1024x896) hz, View.ld_unit_zero (S := S768x1024) hz]
  iexists _; isplitr
  swap; · iexact HS
  ipureintro
  rw [View.read_writes_eq_canon _ _ _ (View.cover_of_tiledL _ S768x1024.size (by sl_kernel_rfl))]
  sl_unfold_words
  rw [View.canon_unit_zero hz]
  simp only [View.readAt_eq_ld, h3.read_unread, h4.read_unread, h6.read_unread, View.ld_unit_zero (S := S768x896) hz, View.ld_unit_zero (S := S1024x896) hz, View.ld_unit_zero (S := S768x1024) hz]

end runs

/-! ## The zeros past the arrays' ends -/

theorem step_val : ∀ t : Fin cfg0.N, (grid0.coords t 2).val = t.val % 7 :=
  (by decide +kernel : ∀ t : Fin grid0.N, (grid0.coords t 2).val = t.val % 7)

/-- The kernel's test on a column says whether the column lies inside the arrays. -/
theorem column_test : ∀ (s : Fin 7) (k : Fin 896),
    (IntOp.cmpi .slt (BitVec.ofNat 32 (0 * 896 + k.val)) (Scalar.subi 6208#32 (Scalar.muli (BitVec.ofNat 32 s.val) 896#32)) = (1 : BitVec 1)) ↔ 896 * s.val + k.val < 6208 := by
  decide +kernel

theorem ext0 : ∀ t : Fin cfg0.N, win0_0.xsize (grid0.coords t) 0 = 768 ∧ win0_0.xsize (grid0.coords t) 1 = min 896 (6208 - 896 * (t.val % 7)) :=
  (by decide +kernel : ∀ t : Fin grid0.N, _)
theorem ext1 : ∀ t : Fin cfg0.N, win0_1.xsize (grid0.coords t) 0 = 1024 ∧ win0_1.xsize (grid0.coords t) 1 = min 896 (6208 - 896 * (t.val % 7)) :=
  (by decide +kernel : ∀ t : Fin grid0.N, _)

theorem moved_0 (t : Fin cfg0.N) (r : Fin 768) (k : Fin 896) : win0_0.moved (grid0.coords t) (ix2 r k) = true ↔ 896 * (t.val % 7) + k.val < 6208 := by
  obtain ⟨e0, e1⟩ := ext0 t
  have hk := k.isLt
  have hr := r.isLt
  rw [win0_0.moved_iff]
  constructor
  · intro h
    have h1 : k.val < win0_0.xsize (grid0.coords t) 1 := h 1
    rw [e1] at h1; omega
  · intro h a
    match a with
    | ⟨0, _⟩ => show r.val < win0_0.xsize (grid0.coords t) 0; rw [e0]; exact hr
    | ⟨1, _⟩ => show k.val < win0_0.xsize (grid0.coords t) 1; rw [e1]; omega
theorem moved_1 (t : Fin cfg0.N) (r : Fin 1024) (k : Fin 896) : win0_1.moved (grid0.coords t) (ix2 r k) = true ↔ 896 * (t.val % 7) + k.val < 6208 := by
  obtain ⟨e0, e1⟩ := ext1 t
  have hk := k.isLt
  have hr := r.isLt
  rw [win0_1.moved_iff]
  constructor
  · intro h
    have h1 : k.val < win0_1.xsize (grid0.coords t) 1 := h 1
    rw [e1] at h1; omega
  · intro h a
    match a with
    | ⟨0, _⟩ => show r.val < win0_1.xsize (grid0.coords t) 0; rw [e0]; exact hr
    | ⟨1, _⟩ => show k.val < win0_1.xsize (grid0.coords t) 1; rw [e1]; omega

/-- A block of the first input inside the array, zeros past its end. -/
def padded0 (t : Fin cfg0.N) (b : (win0_0.xblock (grid0.coords t)).Idx → Elt F win0_0.elt) : Vec F S768x896 .bf16 :=
  win0_0.fill (grid0.coords t) (fun _ => Scalar.ofBits .bf16 0#16) b
/-- The same of the weight's. -/
def padded1 (t : Fin cfg0.N) (b : (win0_1.xblock (grid0.coords t)).Idx → Elt F win0_1.elt) : Vec F S1024x896 .bf16 :=
  win0_1.fill (grid0.coords t) (fun _ => Scalar.ofBits .bf16 0#16) b

theorem test_iff (t : Fin cfg0.N) (k : Fin 896) :
    (IntOp.cmpi .slt (BitVec.ofNat 32 (0 * 896 + k.val)) (Scalar.subi 6208#32 (Scalar.muli (BitVec.ofNat 32 (grid0.coords t 2).val) 896#32)) = (1 : BitVec 1))
      ↔ 896 * (t.val % 7) + k.val < 6208 := by
  rw [step_val]
  exact column_test ⟨t.val % 7, Nat.mod_lt _ (by omega)⟩ k

/-- The kernel's selection replaces whatever lay past the array's end by zeros. -/
theorem mask_0 (t : Fin cfg0.N) (d : Vec F S768x896 .bf16) (b) :
    (select (cmpi .slt (iota .tc S768x896 32 [1] iota_S768x896_d1_w32)
        (broadcast S768x896 (Scalar.subi 6208#32 (Scalar.muli (BitVec.ofNat 32 (grid0.coords t 2).val) 896#32))))
      (win0_0.fill (grid0.coords t) d b) (broadcast S768x896 (Scalar.ofBits .bf16 0x0000#16 : F .bf16)) : Vec F S768x896 .bf16) = padded0 t b := by
  funext y
  obtain ⟨r, k, rfl⟩ : ∃ (r : Fin 768) (k : Fin 896), y = ix2 r k := ⟨y 0, y 1, (ix2_eta y).symm⟩
  show Scalar.select (IntOp.cmpi .slt (BitVec.ofNat 32 (0 * 896 + k.val)) (Scalar.subi 6208#32 (Scalar.muli (BitVec.ofNat 32 (grid0.coords t 2).val) 896#32))) _ _ = _
  unfold Scalar.select padded0 Window.fill
  by_cases h : 896 * (t.val % 7) + k.val < 6208
  · rw [if_pos ((test_iff t k).mpr h), dif_pos ((moved_0 t r k).mpr h), dif_pos ((moved_0 t r k).mpr h)]
  · rw [if_neg (fun hh => h ((test_iff t k).mp hh)), dif_neg (fun hh => h ((moved_0 t r k).mp hh))]; rfl
theorem mask_1 (t : Fin cfg0.N) (d : Vec F S1024x896 .bf16) (b) :
    (select (cmpi .slt (iota .tc S1024x896 32 [1] iota_S1024x896_d1_w32)
        (broadcast S1024x896 (Scalar.subi 6208#32 (Scalar.muli (BitVec.ofNat 32 (grid0.coords t 2).val) 896#32))))
      (win0_1.fill (grid0.coords t) d b) (broadcast S1024x896 (Scalar.ofBits .bf16 0x0000#16 : F .bf16)) : Vec F S1024x896 .bf16) = padded1 t b := by
  funext y
  obtain ⟨r, k, rfl⟩ : ∃ (r : Fin 1024) (k : Fin 896), y = ix2 r k := ⟨y 0, y 1, (ix2_eta y).symm⟩
  show Scalar.select (IntOp.cmpi .slt (BitVec.ofNat 32 (0 * 896 + k.val)) (Scalar.subi 6208#32 (Scalar.muli (BitVec.ofNat 32 (grid0.coords t 2).val) 896#32))) _ _ = _
  unfold Scalar.select padded1 Window.fill
  by_cases h : 896 * (t.val % 7) + k.val < 6208
  · rw [if_pos ((test_iff t k).mpr h), dif_pos ((moved_1 t r k).mpr h), dif_pos ((moved_1 t r k).mpr h)]
  · rw [if_neg (fun hh => h ((test_iff t k).mp hh)), dif_neg (fun hh => h ((moved_1 t r k).mp hh))]; rfl

/-- The accumulator plus the product of two blocks. -/
def accumulate (x0 : Vec F S768x896 .bf16) (x1 : Vec F S1024x896 .bf16) (a : Vec F S768x1024 .f32) : Vec F S768x1024 .f32 :=
  addf a (matmul dot_S768x896_S1024x896_S768x1024_1_1_0_0_n_n none x0 x1 (constant S768x1024 .f32 0x00000000#32))

/-- A step's payload, whatever lay past the arrays' ends: the padded blocks' product is added. -/
theorem pay2_padded (t : Fin cfg0.N) (d0 : Vec F S768x896 .bf16) (d1 : Vec F S1024x896 .bf16) (b0 b1) (a : Vec F S768x1024 .f32) :
    k0_pay2 (grid0.coords t) (win0_0.fill (grid0.coords t) d0 b0) (win0_1.fill (grid0.coords t) d1 b1) a
      = accumulate (padded0 t b0) (padded1 t b1) a := by
  unfold k0_pay2 accumulate
  dsimp only
  rw [shapeCast_self, shapeCast_self, shapeCast_self]
  rw [← mask_0 t d0 b0, ← mask_1 t d1 b1]

/-! ## The proof data -/

variable (m : (ℓ : Loc nD τ sig) → Buf (Elt F) ℓ) (ρ : Dev nD → PrngReg)

/-- One step of the accumulator, at position `n` of the grid. -/
def stepAt (c : Dev nD) (n : ℕ) (a : Vec F S768x1024 .f32) : Vec F S768x1024 .f32 :=
  if h : n < cfg0.N then
    accumulate (padded0 ⟨n, h⟩ (iblk m c 0 ⟨n, h⟩)) (padded1 ⟨n, h⟩ (iblk m c 1 ⟨n, h⟩)) (if n % 7 = 0 then k0_pay1 (F := F) else a)
  else a
/-- What the accumulator holds after position `n`. -/
def accAt (c : Dev nD) : ℕ → Vec F S768x1024 .f32
  | 0 => stepAt m c 0 (k0_pay1 (F := F))
  | n + 1 => stepAt m c (n + 1) (accAt c n)

/-- After position `n` the accumulator's content is a step from the one before, which is free at position 0. -/
theorem accAt_step (c : Dev nD) (t : Fin cfg0.N) (a : Vec F S768x1024 .f32) (ha : t.val ≠ 0 → a = accAt m c (t.val - 1)) :
    accumulate (padded0 t (iblk m c 0 t)) (padded1 t (iblk m c 1 t)) (if t.val % 7 = 0 then k0_pay1 (F := F) else a) = accAt m c t.val := by
  obtain ⟨n, hn⟩ := t
  cases n with
  | zero => show _ = stepAt m c 0 _; unfold stepAt; rw [dif_pos hn]; rfl
  | succ n =>
    rw [ha (Nat.succ_ne_zero n)]
    show _ = stepAt m c (n + 1) _; unfold stepAt; rw [dif_pos hn]; rfl

abbrev scM : Memref sig .tc .vmem S768x1024 .f32 := Memref.whole cc0_scratch0

/-- Between points: the accumulator holds what the point before left. -/
def holds (c : Dev nD) (n : ℕ) : sProp 𝕄 :=
  iprop(∃ a, ⌜n ≠ 0 → a = accAt m c (n - 1)⌝ ∗ owns (c : Thread nD τ) scM fullShare a ∗ (∃ r, prngReg c r))

/-- After the body the inputs' buffers hold their padded blocks and the output's, where it is written, the accumulator. -/
def dats (_ : Fin 1) (c : Dev nD) : Dat τ (Elt F) Unit ℕ (UR sig nD τ) ℕ cfg0 c where
  A w := V m c (Pipeline.arrRef spec0 w)
  after w t := match w with
    | ⟨0, _⟩ => padded0 t (iblk m c 0 t)
    | ⟨1, _⟩ => padded1 t (iblk m c 1 t)
    | ⟨2, _⟩ => accAt m c t.val
  Φ t := holds m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = padded0 t (iblk m c 0 t) := by dsimp only [dats]
theorem after_1 (c : Dev nD) (t : Fin cfg0.N) : (dats m 0 c).after 1 t = padded1 t (iblk m c 1 t) := by dsimp only [dats]
theorem after_2 (c : Dev nD) (t : Fin cfg0.N) : (dats m 0 c).after 2 t = accAt m c t.val := by dsimp only [dats]

/-- Both inputs are fetched at every point: the block inside the array, anything past it. -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

theorem invariant_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem hin (c : Dev nD) : Pipeline.ΦA spec0 c ⊢ (dats m 0 c).Φ 0 := by
  rw [show (dats m 0 c).Φ 0 = holds m c 0 from rfl, invariant_eq]
  unfold holds
  iintro ⟨⟨%d, HS⟩, Hg⟩
  iexists d
  isplitr; · ipureintro; exact fun h => absurd rfl h
  isplitl [HS]; · iexact HS
  iexact Hg
theorem hout (c : Dev nD) : (dats m 0 c).Φ (Fin.last cfg0.N) ⊢ Pipeline.ΦA spec0 c := by
  rw [show (dats m 0 c).Φ (Fin.last cfg0.N) = holds m c cfg0.N from rfl, invariant_eq]
  unfold holds
  iintro ⟨%d, -, HS, Hg⟩
  isplitl [HS]; · iexists d; iexact HS
  iexact Hg

theorem defs₀_row (t : Fin cfg0.N) :
    defs₀ (F := F) .tc cfg0.body (cfg0.bodyArgs t (cfg0.slots t)) = bodyAt0 t := by
  unfold defs₀; rw [Defs.onTc_tc]

theorem live_last : ∀ t : Fin cfg0.N, t.val % 7 = 6 → idle0 2 (grid0.coords t) = false :=
  (by decide +kernel : ∀ t : Fin grid0.N, t.val % 7 = 6 → idle0 2 (grid0.coords t) = false)
theorem idle_other : ∀ t : Fin cfg0.N, ¬ t.val % 7 = 6 → idle0 2 (grid0.coords t) = true :=
  (by decide +kernel : ∀ t : Fin grid0.N, ¬ t.val % 7 = 6 → idle0 2 (grid0.coords t) = true)
theorem noflush_other (t : Fin cfg0.N) (h : ¬ t.val % 7 = 6) : (cfg0.win 2).flush t = false :=
  Bool.eq_false_iff.mpr fun hf => h ((flush0_2 t).mp hf)

set_option maxHeartbeats 1000000 in
theorem obligation (c : Dev nD) : BodyObligationLoose (dats m 0 c) (defs₀ (F := F)) Variants.none () Set.univ := fun t => by
  rw [bigSep_W0, bigSep_W0, defs₀_row]
  simp only [before_0, before_1]
  rw [show (dats m 0 c).Φ t.succ = holds m c (t.val + 1) from rfl,
    show (dats m 0 c).owesAt () t.succ = (dats m 0 c).owesAt () t.castSucc from rfl,
    show (dats m 0 c).Φ t.castSucc = holds m c t.val from rfl]
  have e0 : win0_0.cut (grid0.coords t) (padded0 t (iblk m c 0 t)) = iblk m c 0 t := win0_0.cut_fill _ _ _
  have e1 : win0_1.cut (grid0.coords t) (padded1 t (iblk m c 1 t)) = iblk m c 1 t := win0_1.cut_fill _ _ _
  unfold holds bodyAt0
  by_cases hl : t.val % 7 = 6
  · rw [show idle0 2 (grid0.coords t) = false from live_last t hl]
    dsimp only
    iintro ⟨⟨%a, %ha, HS, Hg⟩, Ho, ⟨%d0, H0⟩, ⟨%d1, H1⟩, ⟨%d2, H2⟩⟩
    have hs := accAt_step m c t a ha
    rw [if_neg (show ¬ t.val % 7 = 0 by omega)] at hs
    iapply (run_last c (grid0.coords t) _ _ _ _ _ _ _ _ (win0_0.fill (grid0.coords t) d0 (iblk m c 0 t)) (win0_1.fill (grid0.coords t) d1 (iblk m c 1 t)) _ a Set.univ _
      (fun h => absurd ((first_iff t).mp h) (by omega)) ((last_iff t).mpr hl))
    rw [pay2_padded, hs]
    isplitl [H0]; · iexact H0
    isplitl [H1]; · iexact H1
    isplitl [H2]; · iexact H2
    isplitl [HS]; · iexact HS
    iintro ⟨H0, H1, H2, HS⟩
    isplitl [HS Hg]
    · iexists (accAt m c t.val)
      isplitr; · ipureintro; exact fun _ => rfl
      isplitl [HS]; · iexact HS
      iexact Hg
    isplitl [Ho]; · iexact Ho
    isplitl [H0]
    · iexists d0
      change _ ⊢ owns (c : Thread nD τ) (st0_0 t) fullShare (win0_0.fill (grid0.coords t) d0 (win0_0.cut (grid0.coords t) (padded0 t (iblk m c 0 t))))
      rw [e0]; try iexact H0
    isplitl [H1]
    · iexists d1
      change _ ⊢ owns (c : Thread nD τ) (st0_1 t) fullShare (win0_1.fill (grid0.coords t) d1 (win0_1.cut (grid0.coords t) (padded1 t (iblk m c 1 t))))
      rw [e1]; try iexact H1
    iexact H2
  · rw [show idle0 2 (grid0.coords t) = true from idle_other t hl, show (win0 2).flush t = false from noflush_other t hl]
    dsimp only
    iintro ⟨⟨%a, %ha, HS, Hg⟩, Ho, ⟨%d0, H0⟩, ⟨%d1, H1⟩, ⟨%d2, H2⟩⟩
    have hs := accAt_step m c t a ha
    by_cases hf : t.val % 7 = 0
    · rw [if_pos hf] at hs
      iapply (run_first c (grid0.coords t) _ _ _ _ _ _ _ _ (win0_0.fill (grid0.coords t) d0 (iblk m c 0 t)) (win0_1.fill (grid0.coords t) d1 (iblk m c 1 t)) _ a Set.univ _
        ((first_iff t).mpr hf) (fun h => hl ((last_iff t).mp h)))
      rw [pay2_padded, hs]
      isplitl [H0]; · iexact H0
      isplitl [H1]; · iexact H1
      isplitl [H2]; · iexact H2
      isplitl [HS]; · iexact HS
      iintro ⟨H0, H1, H2, HS⟩
      isplitl [HS Hg]
      · iexists (accAt m c t.val)
        isplitr; · ipureintro; exact fun _ => rfl
        isplitl [HS]; · iexact HS
        iexact Hg
      isplitl [Ho]; · iexact Ho
      isplitl [H0]
      · iexists d0
        change _ ⊢ owns (c : Thread nD τ) (st0_0 t) fullShare (win0_0.fill (grid0.coords t) d0 (win0_0.cut (grid0.coords t) (padded0 t (iblk m c 0 t))))
        rw [e0]; try iexact H0
      isplitl [H1]
      · iexists d1
        change _ ⊢ owns (c : Thread nD τ) (st0_1 t) fullShare (win0_1.fill (grid0.coords t) d1 (win0_1.cut (grid0.coords t) (padded1 t (iblk m c 1 t))))
        rw [e1]; try iexact H1
      iexists _; iexact H2
    · rw [if_neg hf] at hs
      iapply (run_middle c (grid0.coords t) _ _ _ _ _ _ _ _ (win0_0.fill (grid0.coords t) d0 (iblk m c 0 t)) (win0_1.fill (grid0.coords t) d1 (iblk m c 1 t)) _ a Set.univ _
        (fun h => hf ((first_iff t).mp h)) (fun h => hl ((last_iff t).mp h)))
      rw [pay2_padded, hs]
      isplitl [H0]; · iexact H0
      isplitl [H1]; · iexact H1
      isplitl [H2]; · iexact H2
      isplitl [HS]; · iexact HS
      iintro ⟨H0, H1, H2, HS⟩
      isplitl [HS Hg]
      · iexists (accAt m c t.val)
        isplitr; · ipureintro; exact fun _ => rfl
        isplitl [HS]; · iexact HS
        iexact Hg
      isplitl [Ho]; · iexact Ho
      isplitl [H0]
      · iexists d0
        change _ ⊢ owns (c : Thread nD τ) (st0_0 t) fullShare (win0_0.fill (grid0.coords t) d0 (win0_0.cut (grid0.coords t) (padded0 t (iblk m c 0 t))))
        rw [e0]; try iexact H0
      isplitl [H1]
      · iexists d1
        change _ ⊢ owns (c : Thread nD τ) (st0_1 t) fullShare (win0_1.fill (grid0.coords t) d1 (win0_1.cut (grid0.coords t) (padded1 t (iblk m c 1 t))))
        rw [e1]; try iexact H1
      iexists _; iexact H2

set_option backward.isDefEq.respectTransparency.types false in
theorem run_main_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hin := hin m) (hout := hout m)

/-- The run ends, leaves both arguments as they were and every semaphore at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩, h.2⟩)
    (run_main_quiet m ρ)

end body

/-! ## The values, over the extended reals -/

variable (m : (ℓ : Loc nD τ sig) → Buf (Elt Ideal) ℓ) (ρ : Dev nD → PrngReg)

/-- A step at an index: what the accumulator held plus the block's products. -/
theorem accumulate_apply (x0 : Vec Ideal S768x896 .bf16) (x1 : Vec Ideal S1024x896 .bf16) (a : Vec Ideal S768x1024 .f32) (i : Fin 768) (j : Fin 1024) :
    accumulate x0 x1 a (ix2 i j) = (a (ix2 i j) : EReal) + ∑ k : Fin 896, (x0 (ix2 i k) : EReal) * (x1 (ix2 j k) : EReal) := by
  pointwise [accumulate]

theorem pay1_apply (i : Fin 768) (j : Fin 1024) : k0_pay1 (F := Ideal) (ix2 i j) = (0 : EReal) := by
  pointwise [k0_pay1]

theorem zero_apply (i : Fin 768) (k : Fin 896) : (broadcast S768x896 (Scalar.ofBits .bf16 0#16 : Ideal .bf16) : Vec Ideal S768x896 .bf16) (ix2 i k) = (0 : EReal) := by
  pointwise
theorem zero_word : (Scalar.ofBits .bf16 0#16 : Ideal .bf16) = (0 : EReal) := zero_apply 0 0

theorem idx0 : ∀ t : Fin cfg0.N, win0_0.index t 0 = t.val / 7 ∧ win0_0.index t 1 = t.val % 7 :=
  (by decide +kernel : ∀ t : Fin grid0.N, _)
theorem idx1 : ∀ t : Fin cfg0.N, win0_1.index t 0 = 0 ∧ win0_1.index t 1 = t.val % 7 :=
  (by decide +kernel : ∀ t : Fin grid0.N, _)
theorem idx2 : ∀ t : Fin cfg0.N, win0_2.index t 0 = t.val / 7 ∧ win0_2.index t 1 = 0 :=
  (by decide +kernel : ∀ t : Fin grid0.N, _)

/-- The rows' padded block of a grid point: the array's elements, zero past its end. -/
theorem blk0 (c : Dev nD) (t : Fin cfg0.N) (i : Fin 768) (k : Fin 896) :
    (padded0 t (iblk m c 0 t) : Vec Ideal S768x896 .bf16) (ix2 i k)
      = at2 (M := 2304) (N := 6208) (m ((c : Thread nD τ).loc main_arg0)) (768 * (t.val / 7) + i.val) (896 * (t.val % 7) + k.val) := by
  have hN : t.val < 21 := lt_of_lt_of_eq t.isLt N_0
  have hi := i.isLt
  have hk := k.isLt
  obtain ⟨e0, e1⟩ := idx0 t
  unfold padded0 Window.fill
  by_cases h : 896 * (t.val % 7) + k.val < 6208
  · rw [dif_pos ((moved_0 t i k).mpr h), at2_of _ (by omega) h]
    unfold iblk
    rw [View.read_apply]
    have e : V m c main_v0 (ix2 (⟨768 * (t.val / 7) + i.val, by omega⟩ : Fin 2304) (⟨896 * (t.val % 7) + k.val, h⟩ : Fin 6208))
        = (m ((c : Thread nD τ).loc main_arg0) : (⟨2, ![2304, 6208]⟩ : Shape).Idx → EReal) (ix2 ⟨768 * (t.val / 7) + i.val, by omega⟩ ⟨896 * (t.val % 7) + k.val, h⟩) := by
      unfold V
      after_reads_at
    refine Eq.trans ?_ e
    show V m c main_v0 _ = V m c main_v0 _
    congr 1
    funext a
    apply Fin.ext
    match a with
    | ⟨0, _⟩ => show win0_0.index t 0 * 768 + 1 * i.val = _; rw [e0]; show _ = 768 * (t.val / 7) + i.val; omega
    | ⟨1, _⟩ => show win0_0.index t 1 * 896 + 1 * k.val = _; rw [e1]; show _ = 896 * (t.val % 7) + k.val; omega
  · rw [dif_neg (fun hh => h ((moved_0 t i k).mp hh))]
    unfold at2
    rw [dif_neg (fun hh => h hh.2)]
    exact zero_word

/-- The weight's padded block of a grid point: the array's elements, zero past its end. -/
theorem blk1 (c : Dev nD) (t : Fin cfg0.N) (j : Fin 1024) (k : Fin 896) :
    (padded1 t (iblk m c 1 t) : Vec Ideal S1024x896 .bf16) (ix2 j k)
      = at2 (M := 1024) (N := 6208) (m ((c : Thread nD τ).loc main_arg1)) j.val (896 * (t.val % 7) + k.val) := by
  have hN : t.val < 21 := lt_of_lt_of_eq t.isLt N_0
  have hi := j.isLt
  have hk := k.isLt
  obtain ⟨e0, e1⟩ := idx1 t
  unfold padded1 Window.fill
  by_cases h : 896 * (t.val % 7) + k.val < 6208
  · rw [dif_pos ((moved_1 t j k).mpr h), at2_of _ (by omega) h]
    unfold iblk
    rw [View.read_apply]
    have e : V m c main_v1 (ix2 (⟨j.val, by omega⟩ : Fin 1024) (⟨896 * (t.val % 7) + k.val, h⟩ : Fin 6208))
        = (m ((c : Thread nD τ).loc main_arg1) : (⟨2, ![1024, 6208]⟩ : Shape).Idx → EReal) (ix2 ⟨j.val, by omega⟩ ⟨896 * (t.val % 7) + k.val, h⟩) := by
      unfold V
      after_reads_at
    refine Eq.trans ?_ e
    show V m c main_v1 _ = V m c main_v1 _
    congr 1
    funext a
    apply Fin.ext
    match a with
    | ⟨0, _⟩ => show win0_1.index t 0 * 1024 + 1 * j.val = _; rw [e0]; show _ = j.val; omega
    | ⟨1, _⟩ => show win0_1.index t 1 * 896 + 1 * k.val = _; rw [e1]; show _ = 896 * (t.val % 7) + k.val; omega
  · rw [dif_neg (fun hh => h ((moved_1 t j k).mp hh))]
    unfold at2
    rw [dif_neg (fun hh => h hh.2)]
    exact zero_word

/-- The term a column `k` contributes to row `r` and column `j` of the product: zero past the columns' end. -/
abbrev term (c : Dev nD) (r j k : ℕ) : EReal :=
  at2 (M := 2304) (N := 6208) (m ((c : Thread nD τ).loc main_arg0)) r k * at2 (M := 1024) (N := 6208) (m ((c : Thread nD τ).loc main_arg1)) j k

/-- One step of the accumulator at an index. -/
theorem acc_apply (c : Dev nD) (n : ℕ) (hn : n < 21) (i : Fin 768) (j : Fin 1024) :
    (accAt m c n (ix2 i j) : EReal) = (if n % 7 = 0 then (0 : EReal) else accAt m c (n - 1) (ix2 i j))
      + ∑ k : Fin 896, term m c (768 * (n / 7) + i.val) j.val (896 * (n % 7) + k.val) := by
  have hN : cfg0.N = 21 := N_0
  have h := accAt_step m c ⟨n, by omega⟩ (accAt m c (n - 1)) (fun _ => rfl)
  refine (congrFun h.symm (ix2 i j)).trans ?_
  rw [accumulate_apply]
  congr 1
  · show (if n % 7 = 0 then k0_pay1 (F := Ideal) else accAt m c (n - 1)) (ix2 i j) = _
    by_cases h0 : n % 7 = 0
    · rw [if_pos h0, if_pos h0, pay1_apply]
    · rw [if_neg h0, if_neg h0]
  · refine Finset.sum_congr rfl fun k _ => ?_
    rw [blk0, blk1]

/-- After the last step of a block of rows: the sum over all columns. -/
theorem acc_last (c : Dev nD) (q : ℕ) (hq : q < 3) (i : Fin 768) (j : Fin 1024) :
    (accAt m c (7 * q + 6) (ix2 i j) : EReal) = ∑ k ∈ Finset.range 6208, term m c (768 * q + i.val) j.val k := by
  have hs := sweep 7 896 (term m c (768 * q + i.val) j.val) (fun s => (accAt m c (7 * q + s) (ix2 i j) : EReal))
    (fun _ => by
      show (accAt m c (7 * q + 0) (ix2 i j) : EReal) = _
      rw [acc_apply m c (7 * q + 0) (by omega), if_pos (by omega), zero_add]
      refine Finset.sum_congr rfl fun k _ => ?_
      rw [show (7 * q + 0) / 7 = q by omega, show (7 * q + 0) % 7 = 0 by omega, Nat.mul_zero, Nat.zero_add])
    (fun s hs => by
      show (accAt m c (7 * q + (s + 1)) (ix2 i j) : EReal) = _
      rw [acc_apply m c (7 * q + (s + 1)) (by omega), if_neg (by omega), show 7 * q + (s + 1) - 1 = 7 * q + s by omega,
        show (7 * q + (s + 1)) / 7 = q by omega, show (7 * q + (s + 1)) % 7 = s + 1 by omega])
    6 (by omega)
  refine hs.trans ?_
  rw [show 896 * (6 + 1) = 6208 + 64 by omega, Finset.sum_range_add]
  refine (congrArg (_ + ·) (Finset.sum_eq_zero fun k _ => ?_)).trans (add_zero _)
  unfold term
  rw [show at2 (M := 2304) (N := 6208) (m ((c : Thread nD τ).loc main_arg0)) (768 * q + i.val) (6208 + k) = 0 from
    dif_neg (fun hh => absurd hh.2 (by omega)), zero_mul]

/-- The array the run leaves. -/
abbrev result (c : Dev nD) : Buf (Elt Ideal) ((c : Thread nD τ).loc main_v2) := (dats m 0 c).arrAt 2 cfg0.N

theorem run_result : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)
    (run_main_quiet m ρ)

/-! ## The result array -/

theorem idx_inj2 : ∀ t t' : Fin cfg0.N, t.val % 7 = 6 → t'.val % 7 = 6 → win0_2.index t = win0_2.index t' → t = t' :=
  (by decide +kernel : ∀ t t' : Fin grid0.N, t.val % 7 = 6 → t'.val % 7 = 6 → win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (idx_inj2 t t' ((flush0_2 t).mp hf) ((flush0_2 t').mp hf') h)

/-- A block of the result array is what its last point wrote back. -/
theorem block_eq (c : Dev nD) (t : Fin cfg0.N) (ht : t.val % 7 = 6) :
    ((cfg0.win 2).blk t).view.read (Elt Ideal) (result m c) = accAt m c t.val := by
  refine ((dats m 0 c).read_blk_arrAt_eq_flushed 2 disjoint2 cfg0.N t t.isLt ((flush0_2 t).mpr ht)).trans ?_
  show (cfg0.win 2).cut (grid0.coords t) ((dats m 0 c).after 2 t) = _
  rw [after_2]
  rfl

/-- The result array: at row `r` and column `j` the sum over all columns of the terms. -/
theorem array_apply (c : Dev nD) (r : Fin 2304) (j : Fin 1024) :
    (result m c (ix2 r j) : EReal) = ∑ k ∈ Finset.range 6208, term m c r.val j.val k := by
  have hr := r.isLt
  have hN : cfg0.N = 21 := N_0
  obtain ⟨t, ht⟩ : ∃ t : Fin cfg0.N, t.val = 7 * (r.val / 768) + 6 := ⟨⟨7 * (r.val / 768) + 6, by omega⟩, rfl⟩
  have hb := congrFun (block_eq m c t (by omega)) (ix2 (⟨r.val % 768, by omega⟩ : Fin 768) j)
  rw [View.read_apply] at hb
  have he : ((cfg0.win 2).blk t).view.emb (ix2 (⟨r.val % 768, by omega⟩ : Fin 768) j) = ix2 r j := by
    obtain ⟨e0, e1⟩ := idx2 t
    funext a
    apply Fin.ext
    match a with
    | ⟨0, _⟩ => show win0_2.index t 0 * 768 + 1 * (r.val % 768) = r.val; rw [e0]; omega
    | ⟨1, _⟩ => show win0_2.index t 1 * 1024 + 1 * j.val = j.val; rw [e1]; omega
  rw [he] at hb
  refine hb.trans ?_
  rw [ht, acc_last m c (r.val / 768) (by omega), show 768 * (r.val / 768) + r.val % 768 = r.val by omega]

/-- The reference's one contraction at row `r` and column `j`, as a sum over the columns. -/
theorem reference_apply (x : FVec Ideal Cert.Reference21Ideal.S2304x6208 .f32) (w : FVec Ideal Cert.Reference21Ideal.S1024x6208 .f32)
    (r : Fin 2304) (j : Fin 1024) :
    (Host.dotGeneral (φ₁ := .f32) (φ₂ := .f32) Cert.Reference21Ideal.dot_S2304x6208_S1024x6208_S2304x1024_1_1_0_0_n_n none x
        w
      : FVec Ideal Cert.Reference21Ideal.S2304x1024 .f32) (ix2 r j)
      = ∑ k ∈ Finset.range 6208, (at2 x r.val k * at2 w j.val k : EReal) := by
  pointwise
  rw [← Fin.sum_univ_eq_sum_range]
  refine Finset.sum_congr rfl fun k _ => ?_
  rw [at2_of _ r.isLt k.isLt, at2_of _ j.isLt k.isLt]

/-- The reference runs to the end, its arguments unchanged; it has no semaphore at all. -/
theorem reference_frame : Cert.quiescent_Reference21Ideal (hReference21Ideal := Cert.Reference21Ideal.Gen.facts) := fun m g _ =>
  (θ_run _ _ _).mono (fun r h => ⟨fun c => (h c).2, funext fun s => match s with
    | (_, .reg s) => s.elim0
    | (_, .dma s) => s.elim0⟩) (Cert.Reference21Ideal.Value.run m g)

/-- The two runs end with the same array. -/
theorem algebraic : Cert.algebraic_Kernel21Ideal_Reference21Ideal (hKernel21Ideal := Cert.Kernel21Ideal.Gen.facts)
    (hReference21Ideal := Cert.Reference21Ideal.Gen.facts) := by
  intro m g m' g' _ hargs
  refine ⟨fun c => result m c, run_result m g, ?_⟩
  refine (θ_run _ _ _).mono (fun r h c => ⟨(h c).1.trans ?_, (h c).2⟩) (Cert.Reference21Ideal.Value.run m' g')
  rw [(hargs c).1, (hargs c).2]
  funext i
  obtain ⟨r, j, rfl⟩ : ∃ (r : Fin 2304) (j : Fin 1024), i = ix2 r j := ⟨i 0, i 1, (ix2_eta i).symm⟩
  exact (reference_apply _ _ r j).trans (array_apply m c r j).symm

/-! ## The two programs' frames -/

/-- The two programs run the same bodies. -/
theorem defs₀_eq : Cert.Kernel21.defs₀ (F := Bits) = Cert.Kernel21Ideal.defs₀ (F := Bits) := by
  unfold Cert.Kernel21.defs₀ Cert.Kernel21Ideal.defs₀
  refine congrArg (Defs.onTc (nD := nD) (τ := τ) (sig := sig) (Val := Elt Bits) (Λ := Λ₀)) ?_
  funext l a
  match l, a with
  | 0, (t, s) => rfl

/-- And the same calls. -/
theorem defs_eq : Cert.Kernel21.defs (F := Bits) = Cert.Kernel21Ideal.defs (F := Bits) :=
  congrArg (Pipeline.defs (pcfgs (F := Bits))) defs₀_eq

/-- The kernel's own frame. -/
theorem kernel_frame : Cert.quiescent_Kernel21 (hKernel21 := Cert.Kernel21.Gen.facts) := fun m ρ _ => by
  have h := frame (F := Bits) m ρ
  rw [← defs_eq] at h
  exact h

/-- The idealization's frame. -/
theorem ideal_frame : Cert.quiescent_Kernel21Ideal (hKernel21Ideal := Cert.Kernel21Ideal.Gen.facts) := fun m ρ _ => frame m ρ

end Cert.Kernel21Ideal.Product
-- ==== Proof.InDw.lean ====
/-
  The mixer's input product, backward to the weight: `cc0_l0_w_in_dw` leaves, at row `r` and column `j`, the sum over the
  2304 rows `k` of `u[k, r] * dproj[k, j]`, in two blocks of 1152 rows. The 6208 columns are no multiple of the tile's
  896: the last tile of columns reaches past the array's end, and there its buffers hold words nothing names.
-/
module

public import proofs.«01_k».proof.Defs
public import proofs.«01_k».proof.Proof.Gen.Kernel22
public import proofs.«01_k».proof.Proof.Gen.Kernel22Ideal.Skeleton
public import proofs.«01_k».proof.Proof.Gen.Kernel22Ideal.Frame
public import proofs.«01_k».proof.Proof.Gen.Reference22Ideal.Run
public import proofs.«01_k».proof.Proof.Blocks
public import Idealize.ShloMosaic.Lib.Pointwise
public import Idealize.ShloMosaic.Lib.StableHlo.ReadAt
public import Idealize.ShloMosaic.Lib.WholeRead
public import Idealize.ShloMosaic.Lib.Pipeline.Value

@[expose] public section

set_option maxRecDepth 16384

noncomputable section

namespace Cert.Kernel22Ideal.Product

open Cert.Kernel22Ideal Cert.Kernel22Ideal.Gen Cert.Blocks
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

theorem hz : (![0, 0] : Fin 2 → Nat) = fun _ => 0 := funext fun a => by fin_cases a <;> rfl

section body

variable {F : FTy → Type} [FloatOps F]

local notation "𝕄" => MT nD τ sig Unit (Elt F) ℕ (UR sig nD τ) ℕ

/-! ## The body's two conditions, over the grid -/

abbrev first (i : grid0.Coords) : Prop := (Scalar.cmpi .ne (Scalar.extui (Scalar.cmpi .eq (BitVec.ofNat 32 (i 2).val) 0#32)) 0#32) = 1#1
abbrev last (i : grid0.Coords) : Prop := k0_cond2 i = 1#1

theorem first_iff : ∀ t : Fin cfg0.N, first (grid0.coords t) ↔ t.val % 2 = 0 :=
  (by decide +kernel : ∀ t : Fin grid0.N, first (grid0.coords t) ↔ t.val % 2 = 0)
theorem last_iff : ∀ t : Fin cfg0.N, last (grid0.coords t) ↔ t.val % 2 = 1 :=
  (by decide +kernel : ∀ t : Fin grid0.N, last (grid0.coords t) ↔ t.val % 2 = 1)

/-! ## Runs of the body, case by case -/

section runs

variable (c : Dev nD) (i : grid0.Coords) (a3 : Memref sig .tc .vmem S1152x1024 .bf16) (h3 : a3.IsWhole)
  (a4 : Memref sig .tc .vmem S1152x896 .bf16) (h4 : a4.IsWhole) (a5 : Memref sig .tc .vmem S1024x896 .bf16) (h5 : a5.IsWhole)
  (a6 : Memref sig .tc .vmem S1024x896 .f32) (h6 : a6.IsWhole)
  (x0 : Vec F S1152x1024 .bf16) (x1 : Vec F S1152x896 .bf16) (y : Vec F S1024x896 .bf16) (a : Vec F S1024x896 .f32)

set_option maxHeartbeats 1000000 in
/-- The first step: the accumulator restarts at zero and gains the first block; the output is left alone. -/
theorem run_first (E : Set ℕ) (K : PUnit → sProp 𝕄) (hc0 : first i) (hc1 : ¬ last i) :
    iprop(owns (c : Thread nD τ) a3 fullShare x0 ∗ owns (c : Thread nD τ) a4 fullShare x1
        ∗ owns (c : Thread nD τ) a5 fullShare y ∗ owns (c : Thread nD τ) a6 fullShare a
        ∗ (iprop(owns (c : Thread nD τ) a3 fullShare x0 ∗ owns (c : Thread nD τ) a4 fullShare x1
            ∗ owns (c : Thread nD τ) a5 fullShare y
            ∗ owns (c : Thread nD τ) a6 fullShare (k0_pay2 x0 x1 (k0_pay1 (F := F)))) -∗ K ⟨⟩))
      ⊢ wp frame (wpE (defs₀ (F := F)) Variants.none c none) E (cc0_l0_w_in_dw i a3 h3 a4 h4 a5 h5 a6 h6) K := by
  simp only [cc0_l0_w_in_dw_eq_skeleton]; unfold cc0_l0_w_in_dw_skel
  unfold owns
  iintro ⟨⟨%f0, %hf0, H0⟩, ⟨%f1, %hf1, H1⟩, ⟨%f2, %hf2, H2⟩, ⟨%fs, %hfs, HS⟩, Hk⟩
  obtain rfl := h3.eq_unread hf0; obtain rfl := h4.eq_unread hf1
  sl_exec (disch := first | sl_exact hc0 | sl_exact hc1)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact hf2
    iexact H2
  iexists _; isplitr
  swap; · iexact HS
  ipureintro
  rw [View.read_writes_eq_canon _ _ _ (View.cover_of_tiledL _ S1024x896.size (by sl_kernel_rfl))]
  sl_unfold_words
  rw [View.canon_cons_unit_zero hz, View.readCov_unit_zero _ hz]
  simp only [View.readAt_eq_ld, h3.read_unread, h4.read_unread, View.ld_unit_zero (S := S1152x1024) hz, View.ld_unit_zero (S := S1152x896) hz]

set_option maxHeartbeats 1000000 in
/-- The last step: the accumulator gains the second block and is copied to the output. -/
theorem run_last (E : Set ℕ) (K : PUnit → sProp 𝕄) (hc0 : ¬ first i) (hc1 : last i) :
    iprop(owns (c : Thread nD τ) a3 fullShare x0 ∗ owns (c : Thread nD τ) a4 fullShare x1
        ∗ owns (c : Thread nD τ) a5 fullShare y ∗ owns (c : Thread nD τ) a6 fullShare a
        ∗ (iprop(owns (c : Thread nD τ) a3 fullShare x0 ∗ owns (c : Thread nD τ) a4 fullShare x1
            ∗ owns (c : Thread nD τ) a5 fullShare (k0_pay3 (k0_pay2 x0 x1 a))
            ∗ owns (c : Thread nD τ) a6 fullShare (k0_pay2 x0 x1 a)) -∗ K ⟨⟩))
      ⊢ wp frame (wpE (defs₀ (F := F)) Variants.none c none) E (cc0_l0_w_in_dw i a3 h3 a4 h4 a5 h5 a6 h6) K := by
  simp only [cc0_l0_w_in_dw_eq_skeleton]; unfold cc0_l0_w_in_dw_skel
  unfold owns
  iintro ⟨⟨%f0, %hf0, H0⟩, ⟨%f1, %hf1, H1⟩, ⟨%f2, %hf2, H2⟩, ⟨%fs, %hfs, HS⟩, Hk⟩
  obtain rfl := h3.eq_unread hf0; obtain rfl := h4.eq_unread hf1; obtain rfl := h6.eq_unread hfs
  sl_exec (disch := first | sl_exact hc0 | sl_exact hc1)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr
    swap; · iexact H2
    ipureintro
    rw [View.read_writes_eq_canon _ _ _ (View.cover_of_tiledL _ S1024x896.size (by sl_kernel_rfl))]
    sl_unfold_words
    rw [View.canon_unit_zero hz, View.readCov_unit_zero _ hz]
    simp only [View.readAt_eq_ld, h3.read_unread, h4.read_unread, h6.read_unread, View.ld_unit_zero (S := S1152x1024) hz, View.ld_unit_zero (S := S1152x896) hz, View.ld_unit_zero (S := S1024x896) hz]
  iexists _; isplitr
  swap; · iexact HS
  ipureintro
  rw [View.read_writes_eq_canon _ _ _ (View.cover_of_tiledL _ S1024x896.size (by sl_kernel_rfl))]
  sl_unfold_words
  rw [View.canon_unit_zero hz]
  simp only [View.readAt_eq_ld, h3.read_unread, h4.read_unread, h6.read_unread, View.ld_unit_zero (S := S1152x1024) hz, View.ld_unit_zero (S := S1152x896) hz, View.ld_unit_zero (S := S1024x896) hz]

end runs

/-! ## The frame: nothing is said of what the output ends with -/

variable (m : (ℓ : Loc nD τ sig) → Buf (Elt F) ℓ) (ρ : Dev nD → PrngReg)

/-- A block of the second input inside the array, zeros past its end. -/
def padded1 (t : Fin cfg0.N) (b : (win0_1.xblock (grid0.coords t)).Idx → Elt F win0_1.elt) : Vec F S1152x896 .bf16 :=
  win0_1.fill (grid0.coords t) (fun _ => Scalar.ofBits .bf16 0#16) b

abbrev scM : Memref sig .tc .vmem S1024x896 .f32 := Memref.whole cc0_scratch0

theorem invariant_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem defs₀_row (t : Fin cfg0.N) :
    defs₀ (F := F) .tc cfg0.body (cfg0.bodyArgs t (cfg0.slots t)) = bodyAt0 t := by
  unfold defs₀; rw [Defs.onTc_tc]

/-- After the body the inputs' buffers hold their blocks; the output's entry is never consulted. -/
def openDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => padded1 t (iblk m c 1 t)
    | ⟨2, _⟩ => k0_pay3 (k0_pay1 (F := F))
  Φ _ := Pipeline.ΦA spec0 c
  q _ := fullShare
  owed _ := 0

theorem open_A_eq (c : Dev nD) (w : Fin cfg0.W) : (openDats m 0 c).A w = V m c (Pipeline.arrRef spec0 w) := by
  dsimp only [openDats]
theorem open_after_0 (c : Dev nD) (t : Fin cfg0.N) : (openDats m 0 c).after 0 t = iblk m c 0 t := by dsimp only [openDats]
theorem open_before_0 (c : Dev nD) (t : Fin cfg0.N) (d) : (openDats m 0 c).before 0 t d = iblk m c 0 t :=
  before0_0_of m (openDats m 0 c) (open_A_eq m c 0) (open_after_0 m c) t d
/-- The second input is fetched at every point: its block inside the array, anything past it. -/
theorem open_before_1 (c : Dev nD) (t : Fin cfg0.N) (d) :
    (openDats m 0 c).before 1 t d = win0_1.fill (grid0.coords t) d (iblk m c 1 t) := by
  unfold Dat.before; rw [if_pos (fetch0_1 t)]
  unfold Dat.fetched Dat.blockOf iblk; rw [open_A_eq]

/-- Which window's contents the frame leaves open: the output's. -/
abbrev open2 : Fin cfg0.W → Bool := fun | 0 => false | 1 => false | 2 => true | ⟨_ + 3, h⟩ => absurd h (Nat.not_lt.2 (Nat.le_add_left _ _))

set_option maxHeartbeats 1000000 in
theorem obligation_open (c : Dev nD) : BodyObligationLoose (openDats m 0 c) (defs₀ (F := F)) Variants.none () Set.univ open2 := fun t => by
  rw [bigSep_W0, bigSep_W0, defs₀_row]
  simp only [open_before_0, open_before_1]
  rw [show (openDats m 0 c).Φ t.succ = (openDats m 0 c).Φ t.castSucc from rfl,
    show (openDats m 0 c).owesAt () t.succ = (openDats m 0 c).owesAt () t.castSucc from rfl,
    show (openDats m 0 c).Φ t.castSucc = Pipeline.ΦA spec0 c from rfl, invariant_eq]
  have e1 : win0_1.cut (grid0.coords t) (padded1 t (iblk m c 1 t)) = iblk m c 1 t := win0_1.cut_fill _ _ _
  unfold bodyAt0
  by_cases hf : t.val % 2 = 0
  · iintro ⟨⟨⟨%a, HS⟩, Hg⟩, Ho, ⟨%d0, H0⟩, ⟨%d1, H1⟩, ⟨%y, H2⟩⟩
    iapply (run_first c (grid0.coords t) _ _ _ _ _ _ _ _ (iblk m c 0 t) (win0_1.fill (grid0.coords t) d1 (iblk m c 1 t)) _ a Set.univ _
      ((first_iff t).mpr hf) (fun h => absurd ((last_iff t).mp h) (by omega)))
    isplitl [H0]; · iexact H0
    isplitl [H1]; · iexact H1
    isplitl [H2]; · iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) (padded1 t (iblk m c 1 t))))
      rw [e1]; try iexact H1
    iexists _; iexact H2
  · iintro ⟨⟨⟨%a, HS⟩, Hg⟩, Ho, ⟨%d0, H0⟩, ⟨%d1, H1⟩, ⟨%y, H2⟩⟩
    iapply (run_last c (grid0.coords t) _ _ _ _ _ _ _ _ (iblk m c 0 t) (win0_1.fill (grid0.coords t) d1 (iblk m c 1 t)) _ a Set.univ _
      (fun h => hf ((first_iff t).mp h)) ((last_iff t).mpr (by omega)))
    isplitl [H0]; · iexact H0
    isplitl [H1]; · iexact H1
    isplitl [H2]; · iexact H2
    isplitl [HS]; · iexact HS
    iintro ⟨H0, H1, H2, HS⟩
    isplitl [HS Hg]
    · isplitl [HS]; · iexists _; iexact HS
      iexact Hg
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) (padded1 t (iblk m c 1 t))))
      rw [e1]; try iexact H1
    iexists _; iexact H2

set_option backward.isDefEq.respectTransparency.types false in
theorem run_open : θ_run defs (onTc (τ := τ) (main (F := F))) (s₀ m ρ)
    (fun r => Pipeline.RDat.FramePost cfg0 (fun c => (openDats m 0 c).toRForget open2) (V m) r ∧ r.2.sem = fun _ => 0) :=
  Pipeline.θ_run_frame_forget (Q' := _) cfgs (openDats m) (0 : Fin 1) launch0 defs₀ Variants.none open2 m ρ main
    (hbody := obligation_open m) (hshare := fun c => (openDats m 0 c).share_full fun _ => rfl)
    (howed := fun _ _ => rfl) (V := V m) (hmain := hmain m Variants.none) (hA := open_A_eq m) (hΦ := fun _ _ => rfl)

/-- The run ends, leaves both arguments as they were and every semaphore at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c)⟩, h.2⟩)
    (run_open m ρ)

end body

/-! ## The values, over the extended reals -/

local notation "𝕀" => MT nD τ sig Unit (Elt Ideal) ℕ (UR sig nD τ) ℕ

variable (m : (ℓ : Loc nD τ sig) → Buf (Elt Ideal) ℓ) (ρ : Dev nD → PrngReg)

/-- A step's payload at an index: what the accumulator held plus the block's products. -/
theorem pay2_apply (x0 : Vec Ideal S1152x1024 .bf16) (x1 : Vec Ideal S1152x896 .bf16) (a : Vec Ideal S1024x896 .f32) (i : Fin 1024) (j : Fin 896) :
    k0_pay2 x0 x1 a (ix2 i j) = (a (ix2 i j) : EReal) + ∑ k : Fin 1152, (x0 (ix2 k i) : EReal) * (x1 (ix2 k j) : EReal) := by
  pointwise [k0_pay2]

theorem pay1_apply (i : Fin 1024) (j : Fin 896) : k0_pay1 (F := Ideal) (ix2 i j) = (0 : EReal) := by
  pointwise [k0_pay1]

theorem pay3_apply (a : Vec Ideal S1024x896 .f32) (i : Fin 1024) (j : Fin 896) : (k0_pay3 a (ix2 i j) : EReal) = a (ix2 i j) := by
  pointwise [k0_pay3]

theorem idx0 : ∀ t : Fin cfg0.N, win0_0.index t 0 = t.val % 2 ∧ win0_0.index t 1 = 0 :=
  (by decide +kernel : ∀ t : Fin grid0.N, _)
theorem idx1 : ∀ t : Fin cfg0.N, win0_1.index t 0 = t.val % 2 ∧ win0_1.index t 1 = t.val / 2 :=
  (by decide +kernel : ∀ t : Fin grid0.N, _)
theorem idx2 : ∀ t : Fin cfg0.N, win0_2.index t 0 = 0 ∧ win0_2.index t 1 = t.val / 2 :=
  (by decide +kernel : ∀ t : Fin grid0.N, _)
/-- How much of a block lies inside the array: all rows, and of the last block of columns 832. -/
theorem ext1 : ∀ t : Fin cfg0.N, win0_1.xsize (grid0.coords t) 0 = 1152 ∧ win0_1.xsize (grid0.coords t) 1 = min 896 (6208 - 896 * (t.val / 2)) :=
  (by decide +kernel : ∀ t : Fin grid0.N, _)
theorem ext2 : ∀ t : Fin cfg0.N, win0_2.xsize (grid0.coords t) 0 = 1024 ∧ win0_2.xsize (grid0.coords t) 1 = min 896 (6208 - 896 * (t.val / 2)) :=
  (by decide +kernel : ∀ t : Fin grid0.N, _)

/-- The first input's block of a grid point. -/
theorem blk0 (c : Dev nD) (t : Fin cfg0.N) (k : Fin 1152) (i : Fin 1024) :
    (iblk m c 0 t : Vec Ideal S1152x1024 .bf16) (ix2 k i)
      = at2 (M := 2304) (N := 1024) (m ((c : Thread nD τ).loc main_arg0)) (1152 * (t.val % 2) + k.val) i.val := by
  have hi := i.isLt
  have hk := k.isLt
  obtain ⟨e0, e1⟩ := idx0 t
  rw [at2_of _ (by omega) (by omega)]
  unfold iblk
  rw [View.read_apply]
  have e : V m c main_v0 (ix2 (⟨1152 * (t.val % 2) + k.val, by omega⟩ : Fin 2304) (⟨i.val, by omega⟩ : Fin 1024))
      = (m ((c : Thread nD τ).loc main_arg0) : (⟨2, ![2304, 1024]⟩ : Shape).Idx → EReal) (ix2 ⟨1152 * (t.val % 2) + k.val, by omega⟩ ⟨i.val, by omega⟩) := by
    unfold V
    after_reads_at
  refine Eq.trans ?_ e
  show V m c main_v0 _ = V m c main_v0 _
  congr 1
  funext a
  apply Fin.ext
  match a with
  | ⟨0, _⟩ => show win0_0.index t 0 * 1152 + 1 * k.val = _; rw [e0]; show _ = 1152 * (t.val % 2) + k.val; omega
  | ⟨1, _⟩ => show win0_0.index t 1 * 1024 + 1 * i.val = _; rw [e1]; show _ = i.val; omega

/-- The second input's buffer at a grid point, whatever fills it past the array's end: inside the array, its elements. -/
theorem blk1 (c : Dev nD) (t : Fin cfg0.N) (d : Vec Ideal S1152x896 .bf16) (k : Fin 1152) (j : Fin 896) (hj : 896 * (t.val / 2) + j.val < 6208) :
    (win0_1.fill (grid0.coords t) d (iblk m c 1 t) : Vec Ideal S1152x896 .bf16) (ix2 k j)
      = at2 (M := 2304) (N := 6208) (m ((c : Thread nD τ).loc main_arg1)) (1152 * (t.val % 2) + k.val) (896 * (t.val / 2) + j.val) := by
  have hi := j.isLt
  have hk := k.isLt
  obtain ⟨e0, e1⟩ := idx1 t
  obtain ⟨x0, x1⟩ := ext1 t
  rw [at2_of _ (by omega) hj]
  have hm : win0_1.moved (grid0.coords t) (ix2 k j) = true := (win0_1.moved_iff _ _).mpr fun a => by
    match a with
    | ⟨0, _⟩ => show k.val < win0_1.xsize (grid0.coords t) 0; rw [x0]; exact hk
    | ⟨1, _⟩ => show j.val < win0_1.xsize (grid0.coords t) 1; rw [x1]; omega
  unfold Window.fill
  rw [dif_pos hm]
  unfold iblk
  rw [View.read_apply]
  have e : V m c main_v1 (ix2 (⟨1152 * (t.val % 2) + k.val, by omega⟩ : Fin 2304) (⟨896 * (t.val / 2) + j.val, hj⟩ : Fin 6208))
      = (m ((c : Thread nD τ).loc main_arg1) : (⟨2, ![2304, 6208]⟩ : Shape).Idx → EReal) (ix2 ⟨1152 * (t.val % 2) + k.val, by omega⟩ ⟨896 * (t.val / 2) + j.val, hj⟩) := by
    unfold V
    after_reads_at
  refine Eq.trans ?_ e
  show V m c main_v1 _ = V m c main_v1 _
  congr 1
  funext a
  apply Fin.ext
  match a with
  | ⟨0, _⟩ => show win0_1.index t 0 * 1152 + 1 * k.val = _; rw [e0]; show _ = 1152 * (t.val % 2) + k.val; omega
  | ⟨1, _⟩ => show win0_1.index t 1 * 896 + 1 * j.val = _; rw [e1]; show _ = 896 * (t.val / 2) + j.val; omega

/-- The term a row `k` contributes to row `r` and column `j` of the product. -/
abbrev term (c : Dev nD) (r j k : ℕ) : EReal :=
  at2 (M := 2304) (N := 1024) (m ((c : Thread nD τ).loc main_arg0)) k r * at2 (M := 2304) (N := 6208) (m ((c : Thread nD τ).loc main_arg1)) k j

/-- One step at an index inside the array, whatever filled the second input's buffer. -/
theorem step_apply (c : Dev nD) (t : Fin cfg0.N) (d : Vec Ideal S1152x896 .bf16) (a : Vec Ideal S1024x896 .f32) (i : Fin 1024) (j : Fin 896)
    (hj : 896 * (t.val / 2) + j.val < 6208) :
    (k0_pay2 (iblk m c 0 t) (win0_1.fill (grid0.coords t) d (iblk m c 1 t)) a (ix2 i j) : EReal)
      = a (ix2 i j) + ∑ k : Fin 1152, term m c i.val (896 * (t.val / 2) + j.val) (1152 * (t.val % 2) + k.val) := by
  rw [pay2_apply]
  congr 1
  refine Finset.sum_congr rfl fun k _ => ?_
  rw [blk0, blk1 m c t d k j hj]

/-- The accumulator holds, inside the array, the first block's sum of column block `p`. -/
abbrev Half (c : Dev nD) (p : ℕ) (a : Vec Ideal S1024x896 .f32) : Prop :=
  ∀ (i : Fin 1024) (j : Fin 896), 896 * p + j.val < 6208 →
    (a (ix2 i j) : EReal) = ∑ k ∈ Finset.range 1152, term m c i.val (896 * p + j.val) k

/-- The first step leaves that. -/
theorem half_first (c : Dev nD) (t : Fin cfg0.N) (ht : t.val % 2 = 0) (d : Vec Ideal S1152x896 .bf16) :
    Half m c ((t.val + 1) / 2) (k0_pay2 (iblk m c 0 t) (win0_1.fill (grid0.coords t) d (iblk m c 1 t)) (k0_pay1 (F := Ideal))) := by
  intro i j hj
  rw [show (t.val + 1) / 2 = t.val / 2 by omega] at hj ⊢
  rw [step_apply m c t d _ i j hj, pay1_apply, zero_add, ← Fin.sum_univ_eq_sum_range]
  refine Finset.sum_congr rfl fun k _ => ?_
  rw [ht, Nat.mul_zero, Nat.zero_add]

/-- What the last step writes back: the sum over all rows. -/
def whole (c : Dev nD) (t : Fin cfg0.N) : Vec Ideal S1024x896 .bf16 := fun y =>
  ((∑ k ∈ Finset.range 2304, term m c (y 0).val (896 * (t.val / 2) + (y 1).val) k : EReal) : Ideal .bf16)

/-- Inside the array the last step's output is that, whatever filled the buffers past it. -/
theorem cut_last (c : Dev nD) (t : Fin cfg0.N) (ht : t.val % 2 = 1) (d : Vec Ideal S1152x896 .bf16) (a : Vec Ideal S1024x896 .f32)
    (ha : Half m c (t.val / 2) a) :
    win0_2.cut (grid0.coords t) (k0_pay3 (k0_pay2 (iblk m c 0 t) (win0_1.fill (grid0.coords t) d (iblk m c 1 t)) a))
      = win0_2.cut (grid0.coords t) (whole m c t) := by
  obtain ⟨x0, x1⟩ := ext2 t
  funext y
  have h1 : (y 1).val < 896 := lt_of_lt_of_le (y 1).isLt (win0_2.xsize_le (grid0.coords t) 1)
  have h0 : (y 0).val < 1024 := lt_of_lt_of_le (y 0).isLt (win0_2.xsize_le (grid0.coords t) 0)
  have hj : 896 * (t.val / 2) + (y 1).val < 6208 := by
    have h : (y 1).val < win0_2.xsize (grid0.coords t) 1 := (y 1).isLt
    rw [x1] at h; omega
  have hy : win0_2.xinj (grid0.coords t) y = ix2 (⟨(y 0).val, h0⟩ : Fin 1024) (⟨(y 1).val, h1⟩ : Fin 896) := (ix2_eta _).symm
  show k0_pay3 (F := Ideal) (k0_pay2 (iblk m c 0 t) (win0_1.fill (grid0.coords t) d (iblk m c 1 t)) a) (win0_2.xinj (grid0.coords t) y)
    = whole m c t (win0_2.xinj (grid0.coords t) y)
  rw [hy]
  refine (pay3_apply _ _ _).trans ?_
  rw [step_apply m c t d a _ _ hj, ha _ _ hj, ht]
  show _ = ∑ k ∈ Finset.range 2304, term m c (y 0).val (896 * (t.val / 2) + (y 1).val) k
  exact add_block 1152 1 _

/-- Between points: after a first step the accumulator holds the first block's sum. -/
def holds (c : Dev nD) (n : ℕ) : sProp 𝕀 :=
  iprop(∃ a, ⌜n % 2 = 1 → Half m c (n / 2) a⌝ ∗ owns (c : Thread nD τ) scM fullShare a ∗ (∃ r, prngReg c r))

/-- After the body the inputs' buffers hold their blocks and the output's, where it is written, the whole sum. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => padded1 t (iblk m c 1 t)
    | ⟨2, _⟩ => whole m c t
  Φ t := holds m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_2 (c : Dev nD) (t : Fin cfg0.N) : (dats m 0 c).after 2 t = whole m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

theorem hin (c : Dev nD) : Pipeline.ΦA spec0 c ⊢ (dats m 0 c).Φ 0 := by
  rw [show (dats m 0 c).Φ 0 = holds m c 0 from rfl, invariant_eq]
  unfold holds
  iintro ⟨⟨%d, HS⟩, Hg⟩
  iexists d
  isplitr; · ipureintro; exact fun h => absurd h (by omega)
  isplitl [HS]; · iexact HS
  iexact Hg
theorem hout (c : Dev nD) : (dats m 0 c).Φ (Fin.last cfg0.N) ⊢ Pipeline.ΦA spec0 c := by
  rw [show (dats m 0 c).Φ (Fin.last cfg0.N) = holds m c cfg0.N from rfl, invariant_eq]
  unfold holds
  iintro ⟨%d, -, HS, Hg⟩
  isplitl [HS]; · iexists d; iexact HS
  iexact Hg

theorem live_last : ∀ t : Fin cfg0.N, t.val % 2 = 1 → idle0 2 (grid0.coords t) = false :=
  (by decide +kernel : ∀ t : Fin grid0.N, t.val % 2 = 1 → idle0 2 (grid0.coords t) = false)
theorem idle_first : ∀ t : Fin cfg0.N, t.val % 2 = 0 → idle0 2 (grid0.coords t) = true :=
  (by decide +kernel : ∀ t : Fin grid0.N, t.val % 2 = 0 → idle0 2 (grid0.coords t) = true)
theorem noflush_first (t : Fin cfg0.N) (h : t.val % 2 = 0) : (cfg0.win 2).flush t = false :=
  Bool.eq_false_iff.mpr fun hf => absurd ((flush0_2 t).mp hf) (by omega)

set_option maxHeartbeats 1000000 in
theorem obligation (c : Dev nD) : BodyObligationLoose (dats m 0 c) (defs₀ (F := Ideal)) Variants.none () Set.univ := fun t => by
  rw [bigSep_W0, bigSep_W0, defs₀_row]
  simp only [before_0, before_1]
  rw [show (dats m 0 c).Φ t.succ = holds m c (t.val + 1) from rfl,
    show (dats m 0 c).owesAt () t.succ = (dats m 0 c).owesAt () t.castSucc from rfl,
    show (dats m 0 c).Φ t.castSucc = holds m c t.val from rfl]
  have e1 : win0_1.cut (grid0.coords t) (padded1 t (iblk m c 1 t)) = iblk m c 1 t := win0_1.cut_fill _ _ _
  unfold holds bodyAt0
  by_cases hf : t.val % 2 = 0
  · rw [show idle0 2 (grid0.coords t) = true from idle_first t hf, show (win0 2).flush t = false from noflush_first t hf]
    dsimp only
    iintro ⟨⟨%a, %ha, HS, Hg⟩, Ho, ⟨%d0, H0⟩, ⟨%d1, H1⟩, ⟨%y, H2⟩⟩
    iapply (run_first c (grid0.coords t) _ _ _ _ _ _ _ _ (iblk m c 0 t) (win0_1.fill (grid0.coords t) d1 (iblk m c 1 t)) _ a Set.univ _
      ((first_iff t).mpr hf) (fun h => absurd ((last_iff t).mp h) (by omega)))
    isplitl [H0]; · iexact H0
    isplitl [H1]; · iexact H1
    isplitl [H2]; · iexact H2
    isplitl [HS]; · iexact HS
    iintro ⟨H0, H1, H2, HS⟩
    isplitl [HS Hg]
    · iexists (k0_pay2 (iblk m c 0 t) (win0_1.fill (grid0.coords t) d1 (iblk m c 1 t)) (k0_pay1 (F := Ideal)))
      isplitr; · ipureintro; exact fun _ => half_first m c t hf d1
      isplitl [HS]; · iexact HS
      iexact Hg
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) (padded1 t (iblk m c 1 t))))
      rw [e1]; try iexact H1
    iexists _; iexact H2
  · rw [show idle0 2 (grid0.coords t) = false from live_last t (by omega)]
    dsimp only
    iintro ⟨⟨%a, %ha, HS, Hg⟩, Ho, ⟨%d0, H0⟩, ⟨%d1, H1⟩, ⟨%y, H2⟩⟩
    iapply (run_last c (grid0.coords t) _ _ _ _ _ _ _ _ (iblk m c 0 t) (win0_1.fill (grid0.coords t) d1 (iblk m c 1 t)) _ a Set.univ _
      (fun h => hf ((first_iff t).mp h)) ((last_iff t).mpr (by omega)))
    isplitl [H0]; · iexact H0
    isplitl [H1]; · iexact H1
    isplitl [H2]; · iexact H2
    isplitl [HS]; · iexact HS
    iintro ⟨H0, H1, H2, HS⟩
    isplitl [HS Hg]
    · iexists _
      isplitr
      swap
      · isplitl [HS]; · iexact HS
        iexact Hg
      ipureintro; exact fun h => absurd h (by omega)
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) (padded1 t (iblk m c 1 t))))
      rw [e1]; try iexact H1
    iexists (k0_pay3 (k0_pay2 (iblk m c 0 t) (win0_1.fill (grid0.coords t) d1 (iblk m c 1 t)) a))
    change _ ⊢ owns (c : Thread nD τ) (st0_2 t) fullShare (win0_2.fill (grid0.coords t) _ (win0_2.cut (α := Elt Ideal win0_2.elt) (grid0.coords t) (whole m c t)))
    rw [← cut_last m c t (by omega) d1 a (ha (by omega)), win0_2.fill_cut]; try iexact H2

set_option backward.isDefEq.respectTransparency.types false in
theorem run_main : θ_run defs (onTc (τ := τ) (main (F := Ideal))) (s₀ m ρ) (Pipeline.FramePost cfgs (dats m) 0 (V m)) :=
  Pipeline.θ_run_frame_track (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := A_eq m) (hin := hin m) (hout := hout m)

/-- The array the run leaves. -/
abbrev result (c : Dev nD) : Buf (Elt Ideal) ((c : Thread nD τ).loc main_v2) := (dats m 0 c).arrAt 2 cfg0.N

theorem run_result : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

/-! ## The result array -/

theorem idx_inj2 : ∀ t t' : Fin cfg0.N, t.val % 2 = 1 → t'.val % 2 = 1 → win0_2.index t = win0_2.index t' → t = t' :=
  (by decide +kernel : ∀ t t' : Fin grid0.N, t.val % 2 = 1 → t'.val % 2 = 1 → win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (idx_inj2 t t' ((flush0_2 t).mp hf) ((flush0_2 t').mp hf') h)

/-- A block of the result array is what its last point wrote back. -/
theorem block_eq (c : Dev nD) (t : Fin cfg0.N) (ht : t.val % 2 = 1) :
    ((cfg0.win 2).blk t).view.read (Elt Ideal) (result m c) = win0_2.cut (grid0.coords t) (whole m c t) := by
  refine ((dats m 0 c).read_blk_arrAt_eq_flushed 2 disjoint2 cfg0.N t t.isLt ((flush0_2 t).mpr ht)).trans ?_
  show (cfg0.win 2).cut (grid0.coords t) ((dats m 0 c).after 2 t) = _
  rw [after_2]

/-- The result array: at row `r` and column `j` the sum over all rows of the terms. -/
theorem array_apply (c : Dev nD) (r : Fin 1024) (j : Fin 6208) :
    (result m c (ix2 r j) : EReal) = ∑ k ∈ Finset.range 2304, term m c r.val j.val k := by
  have hr := r.isLt
  have hj := j.isLt
  have hN : cfg0.N = 14 := N_0
  obtain ⟨t, ht⟩ : ∃ t : Fin cfg0.N, t.val = 2 * (j.val / 896) + 1 := ⟨⟨2 * (j.val / 896) + 1, by omega⟩, rfl⟩
  have hp : t.val / 2 = j.val / 896 := by omega
  obtain ⟨e0, e1⟩ := idx2 t
  obtain ⟨x0, x1⟩ := ext2 t
  let y : (win0_2.xblock (grid0.coords t)).Idx := fun a => match a with
    | ⟨0, _⟩ => ⟨r.val, by show _ < win0_2.xsize (grid0.coords t) 0; rw [x0]; omega⟩
    | ⟨1, _⟩ => ⟨j.val % 896, by show _ < win0_2.xsize (grid0.coords t) 1; rw [x1]; omega⟩
  have hb := congrFun (block_eq m c t (by omega)) y
  rw [View.read_apply] at hb
  have he : ((cfg0.win 2).blk t).view.emb y = ix2 r j := by
    funext a
    apply Fin.ext
    match a with
    | ⟨0, _⟩ => show win0_2.index t 0 * 1024 + 1 * r.val = r.val; rw [e0]; omega
    | ⟨1, _⟩ => show win0_2.index t 1 * 896 + 1 * (j.val % 896) = j.val; rw [e1]; omega
  rw [he] at hb
  refine hb.trans ?_
  show (∑ k ∈ Finset.range 2304, term m c r.val (896 * (t.val / 2) + j.val % 896) k : EReal) = _
  rw [show 896 * (t.val / 2) + j.val % 896 = j.val by omega]

/-- The reference's contraction at row `r` and column `j`, as a sum over the rows. -/
theorem reference_apply (u : FVec Ideal Cert.Reference22Ideal.S2304x1024 .f32) (g : FVec Ideal Cert.Reference22Ideal.S2304x6208 .f32)
    (r : Fin 1024) (j : Fin 6208) :
    (truncf .bf16 (transpose Cert.Reference22Ideal.S1024x6208 [1, 0]
        (Host.dotGeneral (φ₁ := .f32) (φ₂ := .f32) Cert.Reference22Ideal.dot_S2304x6208_S2304x1024_S6208x1024_0_0_1_1_n_n none g u)
        Cert.Reference22Ideal.Gen.transposes_S6208x1024_S1024x6208_1_0) Cert.Reference22Ideal.Gen.bitsLt_bf16_f32
      : FVec Ideal Cert.Reference22Ideal.S1024x6208 .bf16) (ix2 r j)
      = ∑ k ∈ Finset.range 2304, (at2 u k r.val * at2 g k j.val : EReal) := by
  pointwise
  rw [← Fin.sum_univ_eq_sum_range]
  refine Finset.sum_congr rfl fun k _ => ?_
  rw [at2_of _ k.isLt r.isLt, at2_of _ k.isLt j.isLt, mul_comm]

/-- The reference runs to the end, its arguments unchanged; it has no semaphore at all. -/
theorem reference_frame : Cert.quiescent_Reference22Ideal (hReference22Ideal := Cert.Reference22Ideal.Gen.facts) := fun m g _ =>
  (θ_run _ _ _).mono (fun r h => ⟨fun c => (h c).2, funext fun s => match s with
    | (_, .reg s) => s.elim0
    | (_, .dma s) => s.elim0⟩) (Cert.Reference22Ideal.Value.run m g)

/-- The two runs end with the same array. -/
theorem algebraic : Cert.algebraic_Kernel22Ideal_Reference22Ideal (hKernel22Ideal := Cert.Kernel22Ideal.Gen.facts)
    (hReference22Ideal := Cert.Reference22Ideal.Gen.facts) := by
  intro m g m' g' _ hargs
  refine ⟨fun c => result m c, run_result m g, ?_⟩
  refine (θ_run _ _ _).mono (fun r h c => ⟨(h c).1.trans ?_, (h c).2⟩) (Cert.Reference22Ideal.Value.run m' g')
  rw [(hargs c).1, (hargs c).2]
  funext i
  obtain ⟨r, j, rfl⟩ : ∃ (r : Fin 1024) (j : Fin 6208), i = ix2 r j := ⟨i 0, i 1, (ix2_eta i).symm⟩
  exact (reference_apply _ _ r j).trans (array_apply m c r j).symm

/-! ## The two programs' frames -/

/-- The two programs run the same bodies. -/
theorem defs₀_eq : Cert.Kernel22.defs₀ (F := Bits) = Cert.Kernel22Ideal.defs₀ (F := Bits) := by
  unfold Cert.Kernel22.defs₀ Cert.Kernel22Ideal.defs₀
  refine congrArg (Defs.onTc (nD := nD) (τ := τ) (sig := sig) (Val := Elt Bits) (Λ := Λ₀)) ?_
  funext l a
  match l, a with
  | 0, (t, s) => rfl

/-- And the same calls. -/
theorem defs_eq : Cert.Kernel22.defs (F := Bits) = Cert.Kernel22Ideal.defs (F := Bits) :=
  congrArg (Pipeline.defs (pcfgs (F := Bits))) defs₀_eq

/-- The kernel's own frame. -/
theorem kernel_frame : Cert.quiescent_Kernel22 (hKernel22 := Cert.Kernel22.Gen.facts) := fun m ρ _ => by
  have h := frame (F := Bits) m ρ
  rw [← defs_eq] at h
  exact h

/-- The idealization's frame. -/
theorem ideal_frame : Cert.quiescent_Kernel22Ideal (hKernel22Ideal := Cert.Kernel22Ideal.Gen.facts) := fun m ρ _ => frame m ρ

end Cert.Kernel22Ideal.Product
-- ==== Proof.ActBwd.lean ====
/-
  The feed-forward's gate, backward: `cc0_l0_act_bwd` leaves the gradients of `silu(gate) * val` with respect to the
  value and to the gate, element by element, in blocks of 256 rows and 1408 columns. The value is the left half of
  the columns of `hh`.
-/
module

public import proofs.«01_k».proof.Defs
public import proofs.«01_k».proof.Proof.Gen.Kernel23Ideal.Value
public import proofs.«01_k».proof.Proof.Gen.Reference23Ideal
public import proofs.«01_k».proof.Proof.Gen.Reference23Ideal.Run
public import Idealize.ShloMosaic.Lib.Pointwise

@[expose] public section

noncomputable section

namespace Cert.Kernel23Ideal.Product

open Cert.Kernel23Ideal Cert.Kernel23Ideal.Gen Idealize.ShloMosaic Idealize.ShloMosaic.TcCoe Idealize.SL.Sem
open Cert.Kernel23Ideal.Value

/-- The reference runs to the end, its arguments unchanged; it has no semaphore at all. -/
theorem reference_frame : Cert.quiescent_Reference23Ideal (hReference23Ideal := Cert.Reference23Ideal.Gen.facts) := fun m g _ =>
  (θ_run _ _ _).mono (fun r h => ⟨fun c => (h c).2.2, funext fun s => match s with
    | (_, .reg s) => s.elim0
    | (_, .dma s) => s.elim0⟩) (Cert.Reference23Ideal.Value.run m g)

/-- The two runs end with the same two arrays. -/
theorem algebraic : Cert.algebraic_Kernel23Ideal_Reference23Ideal (hKernel23Ideal := Cert.Kernel23Ideal.Gen.facts)
    (hReference23Ideal := Cert.Reference23Ideal.Gen.facts) := by
  intro m g m' g' _ hargs
  refine ⟨_, _, Cert.Kernel23Ideal.Value.run m g, ?_⟩
  refine (θ_run _ _ _).mono (fun r h c => ⟨(h c).1.trans ?_, (h c).2.1.trans ?_, (h c).2.2⟩) (Cert.Reference23Ideal.Value.run m' g')
  · rw [(hargs c).2.1, (hargs c).2.2]
    funext i
    pointwise [G3]
    rfl
  · rw [(hargs c).1, (hargs c).2.1, (hargs c).2.2]
    funext i
    have e : inIdx4_0 i = ix2 (i 0) ⟨(i 1).val, lt_trans (show (i 1).val < 2816 from (i 1).isLt) (by decide)⟩ := (ix2_eta _).symm
    pointwise [G4]
    rw [e]
    rfl

end Cert.Kernel23Ideal.Product
-- ==== Proof.Res2Bwd.lean ====
/-
  The feed-forward's gated branch, backward: `cc0_l0_res2_bwd` leaves the branch's gradient, the gate times the incoming
  gradient, and the gate's gradient, the sum over the rows of the branch times the incoming gradient, gathered in four
  blocks of 512 rows.
-/
module

public import proofs.«01_k».proof.Defs
public import proofs.«01_k».proof.Proof.Gen.Kernel24Ideal.Value
public import proofs.«01_k».proof.Proof.Gen.Reference24Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel24Ideal.Product

open Cert.Kernel24Ideal Cert.Kernel24Ideal.Gen Cert.Kernel24Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- What the first point leaves in the block of output 0. -/
theorem out3_A (c : Dev nD) (i : grid0.Coords) (a2 h2 a3 h3 a4 h4 a5 h5 a6 h6 hc0 hc1) (x0 : Vec F S512x1024 .f32) (x1 : Vec F S512x1024 .f32) (x2 : Vec F S1x1x1024 .f32) :
    out0_A_3 c i a2 h2 a3 h3 a4 h4 a5 h5 a6 h6 hc0 hc1 x0 x1 x2 = k0_pay2 x1 x2 := by
  unfold out0_A_3
  rw [View.read_writes_eq_canon _ _ _ (cover0_A_3 c i a2 h2 a3 h3 a4 h4 a5 h5 a6 h6 hc0 hc1 x0 x1 x2)]
  unfold kernelRun0_A
  dsimp only
  sl_unfold_words
  rw [View.canon_unit_zero hz]
  simp only [View.readAt_eq_ld, h2.read_unread, h3.read_unread, h4.read_unread, View.ld_unit_zero (S := S512x1024) hz, View.ld_unit_zero (S := S1x1x1024) hz3]

/-- What a later point leaves in the block of output 0. -/
theorem out3_B (c : Dev nD) (i : grid0.Coords) (a2 h2 a3 h3 a4 h4 a5 h5 a6 h6 hc0 hc1) (x0 : Vec F S512x1024 .f32) (x1 : Vec F S512x1024 .f32) (x2 : Vec F S1x1x1024 .f32) (xo4 : Vec F S1x1x1024 .f32) :
    out0_B_3 c i a2 h2 a3 h3 a4 h4 a5 h5 a6 h6 hc0 hc1 x0 x1 x2 xo4 = k0_pay2 x1 x2 := by
  unfold out0_B_3
  rw [View.read_writes_eq_canon _ _ _ (cover0_B_3 c i a2 h2 a3 h3 a4 h4 a5 h5 a6 h6 hc0 hc1 x0 x1 x2 xo4)]
  unfold kernelRun0_B
  dsimp only
  sl_unfold_words
  rw [View.canon_unit_zero hz]
  simp only [View.readAt_eq_ld, h2.read_unread, h3.read_unread, h4.read_unread, h6.read_unread, View.ld_unit_zero (S := S512x1024) hz, View.ld_unit_zero (S := S1x1x1024) hz3]

/-- The first point leaves the block's column sums in output 1. -/
theorem out4_A (c : Dev nD) (i : grid0.Coords) (a2 h2 a3 h3 a4 h4 a5 h5 a6 h6 hc0 hc1) (x0 : Vec F S512x1024 .f32) (x1 : Vec F S512x1024 .f32) (x2 : Vec F S1x1x1024 .f32) :
    out0_A_4 c i a2 h2 a3 h3 a4 h4 a5 h5 a6 h6 hc0 hc1 x0 x1 x2 = k0_pay3 x0 x1 := by
  unfold out0_A_4
  rw [View.read_writes_eq_canon _ _ _ (cover0_A_4 c i a2 h2 a3 h3 a4 h4 a5 h5 a6 h6 hc0 hc1 x0 x1 x2)]
  unfold kernelRun0_A
  dsimp only
  sl_unfold_words
  rw [View.canon_unit_zero hz3]
  simp only [View.readAt_eq_ld, h2.read_unread, h3.read_unread, h4.read_unread, View.ld_unit_zero (S := S512x1024) hz, View.ld_unit_zero (S := S1x1x1024) hz3]

/-- A later point adds the block's column sums to output 1. -/
theorem out4_B (c : Dev nD) (i : grid0.Coords) (a2 h2 a3 h3 a4 h4 a5 h5 a6 h6 hc0 hc1) (x0 : Vec F S512x1024 .f32) (x1 : Vec F S512x1024 .f32) (x2 : Vec F S1x1x1024 .f32) (xo4 : Vec F S1x1x1024 .f32) :
    out0_B_4 c i a2 h2 a3 h3 a4 h4 a5 h5 a6 h6 hc0 hc1 x0 x1 x2 xo4 = k0_pay4 x0 x1 xo4 := by
  unfold out0_B_4
  rw [View.read_writes_eq_canon _ _ _ (cover0_B_4 c i a2 h2 a3 h3 a4 h4 a5 h5 a6 h6 hc0 hc1 x0 x1 x2 xo4)]
  unfold kernelRun0_B
  dsimp only
  sl_unfold_words
  rw [View.canon_unit_zero hz3]
  simp only [View.readAt_eq_ld, h2.read_unread, h3.read_unread, h4.read_unread, h6.read_unread, View.ld_unit_zero (S := S512x1024) hz, View.ld_unit_zero (S := S1x1x1024) hz3]

end cases

variable (m : (ℓ : Loc nD τ sig) → Buf (Elt Ideal) ℓ)

theorem idx0 : ∀ t : Fin cfg0.N, win0_0.index t 0 = t.val ∧ win0_0.index t 1 = 0 :=
  (by decide +kernel : ∀ t : Fin grid0.N, _)

/-- The block of rows of input 0 at a grid point. -/
theorem blk0 (c : Dev nD) (t : Fin cfg0.N) (i : Fin 512) (j : Fin 1024) :
    (iblk m c 0 t : Vec Ideal S512x1024 .f32) (ix2 i j)
      = at2 (M := 2048) (N := 1024) (m ((c : Thread nD τ).loc main_arg0)) (512 * t.val + i.val) j.val := by
  have hN : t.val < 4 := lt_of_lt_of_eq t.isLt N_0
  have hi := i.isLt
  have hj := j.isLt
  obtain ⟨e0, e1⟩ := idx0 t
  rw [at2_of _ (by omega) (by omega)]
  unfold iblk
  rw [View.read_apply]
  have e : V m c main_arg0 (ix2 (⟨512 * t.val + i.val, by omega⟩ : Fin 2048) (⟨j.val, by omega⟩ : Fin 1024))
      = (m ((c : Thread nD τ).loc main_arg0) : (⟨2, ![2048, 1024]⟩ : Shape).Idx → EReal) (ix2 ⟨512 * t.val + i.val, by omega⟩ ⟨j.val, by omega⟩) := by
    unfold V
    after_reads_at
  refine Eq.trans ?_ e
  show V m c main_arg0 _ = V m c main_arg0 _
  congr 1
  funext a
  apply Fin.ext
  match a with
  | ⟨0, _⟩ => show win0_0.index t 0 * 512 + 1 * i.val = 512 * t.val + i.val; rw [e0]; omega
  | ⟨1, _⟩ => show win0_0.index t 1 * 1024 + 1 * j.val = j.val; rw [e1]; omega

theorem idx1 : ∀ t : Fin cfg0.N, win0_1.index t 0 = t.val ∧ win0_1.index t 1 = 0 :=
  (by decide +kernel : ∀ t : Fin grid0.N, _)

/-- The block of rows of input 1 at a grid point. -/
theorem blk1 (c : Dev nD) (t : Fin cfg0.N) (i : Fin 512) (j : Fin 1024) :
    (iblk m c 1 t : Vec Ideal S512x1024 .f32) (ix2 i j)
      = at2 (M := 2048) (N := 1024) (m ((c : Thread nD τ).loc main_arg2)) (512 * t.val + i.val) j.val := by
  have hN : t.val < 4 := lt_of_lt_of_eq t.isLt N_0
  have hi := i.isLt
  have hj := j.isLt
  obtain ⟨e0, e1⟩ := idx1 t
  rw [at2_of _ (by omega) (by omega)]
  unfold iblk
  rw [View.read_apply]
  have e : V m c main_arg2 (ix2 (⟨512 * t.val + i.val, by omega⟩ : Fin 2048) (⟨j.val, by omega⟩ : Fin 1024))
      = (m ((c : Thread nD τ).loc main_arg2) : (⟨2, ![2048, 1024]⟩ : Shape).Idx → EReal) (ix2 ⟨512 * t.val + i.val, by omega⟩ ⟨j.val, by omega⟩) := by
    unfold V
    after_reads_at
  refine Eq.trans ?_ e
  show V m c main_arg2 _ = V m c main_arg2 _
  congr 1
  funext a
  apply Fin.ext
  match a with
  | ⟨0, _⟩ => show win0_1.index t 0 * 512 + 1 * i.val = 512 * t.val + i.val; rw [e0]; omega
  | ⟨1, _⟩ => show win0_1.index t 1 * 1024 + 1 * j.val = j.val; rw [e1]; omega

theorem idx2 : ∀ t : Fin cfg0.N, win0_2.index t 0 = 0 ∧ win0_2.index t 1 = 0 ∧ win0_2.index t 2 = 0 :=
  (by decide +kernel : ∀ t : Fin grid0.N, _)

/-- The parameter of input 2 at a grid point. -/
theorem blk2 (c : Dev nD) (t : Fin cfg0.N) (j : Fin 1024) :
    (iblk m c 2 t : Vec Ideal S1x1x1024 .f32) (ix3 0 0 j) = m ((c : Thread nD τ).loc main_arg1) (ix1 j) := by
  obtain ⟨e0, e1, e2⟩ := idx2 t
  unfold iblk
  rw [View.read_apply]
  have e : V m c main_v1 (ix3 (0 : Fin 1) (0 : Fin 1) j) = (m ((c : Thread nD τ).loc main_arg1) : (⟨1, ![1024]⟩ : Shape).Idx → EReal) (ix1 j) := by
    unfold V
    after_reads_at

  refine Eq.trans ?_ e
  show V m c main_v1 _ = V m c main_v1 _
  congr 1
  funext a
  apply Fin.ext
  match a with
  | ⟨0, _⟩ => show win0_2.index t 0 * 1 + 1 * 0 = 0; rw [e0]
  | ⟨1, _⟩ => show win0_2.index t 1 * 1 + 1 * 0 = 0; rw [e1]
  | ⟨2, _⟩ => show win0_2.index t 2 * 1024 + 1 * j.val = j.val; rw [e2]; omega

/-- A parameter vector read at a column. -/
abbrev at1 (x : (⟨1, ![1024]⟩ : Shape).Idx → EReal) (j : Fin 1024) : EReal := x (ix1 j)

/-- The branch's gradient at row `r` and column `j`. -/
abbrev term3 (c : Dev nD) (r : ℕ) (j : Fin 1024) : EReal := at1 (m ((c : Thread nD τ).loc main_arg1)) j * at2 (M := 2048) (N := 1024) (m ((c : Thread nD τ).loc main_arg2)) r j.val

/-- What row `r` adds to the gate's gradient at column `j`. -/
abbrev term4 (c : Dev nD) (r : ℕ) (j : Fin 1024) : EReal := at2 (M := 2048) (N := 1024) (m ((c : Thread nD τ).loc main_arg2)) r j.val * at2 (M := 2048) (N := 1024) (m ((c : Thread nD τ).loc main_arg0)) r j.val

theorem idx3 : ∀ t : Fin cfg0.N, win0_3.index t 0 = t.val ∧ win0_3.index t 1 = 0 :=
  (by decide +kernel : ∀ t : Fin grid0.N, _)
theorem ext3 : ∀ t : Fin cfg0.N, win0_3.xsize (grid0.coords t) 0 = 512 ∧ win0_3.xsize (grid0.coords t) 1 = 1024 :=
  (by decide +kernel : ∀ t : Fin grid0.N, _)

/-- What a point leaves in its block of output 0. -/
theorem left3 (c : Dev nD) (t : Fin cfg0.N) : (outsAt0 m c t.val t.isLt).1 = k0_pay2 (iblk m c 1 t) (iblk m c 2 t) := by
  have hN : t.val < 4 := lt_of_lt_of_eq t.isLt N_0
  by_cases h : t.val = 0
  · rw [outsAt0_A m c t (by omega) (by omega)]
    dsimp only
    rw [out3_A]
  · rw [outsAt0_B m c t (by omega) (by omega)]
    dsimp only
    rw [out3_B]

/-- … element by element. -/
theorem row3_apply (c : Dev nD) (t : Fin cfg0.N) (i : Fin 512) (j : Fin 1024) :
    (k0_pay2 (iblk m c 1 t) (iblk m c 2 t) (ix2 i j) : EReal) = term3 m c (512 * t.val + i.val) j := by
  pointwise [k0_pay2]
  rw [blk2, blk1]

/-- The array of output 0. -/
theorem array3_apply (c : Dev nD) (r : Fin 2048) (j : Fin 1024) :
    ((dats m 0 c).arrAt 3 cfg0.N (ix2 r j) : EReal) = term3 m c r.val j := by
  have hr := r.isLt
  have hj := j.isLt
  have hN : cfg0.N = 4 := N_0
  obtain ⟨t, ht⟩ : ∃ t : Fin cfg0.N, t.val = r.val / 512 := ⟨⟨r.val / 512, by omega⟩, rfl⟩
  obtain ⟨e0, e1⟩ := idx3 t
  obtain ⟨x0, x1⟩ := ext3 t
  let y : (win0_3.xblock (grid0.coords t)).Idx := fun a => match a with
    | ⟨0, _⟩ => ⟨r.val % 512, by show _ < win0_3.xsize (grid0.coords t) 0; rw [x0]; omega⟩
    | ⟨1, _⟩ => ⟨j.val, by show _ < win0_3.xsize (grid0.coords t) 1; rw [x1]; omega⟩
  have hb := congrFun ((blocks3 m c t (flush0_3 t)).trans (flushed3 m c t)) y
  rw [View.read_apply] at hb
  have he : ((cfg0.win 3).blk t).view.emb y = ix2 r j := by
    funext a
    apply Fin.ext
    match a with
    | ⟨0, _⟩ => show win0_3.index t 0 * 512 + 1 * (r.val % 512) = r.val; rw [e0]; omega
    | ⟨1, _⟩ => show win0_3.index t 1 * 1024 + 1 * j.val = j.val; rw [e1]; omega
  rw [he, left3] at hb
  refine hb.trans ?_
  have hrow := row3_apply m c t ⟨r.val % 512, by omega⟩ j
  rw [show 512 * t.val + (⟨r.val % 512, by omega⟩ : Fin 512).val = r.val from by show 512 * t.val + r.val % 512 = r.val; omega] at hrow
  refine Eq.trans ?_ hrow
  exact congrArg (k0_pay2 (iblk m c 1 t) (iblk m c 2 t)) (by
    funext a
    apply Fin.ext
    match a with
    | ⟨0, _⟩ => rfl
    | ⟨1, _⟩ => rfl)

theorem ext4 : ∀ t : Fin cfg0.N, win0_4.index t 0 = 0 ∧ win0_4.index t 1 = 0 ∧ win0_4.index t 2 = 0 ∧ win0_4.xsize (grid0.coords t) 0 = 1
    ∧ win0_4.xsize (grid0.coords t) 1 = 1 ∧ win0_4.xsize (grid0.coords t) 2 = 1024 :=
  (by decide +kernel : ∀ t : Fin grid0.N, _)

/-- The first point's column sums of output 1. -/
theorem first4 (c : Dev nD) (t : Fin cfg0.N) (j : Fin 1024) :
    (k0_pay3 (iblk m c 0 t) (iblk m c 1 t) (ix3 0 0 j) : EReal) = ∑ i : Fin 512, term4 m c (512 * t.val + i.val) j := by
  pointwise [k0_pay3, k0_pay1]
  refine Finset.sum_congr rfl fun i _ => ?_
  rw [blk1, blk0]

/-- A later point adds its own to what was there. -/
theorem next4 (c : Dev nD) (t : Fin cfg0.N) (acc : Vec Ideal S1x1x1024 .f32) (j : Fin 1024) :
    (k0_pay4 (iblk m c 0 t) (iblk m c 1 t) acc (ix3 0 0 j) : EReal) = (acc (ix3 0 0 j) : EReal) + ∑ i : Fin 512, term4 m c (512 * t.val + i.val) j := by
  pointwise [k0_pay4, k0_pay1]
  refine congrArg _ (Finset.sum_congr rfl fun i _ => ?_)
  rw [blk1, blk0]

theorem left4_A (c : Dev nD) (t : Fin cfg0.N) (h : t.val = 0) : (outsAt0 m c t.val t.isLt).2 = k0_pay3 (iblk m c 0 t) (iblk m c 1 t) := by
  rw [outsAt0_A m c t (by omega) (by omega)]
  dsimp only
  rw [out4_A]

theorem left4_B (c : Dev nD) (t : Fin cfg0.N) (h : t.val ≠ 0) :
    (outsAt0 m c t.val t.isLt).2 = k0_pay4 (iblk m c 0 t) (iblk m c 1 t) (outsAt0 m c (t.val - 1) (Nat.lt_of_le_of_lt (Nat.sub_le _ _) t.isLt)).2 := by
  have hN : t.val < 4 := lt_of_lt_of_eq t.isLt N_0
  rw [outsAt0_B m c t (by omega) (by omega)]
  dsimp only
  rw [out4_B]

/-- After point `s` output 1 holds the column sums over the rows seen so far. -/
theorem sum4_apply (c : Dev nD) (j : Fin 1024) (s : ℕ) (hs : s < 4) (h : s < cfg0.N) :
    ((outsAt0 m c s h).2 (ix3 0 0 j) : EReal) = ∑ k ∈ Finset.range (512 * (s + 1)), term4 m c k j := by
  have hN : cfg0.N = 4 := N_0
  have key := sweep 4 512 (fun k => term4 m c k j) (fun s => if h : s < cfg0.N then ((outsAt0 m c s h).2 (ix3 0 0 j) : EReal) else 0)
    (fun _ => by
      have h' : 0 < cfg0.N := by omega
      simp only [dif_pos h']
      refine (congrFun (left4_A m c ⟨0, h'⟩ rfl) _).trans ((first4 m c ⟨0, h'⟩ j).trans (Finset.sum_congr rfl fun i _ => ?_))
      show term4 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left4_B m c ⟨s + 1, hb⟩ (Nat.succ_ne_zero s)) _).trans (next4 m c ⟨s + 1, hb⟩ _ j))
    s hs
  simpa only [dif_pos h] using key

/-- The array of output 1: the column sums over all rows. -/
theorem array4_apply (c : Dev nD) (j : Fin 1024) :
    ((dats m 0 c).arrAt 4 cfg0.N (ix3 (0 : Fin 1) (0 : Fin 1) j) : EReal) = ∑ k ∈ Finset.range 2048, term4 m c k j := by
  have hj := j.isLt
  have hN : cfg0.N = 4 := N_0
  let t : Fin cfg0.N := ⟨3, by omega⟩
  obtain ⟨e0, e1, e2, x0, x1, x2⟩ := ext4 t
  let y : (win0_4.xblock (grid0.coords t)).Idx := fun a => match a with
    | ⟨0, _⟩ => ⟨0, by show _ < win0_4.xsize (grid0.coords t) 0; rw [x0]; omega⟩
    | ⟨1, _⟩ => ⟨0, by show _ < win0_4.xsize (grid0.coords t) 1; rw [x1]; omega⟩
    | ⟨2, _⟩ => ⟨j.val, by show _ < win0_4.xsize (grid0.coords t) 2; rw [x2]; omega⟩
  have hd : ∀ t t' : Fin cfg0.N, (cfg0.win 4).flush t = true → (cfg0.win 4).flush t' = true → t ≠ t' →
      Disjoint ((cfg0.win 4).blk t).view.set ((cfg0.win 4).blk t').view.set := fun t t' hf hf' hne =>
    absurd (Fin.ext (by have := (flush0_4 t).mp hf; have := (flush0_4 t').mp hf'; have := t.isLt; have := t'.isLt; omega)) hne
  have hb := congrFun (((dats m 0 c).read_blk_arrAt_eq_flushed 4 hd cfg0.N t t.isLt ((flush0_4 t).mpr rfl)).trans (flushed4 m c t)) y
  rw [View.read_apply] at hb
  have he : ((cfg0.win 4).blk t).view.emb y = ix3 (0 : Fin 1) (0 : Fin 1) j := by
    funext a
    apply Fin.ext
    match a with
    | ⟨0, _⟩ => show win0_4.index t 0 * 1 + 1 * 0 = 0; rw [e0]
    | ⟨1, _⟩ => show win0_4.index t 1 * 1 + 1 * 0 = 0; rw [e1]
    | ⟨2, _⟩ => show win0_4.index t 2 * 1024 + 1 * j.val = j.val; rw [e2]; omega
  rw [he] at hb
  refine hb.trans (Eq.trans ?_ (sum4_apply m c j 3 (by omega) t.isLt))
  exact congrArg ((outsAt0 m c 3 t.isLt).2) (by
    funext a
    apply Fin.ext
    match a with
    | ⟨0, _⟩ => rfl
    | ⟨1, _⟩ => rfl
    | ⟨2, _⟩ => rfl)

/-- The reference runs to the end, its arguments unchanged; it has no semaphore at all. -/
theorem reference_frame : Cert.quiescent_Reference24Ideal (hReference24Ideal := Cert.Reference24Ideal.Gen.facts) := fun m g _ =>
  (θ_run _ _ _).mono (fun r h => ⟨fun c => (h c).2.2, funext fun s => match s with
    | (_, .reg s) => s.elim0
    | (_, .dma s) => s.elim0⟩) (Cert.Reference24Ideal.Value.run m g)

/-- The two runs end with the same arrays. -/
theorem algebraic : Cert.algebraic_Kernel24Ideal_Reference24Ideal (hKernel24Ideal := Cert.Kernel24Ideal.Gen.facts)
    (hReference24Ideal := Cert.Reference24Ideal.Gen.facts) := by
  intro m g m' g' _ hargs
  refine ⟨fun c => (dats m 0 c).arrAt 3 cfg0.N, fun c => (dats m 0 c).arrAt 4 cfg0.N, run_blocks m g, ?_⟩
  refine (θ_run _ _ _).mono (fun r h c => ⟨(h c).1.trans ?_, (h c).2.1.trans ?_, (h c).2.2⟩) (Cert.Reference24Ideal.Value.run m' g')
  · rw [(hargs c).2.1, (hargs c).2.2]
    funext i
    obtain ⟨r, j, rfl⟩ : ∃ (r : Fin 2048) (j : Fin 1024), i = ix2 r j := ⟨i 0, i 1, (ix2_eta i).symm⟩
    refine Eq.trans ?_ (array3_apply m c r j).symm
    pointwise
    simp only [term3, at1, at2_of _ r.isLt j.isLt]
  · rw [(hargs c).1, (hargs c).2.2]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array4_apply m c j).symm
    pointwise
    rw [Fin.sum_univ_one, ← Fin.sum_univ_eq_sum_range]
    refine Finset.sum_congr rfl fun k _ => ?_
    simp only [term4, at1, at2_of _ k.isLt j.isLt]

end Cert.Kernel24Ideal.Product
-- ==== Proof.Res1Bwd.lean ====
/-
  The convolution's gated branch, backward: `cc0_l1_res1_bwd` leaves the gradient of the second pointwise layer's output, the
  gate times the incoming gradient, and the gradients of the gate and of the layer's bias, sums over the rows gathered in
  four blocks of 512 rows.
-/
module

public import proofs.«01_k».proof.Defs
public import proofs.«01_k».proof.Proof.Gen.Kernel25Ideal.Value
public import proofs.«01_k».proof.Proof.Gen.Reference25Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel25Ideal.Product

open Cert.Kernel25Ideal Cert.Kernel25Ideal.Gen Cert.Kernel25Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- What the first point leaves in the block of output 0. -/
theorem out4_A (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) :
    out0_A_4 c i a2 h2 a3 h3 a4 h4 a5 h5 a6 h6 a7 h7 a8 h8 hc0 hc1 hc2 hc3 x0 x1 x2 x3 = k0_pay4 x1 x2 := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S512x1024) hz, View.ld_unit_zero (S := S1x1x1024) hz3]

/-- What a later point leaves in the block of output 0. -/
theorem out4_B (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) (xo5 : Vec F S1x1x1024 .f32) (xo6 : Vec F S1x1x1024 .f32) :
    out0_B_4 c i a2 h2 a3 h3 a4 h4 a5 h5 a6 h6 a7 h7 a8 h8 hc0 hc1 hc2 hc3 x0 x1 x2 x3 xo5 xo6 = k0_pay4 x1 x2 := by
  unfold out0_B_4
  rw [View.read_writes_eq_canon _ _ _ (cover0_B_4 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz]
  simp only [View.readAt_eq_ld, h2.read_unread, h3.read_unread, h4.read_unread, h5.read_unread, h7.read_unread, h8.read_unread, View.ld_unit_zero (S := S512x1024) hz, View.ld_unit_zero (S := S1x1x1024) hz3]

/-- The first point leaves the block's column sums in output 1. -/
theorem out5_A (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) :
    out0_A_5 c i a2 h2 a3 h3 a4 h4 a5 h5 a6 h6 a7 h7 a8 h8 hc0 hc1 hc2 hc3 x0 x1 x2 x3 = k0_pay5 x0 x1 x3 := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  rw [View.canon_unit_zero hz3]
  simp only [View.readAt_eq_ld, h2.read_unread, h3.read_unread, h4.read_unread, h5.read_unread, View.ld_unit_zero (S := S512x1024) hz, View.ld_unit_zero (S := S1x1x1024) hz3]

/-- A later point adds the block's column sums to output 1. -/
theorem out5_B (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) (xo5 : Vec F S1x1x1024 .f32) (xo6 : Vec F S1x1x1024 .f32) :
    out0_B_5 c i a2 h2 a3 h3 a4 h4 a5 h5 a6 h6 a7 h7 a8 h8 hc0 hc1 hc2 hc3 x0 x1 x2 x3 xo5 xo6 = k0_pay6 x0 x1 x3 xo5 := by
  unfold out0_B_5
  rw [View.read_writes_eq_canon _ _ _ (cover0_B_5 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread, View.ld_unit_zero (S := S512x1024) hz, View.ld_unit_zero (S := S1x1x1024) hz3]

/-- The first point leaves the block's column sums in output 2. -/
theorem out6_A (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) :
    out0_A_6 c i a2 h2 a3 h3 a4 h4 a5 h5 a6 h6 a7 h7 a8 h8 hc0 hc1 hc2 hc3 x0 x1 x2 x3 = k0_pay7 x1 x2 := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  rw [View.canon_unit_zero hz3]
  simp only [View.readAt_eq_ld, h2.read_unread, h3.read_unread, h4.read_unread, h5.read_unread, View.ld_unit_zero (S := S512x1024) hz, View.ld_unit_zero (S := S1x1x1024) hz3]

/-- A later point adds the block's column sums to output 2. -/
theorem out6_B (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) (xo5 : Vec F S1x1x1024 .f32) (xo6 : Vec F S1x1x1024 .f32) :
    out0_B_6 c i a2 h2 a3 h3 a4 h4 a5 h5 a6 h6 a7 h7 a8 h8 hc0 hc1 hc2 hc3 x0 x1 x2 x3 xo5 xo6 = k0_pay8 x1 x2 xo6 := by
  unfold out0_B_6
  rw [View.read_writes_eq_canon _ _ _ (cover0_B_6 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread, View.ld_unit_zero (S := S512x1024) hz, View.ld_unit_zero (S := S1x1x1024) hz3]

end cases

variable (m : (ℓ : Loc nD τ sig) → Buf (Elt Ideal) ℓ)

theorem idx0 : ∀ t : Fin cfg0.N, win0_0.index t 0 = t.val ∧ win0_0.index t 1 = 0 :=
  (by decide +kernel : ∀ t : Fin grid0.N, _)

/-- The block of rows of input 0 at a grid point. -/
theorem blk0 (c : Dev nD) (t : Fin cfg0.N) (i : Fin 512) (j : Fin 1024) :
    (iblk m c 0 t : Vec Ideal S512x1024 .f32) (ix2 i j)
      = at2 (M := 2048) (N := 1024) (m ((c : Thread nD τ).loc main_arg0)) (512 * t.val + i.val) j.val := by
  have hN : t.val < 4 := lt_of_lt_of_eq t.isLt N_0
  have hi := i.isLt
  have hj := j.isLt
  obtain ⟨e0, e1⟩ := idx0 t
  rw [at2_of _ (by omega) (by omega)]
  unfold iblk
  rw [View.read_apply]
  have e : V m c main_arg0 (ix2 (⟨512 * t.val + i.val, by omega⟩ : Fin 2048) (⟨j.val, by omega⟩ : Fin 1024))
      = (m ((c : Thread nD τ).loc main_arg0) : (⟨2, ![2048, 1024]⟩ : Shape).Idx → EReal) (ix2 ⟨512 * t.val + i.val, by omega⟩ ⟨j.val, by omega⟩) := by
    unfold V
    after_reads_at
  refine Eq.trans ?_ e
  show V m c main_arg0 _ = V m c main_arg0 _
  congr 1
  funext a
  apply Fin.ext
  match a with
  | ⟨0, _⟩ => show win0_0.index t 0 * 512 + 1 * i.val = 512 * t.val + i.val; rw [e0]; omega
  | ⟨1, _⟩ => show win0_0.index t 1 * 1024 + 1 * j.val = j.val; rw [e1]; omega

theorem idx1 : ∀ t : Fin cfg0.N, win0_1.index t 0 = t.val ∧ win0_1.index t 1 = 0 :=
  (by decide +kernel : ∀ t : Fin grid0.N, _)

/-- The block of rows of input 1 at a grid point. -/
theorem blk1 (c : Dev nD) (t : Fin cfg0.N) (i : Fin 512) (j : Fin 1024) :
    (iblk m c 1 t : Vec Ideal S512x1024 .f32) (ix2 i j)
      = at2 (M := 2048) (N := 1024) (m ((c : Thread nD τ).loc main_arg3)) (512 * t.val + i.val) j.val := by
  have hN : t.val < 4 := lt_of_lt_of_eq t.isLt N_0
  have hi := i.isLt
  have hj := j.isLt
  obtain ⟨e0, e1⟩ := idx1 t
  rw [at2_of _ (by omega) (by omega)]
  unfold iblk
  rw [View.read_apply]
  have e : V m c main_arg3 (ix2 (⟨512 * t.val + i.val, by omega⟩ : Fin 2048) (⟨j.val, by omega⟩ : Fin 1024))
      = (m ((c : Thread nD τ).loc main_arg3) : (⟨2, ![2048, 1024]⟩ : Shape).Idx → EReal) (ix2 ⟨512 * t.val + i.val, by omega⟩ ⟨j.val, by omega⟩) := by
    unfold V
    after_reads_at
  refine Eq.trans ?_ e
  show V m c main_arg3 _ = V m c main_arg3 _
  congr 1
  funext a
  apply Fin.ext
  match a with
  | ⟨0, _⟩ => show win0_1.index t 0 * 512 + 1 * i.val = 512 * t.val + i.val; rw [e0]; omega
  | ⟨1, _⟩ => show win0_1.index t 1 * 1024 + 1 * j.val = j.val; rw [e1]; omega

theorem idx2 : ∀ t : Fin cfg0.N, win0_2.index t 0 = 0 ∧ win0_2.index t 1 = 0 ∧ win0_2.index t 2 = 0 :=
  (by decide +kernel : ∀ t : Fin grid0.N, _)

/-- The parameter of input 2 at a grid point. -/
theorem blk2 (c : Dev nD) (t : Fin cfg0.N) (j : Fin 1024) :
    (iblk m c 2 t : Vec Ideal S1x1x1024 .f32) (ix3 0 0 j) = m ((c : Thread nD τ).loc main_arg1) (ix1 j) := by
  obtain ⟨e0, e1, e2⟩ := idx2 t
  unfold iblk
  rw [View.read_apply]
  have e : V m c main_v1 (ix3 (0 : Fin 1) (0 : Fin 1) j) = (m ((c : Thread nD τ).loc main_arg1) : (⟨1, ![1024]⟩ : Shape).Idx → EReal) (ix1 j) := by
    unfold V
    after_reads_at

  refine Eq.trans ?_ e
  show V m c main_v1 _ = V m c main_v1 _
  congr 1
  funext a
  apply Fin.ext
  match a with
  | ⟨0, _⟩ => show win0_2.index t 0 * 1 + 1 * 0 = 0; rw [e0]
  | ⟨1, _⟩ => show win0_2.index t 1 * 1 + 1 * 0 = 0; rw [e1]
  | ⟨2, _⟩ => show win0_2.index t 2 * 1024 + 1 * j.val = j.val; rw [e2]; omega

theorem idx3 : ∀ t : Fin cfg0.N, win0_3.index t 0 = 0 ∧ win0_3.index t 1 = 0 ∧ win0_3.index t 2 = 0 :=
  (by decide +kernel : ∀ t : Fin grid0.N, _)

/-- The parameter of input 3 at a grid point. -/
theorem blk3 (c : Dev nD) (t : Fin cfg0.N) (j : Fin 1024) :
    (iblk m c 3 t : Vec Ideal S1x1x1024 .f32) (ix3 0 0 j) = m ((c : Thread nD τ).loc main_arg2) (ix1 j) := by
  obtain ⟨e0, e1, e2⟩ := idx3 t
  unfold iblk
  rw [View.read_apply]
  have e : V m c main_v3 (ix3 (0 : Fin 1) (0 : Fin 1) j) = (m ((c : Thread nD τ).loc main_arg2) : (⟨1, ![1024]⟩ : Shape).Idx → EReal) (ix1 j) := by
    unfold V
    after_reads_at

  refine Eq.trans ?_ e
  show V m c main_v3 _ = V m c main_v3 _
  congr 1
  funext a
  apply Fin.ext
  match a with
  | ⟨0, _⟩ => show win0_3.index t 0 * 1 + 1 * 0 = 0; rw [e0]
  | ⟨1, _⟩ => show win0_3.index t 1 * 1 + 1 * 0 = 0; rw [e1]
  | ⟨2, _⟩ => show win0_3.index t 2 * 1024 + 1 * j.val = j.val; rw [e2]; omega

/-- A parameter vector read at a column. -/
abbrev at1 (x : (⟨1, ![1024]⟩ : Shape).Idx → EReal) (j : Fin 1024) : EReal := x (ix1 j)

/-- The layer's gradient at row `r` and column `j`. -/
abbrev term4 (c : Dev nD) (r : ℕ) (j : Fin 1024) : EReal := at1 (m ((c : Thread nD τ).loc main_arg1)) j * at2 (M := 2048) (N := 1024) (m ((c : Thread nD τ).loc main_arg3)) r j.val

/-- What row `r` adds to the gate's gradient at column `j`. -/
abbrev term5 (c : Dev nD) (r : ℕ) (j : Fin 1024) : EReal := at2 (M := 2048) (N := 1024) (m ((c : Thread nD τ).loc main_arg3)) r j.val * (at2 (M := 2048) (N := 1024) (m ((c : Thread nD τ).loc main_arg0)) r j.val + at1 (m ((c : Thread nD τ).loc main_arg2)) j)

/-- What row `r` adds to the bias's gradient at column `j`. -/
abbrev term6 (c : Dev nD) (r : ℕ) (j : Fin 1024) : EReal := at1 (m ((c : Thread nD τ).loc main_arg1)) j * at2 (M := 2048) (N := 1024) (m ((c : Thread nD τ).loc main_arg3)) r j.val

theorem idx4 : ∀ t : Fin cfg0.N, win0_4.index t 0 = t.val ∧ win0_4.index t 1 = 0 :=
  (by decide +kernel : ∀ t : Fin grid0.N, _)
theorem ext4 : ∀ t : Fin cfg0.N, win0_4.xsize (grid0.coords t) 0 = 512 ∧ win0_4.xsize (grid0.coords t) 1 = 1024 :=
  (by decide +kernel : ∀ t : Fin grid0.N, _)

/-- What a point leaves in its block of output 0. -/
theorem left4 (c : Dev nD) (t : Fin cfg0.N) : (outsAt0 m c t.val t.isLt).1 = k0_pay4 (iblk m c 1 t) (iblk m c 2 t) := by
  have hN : t.val < 4 := lt_of_lt_of_eq t.isLt N_0
  by_cases h : t.val = 0
  · rw [outsAt0_A m c t (by omega) (by omega) (by omega) (by omega)]
    dsimp only
    rw [out4_A]
  · rw [outsAt0_B m c t (by omega) (by omega) (by omega) (by omega)]
    dsimp only
    rw [out4_B]

/-- … element by element. -/
theorem row4_apply (c : Dev nD) (t : Fin cfg0.N) (i : Fin 512) (j : Fin 1024) :
    (k0_pay4 (iblk m c 1 t) (iblk m c 2 t) (ix2 i j) : EReal) = term4 m c (512 * t.val + i.val) j := by
  pointwise [k0_pay4, k0_pay1]
  rw [blk2, blk1]

/-- The array of output 0. -/
theorem array4_apply (c : Dev nD) (r : Fin 2048) (j : Fin 1024) :
    ((dats m 0 c).arrAt 4 cfg0.N (ix2 r j) : EReal) = term4 m c r.val j := by
  have hr := r.isLt
  have hj := j.isLt
  have hN : cfg0.N = 4 := N_0
  obtain ⟨t, ht⟩ : ∃ t : Fin cfg0.N, t.val = r.val / 512 := ⟨⟨r.val / 512, by omega⟩, rfl⟩
  obtain ⟨e0, e1⟩ := idx4 t
  obtain ⟨x0, x1⟩ := ext4 t
  let y : (win0_4.xblock (grid0.coords t)).Idx := fun a => match a with
    | ⟨0, _⟩ => ⟨r.val % 512, by show _ < win0_4.xsize (grid0.coords t) 0; rw [x0]; omega⟩
    | ⟨1, _⟩ => ⟨j.val, by show _ < win0_4.xsize (grid0.coords t) 1; rw [x1]; omega⟩
  have hb := congrFun ((blocks4 m c t (flush0_4 t)).trans (flushed4 m c t)) y
  rw [View.read_apply] at hb
  have he : ((cfg0.win 4).blk t).view.emb y = ix2 r j := by
    funext a
    apply Fin.ext
    match a with
    | ⟨0, _⟩ => show win0_4.index t 0 * 512 + 1 * (r.val % 512) = r.val; rw [e0]; omega
    | ⟨1, _⟩ => show win0_4.index t 1 * 1024 + 1 * j.val = j.val; rw [e1]; omega
  rw [he, left4] at hb
  refine hb.trans ?_
  have hrow := row4_apply m c t ⟨r.val % 512, by omega⟩ j
  rw [show 512 * t.val + (⟨r.val % 512, by omega⟩ : Fin 512).val = r.val from by show 512 * t.val + r.val % 512 = r.val; omega] at hrow
  refine Eq.trans ?_ hrow
  exact congrArg (k0_pay4 (iblk m c 1 t) (iblk m c 2 t)) (by
    funext a
    apply Fin.ext
    match a with
    | ⟨0, _⟩ => rfl
    | ⟨1, _⟩ => rfl)

theorem ext5 : ∀ t : Fin cfg0.N, win0_5.index t 0 = 0 ∧ win0_5.index t 1 = 0 ∧ win0_5.index t 2 = 0 ∧ win0_5.xsize (grid0.coords t) 0 = 1
    ∧ win0_5.xsize (grid0.coords t) 1 = 1 ∧ win0_5.xsize (grid0.coords t) 2 = 1024 :=
  (by decide +kernel : ∀ t : Fin grid0.N, _)

/-- The first point's column sums of output 1. -/
theorem first5 (c : Dev nD) (t : Fin cfg0.N) (j : Fin 1024) :
    (k0_pay5 (iblk m c 0 t) (iblk m c 1 t) (iblk m c 3 t) (ix3 0 0 j) : EReal) = ∑ i : Fin 512, term5 m c (512 * t.val + i.val) j := by
  pointwise [k0_pay5, k0_pay2]
  refine Finset.sum_congr rfl fun i _ => ?_
  rw [blk1, blk0, blk3]

/-- A later point adds its own to what was there. -/
theorem next5 (c : Dev nD) (t : Fin cfg0.N) (acc : Vec Ideal S1x1x1024 .f32) (j : Fin 1024) :
    (k0_pay6 (iblk m c 0 t) (iblk m c 1 t) (iblk m c 3 t) acc (ix3 0 0 j) : EReal) = (acc (ix3 0 0 j) : EReal) + ∑ i : Fin 512, term5 m c (512 * t.val + i.val) j := by
  pointwise [k0_pay6, k0_pay2]
  refine congrArg _ (Finset.sum_congr rfl fun i _ => ?_)
  rw [blk1, blk0, blk3]

theorem left5_A (c : Dev nD) (t : Fin cfg0.N) (h : t.val = 0) : (outsAt0 m c t.val t.isLt).2.1 = k0_pay5 (iblk m c 0 t) (iblk m c 1 t) (iblk m c 3 t) := by
  rw [outsAt0_A m c t (by omega) (by omega) (by omega) (by omega)]
  dsimp only
  rw [out5_A]

theorem left5_B (c : Dev nD) (t : Fin cfg0.N) (h : t.val ≠ 0) :
    (outsAt0 m c t.val t.isLt).2.1 = k0_pay6 (iblk m c 0 t) (iblk m c 1 t) (iblk m c 3 t) (outsAt0 m c (t.val - 1) (Nat.lt_of_le_of_lt (Nat.sub_le _ _) t.isLt)).2.1 := by
  have hN : t.val < 4 := lt_of_lt_of_eq t.isLt N_0
  rw [outsAt0_B m c t (by omega) (by omega) (by omega) (by omega)]
  dsimp only
  rw [out5_B]

/-- After point `s` output 1 holds the column sums over the rows seen so far. -/
theorem sum5_apply (c : Dev nD) (j : Fin 1024) (s : ℕ) (hs : s < 4) (h : s < cfg0.N) :
    ((outsAt0 m c s h).2.1 (ix3 0 0 j) : EReal) = ∑ k ∈ Finset.range (512 * (s + 1)), term5 m c k j := by
  have hN : cfg0.N = 4 := N_0
  have key := sweep 4 512 (fun k => term5 m c k j) (fun s => if h : s < cfg0.N then ((outsAt0 m c s h).2.1 (ix3 0 0 j) : EReal) else 0)
    (fun _ => by
      have h' : 0 < cfg0.N := by omega
      simp only [dif_pos h']
      refine (congrFun (left5_A m c ⟨0, h'⟩ rfl) _).trans ((first5 m c ⟨0, h'⟩ j).trans (Finset.sum_congr rfl fun i _ => ?_))
      show term5 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left5_B m c ⟨s + 1, hb⟩ (Nat.succ_ne_zero s)) _).trans (next5 m c ⟨s + 1, hb⟩ _ j))
    s hs
  simpa only [dif_pos h] using key

/-- The array of output 1: the column sums over all rows. -/
theorem array5_apply (c : Dev nD) (j : Fin 1024) :
    ((dats m 0 c).arrAt 5 cfg0.N (ix3 (0 : Fin 1) (0 : Fin 1) j) : EReal) = ∑ k ∈ Finset.range 2048, term5 m c k j := by
  have hj := j.isLt
  have hN : cfg0.N = 4 := N_0
  let t : Fin cfg0.N := ⟨3, by omega⟩
  obtain ⟨e0, e1, e2, x0, x1, x2⟩ := ext5 t
  let y : (win0_5.xblock (grid0.coords t)).Idx := fun a => match a with
    | ⟨0, _⟩ => ⟨0, by show _ < win0_5.xsize (grid0.coords t) 0; rw [x0]; omega⟩
    | ⟨1, _⟩ => ⟨0, by show _ < win0_5.xsize (grid0.coords t) 1; rw [x1]; omega⟩
    | ⟨2, _⟩ => ⟨j.val, by show _ < win0_5.xsize (grid0.coords t) 2; rw [x2]; omega⟩
  have hd : ∀ t t' : Fin cfg0.N, (cfg0.win 5).flush t = true → (cfg0.win 5).flush t' = true → t ≠ t' →
      Disjoint ((cfg0.win 5).blk t).view.set ((cfg0.win 5).blk t').view.set := fun t t' hf hf' hne =>
    absurd (Fin.ext (by have := (flush0_5 t).mp hf; have := (flush0_5 t').mp hf'; have := t.isLt; have := t'.isLt; omega)) hne
  have hb := congrFun (((dats m 0 c).read_blk_arrAt_eq_flushed 5 hd cfg0.N t t.isLt ((flush0_5 t).mpr rfl)).trans (flushed5 m c t)) y
  rw [View.read_apply] at hb
  have he : ((cfg0.win 5).blk t).view.emb y = ix3 (0 : Fin 1) (0 : Fin 1) j := by
    funext a
    apply Fin.ext
    match a with
    | ⟨0, _⟩ => show win0_5.index t 0 * 1 + 1 * 0 = 0; rw [e0]
    | ⟨1, _⟩ => show win0_5.index t 1 * 1 + 1 * 0 = 0; rw [e1]
    | ⟨2, _⟩ => show win0_5.index t 2 * 1024 + 1 * j.val = j.val; rw [e2]; omega
  rw [he] at hb
  refine hb.trans (Eq.trans ?_ (sum5_apply m c j 3 (by omega) t.isLt))
  exact congrArg ((outsAt0 m c 3 t.isLt).2.1) (by
    funext a
    apply Fin.ext
    match a with
    | ⟨0, _⟩ => rfl
    | ⟨1, _⟩ => rfl
    | ⟨2, _⟩ => rfl)

theorem ext6 : ∀ t : Fin cfg0.N, win0_6.index t 0 = 0 ∧ win0_6.index t 1 = 0 ∧ win0_6.index t 2 = 0 ∧ win0_6.xsize (grid0.coords t) 0 = 1
    ∧ win0_6.xsize (grid0.coords t) 1 = 1 ∧ win0_6.xsize (grid0.coords t) 2 = 1024 :=
  (by decide +kernel : ∀ t : Fin grid0.N, _)

/-- The first point's column sums of output 2. -/
theorem first6 (c : Dev nD) (t : Fin cfg0.N) (j : Fin 1024) :
    (k0_pay7 (iblk m c 1 t) (iblk m c 2 t) (ix3 0 0 j) : EReal) = ∑ i : Fin 512, term6 m c (512 * t.val + i.val) j := by
  pointwise [k0_pay7, k0_pay3, k0_pay1]
  refine Finset.sum_congr rfl fun i _ => ?_
  rw [blk2, blk1]

/-- A later point adds its own to what was there. -/
theorem next6 (c : Dev nD) (t : Fin cfg0.N) (acc : Vec Ideal S1x1x1024 .f32) (j : Fin 1024) :
    (k0_pay8 (iblk m c 1 t) (iblk m c 2 t) acc (ix3 0 0 j) : EReal) = (acc (ix3 0 0 j) : EReal) + ∑ i : Fin 512, term6 m c (512 * t.val + i.val) j := by
  pointwise [k0_pay8, k0_pay3, k0_pay1]
  refine congrArg _ (Finset.sum_congr rfl fun i _ => ?_)
  rw [blk2, blk1]

theorem left6_A (c : Dev nD) (t : Fin cfg0.N) (h : t.val = 0) : (outsAt0 m c t.val t.isLt).2.2 = k0_pay7 (iblk m c 1 t) (iblk m c 2 t) := by
  rw [outsAt0_A m c t (by omega) (by omega) (by omega) (by omega)]
  dsimp only
  rw [out6_A]

theorem left6_B (c : Dev nD) (t : Fin cfg0.N) (h : t.val ≠ 0) :
    (outsAt0 m c t.val t.isLt).2.2 = k0_pay8 (iblk m c 1 t) (iblk m c 2 t) (outsAt0 m c (t.val - 1) (Nat.lt_of_le_of_lt (Nat.sub_le _ _) t.isLt)).2.2 := by
  have hN : t.val < 4 := lt_of_lt_of_eq t.isLt N_0
  rw [outsAt0_B m c t (by omega) (by omega) (by omega) (by omega)]
  dsimp only
  rw [out6_B]

/-- After point `s` output 2 holds the column sums over the rows seen so far. -/
theorem sum6_apply (c : Dev nD) (j : Fin 1024) (s : ℕ) (hs : s < 4) (h : s < cfg0.N) :
    ((outsAt0 m c s h).2.2 (ix3 0 0 j) : EReal) = ∑ k ∈ Finset.range (512 * (s + 1)), term6 m c k j := by
  have hN : cfg0.N = 4 := N_0
  have key := sweep 4 512 (fun k => term6 m c k j) (fun s => if h : s < cfg0.N then ((outsAt0 m c s h).2.2 (ix3 0 0 j) : EReal) else 0)
    (fun _ => by
      have h' : 0 < cfg0.N := by omega
      simp only [dif_pos h']
      refine (congrFun (left6_A m c ⟨0, h'⟩ rfl) _).trans ((first6 m c ⟨0, h'⟩ j).trans (Finset.sum_congr rfl fun i _ => ?_))
      show term6 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left6_B m c ⟨s + 1, hb⟩ (Nat.succ_ne_zero s)) _).trans (next6 m c ⟨s + 1, hb⟩ _ j))
    s hs
  simpa only [dif_pos h] using key

/-- The array of output 2: the column sums over all rows. -/
theorem array6_apply (c : Dev nD) (j : Fin 1024) :
    ((dats m 0 c).arrAt 6 cfg0.N (ix3 (0 : Fin 1) (0 : Fin 1) j) : EReal) = ∑ k ∈ Finset.range 2048, term6 m c k j := by
  have hj := j.isLt
  have hN : cfg0.N = 4 := N_0
  let t : Fin cfg0.N := ⟨3, by omega⟩
  obtain ⟨e0, e1, e2, x0, x1, x2⟩ := ext6 t
  let y : (win0_6.xblock (grid0.coords t)).Idx := fun a => match a with
    | ⟨0, _⟩ => ⟨0, by show _ < win0_6.xsize (grid0.coords t) 0; rw [x0]; omega⟩
    | ⟨1, _⟩ => ⟨0, by show _ < win0_6.xsize (grid0.coords t) 1; rw [x1]; omega⟩
    | ⟨2, _⟩ => ⟨j.val, by show _ < win0_6.xsize (grid0.coords t) 2; rw [x2]; omega⟩
  have hd : ∀ t t' : Fin cfg0.N, (cfg0.win 6).flush t = true → (cfg0.win 6).flush t' = true → t ≠ t' →
      Disjoint ((cfg0.win 6).blk t).view.set ((cfg0.win 6).blk t').view.set := fun t t' hf hf' hne =>
    absurd (Fin.ext (by have := (flush0_6 t).mp hf; have := (flush0_6 t').mp hf'; have := t.isLt; have := t'.isLt; omega)) hne
  have hb := congrFun (((dats m 0 c).read_blk_arrAt_eq_flushed 6 hd cfg0.N t t.isLt ((flush0_6 t).mpr rfl)).trans (flushed6 m c t)) y
  rw [View.read_apply] at hb
  have he : ((cfg0.win 6).blk t).view.emb y = ix3 (0 : Fin 1) (0 : Fin 1) j := by
    funext a
    apply Fin.ext
    match a with
    | ⟨0, _⟩ => show win0_6.index t 0 * 1 + 1 * 0 = 0; rw [e0]
    | ⟨1, _⟩ => show win0_6.index t 1 * 1 + 1 * 0 = 0; rw [e1]
    | ⟨2, _⟩ => show win0_6.index t 2 * 1024 + 1 * j.val = j.val; rw [e2]; omega
  rw [he] at hb
  refine hb.trans (Eq.trans ?_ (sum6_apply m c j 3 (by omega) t.isLt))
  exact congrArg ((outsAt0 m c 3 t.isLt).2.2) (by
    funext a
    apply Fin.ext
    match a with
    | ⟨0, _⟩ => rfl
    | ⟨1, _⟩ => rfl
    | ⟨2, _⟩ => rfl)

/-- The reference runs to the end, its arguments unchanged; it has no semaphore at all. -/
theorem reference_frame : Cert.quiescent_Reference25Ideal (hReference25Ideal := Cert.Reference25Ideal.Gen.facts) := fun m g _ =>
  (θ_run _ _ _).mono (fun r h => ⟨fun c => (h c).2.2.2, funext fun s => match s with
    | (_, .reg s) => s.elim0
    | (_, .dma s) => s.elim0⟩) (Cert.Reference25Ideal.Value.run m g)

/-- The two runs end with the same arrays. -/
theorem algebraic : Cert.algebraic_Kernel25Ideal_Reference25Ideal (hKernel25Ideal := Cert.Kernel25Ideal.Gen.facts)
    (hReference25Ideal := Cert.Reference25Ideal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ⟨(h c).1.trans ?_, (h c).2.1.trans ?_, (h c).2.2.1.trans ?_, (h c).2.2.2⟩) (Cert.Reference25Ideal.Value.run m' g')
  · rw [(hargs c).2.1, (hargs c).2.2.2]
    funext i
    obtain ⟨r, j, rfl⟩ : ∃ (r : Fin 2048) (j : Fin 1024), i = ix2 r j := ⟨i 0, i 1, (ix2_eta i).symm⟩
    refine Eq.trans ?_ (array4_apply m c r j).symm
    pointwise
    simp only [term4, at1, at2_of _ r.isLt j.isLt]
  · rw [(hargs c).1, (hargs c).2.2.1, (hargs c).2.2.2]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array5_apply m c j).symm
    pointwise
    rw [Fin.sum_univ_one, ← Fin.sum_univ_eq_sum_range]
    refine Finset.sum_congr rfl fun k _ => ?_
    simp only [term5, at1, at2_of _ k.isLt j.isLt]
  · rw [(hargs c).2.1, (hargs c).2.2.2]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array6_apply m c j).symm
    pointwise
    rw [Fin.sum_univ_one, ← Fin.sum_univ_eq_sum_range]
    refine Finset.sum_congr rfl fun k _ => ?_
    simp only [term6, at1, at2_of _ k.isLt j.isLt]

end Cert.Kernel25Ideal.Product
-- ==== Proof.GluBwd.lean ====
/-
  The gated linear unit between the convolution's layers, backward: `cc0_l1_glu_bwd` leaves the gradients of the unit's two
  halves, `a` and `g` in `a * sigmoid(g)`, each with its bias added, and the gradients of the two halves of the bias, sums
  over the rows gathered in four blocks of 512 rows.
-/
module

public import proofs.«01_k».proof.Defs
public import proofs.«01_k».proof.Proof.Gen.Kernel26Ideal.Value
public import proofs.«01_k».proof.Proof.Gen.Reference26Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel26Ideal.Product

open Cert.Kernel26Ideal Cert.Kernel26Ideal.Gen Cert.Kernel26Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- What the first point leaves in the block of output 0. -/
theorem out5_A (c : Dev nD) (i : grid0.Coords) (a2 h2 a3 h3 a4 h4 a5 h5 a6 h6 a7 h7 a8 h8 a9 h9 a10 h10 hc0 hc1 hc2 hc3) (x0 : Vec F S512x1024 .f32) (x1 : Vec F S512x1024 .f32) (x2 : Vec F S512x1024 .f32) (x3 : Vec F S1x1x1024 .f32) (x4 : Vec F S1x1x1024 .f32) :
    out0_A_5 c i a2 h2 a3 h3 a4 h4 a5 h5 a6 h6 a7 h7 a8 h8 a9 h9 a10 h10 hc0 hc1 hc2 hc3 x0 x1 x2 x3 x4 = k0_pay9 x1 x2 x4 := by
  unfold out0_A_5
  rw [View.read_writes_eq_canon _ _ _ (cover0_A_5 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero hz]
  simp only [View.readAt_eq_ld, h2.read_unread, h3.read_unread, h4.read_unread, h5.read_unread, h6.read_unread, View.ld_unit_zero (S := S512x1024) hz, View.ld_unit_zero (S := S1x1x1024) hz3]

/-- What a later point leaves in the block of output 0. -/
theorem out5_B (c : Dev nD) (i : grid0.Coords) (a2 h2 a3 h3 a4 h4 a5 h5 a6 h6 a7 h7 a8 h8 a9 h9 a10 h10 hc0 hc1 hc2 hc3) (x0 : Vec F S512x1024 .f32) (x1 : Vec F S512x1024 .f32) (x2 : Vec F S512x1024 .f32) (x3 : Vec F S1x1x1024 .f32) (x4 : Vec F S1x1x1024 .f32) (xo7 : Vec F S1x1x1024 .f32) (xo8 : Vec F S1x1x1024 .f32) :
    out0_B_5 c i a2 h2 a3 h3 a4 h4 a5 h5 a6 h6 a7 h7 a8 h8 a9 h9 a10 h10 hc0 hc1 hc2 hc3 x0 x1 x2 x3 x4 xo7 xo8 = k0_pay9 x1 x2 x4 := by
  unfold out0_B_5
  rw [View.read_writes_eq_canon _ _ _ (cover0_B_5 c i a2 h2 a3 h3 a4 h4 a5 h5 a6 h6 a7 h7 a8 h8 a9 h9 a10 h10 hc0 hc1 hc2 hc3 x0 x1 x2 x3 x4 xo7 xo8)]
  unfold kernelRun0_B
  dsimp only
  sl_unfold_words
  rw [View.canon_unit_zero hz]
  simp only [View.readAt_eq_ld, h2.read_unread, h3.read_unread, h4.read_unread, h5.read_unread, h6.read_unread, h9.read_unread, h10.read_unread, View.ld_unit_zero (S := S512x1024) hz, View.ld_unit_zero (S := S1x1x1024) hz3]

/-- What the first point leaves in the block of output 1. -/
theorem out6_A (c : Dev nD) (i : grid0.Coords) (a2 h2 a3 h3 a4 h4 a5 h5 a6 h6 a7 h7 a8 h8 a9 h9 a10 h10 hc0 hc1 hc2 hc3) (x0 : Vec F S512x1024 .f32) (x1 : Vec F S512x1024 .f32) (x2 : Vec F S512x1024 .f32) (x3 : Vec F S1x1x1024 .f32) (x4 : Vec F S1x1x1024 .f32) :
    out0_A_6 c i a2 h2 a3 h3 a4 h4 a5 h5 a6 h6 a7 h7 a8 h8 a9 h9 a10 h10 hc0 hc1 hc2 hc3 x0 x1 x2 x3 x4 = k0_pay10 x0 x1 x2 x3 x4 := by
  unfold out0_A_6
  rw [View.read_writes_eq_canon _ _ _ (cover0_A_6 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero hz]
  simp only [View.readAt_eq_ld, h2.read_unread, h3.read_unread, h4.read_unread, h5.read_unread, h6.read_unread, View.ld_unit_zero (S := S512x1024) hz, View.ld_unit_zero (S := S1x1x1024) hz3]

/-- What a later point leaves in the block of output 1. -/
theorem out6_B (c : Dev nD) (i : grid0.Coords) (a2 h2 a3 h3 a4 h4 a5 h5 a6 h6 a7 h7 a8 h8 a9 h9 a10 h10 hc0 hc1 hc2 hc3) (x0 : Vec F S512x1024 .f32) (x1 : Vec F S512x1024 .f32) (x2 : Vec F S512x1024 .f32) (x3 : Vec F S1x1x1024 .f32) (x4 : Vec F S1x1x1024 .f32) (xo7 : Vec F S1x1x1024 .f32) (xo8 : Vec F S1x1x1024 .f32) :
    out0_B_6 c i a2 h2 a3 h3 a4 h4 a5 h5 a6 h6 a7 h7 a8 h8 a9 h9 a10 h10 hc0 hc1 hc2 hc3 x0 x1 x2 x3 x4 xo7 xo8 = k0_pay10 x0 x1 x2 x3 x4 := by
  unfold out0_B_6
  rw [View.read_writes_eq_canon _ _ _ (cover0_B_6 c i a2 h2 a3 h3 a4 h4 a5 h5 a6 h6 a7 h7 a8 h8 a9 h9 a10 h10 hc0 hc1 hc2 hc3 x0 x1 x2 x3 x4 xo7 xo8)]
  unfold kernelRun0_B
  dsimp only
  sl_unfold_words
  rw [View.canon_unit_zero hz]
  simp only [View.readAt_eq_ld, h2.read_unread, h3.read_unread, h4.read_unread, h5.read_unread, h6.read_unread, h9.read_unread, h10.read_unread, View.ld_unit_zero (S := S512x1024) hz, View.ld_unit_zero (S := S1x1x1024) hz3]

/-- The first point leaves the block's column sums in output 2. -/
theorem out7_A (c : Dev nD) (i : grid0.Coords) (a2 h2 a3 h3 a4 h4 a5 h5 a6 h6 a7 h7 a8 h8 a9 h9 a10 h10 hc0 hc1 hc2 hc3) (x0 : Vec F S512x1024 .f32) (x1 : Vec F S512x1024 .f32) (x2 : Vec F S512x1024 .f32) (x3 : Vec F S1x1x1024 .f32) (x4 : Vec F S1x1x1024 .f32) :
    out0_A_7 c i a2 h2 a3 h3 a4 h4 a5 h5 a6 h6 a7 h7 a8 h8 a9 h9 a10 h10 hc0 hc1 hc2 hc3 x0 x1 x2 x3 x4 = k0_pay11 x1 x2 x4 := by
  unfold out0_A_7
  rw [View.read_writes_eq_canon _ _ _ (cover0_A_7 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero hz3]
  simp only [View.readAt_eq_ld, h2.read_unread, h3.read_unread, h4.read_unread, h5.read_unread, h6.read_unread, View.ld_unit_zero (S := S512x1024) hz, View.ld_unit_zero (S := S1x1x1024) hz3]

/-- A later point adds the block's column sums to output 2. -/
theorem out7_B (c : Dev nD) (i : grid0.Coords) (a2 h2 a3 h3 a4 h4 a5 h5 a6 h6 a7 h7 a8 h8 a9 h9 a10 h10 hc0 hc1 hc2 hc3) (x0 : Vec F S512x1024 .f32) (x1 : Vec F S512x1024 .f32) (x2 : Vec F S512x1024 .f32) (x3 : Vec F S1x1x1024 .f32) (x4 : Vec F S1x1x1024 .f32) (xo7 : Vec F S1x1x1024 .f32) (xo8 : Vec F S1x1x1024 .f32) :
    out0_B_7 c i a2 h2 a3 h3 a4 h4 a5 h5 a6 h6 a7 h7 a8 h8 a9 h9 a10 h10 hc0 hc1 hc2 hc3 x0 x1 x2 x3 x4 xo7 xo8 = k0_pay1 (k0_pay8 x1 x2 x4) xo7 := by
  unfold out0_B_7
  rw [View.read_writes_eq_canon _ _ _ (cover0_B_7 c i a2 h2 a3 h3 a4 h4 a5 h5 a6 h6 a7 h7 a8 h8 a9 h9 a10 h10 hc0 hc1 hc2 hc3 x0 x1 x2 x3 x4 xo7 xo8)]
  unfold kernelRun0_B
  dsimp only
  sl_unfold_words
  rw [View.canon_unit_zero hz3]
  simp only [View.readAt_eq_ld, h2.read_unread, h3.read_unread, h4.read_unread, h5.read_unread, h6.read_unread, h9.read_unread, h10.read_unread, View.ld_unit_zero (S := S512x1024) hz, View.ld_unit_zero (S := S1x1x1024) hz3]

/-- The first point leaves the block's column sums in output 3. -/
theorem out8_A (c : Dev nD) (i : grid0.Coords) (a2 h2 a3 h3 a4 h4 a5 h5 a6 h6 a7 h7 a8 h8 a9 h9 a10 h10 hc0 hc1 hc2 hc3) (x0 : Vec F S512x1024 .f32) (x1 : Vec F S512x1024 .f32) (x2 : Vec F S512x1024 .f32) (x3 : Vec F S1x1x1024 .f32) (x4 : Vec F S1x1x1024 .f32) :
    out0_A_8 c i a2 h2 a3 h3 a4 h4 a5 h5 a6 h6 a7 h7 a8 h8 a9 h9 a10 h10 hc0 hc1 hc2 hc3 x0 x1 x2 x3 x4 = k0_pay2 (k0_pay7 x0 x1 x2 x3 x4) := by
  unfold out0_A_8
  rw [View.read_writes_eq_canon _ _ _ (cover0_A_8 c i a2 h2 a3 h3 a4 h4 a5 h5 a6 h6 a7 h7 a8 h8 a9 h9 a10 h10 hc0 hc1 hc2 hc3 x0 x1 x2 x3 x4)]
  unfold kernelRun0_A
  dsimp only
  sl_unfold_words
  rw [View.canon_unit_zero hz3]
  simp only [View.readAt_eq_ld, h2.read_unread, h3.read_unread, h4.read_unread, h5.read_unread, h6.read_unread, View.ld_unit_zero (S := S512x1024) hz, View.ld_unit_zero (S := S1x1x1024) hz3]

/-- A later point adds the block's column sums to output 3. -/
theorem out8_B (c : Dev nD) (i : grid0.Coords) (a2 h2 a3 h3 a4 h4 a5 h5 a6 h6 a7 h7 a8 h8 a9 h9 a10 h10 hc0 hc1 hc2 hc3) (x0 : Vec F S512x1024 .f32) (x1 : Vec F S512x1024 .f32) (x2 : Vec F S512x1024 .f32) (x3 : Vec F S1x1x1024 .f32) (x4 : Vec F S1x1x1024 .f32) (xo7 : Vec F S1x1x1024 .f32) (xo8 : Vec F S1x1x1024 .f32) :
    out0_B_8 c i a2 h2 a3 h3 a4 h4 a5 h5 a6 h6 a7 h7 a8 h8 a9 h9 a10 h10 hc0 hc1 hc2 hc3 x0 x1 x2 x3 x4 xo7 xo8 = k0_pay3 (k0_pay7 x0 x1 x2 x3 x4) xo8 := by
  unfold out0_B_8
  rw [View.read_writes_eq_canon _ _ _ (cover0_B_8 c i a2 h2 a3 h3 a4 h4 a5 h5 a6 h6 a7 h7 a8 h8 a9 h9 a10 h10 hc0 hc1 hc2 hc3 x0 x1 x2 x3 x4 xo7 xo8)]
  unfold kernelRun0_B
  dsimp only
  sl_unfold_words
  rw [View.canon_unit_zero hz3]
  simp only [View.readAt_eq_ld, h2.read_unread, h3.read_unread, h4.read_unread, h5.read_unread, h6.read_unread, h9.read_unread, h10.read_unread, View.ld_unit_zero (S := S512x1024) hz, View.ld_unit_zero (S := S1x1x1024) hz3]

end cases

variable (m : (ℓ : Loc nD τ sig) → Buf (Elt Ideal) ℓ)

theorem idx0 : ∀ t : Fin cfg0.N, win0_0.index t 0 = t.val ∧ win0_0.index t 1 = 0 :=
  (by decide +kernel : ∀ t : Fin grid0.N, _)

/-- The block of rows of input 0 at a grid point. -/
theorem blk0 (c : Dev nD) (t : Fin cfg0.N) (i : Fin 512) (j : Fin 1024) :
    (iblk m c 0 t : Vec Ideal S512x1024 .f32) (ix2 i j)
      = at2 (M := 2048) (N := 2048) (m ((c : Thread nD τ).loc main_arg0)) (512 * t.val + i.val) j.val := by
  have hN : t.val < 4 := lt_of_lt_of_eq t.isLt N_0
  have hi := i.isLt
  have hj := j.isLt
  obtain ⟨e0, e1⟩ := idx0 t
  rw [at2_of _ (by omega) (by omega)]
  unfold iblk
  rw [View.read_apply]
  have e : V m c main_arg0 (ix2 (⟨512 * t.val + i.val, by omega⟩ : Fin 2048) (⟨j.val, by omega⟩ : Fin 2048))
      = (m ((c : Thread nD τ).loc main_arg0) : (⟨2, ![2048, 2048]⟩ : Shape).Idx → EReal) (ix2 ⟨512 * t.val + i.val, by omega⟩ ⟨j.val, by omega⟩) := by
    unfold V
    after_reads_at
  refine Eq.trans ?_ e
  show V m c main_arg0 _ = V m c main_arg0 _
  congr 1
  funext a
  apply Fin.ext
  match a with
  | ⟨0, _⟩ => show win0_0.index t 0 * 512 + 1 * i.val = 512 * t.val + i.val; rw [e0]; omega
  | ⟨1, _⟩ => show win0_0.index t 1 * 1024 + 1 * j.val = j.val; rw [e1]; omega

theorem idx1 : ∀ t : Fin cfg0.N, win0_1.index t 0 = t.val ∧ win0_1.index t 1 = 1 :=
  (by decide +kernel : ∀ t : Fin grid0.N, _)

/-- The block of rows of input 1 at a grid point. -/
theorem blk1 (c : Dev nD) (t : Fin cfg0.N) (i : Fin 512) (j : Fin 1024) :
    (iblk m c 1 t : Vec Ideal S512x1024 .f32) (ix2 i j)
      = at2 (M := 2048) (N := 2048) (m ((c : Thread nD τ).loc main_arg0)) (512 * t.val + i.val) (1024 + j.val) := by
  have hN : t.val < 4 := lt_of_lt_of_eq t.isLt N_0
  have hi := i.isLt
  have hj := j.isLt
  obtain ⟨e0, e1⟩ := idx1 t
  rw [at2_of _ (by omega) (by omega)]
  unfold iblk
  rw [View.read_apply]
  have e : V m c main_arg0 (ix2 (⟨512 * t.val + i.val, by omega⟩ : Fin 2048) (⟨(1024 + j.val), by omega⟩ : Fin 2048))
      = (m ((c : Thread nD τ).loc main_arg0) : (⟨2, ![2048, 2048]⟩ : Shape).Idx → EReal) (ix2 ⟨512 * t.val + i.val, by omega⟩ ⟨(1024 + j.val), by omega⟩) := by
    unfold V
    after_reads_at
  refine Eq.trans ?_ e
  show V m c main_arg0 _ = V m c main_arg0 _
  congr 1
  funext a
  apply Fin.ext
  match a with
  | ⟨0, _⟩ => show win0_1.index t 0 * 512 + 1 * i.val = 512 * t.val + i.val; rw [e0]; omega
  | ⟨1, _⟩ => show win0_1.index t 1 * 1024 + 1 * j.val = (1024 + j.val); rw [e1]; omega

theorem idx2 : ∀ t : Fin cfg0.N, win0_2.index t 0 = t.val ∧ win0_2.index t 1 = 0 :=
  (by decide +kernel : ∀ t : Fin grid0.N, _)

/-- The block of rows of input 2 at a grid point. -/
theorem blk2 (c : Dev nD) (t : Fin cfg0.N) (i : Fin 512) (j : Fin 1024) :
    (iblk m c 2 t : Vec Ideal S512x1024 .f32) (ix2 i j)
      = at2 (M := 2048) (N := 1024) (m ((c : Thread nD τ).loc main_arg2)) (512 * t.val + i.val) j.val := by
  have hN : t.val < 4 := lt_of_lt_of_eq t.isLt N_0
  have hi := i.isLt
  have hj := j.isLt
  obtain ⟨e0, e1⟩ := idx2 t
  rw [at2_of _ (by omega) (by omega)]
  unfold iblk
  rw [View.read_apply]
  have e : V m c main_arg2 (ix2 (⟨512 * t.val + i.val, by omega⟩ : Fin 2048) (⟨j.val, by omega⟩ : Fin 1024))
      = (m ((c : Thread nD τ).loc main_arg2) : (⟨2, ![2048, 1024]⟩ : Shape).Idx → EReal) (ix2 ⟨512 * t.val + i.val, by omega⟩ ⟨j.val, by omega⟩) := by
    unfold V
    after_reads_at
  refine Eq.trans ?_ e
  show V m c main_arg2 _ = V m c main_arg2 _
  congr 1
  funext a
  apply Fin.ext
  match a with
  | ⟨0, _⟩ => show win0_2.index t 0 * 512 + 1 * i.val = 512 * t.val + i.val; rw [e0]; omega
  | ⟨1, _⟩ => show win0_2.index t 1 * 1024 + 1 * j.val = j.val; rw [e1]; omega

theorem idx3 : ∀ t : Fin cfg0.N, win0_3.index t 0 = 0 ∧ win0_3.index t 1 = 0 ∧ win0_3.index t 2 = 0 :=
  (by decide +kernel : ∀ t : Fin grid0.N, _)

/-- The parameter of input 3 at a grid point. -/
theorem blk3 (c : Dev nD) (t : Fin cfg0.N) (j : Fin 1024) :
    (iblk m c 3 t : Vec Ideal S1x1x1024 .f32) (ix3 0 0 j) = m ((c : Thread nD τ).loc main_arg1) (ix1 ⟨j.val, by omega⟩) := by
  obtain ⟨e0, e1, e2⟩ := idx3 t
  unfold iblk
  rw [View.read_apply]
  have e : V m c main_v2 (ix3 (0 : Fin 1) (0 : Fin 1) j) = (m ((c : Thread nD τ).loc main_arg1) : (⟨1, ![2048]⟩ : Shape).Idx → EReal) (ix1 ⟨j.val, by omega⟩) := by
    unfold V
    after_reads_at

  refine Eq.trans ?_ e
  show V m c main_v2 _ = V m c main_v2 _
  congr 1
  funext a
  apply Fin.ext
  match a with
  | ⟨0, _⟩ => show win0_3.index t 0 * 1 + 1 * 0 = 0; rw [e0]
  | ⟨1, _⟩ => show win0_3.index t 1 * 1 + 1 * 0 = 0; rw [e1]
  | ⟨2, _⟩ => show win0_3.index t 2 * 1024 + 1 * j.val = j.val; rw [e2]; omega

theorem idx4 : ∀ t : Fin cfg0.N, win0_4.index t 0 = 0 ∧ win0_4.index t 1 = 0 ∧ win0_4.index t 2 = 0 :=
  (by decide +kernel : ∀ t : Fin grid0.N, _)

/-- The parameter of input 4 at a grid point. -/
theorem blk4 (c : Dev nD) (t : Fin cfg0.N) (j : Fin 1024) :
    (iblk m c 4 t : Vec Ideal S1x1x1024 .f32) (ix3 0 0 j) = m ((c : Thread nD τ).loc main_arg1) (ix1 ⟨1024 + j.val, by omega⟩) := by
  obtain ⟨e0, e1, e2⟩ := idx4 t
  unfold iblk
  rw [View.read_apply]
  have e : V m c main_v5 (ix3 (0 : Fin 1) (0 : Fin 1) j) = (m ((c : Thread nD τ).loc main_arg1) : (⟨1, ![2048]⟩ : Shape).Idx → EReal) (ix1 ⟨1024 + j.val, by omega⟩) := by
    unfold V
    after_reads_at

  refine Eq.trans ?_ e
  show V m c main_v5 _ = V m c main_v5 _
  congr 1
  funext a
  apply Fin.ext
  match a with
  | ⟨0, _⟩ => show win0_4.index t 0 * 1 + 1 * 0 = 0; rw [e0]
  | ⟨1, _⟩ => show win0_4.index t 1 * 1 + 1 * 0 = 0; rw [e1]
  | ⟨2, _⟩ => show win0_4.index t 2 * 1024 + 1 * j.val = j.val; rw [e2]; omega

/-- A parameter vector read at a column. -/
abbrev at1 (x : (⟨1, ![2048]⟩ : Shape).Idx → EReal) (j : Fin 2048) : EReal := x (ix1 j)

/-- The unit's gate at row `r` and column `j`. -/
abbrev gate (c : Dev nD) (r : ℕ) (j : Fin 1024) : EReal :=
  Ideal.logistic (at2 (M := 2048) (N := 2048) (m ((c : Thread nD τ).loc main_arg0)) r (1024 + j.val) + at1 (m ((c : Thread nD τ).loc main_arg1)) ⟨1024 + j.val, by omega⟩)

/-- The first half's gradient at row `r` and column `j`. -/
abbrev term5 (c : Dev nD) (r : ℕ) (j : Fin 1024) : EReal := at2 (M := 2048) (N := 1024) (m ((c : Thread nD τ).loc main_arg2)) r j.val * gate m c r j

/-- The second half's gradient at row `r` and column `j`. -/
abbrev term6 (c : Dev nD) (r : ℕ) (j : Fin 1024) : EReal := (at2 (M := 2048) (N := 2048) (m ((c : Thread nD τ).loc main_arg0)) r j.val + at1 (m ((c : Thread nD τ).loc main_arg1)) ⟨j.val, by omega⟩) * at2 (M := 2048) (N := 1024) (m ((c : Thread nD τ).loc main_arg2)) r j.val * (gate m c r j * (1 - gate m c r j))

/-- What row `r` adds to the gradient of the bias's first half. -/
abbrev term7 (c : Dev nD) (r : ℕ) (j : Fin 1024) : EReal := term5 m c r j

/-- What row `r` adds to the gradient of the bias's second half. -/
abbrev term8 (c : Dev nD) (r : ℕ) (j : Fin 1024) : EReal := term6 m c r j

theorem idx5 : ∀ t : Fin cfg0.N, win0_5.index t 0 = t.val ∧ win0_5.index t 1 = 0 :=
  (by decide +kernel : ∀ t : Fin grid0.N, _)
theorem ext5 : ∀ t : Fin cfg0.N, win0_5.xsize (grid0.coords t) 0 = 512 ∧ win0_5.xsize (grid0.coords t) 1 = 1024 :=
  (by decide +kernel : ∀ t : Fin grid0.N, _)

/-- What a point leaves in its block of output 0. -/
theorem left5 (c : Dev nD) (t : Fin cfg0.N) : (outsAt0 m c t.val t.isLt).1 = k0_pay9 (iblk m c 1 t) (iblk m c 2 t) (iblk m c 4 t) := by
  have hN : t.val < 4 := lt_of_lt_of_eq t.isLt N_0
  by_cases h : t.val = 0
  · rw [outsAt0_A m c t (by omega) (by omega) (by omega) (by omega)]
    dsimp only
    rw [out5_A]
  · rw [outsAt0_B m c t (by omega) (by omega) (by omega) (by omega)]
    dsimp only
    rw [out5_B]

/-- … element by element. -/
theorem row5_apply (c : Dev nD) (t : Fin cfg0.N) (i : Fin 512) (j : Fin 1024) :
    (k0_pay9 (iblk m c 1 t) (iblk m c 2 t) (iblk m c 4 t) (ix2 i j) : EReal) = term5 m c (512 * t.val + i.val) j := by
  pointwise [k0_pay9, k0_pay5, k0_pay4]
  rw [blk2, blk1, blk4]

/-- The array of output 0. -/
theorem array5_apply (c : Dev nD) (r : Fin 2048) (j : Fin 1024) :
    ((dats m 0 c).arrAt 5 cfg0.N (ix2 r j) : EReal) = term5 m c r.val j := by
  have hr := r.isLt
  have hj := j.isLt
  have hN : cfg0.N = 4 := N_0
  obtain ⟨t, ht⟩ : ∃ t : Fin cfg0.N, t.val = r.val / 512 := ⟨⟨r.val / 512, by omega⟩, rfl⟩
  obtain ⟨e0, e1⟩ := idx5 t
  obtain ⟨x0, x1⟩ := ext5 t
  let y : (win0_5.xblock (grid0.coords t)).Idx := fun a => match a with
    | ⟨0, _⟩ => ⟨r.val % 512, by show _ < win0_5.xsize (grid0.coords t) 0; rw [x0]; omega⟩
    | ⟨1, _⟩ => ⟨j.val, by show _ < win0_5.xsize (grid0.coords t) 1; rw [x1]; omega⟩
  have hb := congrFun ((blocks5 m c t (flush0_5 t)).trans (flushed5 m c t)) y
  rw [View.read_apply] at hb
  have he : ((cfg0.win 5).blk t).view.emb y = ix2 r j := by
    funext a
    apply Fin.ext
    match a with
    | ⟨0, _⟩ => show win0_5.index t 0 * 512 + 1 * (r.val % 512) = r.val; rw [e0]; omega
    | ⟨1, _⟩ => show win0_5.index t 1 * 1024 + 1 * j.val = j.val; rw [e1]; omega
  rw [he, left5] at hb
  refine hb.trans ?_
  have hrow := row5_apply m c t ⟨r.val % 512, by omega⟩ j
  rw [show 512 * t.val + (⟨r.val % 512, by omega⟩ : Fin 512).val = r.val from by show 512 * t.val + r.val % 512 = r.val; omega] at hrow
  refine Eq.trans ?_ hrow
  exact congrArg (k0_pay9 (iblk m c 1 t) (iblk m c 2 t) (iblk m c 4 t)) (by
    funext a
    apply Fin.ext
    match a with
    | ⟨0, _⟩ => rfl
    | ⟨1, _⟩ => rfl)

theorem idx6 : ∀ t : Fin cfg0.N, win0_6.index t 0 = t.val ∧ win0_6.index t 1 = 0 :=
  (by decide +kernel : ∀ t : Fin grid0.N, _)
theorem ext6 : ∀ t : Fin cfg0.N, win0_6.xsize (grid0.coords t) 0 = 512 ∧ win0_6.xsize (grid0.coords t) 1 = 1024 :=
  (by decide +kernel : ∀ t : Fin grid0.N, _)

/-- What a point leaves in its block of output 1. -/
theorem left6 (c : Dev nD) (t : Fin cfg0.N) : (outsAt0 m c t.val t.isLt).2.1 = k0_pay10 (iblk m c 0 t) (iblk m c 1 t) (iblk m c 2 t) (iblk m c 3 t) (iblk m c 4 t) := by
  have hN : t.val < 4 := lt_of_lt_of_eq t.isLt N_0
  by_cases h : t.val = 0
  · rw [outsAt0_A m c t (by omega) (by omega) (by omega) (by omega)]
    dsimp only
    rw [out6_A]
  · rw [outsAt0_B m c t (by omega) (by omega) (by omega) (by omega)]
    dsimp only
    rw [out6_B]

/-- … element by element. -/
theorem row6_apply (c : Dev nD) (t : Fin cfg0.N) (i : Fin 512) (j : Fin 1024) :
    (k0_pay10 (iblk m c 0 t) (iblk m c 1 t) (iblk m c 2 t) (iblk m c 3 t) (iblk m c 4 t) (ix2 i j) : EReal) = term6 m c (512 * t.val + i.val) j := by
  pointwise [k0_pay10, k0_pay6, k0_pay4]
  rw [blk0, blk1, blk2, blk3, blk4]

/-- The array of output 1. -/
theorem array6_apply (c : Dev nD) (r : Fin 2048) (j : Fin 1024) :
    ((dats m 0 c).arrAt 6 cfg0.N (ix2 r j) : EReal) = term6 m c r.val j := by
  have hr := r.isLt
  have hj := j.isLt
  have hN : cfg0.N = 4 := N_0
  obtain ⟨t, ht⟩ : ∃ t : Fin cfg0.N, t.val = r.val / 512 := ⟨⟨r.val / 512, by omega⟩, rfl⟩
  obtain ⟨e0, e1⟩ := idx6 t
  obtain ⟨x0, x1⟩ := ext6 t
  let y : (win0_6.xblock (grid0.coords t)).Idx := fun a => match a with
    | ⟨0, _⟩ => ⟨r.val % 512, by show _ < win0_6.xsize (grid0.coords t) 0; rw [x0]; omega⟩
    | ⟨1, _⟩ => ⟨j.val, by show _ < win0_6.xsize (grid0.coords t) 1; rw [x1]; omega⟩
  have hb := congrFun ((blocks6 m c t (flush0_6 t)).trans (flushed6 m c t)) y
  rw [View.read_apply] at hb
  have he : ((cfg0.win 6).blk t).view.emb y = ix2 r j := by
    funext a
    apply Fin.ext
    match a with
    | ⟨0, _⟩ => show win0_6.index t 0 * 512 + 1 * (r.val % 512) = r.val; rw [e0]; omega
    | ⟨1, _⟩ => show win0_6.index t 1 * 1024 + 1 * j.val = j.val; rw [e1]; omega
  rw [he, left6] at hb
  refine hb.trans ?_
  have hrow := row6_apply m c t ⟨r.val % 512, by omega⟩ j
  rw [show 512 * t.val + (⟨r.val % 512, by omega⟩ : Fin 512).val = r.val from by show 512 * t.val + r.val % 512 = r.val; omega] at hrow
  refine Eq.trans ?_ hrow
  exact congrArg (k0_pay10 (iblk m c 0 t) (iblk m c 1 t) (iblk m c 2 t) (iblk m c 3 t) (iblk m c 4 t)) (by
    funext a
    apply Fin.ext
    match a with
    | ⟨0, _⟩ => rfl
    | ⟨1, _⟩ => rfl)

theorem ext7 : ∀ t : Fin cfg0.N, win0_7.index t 0 = 0 ∧ win0_7.index t 1 = 0 ∧ win0_7.index t 2 = 0 ∧ win0_7.xsize (grid0.coords t) 0 = 1
    ∧ win0_7.xsize (grid0.coords t) 1 = 1 ∧ win0_7.xsize (grid0.coords t) 2 = 1024 :=
  (by decide +kernel : ∀ t : Fin grid0.N, _)

/-- The first point's column sums of output 2. -/
theorem first7 (c : Dev nD) (t : Fin cfg0.N) (j : Fin 1024) :
    (k0_pay11 (iblk m c 1 t) (iblk m c 2 t) (iblk m c 4 t) (ix3 0 0 j) : EReal) = ∑ i : Fin 512, term7 m c (512 * t.val + i.val) j := by
  pointwise [k0_pay11, k0_pay8, k0_pay5, k0_pay4]
  refine Finset.sum_congr rfl fun i _ => ?_
  rw [blk2, blk1, blk4]

/-- A later point adds its own to what was there. -/
theorem next7 (c : Dev nD) (t : Fin cfg0.N) (acc : Vec Ideal S1x1x1024 .f32) (j : Fin 1024) :
    (k0_pay1 (k0_pay8 (iblk m c 1 t) (iblk m c 2 t) (iblk m c 4 t)) acc (ix3 0 0 j) : EReal) = (acc (ix3 0 0 j) : EReal) + ∑ i : Fin 512, term7 m c (512 * t.val + i.val) j := by
  pointwise [k0_pay1, k0_pay8, k0_pay5, k0_pay4]
  refine congrArg _ (Finset.sum_congr rfl fun i _ => ?_)
  rw [blk2, blk1, blk4]

theorem left7_A (c : Dev nD) (t : Fin cfg0.N) (h : t.val = 0) : (outsAt0 m c t.val t.isLt).2.2.1 = k0_pay11 (iblk m c 1 t) (iblk m c 2 t) (iblk m c 4 t) := by
  rw [outsAt0_A m c t (by omega) (by omega) (by omega) (by omega)]
  dsimp only
  rw [out7_A]

theorem left7_B (c : Dev nD) (t : Fin cfg0.N) (h : t.val ≠ 0) :
    (outsAt0 m c t.val t.isLt).2.2.1 = k0_pay1 (k0_pay8 (iblk m c 1 t) (iblk m c 2 t) (iblk m c 4 t)) (outsAt0 m c (t.val - 1) (Nat.lt_of_le_of_lt (Nat.sub_le _ _) t.isLt)).2.2.1 := by
  have hN : t.val < 4 := lt_of_lt_of_eq t.isLt N_0
  rw [outsAt0_B m c t (by omega) (by omega) (by omega) (by omega)]
  dsimp only
  rw [out7_B]

/-- After point `s` output 2 holds the column sums over the rows seen so far. -/
theorem sum7_apply (c : Dev nD) (j : Fin 1024) (s : ℕ) (hs : s < 4) (h : s < cfg0.N) :
    ((outsAt0 m c s h).2.2.1 (ix3 0 0 j) : EReal) = ∑ k ∈ Finset.range (512 * (s + 1)), term7 m c k j := by
  have hN : cfg0.N = 4 := N_0
  have key := sweep 4 512 (fun k => term7 m c k j) (fun s => if h : s < cfg0.N then ((outsAt0 m c s h).2.2.1 (ix3 0 0 j) : EReal) else 0)
    (fun _ => by
      have h' : 0 < cfg0.N := by omega
      simp only [dif_pos h']
      refine (congrFun (left7_A m c ⟨0, h'⟩ rfl) _).trans ((first7 m c ⟨0, h'⟩ j).trans (Finset.sum_congr rfl fun i _ => ?_))
      show term7 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left7_B m c ⟨s + 1, hb⟩ (Nat.succ_ne_zero s)) _).trans (next7 m c ⟨s + 1, hb⟩ _ j))
    s hs
  simpa only [dif_pos h] using key

/-- The array of output 2: the column sums over all rows. -/
theorem array7_apply (c : Dev nD) (j : Fin 1024) :
    ((dats m 0 c).arrAt 7 cfg0.N (ix3 (0 : Fin 1) (0 : Fin 1) j) : EReal) = ∑ k ∈ Finset.range 2048, term7 m c k j := by
  have hj := j.isLt
  have hN : cfg0.N = 4 := N_0
  let t : Fin cfg0.N := ⟨3, by omega⟩
  obtain ⟨e0, e1, e2, x0, x1, x2⟩ := ext7 t
  let y : (win0_7.xblock (grid0.coords t)).Idx := fun a => match a with
    | ⟨0, _⟩ => ⟨0, by show _ < win0_7.xsize (grid0.coords t) 0; rw [x0]; omega⟩
    | ⟨1, _⟩ => ⟨0, by show _ < win0_7.xsize (grid0.coords t) 1; rw [x1]; omega⟩
    | ⟨2, _⟩ => ⟨j.val, by show _ < win0_7.xsize (grid0.coords t) 2; rw [x2]; omega⟩
  have hd : ∀ t t' : Fin cfg0.N, (cfg0.win 7).flush t = true → (cfg0.win 7).flush t' = true → t ≠ t' →
      Disjoint ((cfg0.win 7).blk t).view.set ((cfg0.win 7).blk t').view.set := fun t t' hf hf' hne =>
    absurd (Fin.ext (by have := (flush0_7 t).mp hf; have := (flush0_7 t').mp hf'; have := t.isLt; have := t'.isLt; omega)) hne
  have hb := congrFun (((dats m 0 c).read_blk_arrAt_eq_flushed 7 hd cfg0.N t t.isLt ((flush0_7 t).mpr rfl)).trans (flushed7 m c t)) y
  rw [View.read_apply] at hb
  have he : ((cfg0.win 7).blk t).view.emb y = ix3 (0 : Fin 1) (0 : Fin 1) j := by
    funext a
    apply Fin.ext
    match a with
    | ⟨0, _⟩ => show win0_7.index t 0 * 1 + 1 * 0 = 0; rw [e0]
    | ⟨1, _⟩ => show win0_7.index t 1 * 1 + 1 * 0 = 0; rw [e1]
    | ⟨2, _⟩ => show win0_7.index t 2 * 1024 + 1 * j.val = j.val; rw [e2]; omega
  rw [he] at hb
  refine hb.trans (Eq.trans ?_ (sum7_apply m c j 3 (by omega) t.isLt))
  exact congrArg ((outsAt0 m c 3 t.isLt).2.2.1) (by
    funext a
    apply Fin.ext
    match a with
    | ⟨0, _⟩ => rfl
    | ⟨1, _⟩ => rfl
    | ⟨2, _⟩ => rfl)

theorem ext8 : ∀ t : Fin cfg0.N, win0_8.index t 0 = 0 ∧ win0_8.index t 1 = 0 ∧ win0_8.index t 2 = 0 ∧ win0_8.xsize (grid0.coords t) 0 = 1
    ∧ win0_8.xsize (grid0.coords t) 1 = 1 ∧ win0_8.xsize (grid0.coords t) 2 = 1024 :=
  (by decide +kernel : ∀ t : Fin grid0.N, _)

/-- The first point's column sums of output 3. -/
theorem first8 (c : Dev nD) (t : Fin cfg0.N) (j : Fin 1024) :
    (k0_pay2 (k0_pay7 (iblk m c 0 t) (iblk m c 1 t) (iblk m c 2 t) (iblk m c 3 t) (iblk m c 4 t)) (ix3 0 0 j) : EReal) = ∑ i : Fin 512, term8 m c (512 * t.val + i.val) j := by
  pointwise [k0_pay2, k0_pay7, k0_pay6, k0_pay4]
  refine Finset.sum_congr rfl fun i _ => ?_
  rw [blk0, blk1, blk2, blk3, blk4]

/-- A later point adds its own to what was there. -/
theorem next8 (c : Dev nD) (t : Fin cfg0.N) (acc : Vec Ideal S1x1x1024 .f32) (j : Fin 1024) :
    (k0_pay3 (k0_pay7 (iblk m c 0 t) (iblk m c 1 t) (iblk m c 2 t) (iblk m c 3 t) (iblk m c 4 t)) acc (ix3 0 0 j) : EReal) = (acc (ix3 0 0 j) : EReal) + ∑ i : Fin 512, term8 m c (512 * t.val + i.val) j := by
  pointwise [k0_pay3, k0_pay7, k0_pay6, k0_pay4]
  refine congrArg _ (Finset.sum_congr rfl fun i _ => ?_)
  rw [blk0, blk1, blk2, blk3, blk4]

theorem left8_A (c : Dev nD) (t : Fin cfg0.N) (h : t.val = 0) : (outsAt0 m c t.val t.isLt).2.2.2 = k0_pay2 (k0_pay7 (iblk m c 0 t) (iblk m c 1 t) (iblk m c 2 t) (iblk m c 3 t) (iblk m c 4 t)) := by
  rw [outsAt0_A m c t (by omega) (by omega) (by omega) (by omega)]
  dsimp only
  rw [out8_A]

theorem left8_B (c : Dev nD) (t : Fin cfg0.N) (h : t.val ≠ 0) :
    (outsAt0 m c t.val t.isLt).2.2.2 = k0_pay3 (k0_pay7 (iblk m c 0 t) (iblk m c 1 t) (iblk m c 2 t) (iblk m c 3 t) (iblk m c 4 t)) (outsAt0 m c (t.val - 1) (Nat.lt_of_le_of_lt (Nat.sub_le _ _) t.isLt)).2.2.2 := by
  have hN : t.val < 4 := lt_of_lt_of_eq t.isLt N_0
  rw [outsAt0_B m c t (by omega) (by omega) (by omega) (by omega)]
  dsimp only
  rw [out8_B]

/-- After point `s` output 3 holds the column sums over the rows seen so far. -/
theorem sum8_apply (c : Dev nD) (j : Fin 1024) (s : ℕ) (hs : s < 4) (h : s < cfg0.N) :
    ((outsAt0 m c s h).2.2.2 (ix3 0 0 j) : EReal) = ∑ k ∈ Finset.range (512 * (s + 1)), term8 m c k j := by
  have hN : cfg0.N = 4 := N_0
  have key := sweep 4 512 (fun k => term8 m c k j) (fun s => if h : s < cfg0.N then ((outsAt0 m c s h).2.2.2 (ix3 0 0 j) : EReal) else 0)
    (fun _ => by
      have h' : 0 < cfg0.N := by omega
      simp only [dif_pos h']
      refine (congrFun (left8_A m c ⟨0, h'⟩ rfl) _).trans ((first8 m c ⟨0, h'⟩ j).trans (Finset.sum_congr rfl fun i _ => ?_))
      show term8 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left8_B m c ⟨s + 1, hb⟩ (Nat.succ_ne_zero s)) _).trans (next8 m c ⟨s + 1, hb⟩ _ j))
    s hs
  simpa only [dif_pos h] using key

/-- The array of output 3: the column sums over all rows. -/
theorem array8_apply (c : Dev nD) (j : Fin 1024) :
    ((dats m 0 c).arrAt 8 cfg0.N (ix3 (0 : Fin 1) (0 : Fin 1) j) : EReal) = ∑ k ∈ Finset.range 2048, term8 m c k j := by
  have hj := j.isLt
  have hN : cfg0.N = 4 := N_0
  let t : Fin cfg0.N := ⟨3, by omega⟩
  obtain ⟨e0, e1, e2, x0, x1, x2⟩ := ext8 t
  let y : (win0_8.xblock (grid0.coords t)).Idx := fun a => match a with
    | ⟨0, _⟩ => ⟨0, by show _ < win0_8.xsize (grid0.coords t) 0; rw [x0]; omega⟩
    | ⟨1, _⟩ => ⟨0, by show _ < win0_8.xsize (grid0.coords t) 1; rw [x1]; omega⟩
    | ⟨2, _⟩ => ⟨j.val, by show _ < win0_8.xsize (grid0.coords t) 2; rw [x2]; omega⟩
  have hd : ∀ t t' : Fin cfg0.N, (cfg0.win 8).flush t = true → (cfg0.win 8).flush t' = true → t ≠ t' →
      Disjoint ((cfg0.win 8).blk t).view.set ((cfg0.win 8).blk t').view.set := fun t t' hf hf' hne =>
    absurd (Fin.ext (by have := (flush0_8 t).mp hf; have := (flush0_8 t').mp hf'; have := t.isLt; have := t'.isLt; omega)) hne
  have hb := congrFun (((dats m 0 c).read_blk_arrAt_eq_flushed 8 hd cfg0.N t t.isLt ((flush0_8 t).mpr rfl)).trans (flushed8 m c t)) y
  rw [View.read_apply] at hb
  have he : ((cfg0.win 8).blk t).view.emb y = ix3 (0 : Fin 1) (0 : Fin 1) j := by
    funext a
    apply Fin.ext
    match a with
    | ⟨0, _⟩ => show win0_8.index t 0 * 1 + 1 * 0 = 0; rw [e0]
    | ⟨1, _⟩ => show win0_8.index t 1 * 1 + 1 * 0 = 0; rw [e1]
    | ⟨2, _⟩ => show win0_8.index t 2 * 1024 + 1 * j.val = j.val; rw [e2]; omega
  rw [he] at hb
  refine hb.trans (Eq.trans ?_ (sum8_apply m c j 3 (by omega) t.isLt))
  exact congrArg ((outsAt0 m c 3 t.isLt).2.2.2) (by
    funext a
    apply Fin.ext
    match a with
    | ⟨0, _⟩ => rfl
    | ⟨1, _⟩ => rfl
    | ⟨2, _⟩ => rfl)

/-- The reference runs to the end, its arguments unchanged; it has no semaphore at all. -/
theorem reference_frame : Cert.quiescent_Reference26Ideal (hReference26Ideal := Cert.Reference26Ideal.Gen.facts) := fun m g _ =>
  (θ_run _ _ _).mono (fun r h => ⟨fun c => (h c).2.2.2.2, funext fun s => match s with
    | (_, .reg s) => s.elim0
    | (_, .dma s) => s.elim0⟩) (Cert.Reference26Ideal.Value.run m g)

/-- The two runs end with the same arrays. -/
theorem algebraic : Cert.algebraic_Kernel26Ideal_Reference26Ideal (hKernel26Ideal := Cert.Kernel26Ideal.Gen.facts)
    (hReference26Ideal := Cert.Reference26Ideal.Gen.facts) := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference26Ideal.Value.run m' g')
  · rw [(hargs c).1, (hargs c).2.1, (hargs c).2.2]
    funext i
    obtain ⟨r, j, rfl⟩ : ∃ (r : Fin 2048) (j : Fin 1024), i = ix2 r j := ⟨i 0, i 1, (ix2_eta i).symm⟩
    refine Eq.trans ?_ (array5_apply m c r j).symm
    have hj := j.isLt
    pointwise
    simp only [term5, gate, at1, at2_of _ r.isLt j.isLt, at2_of _ r.isLt (show j.val < 2048 by omega), at2_of _ r.isLt (show 1024 + j.val < 2048 by omega)]
    rfl
  · rw [(hargs c).1, (hargs c).2.1, (hargs c).2.2]
    funext i
    obtain ⟨r, j, rfl⟩ : ∃ (r : Fin 2048) (j : Fin 1024), i = ix2 r j := ⟨i 0, i 1, (ix2_eta i).symm⟩
    refine Eq.trans ?_ (array6_apply m c r j).symm
    have hj := j.isLt
    pointwise
    simp only [term6, gate, at1, at2_of _ r.isLt j.isLt, at2_of _ r.isLt (show j.val < 2048 by omega), at2_of _ r.isLt (show 1024 + j.val < 2048 by omega)]
    rfl
  · rw [(hargs c).1, (hargs c).2.1, (hargs c).2.2]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array7_apply m c j).symm
    have hj := j.isLt
    pointwise
    rw [Fin.sum_univ_one, ← Fin.sum_univ_eq_sum_range]
    refine Finset.sum_congr rfl fun k _ => ?_
    simp only [term7, term5, gate, at1, at2_of _ k.isLt j.isLt, at2_of _ k.isLt (show j.val < 2048 by omega), at2_of _ k.isLt (show 1024 + j.val < 2048 by omega)]
    rfl
  · rw [(hargs c).1, (hargs c).2.1, (hargs c).2.2]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array8_apply m c j).symm
    have hj := j.isLt
    pointwise
    rw [Fin.sum_univ_one, ← Fin.sum_univ_eq_sum_range]
    refine Finset.sum_congr rfl fun k _ => ?_
    simp only [term8, term6, gate, at1, at2_of _ k.isLt j.isLt, at2_of _ k.isLt (show j.val < 2048 by omega), at2_of _ k.isLt (show 1024 + j.val < 2048 by omega)]
    rfl

end Cert.Kernel26Ideal.Product
-- ==== Proof.LnSiluBwd.lean ====
/-
  The layer norm and `silu` between the convolution and the second pointwise layer, backward: `cc0_l1_ln_silu_bwd` leaves
  the gradient of the normalised rows' input, row by row, and the gradients of the norm's scale and shift, sums over the
  rows gathered in four blocks of 512 rows.
-/
module

public import proofs.«01_k».proof.Defs
public import proofs.«01_k».proof.Proof.Gen.Kernel27Ideal.Value
public import proofs.«01_k».proof.Proof.Gen.Reference27Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel27Ideal.Product

open Cert.Kernel27Ideal Cert.Kernel27Ideal.Gen Cert.Kernel27Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- What the first point leaves in the block of output 0. -/
theorem out4_A (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) :
    out0_A_4 c i a2 h2 a3 h3 a4 h4 a5 h5 a6 h6 a7 h7 a8 h8 hc0 hc1 hc2 hc3 x0 x1 x2 x3 = k0_pay12 (k0_pay2 x2) (k0_pay3 x0) (k0_pay5 x0) (k0_pay6 x0) (k0_pay8 x0 x1 x2 x3) := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S512x1024) hz, View.ld_unit_zero (S := S1x1x1024) hz3]

/-- What a later point leaves in the block of output 0. -/
theorem out4_B (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) (xo5 : Vec F S1x1x1024 .f32) (xo6 : Vec F S1x1x1024 .f32) :
    out0_B_4 c i a2 h2 a3 h3 a4 h4 a5 h5 a6 h6 a7 h7 a8 h8 hc0 hc1 hc2 hc3 x0 x1 x2 x3 xo5 xo6 = k0_pay12 (k0_pay2 x2) (k0_pay3 x0) (k0_pay5 x0) (k0_pay6 x0) (k0_pay8 x0 x1 x2 x3) := by
  unfold out0_B_4
  rw [View.read_writes_eq_canon _ _ _ (cover0_B_4 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz]
  simp only [View.readAt_eq_ld, h2.read_unread, h3.read_unread, h4.read_unread, h5.read_unread, h7.read_unread, h8.read_unread, View.ld_unit_zero (S := S512x1024) hz, View.ld_unit_zero (S := S1x1x1024) hz3]

/-- The first point leaves the block's column sums in output 1. -/
theorem out5_A (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) :
    out0_A_5 c i a2 h2 a3 h3 a4 h4 a5 h5 a6 h6 a7 h7 a8 h8 hc0 hc1 hc2 hc3 x0 x1 x2 x3 = k0_pay13 (k0_pay10 x0 x1 x2 x3) := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  rw [View.canon_unit_zero hz3]
  simp only [View.readAt_eq_ld, h2.read_unread, h3.read_unread, h4.read_unread, h5.read_unread, View.ld_unit_zero (S := S512x1024) hz, View.ld_unit_zero (S := S1x1x1024) hz3]

/-- A later point adds the block's column sums to output 1. -/
theorem out5_B (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) (xo5 : Vec F S1x1x1024 .f32) (xo6 : Vec F S1x1x1024 .f32) :
    out0_B_5 c i a2 h2 a3 h3 a4 h4 a5 h5 a6 h6 a7 h7 a8 h8 hc0 hc1 hc2 hc3 x0 x1 x2 x3 xo5 xo6 = k0_pay14 (k0_pay10 x0 x1 x2 x3) xo5 := by
  unfold out0_B_5
  rw [View.read_writes_eq_canon _ _ _ (cover0_B_5 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread, View.ld_unit_zero (S := S512x1024) hz, View.ld_unit_zero (S := S1x1x1024) hz3]

/-- The first point leaves the block's column sums in output 2. -/
theorem out6_A (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) :
    out0_A_6 c i a2 h2 a3 h3 a4 h4 a5 h5 a6 h6 a7 h7 a8 h8 hc0 hc1 hc2 hc3 x0 x1 x2 x3 = k0_pay15 (k0_pay9 x0 x1 x2 x3) := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  rw [View.canon_unit_zero hz3]
  simp only [View.readAt_eq_ld, h2.read_unread, h3.read_unread, h4.read_unread, h5.read_unread, View.ld_unit_zero (S := S512x1024) hz, View.ld_unit_zero (S := S1x1x1024) hz3]

/-- A later point adds the block's column sums to output 2. -/
theorem out6_B (c : Dev nD) (i : grid0.Coords) (a2 h2 a3 h3 a4 h4 a5 h5 a6 h6 a7 h7 a8 h8 hc0 hc1 hc2 hc3) (x0 : Vec F S512x1024 .f32) (x1 : Vec F S512x1024 .f32) (x2 : Vec F S1x1x1024 .f32) (x3 : Vec F S1x1x1024 .f32) (xo5 : Vec F S1x1x1024 .f32) (xo6 : Vec F S1x1x1024 .f32) :
    out0_B_6 c i a2 h2 a3 h3 a4 h4 a5 h5 a6 h6 a7 h7 a8 h8 hc0 hc1 hc2 hc3 x0 x1 x2 x3 xo5 xo6 = k0_pay1 (k0_pay9 x0 x1 x2 x3) xo6 := by
  unfold out0_B_6
  rw [View.read_writes_eq_canon _ _ _ (cover0_B_6 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread, View.ld_unit_zero (S := S512x1024) hz, View.ld_unit_zero (S := S1x1x1024) hz3]

end cases

variable (m : (ℓ : Loc nD τ sig) → Buf (Elt Ideal) ℓ)

theorem idx0 : ∀ t : Fin cfg0.N, win0_0.index t 0 = t.val ∧ win0_0.index t 1 = 0 :=
  (by decide +kernel : ∀ t : Fin grid0.N, _)

/-- The block of rows of input 0 at a grid point. -/
theorem blk0 (c : Dev nD) (t : Fin cfg0.N) (i : Fin 512) (j : Fin 1024) :
    (iblk m c 0 t : Vec Ideal S512x1024 .f32) (ix2 i j)
      = at2 (M := 2048) (N := 1024) (m ((c : Thread nD τ).loc main_arg0)) (512 * t.val + i.val) j.val := by
  have hN : t.val < 4 := lt_of_lt_of_eq t.isLt N_0
  have hi := i.isLt
  have hj := j.isLt
  obtain ⟨e0, e1⟩ := idx0 t
  rw [at2_of _ (by omega) (by omega)]
  unfold iblk
  rw [View.read_apply]
  have e : V m c main_arg0 (ix2 (⟨512 * t.val + i.val, by omega⟩ : Fin 2048) (⟨j.val, by omega⟩ : Fin 1024))
      = (m ((c : Thread nD τ).loc main_arg0) : (⟨2, ![2048, 1024]⟩ : Shape).Idx → EReal) (ix2 ⟨512 * t.val + i.val, by omega⟩ ⟨j.val, by omega⟩) := by
    unfold V
    after_reads_at
  refine Eq.trans ?_ e
  show V m c main_arg0 _ = V m c main_arg0 _
  congr 1
  funext a
  apply Fin.ext
  match a with
  | ⟨0, _⟩ => show win0_0.index t 0 * 512 + 1 * i.val = 512 * t.val + i.val; rw [e0]; omega
  | ⟨1, _⟩ => show win0_0.index t 1 * 1024 + 1 * j.val = j.val; rw [e1]; omega

theorem idx1 : ∀ t : Fin cfg0.N, win0_1.index t 0 = t.val ∧ win0_1.index t 1 = 0 :=
  (by decide +kernel : ∀ t : Fin grid0.N, _)

/-- The block of rows of input 1 at a grid point. -/
theorem blk1 (c : Dev nD) (t : Fin cfg0.N) (i : Fin 512) (j : Fin 1024) :
    (iblk m c 1 t : Vec Ideal S512x1024 .f32) (ix2 i j)
      = at2 (M := 2048) (N := 1024) (m ((c : Thread nD τ).loc main_arg3)) (512 * t.val + i.val) j.val := by
  have hN : t.val < 4 := lt_of_lt_of_eq t.isLt N_0
  have hi := i.isLt
  have hj := j.isLt
  obtain ⟨e0, e1⟩ := idx1 t
  rw [at2_of _ (by omega) (by omega)]
  unfold iblk
  rw [View.read_apply]
  have e : V m c main_arg3 (ix2 (⟨512 * t.val + i.val, by omega⟩ : Fin 2048) (⟨j.val, by omega⟩ : Fin 1024))
      = (m ((c : Thread nD τ).loc main_arg3) : (⟨2, ![2048, 1024]⟩ : Shape).Idx → EReal) (ix2 ⟨512 * t.val + i.val, by omega⟩ ⟨j.val, by omega⟩) := by
    unfold V
    after_reads_at
  refine Eq.trans ?_ e
  show V m c main_arg3 _ = V m c main_arg3 _
  congr 1
  funext a
  apply Fin.ext
  match a with
  | ⟨0, _⟩ => show win0_1.index t 0 * 512 + 1 * i.val = 512 * t.val + i.val; rw [e0]; omega
  | ⟨1, _⟩ => show win0_1.index t 1 * 1024 + 1 * j.val = j.val; rw [e1]; omega

theorem idx2 : ∀ t : Fin cfg0.N, win0_2.index t 0 = 0 ∧ win0_2.index t 1 = 0 ∧ win0_2.index t 2 = 0 :=
  (by decide +kernel : ∀ t : Fin grid0.N, _)

/-- The parameter of input 2 at a grid point. -/
theorem blk2 (c : Dev nD) (t : Fin cfg0.N) (j : Fin 1024) :
    (iblk m c 2 t : Vec Ideal S1x1x1024 .f32) (ix3 0 0 j) = m ((c : Thread nD τ).loc main_arg1) (ix1 j) := by
  obtain ⟨e0, e1, e2⟩ := idx2 t
  unfold iblk
  rw [View.read_apply]
  have e : V m c main_v1 (ix3 (0 : Fin 1) (0 : Fin 1) j) = (m ((c : Thread nD τ).loc main_arg1) : (⟨1, ![1024]⟩ : Shape).Idx → EReal) (ix1 j) := by
    unfold V
    after_reads_at

  refine Eq.trans ?_ e
  show V m c main_v1 _ = V m c main_v1 _
  congr 1
  funext a
  apply Fin.ext
  match a with
  | ⟨0, _⟩ => show win0_2.index t 0 * 1 + 1 * 0 = 0; rw [e0]
  | ⟨1, _⟩ => show win0_2.index t 1 * 1 + 1 * 0 = 0; rw [e1]
  | ⟨2, _⟩ => show win0_2.index t 2 * 1024 + 1 * j.val = j.val; rw [e2]; omega

theorem idx3 : ∀ t : Fin cfg0.N, win0_3.index t 0 = 0 ∧ win0_3.index t 1 = 0 ∧ win0_3.index t 2 = 0 :=
  (by decide +kernel : ∀ t : Fin grid0.N, _)

/-- The parameter of input 3 at a grid point. -/
theorem blk3 (c : Dev nD) (t : Fin cfg0.N) (j : Fin 1024) :
    (iblk m c 3 t : Vec Ideal S1x1x1024 .f32) (ix3 0 0 j) = m ((c : Thread nD τ).loc main_arg2) (ix1 j) := by
  obtain ⟨e0, e1, e2⟩ := idx3 t
  unfold iblk
  rw [View.read_apply]
  have e : V m c main_v3 (ix3 (0 : Fin 1) (0 : Fin 1) j) = (m ((c : Thread nD τ).loc main_arg2) : (⟨1, ![1024]⟩ : Shape).Idx → EReal) (ix1 j) := by
    unfold V
    after_reads_at

  refine Eq.trans ?_ e
  show V m c main_v3 _ = V m c main_v3 _
  congr 1
  funext a
  apply Fin.ext
  match a with
  | ⟨0, _⟩ => show win0_3.index t 0 * 1 + 1 * 0 = 0; rw [e0]
  | ⟨1, _⟩ => show win0_3.index t 1 * 1 + 1 * 0 = 0; rw [e1]
  | ⟨2, _⟩ => show win0_3.index t 2 * 1024 + 1 * j.val = j.val; rw [e2]; omega

/-! ## One row: the mathematics

`x` is the row, `w` and `b` the scale and the shift, `g` the incoming gradient. -/

/-- The row's length, 1024. -/
abbrev count : EReal := Ideal.ofBits .f32 0x44800000#32

def dev (x : Fin 1024 → EReal) (j : Fin 1024) : EReal := x j - Ideal.div (∑ k, x k) count
def spread (x : Fin 1024 → EReal) : EReal := Ideal.div (∑ k, dev x k * dev x k) count + Ideal.ofBits .f32 0x358637BD#32
def inv (x : Fin 1024 → EReal) : EReal := Ideal.rsqrt (spread x)
def slope (x : Fin 1024 → EReal) : EReal := Ideal.ofBits .f32 0xBF000000#32 * Ideal.div (inv x) (spread x)
def normed (x : Fin 1024 → EReal) (j : Fin 1024) : EReal := dev x j * inv x
def pre (x w b : Fin 1024 → EReal) (j : Fin 1024) : EReal := normed x j * w j + b j
/-- The gradient with respect to the normalised and shifted row, the input of `silu`. -/
def back (x w b g : Fin 1024 → EReal) (j : Fin 1024) : EReal :=
  g j * Ideal.logistic (pre x w b j) + pre x w b j * g j * (Ideal.logistic (pre x w b j) * (1 - Ideal.logistic (pre x w b j)))
def scaled (x w b g : Fin 1024 → EReal) (j : Fin 1024) : EReal := back x w b g j * w j
def corr (x w b g : Fin 1024 → EReal) : EReal := ∑ _k : Fin 1, Ideal.div ((∑ k, dev x k * scaled x w b g k) * slope x) count
def inner (x w b g : Fin 1024 → EReal) (j : Fin 1024) : EReal := scaled x w b g j * inv x + dev x j * corr x w b g + corr x w b g * dev x j
/-- The gradient with respect to the row. -/
def dx (x w b g : Fin 1024 → EReal) (j : Fin 1024) : EReal := inner x w b g j + ∑ _k : Fin 1, Ideal.div (∑ k, - inner x w b g k) count

/-! ## The kernel's values, row by row -/

theorem pay2_apply (x2 : Vec Ideal S1x1x1024 .f32) (j : Fin 1024) : (k0_pay2 x2 (ix2 0 j) : EReal) = x2 (ix3 0 0 j) := by
  pointwise [k0_pay2]

theorem pay3_apply (x0 : Vec Ideal S512x1024 .f32) (i : Fin 512) (j : Fin 1024) : (k0_pay3 x0 (ix2 i j) : EReal) = dev (fun k => x0 (ix2 i k)) j := by
  pointwise [k0_pay3]
  rfl

theorem pay4_apply (x0 : Vec Ideal S512x1024 .f32) (i : Fin 512) : (k0_pay4 x0 (ix2 i 0) : EReal) = spread (fun k => x0 (ix2 i k)) := by
  pointwise [k0_pay4]
  simp only [pay3_apply]
  rfl

theorem pay5_apply (x0 : Vec Ideal S512x1024 .f32) (i : Fin 512) : (k0_pay5 x0 (ix2 i 0) : EReal) = inv (fun k => x0 (ix2 i k)) := by
  pointwise [k0_pay5]
  simp only [pay4_apply]
  rfl

theorem pay6_apply (x0 : Vec Ideal S512x1024 .f32) (i : Fin 512) (u : Fin 1) : (k0_pay6 x0 (ix2 i u) : EReal) = slope (fun k => x0 (ix2 i k)) := by
  obtain rfl : u = 0 := Subsingleton.elim _ _
  pointwise [k0_pay6]
  simp only [pay4_apply, pay5_apply]
  rfl

theorem pay7_apply (x0 : Vec Ideal S512x1024 .f32) (i : Fin 512) (j : Fin 1024) : (k0_pay7 x0 (ix2 i j) : EReal) = normed (fun k => x0 (ix2 i k)) j := by
  pointwise [k0_pay7]
  simp only [pay3_apply, pay5_apply]
  rfl

theorem pay8_apply (x0 x1 : Vec Ideal S512x1024 .f32) (x2 x3 : Vec Ideal S1x1x1024 .f32) (i : Fin 512) (j : Fin 1024) :
    (k0_pay8 x0 x1 x2 x3 (ix2 i j) : EReal) = back (fun k => x0 (ix2 i k)) (fun k => x2 (ix3 0 0 k)) (fun k => x3 (ix3 0 0 k)) (fun k => x1 (ix2 i k)) j := by
  pointwise [k0_pay8]
  simp only [pay7_apply, pay2_apply]
  rfl

theorem pay10_apply (x0 x1 : Vec Ideal S512x1024 .f32) (x2 x3 : Vec Ideal S1x1x1024 .f32) (i : Fin 512) (j : Fin 1024) :
    (k0_pay10 x0 x1 x2 x3 (ix2 i j) : EReal) = normed (fun k => x0 (ix2 i k)) j * back (fun k => x0 (ix2 i k)) (fun k => x2 (ix3 0 0 k)) (fun k => x3 (ix3 0 0 k)) (fun k => x1 (ix2 i k)) j := by
  pointwise [k0_pay10]
  simp only [pay7_apply, pay8_apply]

theorem pay12_apply (x0 x1 : Vec Ideal S512x1024 .f32) (x2 x3 : Vec Ideal S1x1x1024 .f32) (i : Fin 512) (j : Fin 1024) :
    (k0_pay12 (k0_pay2 x2) (k0_pay3 x0) (k0_pay5 x0) (k0_pay6 x0) (k0_pay8 x0 x1 x2 x3) (ix2 i j) : EReal) = dx (fun k => x0 (ix2 i k)) (fun k => x2 (ix3 0 0 k)) (fun k => x3 (ix3 0 0 k)) (fun k => x1 (ix2 i k)) j := by
  pointwise [k0_pay12]
  simp only [pay2_apply, pay3_apply, pay5_apply, pay6_apply, pay8_apply, zero_sub]
  rfl

/-! ## The reference's values, row by row -/

def rDev (x : FVec Ideal Cert.Reference27Ideal.S2048x1024 .f32) : FVec Ideal Cert.Reference27Ideal.S2048x1024 .f32 := subf x (broadcastInDim Cert.Reference27Ideal.S2048x1024 ![0, 1] Cert.Reference27Ideal.Gen.bcast_S2048x1_S2048x1024_0_1 (Host.divf (broadcastInDim Cert.Reference27Ideal.S2048x1 ![0] Cert.Reference27Ideal.Gen.bcast_S2048_S2048x1_0 (Host.reduceAdd (x) (constant Cert.Reference27Ideal.S_ .f32 0x00000000#32) Cert.Reference27Ideal.Gen.reducesTo_S2048x1024_S2048_d1 Cert.Reference27Ideal.Gen.h_S_)) (broadcastInDim Cert.Reference27Ideal.S2048x1 ![] Cert.Reference27Ideal.Gen.bcast_S_S2048x1 (constant Cert.Reference27Ideal.S_ .f32 0x44800000#32))))
def rSpread (x : FVec Ideal Cert.Reference27Ideal.S2048x1024 .f32) : FVec Ideal Cert.Reference27Ideal.S2048x1 .f32 := addf (Host.divf (broadcastInDim Cert.Reference27Ideal.S2048x1 ![0] Cert.Reference27Ideal.Gen.bcast_S2048_S2048x1_0 (Host.reduceAdd (mulf (rDev x) (rDev x)) (constant Cert.Reference27Ideal.S_ .f32 0x00000000#32) Cert.Reference27Ideal.Gen.reducesTo_S2048x1024_S2048_d1 Cert.Reference27Ideal.Gen.h_S_)) (broadcastInDim Cert.Reference27Ideal.S2048x1 ![] Cert.Reference27Ideal.Gen.bcast_S_S2048x1 (constant Cert.Reference27Ideal.S_ .f32 0x44800000#32))) (broadcastInDim Cert.Reference27Ideal.S2048x1 ![] Cert.Reference27Ideal.Gen.bcast_S_S2048x1 (constant Cert.Reference27Ideal.S_ .f32 0x358637BD#32))
def rInv (x : FVec Ideal Cert.Reference27Ideal.S2048x1024 .f32) : FVec Ideal Cert.Reference27Ideal.S2048x1 .f32 := Host.rsqrt (rSpread x)
def rSlope (x : FVec Ideal Cert.Reference27Ideal.S2048x1024 .f32) : FVec Ideal Cert.Reference27Ideal.S2048x1 .f32 := mulf (broadcastInDim Cert.Reference27Ideal.S2048x1 ![] Cert.Reference27Ideal.Gen.bcast_S_S2048x1 (constant Cert.Reference27Ideal.S_ .f32 0xBF000000#32)) (Host.divf (rInv x) (rSpread x))
def rNormed (x : FVec Ideal Cert.Reference27Ideal.S2048x1024 .f32) : FVec Ideal Cert.Reference27Ideal.S2048x1024 .f32 := mulf (rDev x) (broadcastInDim Cert.Reference27Ideal.S2048x1024 ![0, 1] Cert.Reference27Ideal.Gen.bcast_S2048x1_S2048x1024_0_1 (rInv x))
def rPre (x : FVec Ideal Cert.Reference27Ideal.S2048x1024 .f32) (w b : FVec Ideal Cert.Reference27Ideal.S1024 .f32) : FVec Ideal Cert.Reference27Ideal.S2048x1024 .f32 := addf (mulf (rNormed x) (broadcastInDim Cert.Reference27Ideal.S2048x1024 ![0, 1] Cert.Reference27Ideal.Gen.bcast_S1x1024_S2048x1024_0_1 (broadcastInDim Cert.Reference27Ideal.S1x1024 ![1] Cert.Reference27Ideal.Gen.bcast_S1024_S1x1024_1 w))) (broadcastInDim Cert.Reference27Ideal.S2048x1024 ![0, 1] Cert.Reference27Ideal.Gen.bcast_S1x1024_S2048x1024_0_1 (broadcastInDim Cert.Reference27Ideal.S1x1024 ![1] Cert.Reference27Ideal.Gen.bcast_S1024_S1x1024_1 b))
def rBack (x g : FVec Ideal Cert.Reference27Ideal.S2048x1024 .f32) (w b : FVec Ideal Cert.Reference27Ideal.S1024 .f32) : FVec Ideal Cert.Reference27Ideal.S2048x1024 .f32 :=
  addf (mulf g (Host.divf (broadcastInDim Cert.Reference27Ideal.S2048x1024 ![] Cert.Reference27Ideal.Gen.bcast_S_S2048x1024 (constant Cert.Reference27Ideal.S_ .f32 0x3F800000#32)) (addf (broadcastInDim Cert.Reference27Ideal.S2048x1024 ![] Cert.Reference27Ideal.Gen.bcast_S_S2048x1024 (constant Cert.Reference27Ideal.S_ .f32 0x3F800000#32)) (Host.exp (Host.negf (rPre x w b)))))) (mulf (mulf (rPre x w b) g) (mulf (Host.divf (broadcastInDim Cert.Reference27Ideal.S2048x1024 ![] Cert.Reference27Ideal.Gen.bcast_S_S2048x1024 (constant Cert.Reference27Ideal.S_ .f32 0x3F800000#32)) (addf (broadcastInDim Cert.Reference27Ideal.S2048x1024 ![] Cert.Reference27Ideal.Gen.bcast_S_S2048x1024 (constant Cert.Reference27Ideal.S_ .f32 0x3F800000#32)) (Host.exp (Host.negf (rPre x w b))))) (subf (broadcastInDim Cert.Reference27Ideal.S2048x1024 ![] Cert.Reference27Ideal.Gen.bcast_S_S2048x1024 (constant Cert.Reference27Ideal.S_ .f32 0x3F800000#32)) (Host.divf (broadcastInDim Cert.Reference27Ideal.S2048x1024 ![] Cert.Reference27Ideal.Gen.bcast_S_S2048x1024 (constant Cert.Reference27Ideal.S_ .f32 0x3F800000#32)) (addf (broadcastInDim Cert.Reference27Ideal.S2048x1024 ![] Cert.Reference27Ideal.Gen.bcast_S_S2048x1024 (constant Cert.Reference27Ideal.S_ .f32 0x3F800000#32)) (Host.exp (Host.negf (rPre x w b))))))))
def rScaled (x g : FVec Ideal Cert.Reference27Ideal.S2048x1024 .f32) (w b : FVec Ideal Cert.Reference27Ideal.S1024 .f32) : FVec Ideal Cert.Reference27Ideal.S2048x1024 .f32 := mulf (rBack x g w b) (broadcastInDim Cert.Reference27Ideal.S2048x1024 ![0, 1] Cert.Reference27Ideal.Gen.bcast_S1x1024_S2048x1024_0_1 (broadcastInDim Cert.Reference27Ideal.S1x1024 ![1] Cert.Reference27Ideal.Gen.bcast_S1024_S1x1024_1 w))
def rCorr (x g : FVec Ideal Cert.Reference27Ideal.S2048x1024 .f32) (w b : FVec Ideal Cert.Reference27Ideal.S1024 .f32) : FVec Ideal Cert.Reference27Ideal.S2048 .f32 :=
  Host.reduceAdd (Host.divf (mulf (shapeCast _ (Host.reduceAdd (mulf (rDev x) (rScaled x g w b)) (constant Cert.Reference27Ideal.S_ .f32 0x00000000#32) Cert.Reference27Ideal.Gen.reducesTo_S2048x1024_S2048_d1 Cert.Reference27Ideal.Gen.h_S_) Cert.Reference27Ideal.Gen.shapeCasts_S2048_S2048x1) (rSlope x)) (broadcastInDim Cert.Reference27Ideal.S2048x1 ![] Cert.Reference27Ideal.Gen.bcast_S_S2048x1 (constant Cert.Reference27Ideal.S_ .f32 0x44800000#32))) (constant Cert.Reference27Ideal.S_ .f32 0x00000000#32) Cert.Reference27Ideal.Gen.reducesTo_S2048x1_S2048_d1 Cert.Reference27Ideal.Gen.h_S_
def rInner (x g : FVec Ideal Cert.Reference27Ideal.S2048x1024 .f32) (w b : FVec Ideal Cert.Reference27Ideal.S1024 .f32) : FVec Ideal Cert.Reference27Ideal.S2048x1024 .f32 :=
  addf (addf (mulf (rScaled x g w b) (broadcastInDim Cert.Reference27Ideal.S2048x1024 ![0, 1] Cert.Reference27Ideal.Gen.bcast_S2048x1_S2048x1024_0_1 (rInv x))) (mulf (rDev x) (broadcastInDim Cert.Reference27Ideal.S2048x1024 ![0] Cert.Reference27Ideal.Gen.bcast_S2048_S2048x1024_0 (rCorr x g w b)))) (mulf (broadcastInDim Cert.Reference27Ideal.S2048x1024 ![0] Cert.Reference27Ideal.Gen.bcast_S2048_S2048x1024_0 (rCorr x g w b)) (rDev x))
def rDx (x g : FVec Ideal Cert.Reference27Ideal.S2048x1024 .f32) (w b : FVec Ideal Cert.Reference27Ideal.S1024 .f32) : FVec Ideal Cert.Reference27Ideal.S2048x1024 .f32 :=
  addf (rInner x g w b) (broadcastInDim Cert.Reference27Ideal.S2048x1024 ![0] Cert.Reference27Ideal.Gen.bcast_S2048_S2048x1024_0 (Host.reduceAdd (Host.divf (shapeCast _ (Host.reduceAdd (Host.negf (rInner x g w b)) (constant Cert.Reference27Ideal.S_ .f32 0x00000000#32) Cert.Reference27Ideal.Gen.reducesTo_S2048x1024_S2048_d1 Cert.Reference27Ideal.Gen.h_S_) Cert.Reference27Ideal.Gen.shapeCasts_S2048_S2048x1) (broadcastInDim Cert.Reference27Ideal.S2048x1 ![] Cert.Reference27Ideal.Gen.bcast_S_S2048x1 (constant Cert.Reference27Ideal.S_ .f32 0x44800000#32))) (constant Cert.Reference27Ideal.S_ .f32 0x00000000#32) Cert.Reference27Ideal.Gen.reducesTo_S2048x1_S2048_d1 Cert.Reference27Ideal.Gen.h_S_))

theorem rDev_apply (x : FVec Ideal Cert.Reference27Ideal.S2048x1024 .f32) (r : Fin 2048) (j : Fin 1024) : (rDev x (ix2 r j) : EReal) = dev (fun k => x (ix2 r k)) j := by
  pointwise [rDev]
  rfl

theorem rSpread_apply (x : FVec Ideal Cert.Reference27Ideal.S2048x1024 .f32) (r : Fin 2048) : (rSpread x (ix2 r 0) : EReal) = spread (fun k => x (ix2 r k)) := by
  pointwise [rSpread]
  simp only [rDev_apply]
  rfl

theorem rInv_apply (x : FVec Ideal Cert.Reference27Ideal.S2048x1024 .f32) (r : Fin 2048) : (rInv x (ix2 r 0) : EReal) = inv (fun k => x (ix2 r k)) := by
  pointwise [rInv]
  simp only [rSpread_apply]
  rfl

theorem rSlope_apply (x : FVec Ideal Cert.Reference27Ideal.S2048x1024 .f32) (r : Fin 2048) : (rSlope x (ix2 r 0) : EReal) = slope (fun k => x (ix2 r k)) := by
  pointwise [rSlope]
  simp only [rSpread_apply, rInv_apply]
  rfl

theorem rNormed_apply (x : FVec Ideal Cert.Reference27Ideal.S2048x1024 .f32) (r : Fin 2048) (j : Fin 1024) : (rNormed x (ix2 r j) : EReal) = normed (fun k => x (ix2 r k)) j := by
  pointwise [rNormed]
  simp only [rDev_apply, rInv_apply]
  rfl

theorem rPre_apply (x : FVec Ideal Cert.Reference27Ideal.S2048x1024 .f32) (w b : FVec Ideal Cert.Reference27Ideal.S1024 .f32) (r : Fin 2048) (j : Fin 1024) : (rPre x w b (ix2 r j) : EReal) = pre (fun k => x (ix2 r k)) (fun k => w (ix1 k)) (fun k => b (ix1 k)) j := by
  pointwise [rPre]
  simp only [rNormed_apply]
  rfl

theorem rBack_apply (x g : FVec Ideal Cert.Reference27Ideal.S2048x1024 .f32) (w b : FVec Ideal Cert.Reference27Ideal.S1024 .f32) (r : Fin 2048) (j : Fin 1024) : (rBack x g w b (ix2 r j) : EReal) = back (fun k => x (ix2 r k)) (fun k => w (ix1 k)) (fun k => b (ix1 k)) (fun k => g (ix2 r k)) j := by
  pointwise [rBack]
  simp only [rPre_apply]
  rfl

theorem rScaled_apply (x g : FVec Ideal Cert.Reference27Ideal.S2048x1024 .f32) (w b : FVec Ideal Cert.Reference27Ideal.S1024 .f32) (r : Fin 2048) (j : Fin 1024) : (rScaled x g w b (ix2 r j) : EReal) = scaled (fun k => x (ix2 r k)) (fun k => w (ix1 k)) (fun k => b (ix1 k)) (fun k => g (ix2 r k)) j := by
  pointwise [rScaled]
  simp only [rBack_apply]
  rfl

theorem rCorr_apply (x g : FVec Ideal Cert.Reference27Ideal.S2048x1024 .f32) (w b : FVec Ideal Cert.Reference27Ideal.S1024 .f32) (r : Fin 2048) : (rCorr x g w b (ix1 r) : EReal) = corr (fun k => x (ix2 r k)) (fun k => w (ix1 k)) (fun k => b (ix1 k)) (fun k => g (ix2 r k)) := by
  pointwise [rCorr]
  simp only [rDev_apply, rScaled_apply]
  simp only [Fin.sum_univ_one, Fin.isValue, rSlope_apply, corr]

theorem rInner_apply (x g : FVec Ideal Cert.Reference27Ideal.S2048x1024 .f32) (w b : FVec Ideal Cert.Reference27Ideal.S1024 .f32) (r : Fin 2048) (j : Fin 1024) : (rInner x g w b (ix2 r j) : EReal) = inner (fun k => x (ix2 r k)) (fun k => w (ix1 k)) (fun k => b (ix1 k)) (fun k => g (ix2 r k)) j := by
  pointwise [rInner]
  simp only [rScaled_apply, rDev_apply, rInv_apply, rCorr_apply]
  rfl

theorem rDx_apply (x g : FVec Ideal Cert.Reference27Ideal.S2048x1024 .f32) (w b : FVec Ideal Cert.Reference27Ideal.S1024 .f32) (r : Fin 2048) (j : Fin 1024) : (rDx x g w b (ix2 r j) : EReal) = dx (fun k => x (ix2 r k)) (fun k => w (ix1 k)) (fun k => b (ix1 k)) (fun k => g (ix2 r k)) j := by
  pointwise [rDx]
  simp only [rInner_apply]
  rfl

/-- The input's gradient at row `r` and column `j`. -/
abbrev term4 (c : Dev nD) (r : ℕ) (j : Fin 1024) : EReal :=
  dx (fun k => at2 (M := 2048) (N := 1024) (m ((c : Thread nD τ).loc main_arg0)) r k.val) (fun k => m ((c : Thread nD τ).loc main_arg1) (ix1 k)) (fun k => m ((c : Thread nD τ).loc main_arg2) (ix1 k)) (fun k => at2 (M := 2048) (N := 1024) (m ((c : Thread nD τ).loc main_arg3)) r k.val) j

/-- What row `r` adds to the scale's gradient at column `j`. -/
abbrev term5 (c : Dev nD) (r : ℕ) (j : Fin 1024) : EReal :=
  normed (fun k => at2 (M := 2048) (N := 1024) (m ((c : Thread nD τ).loc main_arg0)) r k.val) j * back (fun k => at2 (M := 2048) (N := 1024) (m ((c : Thread nD τ).loc main_arg0)) r k.val) (fun k => m ((c : Thread nD τ).loc main_arg1) (ix1 k)) (fun k => m ((c : Thread nD τ).loc main_arg2) (ix1 k)) (fun k => at2 (M := 2048) (N := 1024) (m ((c : Thread nD τ).loc main_arg3)) r k.val) j

/-- What row `r` adds to the shift's gradient at column `j`. -/
abbrev term6 (c : Dev nD) (r : ℕ) (j : Fin 1024) : EReal :=
  back (fun k => at2 (M := 2048) (N := 1024) (m ((c : Thread nD τ).loc main_arg0)) r k.val) (fun k => m ((c : Thread nD τ).loc main_arg1) (ix1 k)) (fun k => m ((c : Thread nD τ).loc main_arg2) (ix1 k)) (fun k => at2 (M := 2048) (N := 1024) (m ((c : Thread nD τ).loc main_arg3)) r k.val) j

theorem idx4 : ∀ t : Fin cfg0.N, win0_4.index t 0 = t.val ∧ win0_4.index t 1 = 0 :=
  (by decide +kernel : ∀ t : Fin grid0.N, _)
theorem ext4 : ∀ t : Fin cfg0.N, win0_4.xsize (grid0.coords t) 0 = 512 ∧ win0_4.xsize (grid0.coords t) 1 = 1024 :=
  (by decide +kernel : ∀ t : Fin grid0.N, _)

/-- What a point leaves in its block of output 0. -/
theorem left4 (c : Dev nD) (t : Fin cfg0.N) : (outsAt0 m c t.val t.isLt).1 = k0_pay12 (k0_pay2 (iblk m c 2 t)) (k0_pay3 (iblk m c 0 t)) (k0_pay5 (iblk m c 0 t)) (k0_pay6 (iblk m c 0 t)) (k0_pay8 (iblk m c 0 t) (iblk m c 1 t) (iblk m c 2 t) (iblk m c 3 t)) := by
  have hN : t.val < 4 := lt_of_lt_of_eq t.isLt N_0
  by_cases h : t.val = 0
  · rw [outsAt0_A m c t (by omega) (by omega) (by omega) (by omega)]
    dsimp only
    rw [out4_A]
  · rw [outsAt0_B m c t (by omega) (by omega) (by omega) (by omega)]
    dsimp only
    rw [out4_B]

/-- … element by element. -/
theorem row4_apply (c : Dev nD) (t : Fin cfg0.N) (i : Fin 512) (j : Fin 1024) :
    (k0_pay12 (k0_pay2 (iblk m c 2 t)) (k0_pay3 (iblk m c 0 t)) (k0_pay5 (iblk m c 0 t)) (k0_pay6 (iblk m c 0 t)) (k0_pay8 (iblk m c 0 t) (iblk m c 1 t) (iblk m c 2 t) (iblk m c 3 t)) (ix2 i j) : EReal) = term4 m c (512 * t.val + i.val) j := by
  rw [pay12_apply]
  simp only [blk0, blk1, blk2, blk3]

/-- The array of output 0. -/
theorem array4_apply (c : Dev nD) (r : Fin 2048) (j : Fin 1024) :
    ((dats m 0 c).arrAt 4 cfg0.N (ix2 r j) : EReal) = term4 m c r.val j := by
  have hr := r.isLt
  have hj := j.isLt
  have hN : cfg0.N = 4 := N_0
  obtain ⟨t, ht⟩ : ∃ t : Fin cfg0.N, t.val = r.val / 512 := ⟨⟨r.val / 512, by omega⟩, rfl⟩
  obtain ⟨e0, e1⟩ := idx4 t
  obtain ⟨x0, x1⟩ := ext4 t
  let y : (win0_4.xblock (grid0.coords t)).Idx := fun a => match a with
    | ⟨0, _⟩ => ⟨r.val % 512, by show _ < win0_4.xsize (grid0.coords t) 0; rw [x0]; omega⟩
    | ⟨1, _⟩ => ⟨j.val, by show _ < win0_4.xsize (grid0.coords t) 1; rw [x1]; omega⟩
  have hb := congrFun ((blocks4 m c t (flush0_4 t)).trans (flushed4 m c t)) y
  rw [View.read_apply] at hb
  have he : ((cfg0.win 4).blk t).view.emb y = ix2 r j := by
    funext a
    apply Fin.ext
    match a with
    | ⟨0, _⟩ => show win0_4.index t 0 * 512 + 1 * (r.val % 512) = r.val; rw [e0]; omega
    | ⟨1, _⟩ => show win0_4.index t 1 * 1024 + 1 * j.val = j.val; rw [e1]; omega
  rw [he, left4] at hb
  refine hb.trans ?_
  have hrow := row4_apply m c t ⟨r.val % 512, by omega⟩ j
  rw [show 512 * t.val + (⟨r.val % 512, by omega⟩ : Fin 512).val = r.val from by show 512 * t.val + r.val % 512 = r.val; omega] at hrow
  refine Eq.trans ?_ hrow
  exact congrArg (k0_pay12 (k0_pay2 (iblk m c 2 t)) (k0_pay3 (iblk m c 0 t)) (k0_pay5 (iblk m c 0 t)) (k0_pay6 (iblk m c 0 t)) (k0_pay8 (iblk m c 0 t) (iblk m c 1 t) (iblk m c 2 t) (iblk m c 3 t))) (by
    funext a
    apply Fin.ext
    match a with
    | ⟨0, _⟩ => rfl
    | ⟨1, _⟩ => rfl)

theorem ext5 : ∀ t : Fin cfg0.N, win0_5.index t 0 = 0 ∧ win0_5.index t 1 = 0 ∧ win0_5.index t 2 = 0 ∧ win0_5.xsize (grid0.coords t) 0 = 1
    ∧ win0_5.xsize (grid0.coords t) 1 = 1 ∧ win0_5.xsize (grid0.coords t) 2 = 1024 :=
  (by decide +kernel : ∀ t : Fin grid0.N, _)

/-- The first point's column sums of output 1. -/
theorem first5 (c : Dev nD) (t : Fin cfg0.N) (j : Fin 1024) :
    (k0_pay13 (k0_pay10 (iblk m c 0 t) (iblk m c 1 t) (iblk m c 2 t) (iblk m c 3 t)) (ix3 0 0 j) : EReal) = ∑ i : Fin 512, term5 m c (512 * t.val + i.val) j := by
  pointwise [k0_pay13, k0_pay11]
  refine Finset.sum_congr rfl fun i _ => ?_
  rw [pay10_apply]
  simp only [blk0, blk1, blk2, blk3]

/-- A later point adds its own to what was there. -/
theorem next5 (c : Dev nD) (t : Fin cfg0.N) (acc : Vec Ideal S1x1x1024 .f32) (j : Fin 1024) :
    (k0_pay14 (k0_pay10 (iblk m c 0 t) (iblk m c 1 t) (iblk m c 2 t) (iblk m c 3 t)) acc (ix3 0 0 j) : EReal) = (acc (ix3 0 0 j) : EReal) + ∑ i : Fin 512, term5 m c (512 * t.val + i.val) j := by
  pointwise [k0_pay14, k0_pay11]
  refine congrArg _ (Finset.sum_congr rfl fun i _ => ?_)
  rw [pay10_apply]
  simp only [blk0, blk1, blk2, blk3]

theorem left5_A (c : Dev nD) (t : Fin cfg0.N) (h : t.val = 0) : (outsAt0 m c t.val t.isLt).2.1 = k0_pay13 (k0_pay10 (iblk m c 0 t) (iblk m c 1 t) (iblk m c 2 t) (iblk m c 3 t)) := by
  rw [outsAt0_A m c t (by omega) (by omega) (by omega) (by omega)]
  dsimp only
  rw [out5_A]

theorem left5_B (c : Dev nD) (t : Fin cfg0.N) (h : t.val ≠ 0) :
    (outsAt0 m c t.val t.isLt).2.1 = k0_pay14 (k0_pay10 (iblk m c 0 t) (iblk m c 1 t) (iblk m c 2 t) (iblk m c 3 t)) (outsAt0 m c (t.val - 1) (Nat.lt_of_le_of_lt (Nat.sub_le _ _) t.isLt)).2.1 := by
  have hN : t.val < 4 := lt_of_lt_of_eq t.isLt N_0
  rw [outsAt0_B m c t (by omega) (by omega) (by omega) (by omega)]
  dsimp only
  rw [out5_B]

/-- After point `s` output 1 holds the column sums over the rows seen so far. -/
theorem sum5_apply (c : Dev nD) (j : Fin 1024) (s : ℕ) (hs : s < 4) (h : s < cfg0.N) :
    ((outsAt0 m c s h).2.1 (ix3 0 0 j) : EReal) = ∑ k ∈ Finset.range (512 * (s + 1)), term5 m c k j := by
  have hN : cfg0.N = 4 := N_0
  have key := sweep 4 512 (fun k => term5 m c k j) (fun s => if h : s < cfg0.N then ((outsAt0 m c s h).2.1 (ix3 0 0 j) : EReal) else 0)
    (fun _ => by
      have h' : 0 < cfg0.N := by omega
      simp only [dif_pos h']
      refine (congrFun (left5_A m c ⟨0, h'⟩ rfl) _).trans ((first5 m c ⟨0, h'⟩ j).trans (Finset.sum_congr rfl fun i _ => ?_))
      show term5 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left5_B m c ⟨s + 1, hb⟩ (Nat.succ_ne_zero s)) _).trans (next5 m c ⟨s + 1, hb⟩ _ j))
    s hs
  simpa only [dif_pos h] using key

/-- The array of output 1: the column sums over all rows. -/
theorem array5_apply (c : Dev nD) (j : Fin 1024) :
    ((dats m 0 c).arrAt 5 cfg0.N (ix3 (0 : Fin 1) (0 : Fin 1) j) : EReal) = ∑ k ∈ Finset.range 2048, term5 m c k j := by
  have hj := j.isLt
  have hN : cfg0.N = 4 := N_0
  let t : Fin cfg0.N := ⟨3, by omega⟩
  obtain ⟨e0, e1, e2, x0, x1, x2⟩ := ext5 t
  let y : (win0_5.xblock (grid0.coords t)).Idx := fun a => match a with
    | ⟨0, _⟩ => ⟨0, by show _ < win0_5.xsize (grid0.coords t) 0; rw [x0]; omega⟩
    | ⟨1, _⟩ => ⟨0, by show _ < win0_5.xsize (grid0.coords t) 1; rw [x1]; omega⟩
    | ⟨2, _⟩ => ⟨j.val, by show _ < win0_5.xsize (grid0.coords t) 2; rw [x2]; omega⟩
  have hd : ∀ t t' : Fin cfg0.N, (cfg0.win 5).flush t = true → (cfg0.win 5).flush t' = true → t ≠ t' →
      Disjoint ((cfg0.win 5).blk t).view.set ((cfg0.win 5).blk t').view.set := fun t t' hf hf' hne =>
    absurd (Fin.ext (by have := (flush0_5 t).mp hf; have := (flush0_5 t').mp hf'; have := t.isLt; have := t'.isLt; omega)) hne
  have hb := congrFun (((dats m 0 c).read_blk_arrAt_eq_flushed 5 hd cfg0.N t t.isLt ((flush0_5 t).mpr rfl)).trans (flushed5 m c t)) y
  rw [View.read_apply] at hb
  have he : ((cfg0.win 5).blk t).view.emb y = ix3 (0 : Fin 1) (0 : Fin 1) j := by
    funext a
    apply Fin.ext
    match a with
    | ⟨0, _⟩ => show win0_5.index t 0 * 1 + 1 * 0 = 0; rw [e0]
    | ⟨1, _⟩ => show win0_5.index t 1 * 1 + 1 * 0 = 0; rw [e1]
    | ⟨2, _⟩ => show win0_5.index t 2 * 1024 + 1 * j.val = j.val; rw [e2]; omega
  rw [he] at hb
  refine hb.trans (Eq.trans ?_ (sum5_apply m c j 3 (by omega) t.isLt))
  exact congrArg ((outsAt0 m c 3 t.isLt).2.1) (by
    funext a
    apply Fin.ext
    match a with
    | ⟨0, _⟩ => rfl
    | ⟨1, _⟩ => rfl
    | ⟨2, _⟩ => rfl)

theorem ext6 : ∀ t : Fin cfg0.N, win0_6.index t 0 = 0 ∧ win0_6.index t 1 = 0 ∧ win0_6.index t 2 = 0 ∧ win0_6.xsize (grid0.coords t) 0 = 1
    ∧ win0_6.xsize (grid0.coords t) 1 = 1 ∧ win0_6.xsize (grid0.coords t) 2 = 1024 :=
  (by decide +kernel : ∀ t : Fin grid0.N, _)

/-- The first point's column sums of output 2. -/
theorem first6 (c : Dev nD) (t : Fin cfg0.N) (j : Fin 1024) :
    (k0_pay15 (k0_pay9 (iblk m c 0 t) (iblk m c 1 t) (iblk m c 2 t) (iblk m c 3 t)) (ix3 0 0 j) : EReal) = ∑ i : Fin 512, term6 m c (512 * t.val + i.val) j := by
  pointwise [k0_pay15, k0_pay9]
  refine Finset.sum_congr rfl fun i _ => ?_
  rw [pay8_apply]
  simp only [blk0, blk1, blk2, blk3]

/-- A later point adds its own to what was there. -/
theorem next6 (c : Dev nD) (t : Fin cfg0.N) (acc : Vec Ideal S1x1x1024 .f32) (j : Fin 1024) :
    (k0_pay1 (k0_pay9 (iblk m c 0 t) (iblk m c 1 t) (iblk m c 2 t) (iblk m c 3 t)) acc (ix3 0 0 j) : EReal) = (acc (ix3 0 0 j) : EReal) + ∑ i : Fin 512, term6 m c (512 * t.val + i.val) j := by
  pointwise [k0_pay1, k0_pay9]
  refine congrArg _ (Finset.sum_congr rfl fun i _ => ?_)
  rw [pay8_apply]
  simp only [blk0, blk1, blk2, blk3]

theorem left6_A (c : Dev nD) (t : Fin cfg0.N) (h : t.val = 0) : (outsAt0 m c t.val t.isLt).2.2 = k0_pay15 (k0_pay9 (iblk m c 0 t) (iblk m c 1 t) (iblk m c 2 t) (iblk m c 3 t)) := by
  rw [outsAt0_A m c t (by omega) (by omega) (by omega) (by omega)]
  dsimp only
  rw [out6_A]

theorem left6_B (c : Dev nD) (t : Fin cfg0.N) (h : t.val ≠ 0) :
    (outsAt0 m c t.val t.isLt).2.2 = k0_pay1 (k0_pay9 (iblk m c 0 t) (iblk m c 1 t) (iblk m c 2 t) (iblk m c 3 t)) (outsAt0 m c (t.val - 1) (Nat.lt_of_le_of_lt (Nat.sub_le _ _) t.isLt)).2.2 := by
  have hN : t.val < 4 := lt_of_lt_of_eq t.isLt N_0
  rw [outsAt0_B m c t (by omega) (by omega) (by omega) (by omega)]
  dsimp only
  rw [out6_B]

/-- After point `s` output 2 holds the column sums over the rows seen so far. -/
theorem sum6_apply (c : Dev nD) (j : Fin 1024) (s : ℕ) (hs : s < 4) (h : s < cfg0.N) :
    ((outsAt0 m c s h).2.2 (ix3 0 0 j) : EReal) = ∑ k ∈ Finset.range (512 * (s + 1)), term6 m c k j := by
  have hN : cfg0.N = 4 := N_0
  have key := sweep 4 512 (fun k => term6 m c k j) (fun s => if h : s < cfg0.N then ((outsAt0 m c s h).2.2 (ix3 0 0 j) : EReal) else 0)
    (fun _ => by
      have h' : 0 < cfg0.N := by omega
      simp only [dif_pos h']
      refine (congrFun (left6_A m c ⟨0, h'⟩ rfl) _).trans ((first6 m c ⟨0, h'⟩ j).trans (Finset.sum_congr rfl fun i _ => ?_))
      show term6 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left6_B m c ⟨s + 1, hb⟩ (Nat.succ_ne_zero s)) _).trans (next6 m c ⟨s + 1, hb⟩ _ j))
    s hs
  simpa only [dif_pos h] using key

/-- The array of output 2: the column sums over all rows. -/
theorem array6_apply (c : Dev nD) (j : Fin 1024) :
    ((dats m 0 c).arrAt 6 cfg0.N (ix3 (0 : Fin 1) (0 : Fin 1) j) : EReal) = ∑ k ∈ Finset.range 2048, term6 m c k j := by
  have hj := j.isLt
  have hN : cfg0.N = 4 := N_0
  let t : Fin cfg0.N := ⟨3, by omega⟩
  obtain ⟨e0, e1, e2, x0, x1, x2⟩ := ext6 t
  let y : (win0_6.xblock (grid0.coords t)).Idx := fun a => match a with
    | ⟨0, _⟩ => ⟨0, by show _ < win0_6.xsize (grid0.coords t) 0; rw [x0]; omega⟩
    | ⟨1, _⟩ => ⟨0, by show _ < win0_6.xsize (grid0.coords t) 1; rw [x1]; omega⟩
    | ⟨2, _⟩ => ⟨j.val, by show _ < win0_6.xsize (grid0.coords t) 2; rw [x2]; omega⟩
  have hd : ∀ t t' : Fin cfg0.N, (cfg0.win 6).flush t = true → (cfg0.win 6).flush t' = true → t ≠ t' →
      Disjoint ((cfg0.win 6).blk t).view.set ((cfg0.win 6).blk t').view.set := fun t t' hf hf' hne =>
    absurd (Fin.ext (by have := (flush0_6 t).mp hf; have := (flush0_6 t').mp hf'; have := t.isLt; have := t'.isLt; omega)) hne
  have hb := congrFun (((dats m 0 c).read_blk_arrAt_eq_flushed 6 hd cfg0.N t t.isLt ((flush0_6 t).mpr rfl)).trans (flushed6 m c t)) y
  rw [View.read_apply] at hb
  have he : ((cfg0.win 6).blk t).view.emb y = ix3 (0 : Fin 1) (0 : Fin 1) j := by
    funext a
    apply Fin.ext
    match a with
    | ⟨0, _⟩ => show win0_6.index t 0 * 1 + 1 * 0 = 0; rw [e0]
    | ⟨1, _⟩ => show win0_6.index t 1 * 1 + 1 * 0 = 0; rw [e1]
    | ⟨2, _⟩ => show win0_6.index t 2 * 1024 + 1 * j.val = j.val; rw [e2]; omega
  rw [he] at hb
  refine hb.trans (Eq.trans ?_ (sum6_apply m c j 3 (by omega) t.isLt))
  exact congrArg ((outsAt0 m c 3 t.isLt).2.2) (by
    funext a
    apply Fin.ext
    match a with
    | ⟨0, _⟩ => rfl
    | ⟨1, _⟩ => rfl
    | ⟨2, _⟩ => rfl)

/-- The reference runs to the end, its arguments unchanged; it has no semaphore at all. -/
theorem reference_frame : Cert.quiescent_Reference27Ideal (hReference27Ideal := Cert.Reference27Ideal.Gen.facts) := fun m g _ =>
  (θ_run _ _ _).mono (fun r h => ⟨fun c => (h c).2.2.2, funext fun s => match s with
    | (_, .reg s) => s.elim0
    | (_, .dma s) => s.elim0⟩) (Cert.Reference27Ideal.Value.run m g)

/-- The two runs end with the same arrays. -/
theorem algebraic : Cert.algebraic_Kernel27Ideal_Reference27Ideal (hKernel27Ideal := Cert.Kernel27Ideal.Gen.facts)
    (hReference27Ideal := Cert.Reference27Ideal.Gen.facts) := by
  intro m g m' g' _ hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r h c => ⟨(h c).1.trans ?_, (h c).2.1.trans ?_, (h c).2.2.1.trans ?_, (h c).2.2.2⟩) (Cert.Reference27Ideal.Value.run m' g')
  · unfold Cert.Reference27Ideal.Value.res_main_v57
    rw [(hargs c).1, (hargs c).2.1, (hargs c).2.2.1, (hargs c).2.2.2]
    funext i
    obtain ⟨r, j, rfl⟩ : ∃ (r : Fin 2048) (j : Fin 1024), i = ix2 r j := ⟨i 0, i 1, (ix2_eta i).symm⟩
    refine Eq.trans ?_ (array4_apply m c r j).symm
    refine (congrFun (show _ = rDx (m ((c : Thread nD τ).loc main_arg0)) (m ((c : Thread nD τ).loc main_arg3)) (m ((c : Thread nD τ).loc main_arg1)) (m ((c : Thread nD τ).loc main_arg2)) from rfl) _).trans ?_
    rw [rDx_apply]
    have e : ∀ (x : (⟨2, ![2048, 1024]⟩ : Shape).Idx → EReal) (k : Fin 1024), at2 x r.val k.val = x (ix2 r k) := fun x k => at2_of x r.isLt k.isLt
    simp only [term4, e]
  · unfold Cert.Reference27Ideal.Value.res_main_v58
    rw [(hargs c).1, (hargs c).2.1, (hargs c).2.2.1, (hargs c).2.2.2]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array5_apply m c j).symm
    refine (congrFun (show _ = shapeCast _ (Host.reduceAdd (shapeCast _ (Host.reduceAdd (mulf (rNormed (m ((c : Thread nD τ).loc main_arg0))) (rBack (m ((c : Thread nD τ).loc main_arg0)) (m ((c : Thread nD τ).loc main_arg3)) (m ((c : Thread nD τ).loc main_arg1)) (m ((c : Thread nD τ).loc main_arg2)))) (constant Cert.Reference27Ideal.S_ .f32 0x00000000#32) Cert.Reference27Ideal.Gen.reducesTo_S2048x1024_S1024_d0 Cert.Reference27Ideal.Gen.h_S_) Cert.Reference27Ideal.Gen.shapeCasts_S1024_S1x1024) (constant Cert.Reference27Ideal.S_ .f32 0x00000000#32) Cert.Reference27Ideal.Gen.reducesTo_S1x1024_S1024_d0 Cert.Reference27Ideal.Gen.h_S_) Cert.Reference27Ideal.Gen.shapeCasts_S1024_S1x1x1024 from rfl) _).trans ?_
    pointwise
    rw [Fin.sum_univ_one, ← Fin.sum_univ_eq_sum_range]
    refine Finset.sum_congr rfl fun r _ => ?_
    have e : ∀ (x : (⟨2, ![2048, 1024]⟩ : Shape).Idx → EReal) (k : Fin 1024), at2 x r.val k.val = x (ix2 r k) := fun x k => at2_of x r.isLt k.isLt
    simp only [rNormed_apply, rBack_apply, term5, e]
  · unfold Cert.Reference27Ideal.Value.res_main_v59
    rw [(hargs c).1, (hargs c).2.1, (hargs c).2.2.1, (hargs c).2.2.2]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array6_apply m c j).symm
    refine (congrFun (show _ = shapeCast _ (Host.reduceAdd (shapeCast _ (Host.reduceAdd (rBack (m ((c : Thread nD τ).loc main_arg0)) (m ((c : Thread nD τ).loc main_arg3)) (m ((c : Thread nD τ).loc main_arg1)) (m ((c : Thread nD τ).loc main_arg2))) (constant Cert.Reference27Ideal.S_ .f32 0x00000000#32) Cert.Reference27Ideal.Gen.reducesTo_S2048x1024_S1024_d0 Cert.Reference27Ideal.Gen.h_S_) Cert.Reference27Ideal.Gen.shapeCasts_S1024_S1x1024) (constant Cert.Reference27Ideal.S_ .f32 0x00000000#32) Cert.Reference27Ideal.Gen.reducesTo_S1x1024_S1024_d0 Cert.Reference27Ideal.Gen.h_S_) Cert.Reference27Ideal.Gen.shapeCasts_S1024_S1x1x1024 from rfl) _).trans ?_
    pointwise
    rw [Fin.sum_univ_one, ← Fin.sum_univ_eq_sum_range]
    refine Finset.sum_congr rfl fun r _ => ?_
    have e : ∀ (x : (⟨2, ![2048, 1024]⟩ : Shape).Idx → EReal) (k : Fin 1024), at2 x r.val k.val = x (ix2 r k) := fun x k => at2_of x r.isLt k.isLt
    simp only [rNormed_apply, rBack_apply, term6, e]

end Cert.Kernel27Ideal.Product
-- ==== Proof.ModNorm2Bwd.lean ====
/-
  The feed-forward's modulated norm, backward: `cc0_l0_modnorm2_bwd` leaves the gradient of the rows the root-mean-square
  norm reads, added to the gradient that bypasses it, and the gradients of the norm's scale and of the modulation's scale
  and shift, sums over the rows gathered in four blocks of 512 rows.
-/
module

public import proofs.«01_k».proof.Defs
public import proofs.«01_k».proof.Proof.Gen.Kernel28Ideal.Value
public import proofs.«01_k».proof.Proof.Gen.Reference28Ideal.Run
public import proofs.«01_k».proof.Proof.Blocks
public import Idealize.ShloMosaic.Lib.Pointwise
public import Idealize.ShloMosaic.Lib.StableHlo.ReadAt
public import Idealize.ShloMosaic.Lib.WholeRead

@[expose] public section

noncomputable section

namespace Cert.Kernel28Ideal.Product

open Cert.Kernel28Ideal Cert.Kernel28Ideal.Gen Cert.Kernel28Ideal.Value Cert.Blocks
open Idealize.ShloMosaic Idealize.ShloMosaic.TcCoe Idealize.SL.Sem Idealize.ShloMosaic.StableHlo

theorem hz : (![0, 0] : Fin 2 → Nat) = fun _ => 0 := funext fun a => by fin_cases a <;> rfl
theorem hz3 : (![0, 0, 0] : Fin 3 → Nat) = fun _ => 0 := funext fun a => by fin_cases a <;> rfl

section cases

variable {F : FTy → Type} [FloatOps F]

/-- What the first point leaves in the block of output 0. -/
theorem out6_A (c : Dev nD) (i : grid0.Coords) (a2 h2 a3 h3 a4 h4 a5 h5 a6 h6 a7 h7 a8 h8 a9 h9 a10 h10 a11 h11 hc0 hc1 hc2 hc3 hc4 hc5) (x0 : Vec F S512x1024 .f32) (x1 : Vec F S512x1024 .f32) (x2 : Vec F S512x1024 .f32) (x3 : Vec F S1x1x1024 .f32) (x4 : Vec F S1x1x1024 .f32) (x5 : Vec F S1x1x1024 .f32) :
    out0_A_6 c i a2 h2 a3 h3 a4 h4 a5 h5 a6 h6 a7 h7 a8 h8 a9 h9 a10 h10 a11 h11 hc0 hc1 hc2 hc3 hc4 hc5 x0 x1 x2 x3 x4 x5 = k0_pay1 x0 x2 (k0_pay10 x0) (k0_pay11 x0) (k0_pay18 x1 x3 x4) (k0_pay19 x0 x1 x3 x4) := by
  unfold out0_A_6
  rw [View.read_writes_eq_canon _ _ _ (cover0_A_6 c i a2 h2 a3 h3 a4 h4 a5 h5 a6 h6 a7 h7 a8 h8 a9 h9 a10 h10 a11 h11 hc0 hc1 hc2 hc3 hc4 hc5 x0 x1 x2 x3 x4 x5)]
  unfold kernelRun0_A
  dsimp only
  sl_unfold_words
  rw [View.canon_unit_zero hz]
  simp only [View.readAt_eq_ld, h2.read_unread, h3.read_unread, h4.read_unread, h5.read_unread, h6.read_unread, h7.read_unread, View.ld_unit_zero (S := S512x1024) hz, View.ld_unit_zero (S := S1x1x1024) hz3]

/-- What a later point leaves in the block of output 0. -/
theorem out6_B (c : Dev nD) (i : grid0.Coords) (a2 h2 a3 h3 a4 h4 a5 h5 a6 h6 a7 h7 a8 h8 a9 h9 a10 h10 a11 h11 hc0 hc1 hc2 hc3 hc4 hc5) (x0 : Vec F S512x1024 .f32) (x1 : Vec F S512x1024 .f32) (x2 : Vec F S512x1024 .f32) (x3 : Vec F S1x1x1024 .f32) (x4 : Vec F S1x1x1024 .f32) (x5 : Vec F S1x1x1024 .f32) (xo7 : Vec F S1x1x1024 .f32) (xo8 : Vec F S1x1x1024 .f32) (xo9 : Vec F S1x1x1024 .f32) :
    out0_B_6 c i a2 h2 a3 h3 a4 h4 a5 h5 a6 h6 a7 h7 a8 h8 a9 h9 a10 h10 a11 h11 hc0 hc1 hc2 hc3 hc4 hc5 x0 x1 x2 x3 x4 x5 xo7 xo8 xo9 = k0_pay1 x0 x2 (k0_pay10 x0) (k0_pay11 x0) (k0_pay18 x1 x3 x4) (k0_pay19 x0 x1 x3 x4) := by
  unfold out0_B_6
  rw [View.read_writes_eq_canon _ _ _ (cover0_B_6 c i a2 h2 a3 h3 a4 h4 a5 h5 a6 h6 a7 h7 a8 h8 a9 h9 a10 h10 a11 h11 hc0 hc1 hc2 hc3 hc4 hc5 x0 x1 x2 x3 x4 x5 xo7 xo8 xo9)]
  unfold kernelRun0_B
  dsimp only
  sl_unfold_words
  rw [View.canon_unit_zero hz]
  simp only [View.readAt_eq_ld, h2.read_unread, h3.read_unread, h4.read_unread, h5.read_unread, h6.read_unread, h7.read_unread, h9.read_unread, h10.read_unread, h11.read_unread, View.ld_unit_zero (S := S512x1024) hz, View.ld_unit_zero (S := S1x1x1024) hz3]

/-- The first point leaves the block's column sums in output 1. -/
theorem out7_A (c : Dev nD) (i : grid0.Coords) (a2 h2 a3 h3 a4 h4 a5 h5 a6 h6 a7 h7 a8 h8 a9 h9 a10 h10 a11 h11 hc0 hc1 hc2 hc3 hc4 hc5) (x0 : Vec F S512x1024 .f32) (x1 : Vec F S512x1024 .f32) (x2 : Vec F S512x1024 .f32) (x3 : Vec F S1x1x1024 .f32) (x4 : Vec F S1x1x1024 .f32) (x5 : Vec F S1x1x1024 .f32) :
    out0_A_7 c i a2 h2 a3 h3 a4 h4 a5 h5 a6 h6 a7 h7 a8 h8 a9 h9 a10 h10 a11 h11 hc0 hc1 hc2 hc3 hc4 hc5 x0 x1 x2 x3 x4 x5 = k0_pay2 (k0_pay17 x0 x1 x4) := by
  unfold out0_A_7
  rw [View.read_writes_eq_canon _ _ _ (cover0_A_7 c i a2 h2 a3 h3 a4 h4 a5 h5 a6 h6 a7 h7 a8 h8 a9 h9 a10 h10 a11 h11 hc0 hc1 hc2 hc3 hc4 hc5 x0 x1 x2 x3 x4 x5)]
  unfold kernelRun0_A
  dsimp only
  sl_unfold_words
  rw [View.canon_unit_zero hz3]
  simp only [View.readAt_eq_ld, h2.read_unread, h3.read_unread, h4.read_unread, h5.read_unread, h6.read_unread, h7.read_unread, View.ld_unit_zero (S := S512x1024) hz, View.ld_unit_zero (S := S1x1x1024) hz3]

/-- A later point adds the block's column sums to output 1. -/
theorem out7_B (c : Dev nD) (i : grid0.Coords) (a2 h2 a3 h3 a4 h4 a5 h5 a6 h6 a7 h7 a8 h8 a9 h9 a10 h10 a11 h11 hc0 hc1 hc2 hc3 hc4 hc5) (x0 : Vec F S512x1024 .f32) (x1 : Vec F S512x1024 .f32) (x2 : Vec F S512x1024 .f32) (x3 : Vec F S1x1x1024 .f32) (x4 : Vec F S1x1x1024 .f32) (x5 : Vec F S1x1x1024 .f32) (xo7 : Vec F S1x1x1024 .f32) (xo8 : Vec F S1x1x1024 .f32) (xo9 : Vec F S1x1x1024 .f32) :
    out0_B_7 c i a2 h2 a3 h3 a4 h4 a5 h5 a6 h6 a7 h7 a8 h8 a9 h9 a10 h10 a11 h11 hc0 hc1 hc2 hc3 hc4 hc5 x0 x1 x2 x3 x4 x5 xo7 xo8 xo9 = k0_pay3 (k0_pay17 x0 x1 x4) xo7 := by
  unfold out0_B_7
  rw [View.read_writes_eq_canon _ _ _ (cover0_B_7 c i a2 h2 a3 h3 a4 h4 a5 h5 a6 h6 a7 h7 a8 h8 a9 h9 a10 h10 a11 h11 hc0 hc1 hc2 hc3 hc4 hc5 x0 x1 x2 x3 x4 x5 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h9.read_unread, h10.read_unread, h11.read_unread, View.ld_unit_zero (S := S512x1024) hz, View.ld_unit_zero (S := S1x1x1024) hz3]

/-- The first point leaves the block's column sums in output 2. -/
theorem out8_A (c : Dev nD) (i : grid0.Coords) (a2 h2 a3 h3 a4 h4 a5 h5 a6 h6 a7 h7 a8 h8 a9 h9 a10 h10 a11 h11 hc0 hc1 hc2 hc3 hc4 hc5) (x0 : Vec F S512x1024 .f32) (x1 : Vec F S512x1024 .f32) (x2 : Vec F S512x1024 .f32) (x3 : Vec F S1x1x1024 .f32) (x4 : Vec F S1x1x1024 .f32) (x5 : Vec F S1x1x1024 .f32) :
    out0_A_8 c i a2 h2 a3 h3 a4 h4 a5 h5 a6 h6 a7 h7 a8 h8 a9 h9 a10 h10 a11 h11 hc0 hc1 hc2 hc3 hc4 hc5 x0 x1 x2 x3 x4 x5 = k0_pay4 (k0_pay15 x0 x1 x3) := by
  unfold out0_A_8
  rw [View.read_writes_eq_canon _ _ _ (cover0_A_8 c i a2 h2 a3 h3 a4 h4 a5 h5 a6 h6 a7 h7 a8 h8 a9 h9 a10 h10 a11 h11 hc0 hc1 hc2 hc3 hc4 hc5 x0 x1 x2 x3 x4 x5)]
  unfold kernelRun0_A
  dsimp only
  sl_unfold_words
  rw [View.canon_unit_zero hz3]
  simp only [View.readAt_eq_ld, h2.read_unread, h3.read_unread, h4.read_unread, h5.read_unread, h6.read_unread, h7.read_unread, View.ld_unit_zero (S := S512x1024) hz, View.ld_unit_zero (S := S1x1x1024) hz3]

/-- A later point adds the block's column sums to output 2. -/
theorem out8_B (c : Dev nD) (i : grid0.Coords) (a2 h2 a3 h3 a4 h4 a5 h5 a6 h6 a7 h7 a8 h8 a9 h9 a10 h10 a11 h11 hc0 hc1 hc2 hc3 hc4 hc5) (x0 : Vec F S512x1024 .f32) (x1 : Vec F S512x1024 .f32) (x2 : Vec F S512x1024 .f32) (x3 : Vec F S1x1x1024 .f32) (x4 : Vec F S1x1x1024 .f32) (x5 : Vec F S1x1x1024 .f32) (xo7 : Vec F S1x1x1024 .f32) (xo8 : Vec F S1x1x1024 .f32) (xo9 : Vec F S1x1x1024 .f32) :
    out0_B_8 c i a2 h2 a3 h3 a4 h4 a5 h5 a6 h6 a7 h7 a8 h8 a9 h9 a10 h10 a11 h11 hc0 hc1 hc2 hc3 hc4 hc5 x0 x1 x2 x3 x4 x5 xo7 xo8 xo9 = k0_pay5 (k0_pay15 x0 x1 x3) xo8 := by
  unfold out0_B_8
  rw [View.read_writes_eq_canon _ _ _ (cover0_B_8 c i a2 h2 a3 h3 a4 h4 a5 h5 a6 h6 a7 h7 a8 h8 a9 h9 a10 h10 a11 h11 hc0 hc1 hc2 hc3 hc4 hc5 x0 x1 x2 x3 x4 x5 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h9.read_unread, h10.read_unread, h11.read_unread, View.ld_unit_zero (S := S512x1024) hz, View.ld_unit_zero (S := S1x1x1024) hz3]

/-- The first point leaves the block's column sums in output 3. -/
theorem out9_A (c : Dev nD) (i : grid0.Coords) (a2 h2 a3 h3 a4 h4 a5 h5 a6 h6 a7 h7 a8 h8 a9 h9 a10 h10 a11 h11 hc0 hc1 hc2 hc3 hc4 hc5) (x0 : Vec F S512x1024 .f32) (x1 : Vec F S512x1024 .f32) (x2 : Vec F S512x1024 .f32) (x3 : Vec F S1x1x1024 .f32) (x4 : Vec F S1x1x1024 .f32) (x5 : Vec F S1x1x1024 .f32) :
    out0_A_9 c i a2 h2 a3 h3 a4 h4 a5 h5 a6 h6 a7 h7 a8 h8 a9 h9 a10 h10 a11 h11 hc0 hc1 hc2 hc3 hc4 hc5 x0 x1 x2 x3 x4 x5 = k0_pay6 (k0_pay14 x1) := by
  unfold out0_A_9
  rw [View.read_writes_eq_canon _ _ _ (cover0_A_9 c i a2 h2 a3 h3 a4 h4 a5 h5 a6 h6 a7 h7 a8 h8 a9 h9 a10 h10 a11 h11 hc0 hc1 hc2 hc3 hc4 hc5 x0 x1 x2 x3 x4 x5)]
  unfold kernelRun0_A
  dsimp only
  sl_unfold_words
  rw [View.canon_unit_zero hz3]
  simp only [View.readAt_eq_ld, h2.read_unread, h3.read_unread, h4.read_unread, h5.read_unread, h6.read_unread, h7.read_unread, View.ld_unit_zero (S := S512x1024) hz, View.ld_unit_zero (S := S1x1x1024) hz3]

/-- A later point adds the block's column sums to output 3. -/
theorem out9_B (c : Dev nD) (i : grid0.Coords) (a2 h2 a3 h3 a4 h4 a5 h5 a6 h6 a7 h7 a8 h8 a9 h9 a10 h10 a11 h11 hc0 hc1 hc2 hc3 hc4 hc5) (x0 : Vec F S512x1024 .f32) (x1 : Vec F S512x1024 .f32) (x2 : Vec F S512x1024 .f32) (x3 : Vec F S1x1x1024 .f32) (x4 : Vec F S1x1x1024 .f32) (x5 : Vec F S1x1x1024 .f32) (xo7 : Vec F S1x1x1024 .f32) (xo8 : Vec F S1x1x1024 .f32) (xo9 : Vec F S1x1x1024 .f32) :
    out0_B_9 c i a2 h2 a3 h3 a4 h4 a5 h5 a6 h6 a7 h7 a8 h8 a9 h9 a10 h10 a11 h11 hc0 hc1 hc2 hc3 hc4 hc5 x0 x1 x2 x3 x4 x5 xo7 xo8 xo9 = k0_pay7 (k0_pay14 x1) xo9 := by
  unfold out0_B_9
  rw [View.read_writes_eq_canon _ _ _ (cover0_B_9 c i a2 h2 a3 h3 a4 h4 a5 h5 a6 h6 a7 h7 a8 h8 a9 h9 a10 h10 a11 h11 hc0 hc1 hc2 hc3 hc4 hc5 x0 x1 x2 x3 x4 x5 xo7 xo8 xo9)]
  unfold kernelRun0_B
  dsimp only
  sl_unfold_words
  rw [View.canon_unit_zero hz3]
  simp only [View.readAt_eq_ld, h2.read_unread, h3.read_unread, h4.read_unread, h5.read_unread, h6.read_unread, h7.read_unread, h9.read_unread, h10.read_unread, h11.read_unread, View.ld_unit_zero (S := S512x1024) hz, View.ld_unit_zero (S := S1x1x1024) hz3]

end cases

variable (m : (ℓ : Loc nD τ sig) → Buf (Elt Ideal) ℓ)

theorem idx0 : ∀ t : Fin cfg0.N, win0_0.index t 0 = t.val ∧ win0_0.index t 1 = 0 :=
  (by decide +kernel : ∀ t : Fin grid0.N, _)

/-- The block of rows of input 0 at a grid point. -/
theorem blk0 (c : Dev nD) (t : Fin cfg0.N) (i : Fin 512) (j : Fin 1024) :
    (iblk m c 0 t : Vec Ideal S512x1024 .f32) (ix2 i j)
      = at2 (M := 2048) (N := 1024) (m ((c : Thread nD τ).loc main_arg0)) (512 * t.val + i.val) j.val := by
  have hN : t.val < 4 := lt_of_lt_of_eq t.isLt N_0
  have hi := i.isLt
  have hj := j.isLt
  obtain ⟨e0, e1⟩ := idx0 t
  rw [at2_of _ (by omega) (by omega)]
  unfold iblk
  rw [View.read_apply]
  have e : V m c main_arg0 (ix2 (⟨512 * t.val + i.val, by omega⟩ : Fin 2048) (⟨j.val, by omega⟩ : Fin 1024))
      = (m ((c : Thread nD τ).loc main_arg0) : (⟨2, ![2048, 1024]⟩ : Shape).Idx → EReal) (ix2 ⟨512 * t.val + i.val, by omega⟩ ⟨j.val, by omega⟩) := by
    unfold V
    after_reads_at
  refine Eq.trans ?_ e
  show V m c main_arg0 _ = V m c main_arg0 _
  congr 1
  funext a
  apply Fin.ext
  match a with
  | ⟨0, _⟩ => show win0_0.index t 0 * 512 + 1 * i.val = 512 * t.val + i.val; rw [e0]; omega
  | ⟨1, _⟩ => show win0_0.index t 1 * 1024 + 1 * j.val = j.val; rw [e1]; omega

theorem idx1 : ∀ t : Fin cfg0.N, win0_1.index t 0 = t.val ∧ win0_1.index t 1 = 0 :=
  (by decide +kernel : ∀ t : Fin grid0.N, _)

/-- The block of rows of input 1 at a grid point. -/
theorem blk1 (c : Dev nD) (t : Fin cfg0.N) (i : Fin 512) (j : Fin 1024) :
    (iblk m c 1 t : Vec Ideal S512x1024 .f32) (ix2 i j)
      = at2 (M := 2048) (N := 1024) (m ((c : Thread nD τ).loc main_arg4)) (512 * t.val + i.val) j.val := by
  have hN : t.val < 4 := lt_of_lt_of_eq t.isLt N_0
  have hi := i.isLt
  have hj := j.isLt
  obtain ⟨e0, e1⟩ := idx1 t
  rw [at2_of _ (by omega) (by omega)]
  unfold iblk
  rw [View.read_apply]
  have e : V m c main_arg4 (ix2 (⟨512 * t.val + i.val, by omega⟩ : Fin 2048) (⟨j.val, by omega⟩ : Fin 1024))
      = (m ((c : Thread nD τ).loc main_arg4) : (⟨2, ![2048, 1024]⟩ : Shape).Idx → EReal) (ix2 ⟨512 * t.val + i.val, by omega⟩ ⟨j.val, by omega⟩) := by
    unfold V
    after_reads_at
  refine Eq.trans ?_ e
  show V m c main_arg4 _ = V m c main_arg4 _
  congr 1
  funext a
  apply Fin.ext
  match a with
  | ⟨0, _⟩ => show win0_1.index t 0 * 512 + 1 * i.val = 512 * t.val + i.val; rw [e0]; omega
  | ⟨1, _⟩ => show win0_1.index t 1 * 1024 + 1 * j.val = j.val; rw [e1]; omega

theorem idx2 : ∀ t : Fin cfg0.N, win0_2.index t 0 = t.val ∧ win0_2.index t 1 = 0 :=
  (by decide +kernel : ∀ t : Fin grid0.N, _)

/-- The block of rows of input 2 at a grid point. -/
theorem blk2 (c : Dev nD) (t : Fin cfg0.N) (i : Fin 512) (j : Fin 1024) :
    (iblk m c 2 t : Vec Ideal S512x1024 .f32) (ix2 i j)
      = at2 (M := 2048) (N := 1024) (m ((c : Thread nD τ).loc main_arg5)) (512 * t.val + i.val) j.val := by
  have hN : t.val < 4 := lt_of_lt_of_eq t.isLt N_0
  have hi := i.isLt
  have hj := j.isLt
  obtain ⟨e0, e1⟩ := idx2 t
  rw [at2_of _ (by omega) (by omega)]
  unfold iblk
  rw [View.read_apply]
  have e : V m c main_arg5 (ix2 (⟨512 * t.val + i.val, by omega⟩ : Fin 2048) (⟨j.val, by omega⟩ : Fin 1024))
      = (m ((c : Thread nD τ).loc main_arg5) : (⟨2, ![2048, 1024]⟩ : Shape).Idx → EReal) (ix2 ⟨512 * t.val + i.val, by omega⟩ ⟨j.val, by omega⟩) := by
    unfold V
    after_reads_at
  refine Eq.trans ?_ e
  show V m c main_arg5 _ = V m c main_arg5 _
  congr 1
  funext a
  apply Fin.ext
  match a with
  | ⟨0, _⟩ => show win0_2.index t 0 * 512 + 1 * i.val = 512 * t.val + i.val; rw [e0]; omega
  | ⟨1, _⟩ => show win0_2.index t 1 * 1024 + 1 * j.val = j.val; rw [e1]; omega

theorem idx3 : ∀ t : Fin cfg0.N, win0_3.index t 0 = 0 ∧ win0_3.index t 1 = 0 ∧ win0_3.index t 2 = 0 :=
  (by decide +kernel : ∀ t : Fin grid0.N, _)

/-- The parameter of input 3 at a grid point. -/
theorem blk3 (c : Dev nD) (t : Fin cfg0.N) (j : Fin 1024) :
    (iblk m c 3 t : Vec Ideal S1x1x1024 .f32) (ix3 0 0 j) = m ((c : Thread nD τ).loc main_arg1) (ix1 j) := by
  obtain ⟨e0, e1, e2⟩ := idx3 t
  unfold iblk
  rw [View.read_apply]
  have e : V m c main_v1 (ix3 (0 : Fin 1) (0 : Fin 1) j) = (m ((c : Thread nD τ).loc main_arg1) : (⟨1, ![1024]⟩ : Shape).Idx → EReal) (ix1 j) := by
    unfold V
    after_reads_at

  refine Eq.trans ?_ e
  show V m c main_v1 _ = V m c main_v1 _
  congr 1
  funext a
  apply Fin.ext
  match a with
  | ⟨0, _⟩ => show win0_3.index t 0 * 1 + 1 * 0 = 0; rw [e0]
  | ⟨1, _⟩ => show win0_3.index t 1 * 1 + 1 * 0 = 0; rw [e1]
  | ⟨2, _⟩ => show win0_3.index t 2 * 1024 + 1 * j.val = j.val; rw [e2]; omega

theorem idx4 : ∀ t : Fin cfg0.N, win0_4.index t 0 = 0 ∧ win0_4.index t 1 = 0 ∧ win0_4.index t 2 = 0 :=
  (by decide +kernel : ∀ t : Fin grid0.N, _)

/-- The parameter of input 4 at a grid point. -/
theorem blk4 (c : Dev nD) (t : Fin cfg0.N) (j : Fin 1024) :
    (iblk m c 4 t : Vec Ideal S1x1x1024 .f32) (ix3 0 0 j) = m ((c : Thread nD τ).loc main_arg2) (ix1 j) := by
  obtain ⟨e0, e1, e2⟩ := idx4 t
  unfold iblk
  rw [View.read_apply]
  have e : V m c main_v3 (ix3 (0 : Fin 1) (0 : Fin 1) j) = (m ((c : Thread nD τ).loc main_arg2) : (⟨1, ![1024]⟩ : Shape).Idx → EReal) (ix1 j) := by
    unfold V
    after_reads_at

  refine Eq.trans ?_ e
  show V m c main_v3 _ = V m c main_v3 _
  congr 1
  funext a
  apply Fin.ext
  match a with
  | ⟨0, _⟩ => show win0_4.index t 0 * 1 + 1 * 0 = 0; rw [e0]
  | ⟨1, _⟩ => show win0_4.index t 1 * 1 + 1 * 0 = 0; rw [e1]
  | ⟨2, _⟩ => show win0_4.index t 2 * 1024 + 1 * j.val = j.val; rw [e2]; omega

theorem idx5 : ∀ t : Fin cfg0.N, win0_5.index t 0 = 0 ∧ win0_5.index t 1 = 0 ∧ win0_5.index t 2 = 0 :=
  (by decide +kernel : ∀ t : Fin grid0.N, _)

/-- The parameter of input 5 at a grid point. -/
theorem blk5 (c : Dev nD) (t : Fin cfg0.N) (j : Fin 1024) :
    (iblk m c 5 t : Vec Ideal S1x1x1024 .f32) (ix3 0 0 j) = m ((c : Thread nD τ).loc main_arg3) (ix1 j) := by
  obtain ⟨e0, e1, e2⟩ := idx5 t
  unfold iblk
  rw [View.read_apply]
  have e : V m c main_v5 (ix3 (0 : Fin 1) (0 : Fin 1) j) = (m ((c : Thread nD τ).loc main_arg3) : (⟨1, ![1024]⟩ : Shape).Idx → EReal) (ix1 j) := by
    unfold V
    after_reads_at

  refine Eq.trans ?_ e
  show V m c main_v5 _ = V m c main_v5 _
  congr 1
  funext a
  apply Fin.ext
  match a with
  | ⟨0, _⟩ => show win0_5.index t 0 * 1 + 1 * 0 = 0; rw [e0]
  | ⟨1, _⟩ => show win0_5.index t 1 * 1 + 1 * 0 = 0; rw [e1]
  | ⟨2, _⟩ => show win0_5.index t 2 * 1024 + 1 * j.val = j.val; rw [e2]; omega

/-! ## One row: the mathematics

`x` is the row, `w` the norm's scale, `s` the modulation's scale, `a` the incoming gradient. -/

/-- The row's length, 1024. -/
abbrev count : EReal := Ideal.ofBits .f32 0x44800000#32

def spread (x : Fin 1024 → EReal) : EReal := Ideal.div (∑ k, x k * x k) count + Ideal.ofBits .f32 0x358637BD#32
def inv (x : Fin 1024 → EReal) : EReal := Ideal.rsqrt (spread x)
def slope (x : Fin 1024 → EReal) : EReal := Ideal.ofBits .f32 0xBF000000#32 * Ideal.div (inv x) (spread x)
def normed (x : Fin 1024 → EReal) (j : Fin 1024) : EReal := x j * inv x
/-- The gradient with respect to the scaled norm, before the modulation. -/
def back (s a : Fin 1024 → EReal) (j : Fin 1024) : EReal := a j * (1 + s j)
def scaled (w s a : Fin 1024 → EReal) (j : Fin 1024) : EReal := back s a j * w j
def corr (x w s a : Fin 1024 → EReal) : EReal := ∑ _k : Fin 1, Ideal.div ((∑ k, x k * scaled w s a k) * slope x) count
/-- The gradient with respect to the row. -/
def dx (x w s a : Fin 1024 → EReal) (j : Fin 1024) : EReal := scaled w s a j * inv x + x j * corr x w s a + corr x w s a * x j

/-! ## The kernel's values, row by row -/

theorem pay8_apply (x3 : Vec Ideal S1x1x1024 .f32) (j : Fin 1024) : (k0_pay8 x3 (ix2 0 j) : EReal) = x3 (ix3 0 0 j) := by
  pointwise [k0_pay8]

theorem pay9_apply (x0 : Vec Ideal S512x1024 .f32) (i : Fin 512) : (k0_pay9 x0 (ix2 i 0) : EReal) = spread (fun k => x0 (ix2 i k)) := by
  pointwise [k0_pay9]
  rfl

theorem pay10_apply (x0 : Vec Ideal S512x1024 .f32) (i : Fin 512) : (k0_pay10 x0 (ix2 i 0) : EReal) = inv (fun k => x0 (ix2 i k)) := by
  pointwise [k0_pay10]
  simp only [pay9_apply]
  rfl

theorem pay11_apply (x0 : Vec Ideal S512x1024 .f32) (i : Fin 512) (u : Fin 1) : (k0_pay11 x0 (ix2 i u) : EReal) = slope (fun k => x0 (ix2 i k)) := by
  obtain rfl : u = 0 := Subsingleton.elim _ _
  pointwise [k0_pay11]
  simp only [pay9_apply, pay10_apply]
  rfl

theorem pay12_apply (x0 : Vec Ideal S512x1024 .f32) (i : Fin 512) (j : Fin 1024) : (k0_pay12 x0 (ix2 i j) : EReal) = normed (fun k => x0 (ix2 i k)) j := by
  pointwise [k0_pay12]
  simp only [pay10_apply]
  rfl

theorem pay13_apply (x1 : Vec Ideal S512x1024 .f32) (i : Fin 512) (j : Fin 1024) : (k0_pay13 x1 (ix2 i j) : EReal) = x1 (ix2 i j) := by
  pointwise [k0_pay13]

theorem pay16_apply (x1 : Vec Ideal S512x1024 .f32) (x4 : Vec Ideal S1x1x1024 .f32) (i : Fin 512) (j : Fin 1024) : (k0_pay16 x1 x4 (ix2 i j) : EReal) = back (fun k => x4 (ix3 0 0 k)) (fun k => x1 (ix2 i k)) j := by
  pointwise [k0_pay16]
  simp only [pay13_apply]
  rfl

theorem pay18_apply (x1 : Vec Ideal S512x1024 .f32) (x3 x4 : Vec Ideal S1x1x1024 .f32) (i : Fin 512) (j : Fin 1024) : (k0_pay18 x1 x3 x4 (ix2 i j) : EReal) = scaled (fun k => x3 (ix3 0 0 k)) (fun k => x4 (ix3 0 0 k)) (fun k => x1 (ix2 i k)) j := by
  pointwise [k0_pay18]
  simp only [pay16_apply, pay8_apply]
  rfl

theorem pay19_apply (x0 x1 : Vec Ideal S512x1024 .f32) (x3 x4 : Vec Ideal S1x1x1024 .f32) (i : Fin 512) (j : Fin 1024) :
    (k0_pay19 x0 x1 x3 x4 (ix2 i j) : EReal) = x0 (ix2 i j) * scaled (fun k => x3 (ix3 0 0 k)) (fun k => x4 (ix3 0 0 k)) (fun k => x1 (ix2 i k)) j := by
  pointwise [k0_pay19]
  simp only [pay18_apply]

theorem pay1_apply (x0 x1 x2 : Vec Ideal S512x1024 .f32) (x3 x4 : Vec Ideal S1x1x1024 .f32) (i : Fin 512) (j : Fin 1024) :
    (k0_pay1 x0 x2 (k0_pay10 x0) (k0_pay11 x0) (k0_pay18 x1 x3 x4) (k0_pay19 x0 x1 x3 x4) (ix2 i j) : EReal) = dx (fun k => x0 (ix2 i k)) (fun k => x3 (ix3 0 0 k)) (fun k => x4 (ix3 0 0 k)) (fun k => x1 (ix2 i k)) j + x2 (ix2 i j) := by
  pointwise [k0_pay1]
  simp only [pay10_apply, pay11_apply, pay18_apply, pay19_apply]
  rfl

/-! ## The reference's values, row by row -/

def rSpread (x : FVec Ideal Cert.Reference28Ideal.S2048x1024 .f32) : FVec Ideal Cert.Reference28Ideal.S2048x1 .f32 := addf (Host.divf (broadcastInDim Cert.Reference28Ideal.S2048x1 ![0] Cert.Reference28Ideal.Gen.bcast_S2048_S2048x1_0 (Host.reduceAdd (mulf x x) (constant Cert.Reference28Ideal.S_ .f32 0x00000000#32) Cert.Reference28Ideal.Gen.reducesTo_S2048x1024_S2048_d1 Cert.Reference28Ideal.Gen.h_S_)) (broadcastInDim Cert.Reference28Ideal.S2048x1 ![] Cert.Reference28Ideal.Gen.bcast_S_S2048x1 (constant Cert.Reference28Ideal.S_ .f32 0x44800000#32))) (broadcastInDim Cert.Reference28Ideal.S2048x1 ![] Cert.Reference28Ideal.Gen.bcast_S_S2048x1 (constant Cert.Reference28Ideal.S_ .f32 0x358637BD#32))
def rInv (x : FVec Ideal Cert.Reference28Ideal.S2048x1024 .f32) : FVec Ideal Cert.Reference28Ideal.S2048x1 .f32 := Host.rsqrt (rSpread x)
def rSlope (x : FVec Ideal Cert.Reference28Ideal.S2048x1024 .f32) : FVec Ideal Cert.Reference28Ideal.S2048x1 .f32 := mulf (broadcastInDim Cert.Reference28Ideal.S2048x1 ![] Cert.Reference28Ideal.Gen.bcast_S_S2048x1 (constant Cert.Reference28Ideal.S_ .f32 0xBF000000#32)) (Host.divf (rInv x) (rSpread x))
def rNormed (x : FVec Ideal Cert.Reference28Ideal.S2048x1024 .f32) : FVec Ideal Cert.Reference28Ideal.S2048x1024 .f32 := mulf x (broadcastInDim Cert.Reference28Ideal.S2048x1024 ![0, 1] Cert.Reference28Ideal.Gen.bcast_S2048x1_S2048x1024_0_1 (rInv x))
def rIn (a : FVec Ideal Cert.Reference28Ideal.S2048x1024 .f32) : FVec Ideal Cert.Reference28Ideal.S2048x1024 .f32 := shapeCast Cert.Reference28Ideal.S2048x1024 a Cert.Reference28Ideal.Gen.shapeCasts_S2048x1024_S2048x1024
def rBack (a : FVec Ideal Cert.Reference28Ideal.S2048x1024 .f32) (s : FVec Ideal Cert.Reference28Ideal.S1024 .f32) : FVec Ideal Cert.Reference28Ideal.S2048x1024 .f32 := mulf (rIn a) (broadcastInDim Cert.Reference28Ideal.S2048x1024 ![0, 1] Cert.Reference28Ideal.Gen.bcast_S1x1024_S2048x1024_0_1 (broadcastInDim Cert.Reference28Ideal.S1x1024 ![1] Cert.Reference28Ideal.Gen.bcast_S1024_S1x1024_1 (addf (broadcastInDim Cert.Reference28Ideal.S1024 ![] Cert.Reference28Ideal.Gen.bcast_S_S1024 (constant Cert.Reference28Ideal.S_ .f32 0x3F800000#32)) s)))
def rScaled (a : FVec Ideal Cert.Reference28Ideal.S2048x1024 .f32) (w s : FVec Ideal Cert.Reference28Ideal.S1024 .f32) : FVec Ideal Cert.Reference28Ideal.S2048x1024 .f32 := mulf (rBack a s) (broadcastInDim Cert.Reference28Ideal.S2048x1024 ![0, 1] Cert.Reference28Ideal.Gen.bcast_S1x1024_S2048x1024_0_1 (broadcastInDim Cert.Reference28Ideal.S1x1024 ![1] Cert.Reference28Ideal.Gen.bcast_S1024_S1x1024_1 w))
def rCorr (x a : FVec Ideal Cert.Reference28Ideal.S2048x1024 .f32) (w s : FVec Ideal Cert.Reference28Ideal.S1024 .f32) : FVec Ideal Cert.Reference28Ideal.S2048 .f32 :=
  Host.reduceAdd (Host.divf (mulf (shapeCast _ (Host.reduceAdd (mulf x (rScaled a w s)) (constant Cert.Reference28Ideal.S_ .f32 0x00000000#32) Cert.Reference28Ideal.Gen.reducesTo_S2048x1024_S2048_d1 Cert.Reference28Ideal.Gen.h_S_) Cert.Reference28Ideal.Gen.shapeCasts_S2048_S2048x1) (rSlope x)) (broadcastInDim Cert.Reference28Ideal.S2048x1 ![] Cert.Reference28Ideal.Gen.bcast_S_S2048x1 (constant Cert.Reference28Ideal.S_ .f32 0x44800000#32))) (constant Cert.Reference28Ideal.S_ .f32 0x00000000#32) Cert.Reference28Ideal.Gen.reducesTo_S2048x1_S2048_d1 Cert.Reference28Ideal.Gen.h_S_
def rDx (x a : FVec Ideal Cert.Reference28Ideal.S2048x1024 .f32) (w s : FVec Ideal Cert.Reference28Ideal.S1024 .f32) : FVec Ideal Cert.Reference28Ideal.S2048x1024 .f32 :=
  addf (addf (mulf (rScaled a w s) (broadcastInDim Cert.Reference28Ideal.S2048x1024 ![0, 1] Cert.Reference28Ideal.Gen.bcast_S2048x1_S2048x1024_0_1 (rInv x))) (mulf x (broadcastInDim Cert.Reference28Ideal.S2048x1024 ![0] Cert.Reference28Ideal.Gen.bcast_S2048_S2048x1024_0 (rCorr x a w s)))) (mulf (broadcastInDim Cert.Reference28Ideal.S2048x1024 ![0] Cert.Reference28Ideal.Gen.bcast_S2048_S2048x1024_0 (rCorr x a w s)) x)

theorem rSpread_apply (x : FVec Ideal Cert.Reference28Ideal.S2048x1024 .f32) (r : Fin 2048) : (rSpread x (ix2 r 0) : EReal) = spread (fun k => x (ix2 r k)) := by
  pointwise [rSpread]
  rfl

theorem rInv_apply (x : FVec Ideal Cert.Reference28Ideal.S2048x1024 .f32) (r : Fin 2048) : (rInv x (ix2 r 0) : EReal) = inv (fun k => x (ix2 r k)) := by
  pointwise [rInv]
  simp only [rSpread_apply]
  rfl

theorem rSlope_apply (x : FVec Ideal Cert.Reference28Ideal.S2048x1024 .f32) (r : Fin 2048) : (rSlope x (ix2 r 0) : EReal) = slope (fun k => x (ix2 r k)) := by
  pointwise [rSlope]
  simp only [rSpread_apply, rInv_apply]
  rfl

theorem rNormed_apply (x : FVec Ideal Cert.Reference28Ideal.S2048x1024 .f32) (r : Fin 2048) (j : Fin 1024) : (rNormed x (ix2 r j) : EReal) = normed (fun k => x (ix2 r k)) j := by
  pointwise [rNormed]
  simp only [rInv_apply]
  rfl

theorem rIn_apply (a : FVec Ideal Cert.Reference28Ideal.S2048x1024 .f32) (r : Fin 2048) (j : Fin 1024) : (rIn a (ix2 r j) : EReal) = a (ix2 r j) := by
  pointwise [rIn]

theorem rBack_apply (a : FVec Ideal Cert.Reference28Ideal.S2048x1024 .f32) (s : FVec Ideal Cert.Reference28Ideal.S1024 .f32) (r : Fin 2048) (j : Fin 1024) : (rBack a s (ix2 r j) : EReal) = back (fun k => s (ix1 k)) (fun k => a (ix2 r k)) j := by
  pointwise [rBack]
  simp only [rIn_apply]
  rfl

theorem rScaled_apply (a : FVec Ideal Cert.Reference28Ideal.S2048x1024 .f32) (w s : FVec Ideal Cert.Reference28Ideal.S1024 .f32) (r : Fin 2048) (j : Fin 1024) : (rScaled a w s (ix2 r j) : EReal) = scaled (fun k => w (ix1 k)) (fun k => s (ix1 k)) (fun k => a (ix2 r k)) j := by
  pointwise [rScaled]
  simp only [rBack_apply]
  rfl

theorem rCorr_apply (x a : FVec Ideal Cert.Reference28Ideal.S2048x1024 .f32) (w s : FVec Ideal Cert.Reference28Ideal.S1024 .f32) (r : Fin 2048) : (rCorr x a w s (ix1 r) : EReal) = corr (fun k => x (ix2 r k)) (fun k => w (ix1 k)) (fun k => s (ix1 k)) (fun k => a (ix2 r k)) := by
  pointwise [rCorr]
  simp only [rScaled_apply]
  simp only [Fin.sum_univ_one, Fin.isValue, rSlope_apply, corr]

theorem rDx_apply (x a : FVec Ideal Cert.Reference28Ideal.S2048x1024 .f32) (w s : FVec Ideal Cert.Reference28Ideal.S1024 .f32) (r : Fin 2048) (j : Fin 1024) : (rDx x a w s (ix2 r j) : EReal) = dx (fun k => x (ix2 r k)) (fun k => w (ix1 k)) (fun k => s (ix1 k)) (fun k => a (ix2 r k)) j := by
  pointwise [rDx]
  simp only [rScaled_apply, rInv_apply, rCorr_apply]
  rfl

/-- The rows' gradient at row `r` and column `j`. -/
abbrev term6 (c : Dev nD) (r : ℕ) (j : Fin 1024) : EReal :=
  dx (fun k => at2 (M := 2048) (N := 1024) (m ((c : Thread nD τ).loc main_arg0)) r k.val) (fun k => m ((c : Thread nD τ).loc main_arg1) (ix1 k)) (fun k => m ((c : Thread nD τ).loc main_arg2) (ix1 k)) (fun k => at2 (M := 2048) (N := 1024) (m ((c : Thread nD τ).loc main_arg4)) r k.val) j + at2 (M := 2048) (N := 1024) (m ((c : Thread nD τ).loc main_arg5)) r j.val

/-- What row `r` adds to the gradient of the norm's scale at column `j`. -/
abbrev term7 (c : Dev nD) (r : ℕ) (j : Fin 1024) : EReal :=
  normed (fun k => at2 (M := 2048) (N := 1024) (m ((c : Thread nD τ).loc main_arg0)) r k.val) j * back (fun k => m ((c : Thread nD τ).loc main_arg2) (ix1 k)) (fun k => at2 (M := 2048) (N := 1024) (m ((c : Thread nD τ).loc main_arg4)) r k.val) j

/-- What row `r` adds to the gradient of the modulation's scale at column `j`. -/
abbrev term8 (c : Dev nD) (r : ℕ) (j : Fin 1024) : EReal :=
  normed (fun k => at2 (M := 2048) (N := 1024) (m ((c : Thread nD τ).loc main_arg0)) r k.val) j * (fun k => m ((c : Thread nD τ).loc main_arg1) (ix1 k)) j * at2 (M := 2048) (N := 1024) (m ((c : Thread nD τ).loc main_arg4)) r j.val

/-- What row `r` adds to the gradient of the modulation's shift at column `j`. -/
abbrev term9 (c : Dev nD) (r : ℕ) (j : Fin 1024) : EReal :=
  at2 (M := 2048) (N := 1024) (m ((c : Thread nD τ).loc main_arg4)) r j.val

theorem idx6 : ∀ t : Fin cfg0.N, win0_6.index t 0 = t.val ∧ win0_6.index t 1 = 0 :=
  (by decide +kernel : ∀ t : Fin grid0.N, _)
theorem ext6 : ∀ t : Fin cfg0.N, win0_6.xsize (grid0.coords t) 0 = 512 ∧ win0_6.xsize (grid0.coords t) 1 = 1024 :=
  (by decide +kernel : ∀ t : Fin grid0.N, _)

/-- What a point leaves in its block of output 0. -/
theorem left6 (c : Dev nD) (t : Fin cfg0.N) : (outsAt0 m c t.val t.isLt).1 = k0_pay1 (iblk m c 0 t) (iblk m c 2 t) (k0_pay10 (iblk m c 0 t)) (k0_pay11 (iblk m c 0 t)) (k0_pay18 (iblk m c 1 t) (iblk m c 3 t) (iblk m c 4 t)) (k0_pay19 (iblk m c 0 t) (iblk m c 1 t) (iblk m c 3 t) (iblk m c 4 t)) := by
  have hN : t.val < 4 := lt_of_lt_of_eq t.isLt N_0
  by_cases h : t.val = 0
  · rw [outsAt0_A m c t (by omega) (by omega) (by omega) (by omega) (by omega) (by omega)]
    dsimp only
    rw [out6_A]
  · rw [outsAt0_B m c t (by omega) (by omega) (by omega) (by omega) (by omega) (by omega)]
    dsimp only
    rw [out6_B]

/-- … element by element. -/
theorem row6_apply (c : Dev nD) (t : Fin cfg0.N) (i : Fin 512) (j : Fin 1024) :
    (k0_pay1 (iblk m c 0 t) (iblk m c 2 t) (k0_pay10 (iblk m c 0 t)) (k0_pay11 (iblk m c 0 t)) (k0_pay18 (iblk m c 1 t) (iblk m c 3 t) (iblk m c 4 t)) (k0_pay19 (iblk m c 0 t) (iblk m c 1 t) (iblk m c 3 t) (iblk m c 4 t)) (ix2 i j) : EReal) = term6 m c (512 * t.val + i.val) j := by
  rw [pay1_apply]
  simp only [blk0, blk1, blk2, blk3, blk4]

/-- The array of output 0. -/
theorem array6_apply (c : Dev nD) (r : Fin 2048) (j : Fin 1024) :
    ((dats m 0 c).arrAt 6 cfg0.N (ix2 r j) : EReal) = term6 m c r.val j := by
  have hr := r.isLt
  have hj := j.isLt
  have hN : cfg0.N = 4 := N_0
  obtain ⟨t, ht⟩ : ∃ t : Fin cfg0.N, t.val = r.val / 512 := ⟨⟨r.val / 512, by omega⟩, rfl⟩
  obtain ⟨e0, e1⟩ := idx6 t
  obtain ⟨x0, x1⟩ := ext6 t
  let y : (win0_6.xblock (grid0.coords t)).Idx := fun a => match a with
    | ⟨0, _⟩ => ⟨r.val % 512, by show _ < win0_6.xsize (grid0.coords t) 0; rw [x0]; omega⟩
    | ⟨1, _⟩ => ⟨j.val, by show _ < win0_6.xsize (grid0.coords t) 1; rw [x1]; omega⟩
  have hb := congrFun ((blocks6 m c t (flush0_6 t)).trans (flushed6 m c t)) y
  rw [View.read_apply] at hb
  have he : ((cfg0.win 6).blk t).view.emb y = ix2 r j := by
    funext a
    apply Fin.ext
    match a with
    | ⟨0, _⟩ => show win0_6.index t 0 * 512 + 1 * (r.val % 512) = r.val; rw [e0]; omega
    | ⟨1, _⟩ => show win0_6.index t 1 * 1024 + 1 * j.val = j.val; rw [e1]; omega
  rw [he, left6] at hb
  refine hb.trans ?_
  have hrow := row6_apply m c t ⟨r.val % 512, by omega⟩ j
  rw [show 512 * t.val + (⟨r.val % 512, by omega⟩ : Fin 512).val = r.val from by show 512 * t.val + r.val % 512 = r.val; omega] at hrow
  refine Eq.trans ?_ hrow
  exact congrArg (k0_pay1 (iblk m c 0 t) (iblk m c 2 t) (k0_pay10 (iblk m c 0 t)) (k0_pay11 (iblk m c 0 t)) (k0_pay18 (iblk m c 1 t) (iblk m c 3 t) (iblk m c 4 t)) (k0_pay19 (iblk m c 0 t) (iblk m c 1 t) (iblk m c 3 t) (iblk m c 4 t))) (by
    funext a
    apply Fin.ext
    match a with
    | ⟨0, _⟩ => rfl
    | ⟨1, _⟩ => rfl)

theorem ext7 : ∀ t : Fin cfg0.N, win0_7.index t 0 = 0 ∧ win0_7.index t 1 = 0 ∧ win0_7.index t 2 = 0 ∧ win0_7.xsize (grid0.coords t) 0 = 1
    ∧ win0_7.xsize (grid0.coords t) 1 = 1 ∧ win0_7.xsize (grid0.coords t) 2 = 1024 :=
  (by decide +kernel : ∀ t : Fin grid0.N, _)

/-- The first point's column sums of output 1. -/
theorem first7 (c : Dev nD) (t : Fin cfg0.N) (j : Fin 1024) :
    (k0_pay2 (k0_pay17 (iblk m c 0 t) (iblk m c 1 t) (iblk m c 4 t)) (ix3 0 0 j) : EReal) = ∑ i : Fin 512, term7 m c (512 * t.val + i.val) j := by
  pointwise [k0_pay2, k0_pay17]
  refine Finset.sum_congr rfl fun i _ => ?_
  simp only [pay12_apply, pay16_apply, blk0, blk1, blk2, blk3, blk4]

/-- A later point adds its own to what was there. -/
theorem next7 (c : Dev nD) (t : Fin cfg0.N) (acc : Vec Ideal S1x1x1024 .f32) (j : Fin 1024) :
    (k0_pay3 (k0_pay17 (iblk m c 0 t) (iblk m c 1 t) (iblk m c 4 t)) acc (ix3 0 0 j) : EReal) = (acc (ix3 0 0 j) : EReal) + ∑ i : Fin 512, term7 m c (512 * t.val + i.val) j := by
  pointwise [k0_pay3, k0_pay17]
  refine congrArg _ (Finset.sum_congr rfl fun i _ => ?_)
  simp only [pay12_apply, pay16_apply, blk0, blk1, blk2, blk3, blk4]

theorem left7_A (c : Dev nD) (t : Fin cfg0.N) (h : t.val = 0) : (outsAt0 m c t.val t.isLt).2.1 = k0_pay2 (k0_pay17 (iblk m c 0 t) (iblk m c 1 t) (iblk m c 4 t)) := by
  rw [outsAt0_A m c t (by omega) (by omega) (by omega) (by omega) (by omega) (by omega)]
  dsimp only
  rw [out7_A]

theorem left7_B (c : Dev nD) (t : Fin cfg0.N) (h : t.val ≠ 0) :
    (outsAt0 m c t.val t.isLt).2.1 = k0_pay3 (k0_pay17 (iblk m c 0 t) (iblk m c 1 t) (iblk m c 4 t)) (outsAt0 m c (t.val - 1) (Nat.lt_of_le_of_lt (Nat.sub_le _ _) t.isLt)).2.1 := by
  have hN : t.val < 4 := lt_of_lt_of_eq t.isLt N_0
  rw [outsAt0_B m c t (by omega) (by omega) (by omega) (by omega) (by omega) (by omega)]
  dsimp only
  rw [out7_B]

/-- After point `s` output 1 holds the column sums over the rows seen so far. -/
theorem sum7_apply (c : Dev nD) (j : Fin 1024) (s : ℕ) (hs : s < 4) (h : s < cfg0.N) :
    ((outsAt0 m c s h).2.1 (ix3 0 0 j) : EReal) = ∑ k ∈ Finset.range (512 * (s + 1)), term7 m c k j := by
  have hN : cfg0.N = 4 := N_0
  have key := sweep 4 512 (fun k => term7 m c k j) (fun s => if h : s < cfg0.N then ((outsAt0 m c s h).2.1 (ix3 0 0 j) : EReal) else 0)
    (fun _ => by
      have h' : 0 < cfg0.N := by omega
      simp only [dif_pos h']
      refine (congrFun (left7_A m c ⟨0, h'⟩ rfl) _).trans ((first7 m c ⟨0, h'⟩ j).trans (Finset.sum_congr rfl fun i _ => ?_))
      show term7 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left7_B m c ⟨s + 1, hb⟩ (Nat.succ_ne_zero s)) _).trans (next7 m c ⟨s + 1, hb⟩ _ j))
    s hs
  simpa only [dif_pos h] using key

/-- The array of output 1: the column sums over all rows. -/
theorem array7_apply (c : Dev nD) (j : Fin 1024) :
    ((dats m 0 c).arrAt 7 cfg0.N (ix3 (0 : Fin 1) (0 : Fin 1) j) : EReal) = ∑ k ∈ Finset.range 2048, term7 m c k j := by
  have hj := j.isLt
  have hN : cfg0.N = 4 := N_0
  let t : Fin cfg0.N := ⟨3, by omega⟩
  obtain ⟨e0, e1, e2, x0, x1, x2⟩ := ext7 t
  let y : (win0_7.xblock (grid0.coords t)).Idx := fun a => match a with
    | ⟨0, _⟩ => ⟨0, by show _ < win0_7.xsize (grid0.coords t) 0; rw [x0]; omega⟩
    | ⟨1, _⟩ => ⟨0, by show _ < win0_7.xsize (grid0.coords t) 1; rw [x1]; omega⟩
    | ⟨2, _⟩ => ⟨j.val, by show _ < win0_7.xsize (grid0.coords t) 2; rw [x2]; omega⟩
  have hd : ∀ t t' : Fin cfg0.N, (cfg0.win 7).flush t = true → (cfg0.win 7).flush t' = true → t ≠ t' →
      Disjoint ((cfg0.win 7).blk t).view.set ((cfg0.win 7).blk t').view.set := fun t t' hf hf' hne =>
    absurd (Fin.ext (by have := (flush0_7 t).mp hf; have := (flush0_7 t').mp hf'; have := t.isLt; have := t'.isLt; omega)) hne
  have hb := congrFun (((dats m 0 c).read_blk_arrAt_eq_flushed 7 hd cfg0.N t t.isLt ((flush0_7 t).mpr rfl)).trans (flushed7 m c t)) y
  rw [View.read_apply] at hb
  have he : ((cfg0.win 7).blk t).view.emb y = ix3 (0 : Fin 1) (0 : Fin 1) j := by
    funext a
    apply Fin.ext
    match a with
    | ⟨0, _⟩ => show win0_7.index t 0 * 1 + 1 * 0 = 0; rw [e0]
    | ⟨1, _⟩ => show win0_7.index t 1 * 1 + 1 * 0 = 0; rw [e1]
    | ⟨2, _⟩ => show win0_7.index t 2 * 1024 + 1 * j.val = j.val; rw [e2]; omega
  rw [he] at hb
  refine hb.trans (Eq.trans ?_ (sum7_apply m c j 3 (by omega) t.isLt))
  exact congrArg ((outsAt0 m c 3 t.isLt).2.1) (by
    funext a
    apply Fin.ext
    match a with
    | ⟨0, _⟩ => rfl
    | ⟨1, _⟩ => rfl
    | ⟨2, _⟩ => rfl)

theorem ext8 : ∀ t : Fin cfg0.N, win0_8.index t 0 = 0 ∧ win0_8.index t 1 = 0 ∧ win0_8.index t 2 = 0 ∧ win0_8.xsize (grid0.coords t) 0 = 1
    ∧ win0_8.xsize (grid0.coords t) 1 = 1 ∧ win0_8.xsize (grid0.coords t) 2 = 1024 :=
  (by decide +kernel : ∀ t : Fin grid0.N, _)

/-- The first point's column sums of output 2. -/
theorem first8 (c : Dev nD) (t : Fin cfg0.N) (j : Fin 1024) :
    (k0_pay4 (k0_pay15 (iblk m c 0 t) (iblk m c 1 t) (iblk m c 3 t)) (ix3 0 0 j) : EReal) = ∑ i : Fin 512, term8 m c (512 * t.val + i.val) j := by
  pointwise [k0_pay4, k0_pay15]
  refine Finset.sum_congr rfl fun i _ => ?_
  simp only [pay12_apply, pay8_apply, pay13_apply, blk0, blk1, blk2, blk3, blk4]

/-- A later point adds its own to what was there. -/
theorem next8 (c : Dev nD) (t : Fin cfg0.N) (acc : Vec Ideal S1x1x1024 .f32) (j : Fin 1024) :
    (k0_pay5 (k0_pay15 (iblk m c 0 t) (iblk m c 1 t) (iblk m c 3 t)) acc (ix3 0 0 j) : EReal) = (acc (ix3 0 0 j) : EReal) + ∑ i : Fin 512, term8 m c (512 * t.val + i.val) j := by
  pointwise [k0_pay5, k0_pay15]
  refine congrArg _ (Finset.sum_congr rfl fun i _ => ?_)
  simp only [pay12_apply, pay8_apply, pay13_apply, blk0, blk1, blk2, blk3, blk4]

theorem left8_A (c : Dev nD) (t : Fin cfg0.N) (h : t.val = 0) : (outsAt0 m c t.val t.isLt).2.2.1 = k0_pay4 (k0_pay15 (iblk m c 0 t) (iblk m c 1 t) (iblk m c 3 t)) := by
  rw [outsAt0_A m c t (by omega) (by omega) (by omega) (by omega) (by omega) (by omega)]
  dsimp only
  rw [out8_A]

theorem left8_B (c : Dev nD) (t : Fin cfg0.N) (h : t.val ≠ 0) :
    (outsAt0 m c t.val t.isLt).2.2.1 = k0_pay5 (k0_pay15 (iblk m c 0 t) (iblk m c 1 t) (iblk m c 3 t)) (outsAt0 m c (t.val - 1) (Nat.lt_of_le_of_lt (Nat.sub_le _ _) t.isLt)).2.2.1 := by
  have hN : t.val < 4 := lt_of_lt_of_eq t.isLt N_0
  rw [outsAt0_B m c t (by omega) (by omega) (by omega) (by omega) (by omega) (by omega)]
  dsimp only
  rw [out8_B]

/-- After point `s` output 2 holds the column sums over the rows seen so far. -/
theorem sum8_apply (c : Dev nD) (j : Fin 1024) (s : ℕ) (hs : s < 4) (h : s < cfg0.N) :
    ((outsAt0 m c s h).2.2.1 (ix3 0 0 j) : EReal) = ∑ k ∈ Finset.range (512 * (s + 1)), term8 m c k j := by
  have hN : cfg0.N = 4 := N_0
  have key := sweep 4 512 (fun k => term8 m c k j) (fun s => if h : s < cfg0.N then ((outsAt0 m c s h).2.2.1 (ix3 0 0 j) : EReal) else 0)
    (fun _ => by
      have h' : 0 < cfg0.N := by omega
      simp only [dif_pos h']
      refine (congrFun (left8_A m c ⟨0, h'⟩ rfl) _).trans ((first8 m c ⟨0, h'⟩ j).trans (Finset.sum_congr rfl fun i _ => ?_))
      show term8 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left8_B m c ⟨s + 1, hb⟩ (Nat.succ_ne_zero s)) _).trans (next8 m c ⟨s + 1, hb⟩ _ j))
    s hs
  simpa only [dif_pos h] using key

/-- The array of output 2: the column sums over all rows. -/
theorem array8_apply (c : Dev nD) (j : Fin 1024) :
    ((dats m 0 c).arrAt 8 cfg0.N (ix3 (0 : Fin 1) (0 : Fin 1) j) : EReal) = ∑ k ∈ Finset.range 2048, term8 m c k j := by
  have hj := j.isLt
  have hN : cfg0.N = 4 := N_0
  let t : Fin cfg0.N := ⟨3, by omega⟩
  obtain ⟨e0, e1, e2, x0, x1, x2⟩ := ext8 t
  let y : (win0_8.xblock (grid0.coords t)).Idx := fun a => match a with
    | ⟨0, _⟩ => ⟨0, by show _ < win0_8.xsize (grid0.coords t) 0; rw [x0]; omega⟩
    | ⟨1, _⟩ => ⟨0, by show _ < win0_8.xsize (grid0.coords t) 1; rw [x1]; omega⟩
    | ⟨2, _⟩ => ⟨j.val, by show _ < win0_8.xsize (grid0.coords t) 2; rw [x2]; omega⟩
  have hd : ∀ t t' : Fin cfg0.N, (cfg0.win 8).flush t = true → (cfg0.win 8).flush t' = true → t ≠ t' →
      Disjoint ((cfg0.win 8).blk t).view.set ((cfg0.win 8).blk t').view.set := fun t t' hf hf' hne =>
    absurd (Fin.ext (by have := (flush0_8 t).mp hf; have := (flush0_8 t').mp hf'; have := t.isLt; have := t'.isLt; omega)) hne
  have hb := congrFun (((dats m 0 c).read_blk_arrAt_eq_flushed 8 hd cfg0.N t t.isLt ((flush0_8 t).mpr rfl)).trans (flushed8 m c t)) y
  rw [View.read_apply] at hb
  have he : ((cfg0.win 8).blk t).view.emb y = ix3 (0 : Fin 1) (0 : Fin 1) j := by
    funext a
    apply Fin.ext
    match a with
    | ⟨0, _⟩ => show win0_8.index t 0 * 1 + 1 * 0 = 0; rw [e0]
    | ⟨1, _⟩ => show win0_8.index t 1 * 1 + 1 * 0 = 0; rw [e1]
    | ⟨2, _⟩ => show win0_8.index t 2 * 1024 + 1 * j.val = j.val; rw [e2]; omega
  rw [he] at hb
  refine hb.trans (Eq.trans ?_ (sum8_apply m c j 3 (by omega) t.isLt))
  exact congrArg ((outsAt0 m c 3 t.isLt).2.2.1) (by
    funext a
    apply Fin.ext
    match a with
    | ⟨0, _⟩ => rfl
    | ⟨1, _⟩ => rfl
    | ⟨2, _⟩ => rfl)

theorem ext9 : ∀ t : Fin cfg0.N, win0_9.index t 0 = 0 ∧ win0_9.index t 1 = 0 ∧ win0_9.index t 2 = 0 ∧ win0_9.xsize (grid0.coords t) 0 = 1
    ∧ win0_9.xsize (grid0.coords t) 1 = 1 ∧ win0_9.xsize (grid0.coords t) 2 = 1024 :=
  (by decide +kernel : ∀ t : Fin grid0.N, _)

/-- The first point's column sums of output 3. -/
theorem first9 (c : Dev nD) (t : Fin cfg0.N) (j : Fin 1024) :
    (k0_pay6 (k0_pay14 (iblk m c 1 t)) (ix3 0 0 j) : EReal) = ∑ i : Fin 512, term9 m c (512 * t.val + i.val) j := by
  pointwise [k0_pay6, k0_pay14]
  refine Finset.sum_congr rfl fun i _ => ?_
  simp only [term9, blk0, blk1, blk2, blk3, blk4]

/-- A later point adds its own to what was there. -/
theorem next9 (c : Dev nD) (t : Fin cfg0.N) (acc : Vec Ideal S1x1x1024 .f32) (j : Fin 1024) :
    (k0_pay7 (k0_pay14 (iblk m c 1 t)) acc (ix3 0 0 j) : EReal) = (acc (ix3 0 0 j) : EReal) + ∑ i : Fin 512, term9 m c (512 * t.val + i.val) j := by
  pointwise [k0_pay7, k0_pay14]
  refine congrArg _ (Finset.sum_congr rfl fun i _ => ?_)
  simp only [term9, blk0, blk1, blk2, blk3, blk4]

theorem left9_A (c : Dev nD) (t : Fin cfg0.N) (h : t.val = 0) : (outsAt0 m c t.val t.isLt).2.2.2 = k0_pay6 (k0_pay14 (iblk m c 1 t)) := by
  rw [outsAt0_A m c t (by omega) (by omega) (by omega) (by omega) (by omega) (by omega)]
  dsimp only
  rw [out9_A]

theorem left9_B (c : Dev nD) (t : Fin cfg0.N) (h : t.val ≠ 0) :
    (outsAt0 m c t.val t.isLt).2.2.2 = k0_pay7 (k0_pay14 (iblk m c 1 t)) (outsAt0 m c (t.val - 1) (Nat.lt_of_le_of_lt (Nat.sub_le _ _) t.isLt)).2.2.2 := by
  have hN : t.val < 4 := lt_of_lt_of_eq t.isLt N_0
  rw [outsAt0_B m c t (by omega) (by omega) (by omega) (by omega) (by omega) (by omega)]
  dsimp only
  rw [out9_B]

/-- After point `s` output 3 holds the column sums over the rows seen so far. -/
theorem sum9_apply (c : Dev nD) (j : Fin 1024) (s : ℕ) (hs : s < 4) (h : s < cfg0.N) :
    ((outsAt0 m c s h).2.2.2 (ix3 0 0 j) : EReal) = ∑ k ∈ Finset.range (512 * (s + 1)), term9 m c k j := by
  have hN : cfg0.N = 4 := N_0
  have key := sweep 4 512 (fun k => term9 m c k j) (fun s => if h : s < cfg0.N then ((outsAt0 m c s h).2.2.2 (ix3 0 0 j) : EReal) else 0)
    (fun _ => by
      have h' : 0 < cfg0.N := by omega
      simp only [dif_pos h']
      refine (congrFun (left9_A m c ⟨0, h'⟩ rfl) _).trans ((first9 m c ⟨0, h'⟩ j).trans (Finset.sum_congr rfl fun i _ => ?_))
      show term9 m c (512 * 0 + i.val) j = _
      rw [Nat.mul_zero, Nat.zero_add])
    (fun s hs => by
      have hb : s + 1 < cfg0.N := by omega
      have hb' : s < cfg0.N := by omega
      simp only [dif_pos hb, dif_pos hb']
      exact (congrFun (left9_B m c ⟨s + 1, hb⟩ (Nat.succ_ne_zero s)) _).trans (next9 m c ⟨s + 1, hb⟩ _ j))
    s hs
  simpa only [dif_pos h] using key

/-- The array of output 3: the column sums over all rows. -/
theorem array9_apply (c : Dev nD) (j : Fin 1024) :
    ((dats m 0 c).arrAt 9 cfg0.N (ix3 (0 : Fin 1) (0 : Fin 1) j) : EReal) = ∑ k ∈ Finset.range 2048, term9 m c k j := by
  have hj := j.isLt
  have hN : cfg0.N = 4 := N_0
  let t : Fin cfg0.N := ⟨3, by omega⟩
  obtain ⟨e0, e1, e2, x0, x1, x2⟩ := ext9 t
  let y : (win0_9.xblock (grid0.coords t)).Idx := fun a => match a with
    | ⟨0, _⟩ => ⟨0, by show _ < win0_9.xsize (grid0.coords t) 0; rw [x0]; omega⟩
    | ⟨1, _⟩ => ⟨0, by show _ < win0_9.xsize (grid0.coords t) 1; rw [x1]; omega⟩
    | ⟨2, _⟩ => ⟨j.val, by show _ < win0_9.xsize (grid0.coords t) 2; rw [x2]; omega⟩
  have hd : ∀ t t' : Fin cfg0.N, (cfg0.win 9).flush t = true → (cfg0.win 9).flush t' = true → t ≠ t' →
      Disjoint ((cfg0.win 9).blk t).view.set ((cfg0.win 9).blk t').view.set := fun t t' hf hf' hne =>
    absurd (Fin.ext (by have := (flush0_9 t).mp hf; have := (flush0_9 t').mp hf'; have := t.isLt; have := t'.isLt; omega)) hne
  have hb := congrFun (((dats m 0 c).read_blk_arrAt_eq_flushed 9 hd cfg0.N t t.isLt ((flush0_9 t).mpr rfl)).trans (flushed9 m c t)) y
  rw [View.read_apply] at hb
  have he : ((cfg0.win 9).blk t).view.emb y = ix3 (0 : Fin 1) (0 : Fin 1) j := by
    funext a
    apply Fin.ext
    match a with
    | ⟨0, _⟩ => show win0_9.index t 0 * 1 + 1 * 0 = 0; rw [e0]
    | ⟨1, _⟩ => show win0_9.index t 1 * 1 + 1 * 0 = 0; rw [e1]
    | ⟨2, _⟩ => show win0_9.index t 2 * 1024 + 1 * j.val = j.val; rw [e2]; omega
  rw [he] at hb
  refine hb.trans (Eq.trans ?_ (sum9_apply m c j 3 (by omega) t.isLt))
  exact congrArg ((outsAt0 m c 3 t.isLt).2.2.2) (by
    funext a
    apply Fin.ext
    match a with
    | ⟨0, _⟩ => rfl
    | ⟨1, _⟩ => rfl
    | ⟨2, _⟩ => rfl)

/-- The reference runs to the end, its arguments unchanged; it has no semaphore at all. -/
theorem reference_frame : Cert.quiescent_Reference28Ideal (hReference28Ideal := Cert.Reference28Ideal.Gen.facts) := fun m g _ =>
  (θ_run _ _ _).mono (fun r h => ⟨fun c => (h c).2.2.2.2, funext fun s => match s with
    | (_, .reg s) => s.elim0
    | (_, .dma s) => s.elim0⟩) (Cert.Reference28Ideal.Value.run m g)

/-- The two runs end with the same arrays. -/
theorem algebraic : Cert.algebraic_Kernel28Ideal_Reference28Ideal (hKernel28Ideal := Cert.Kernel28Ideal.Gen.facts)
    (hReference28Ideal := Cert.Reference28Ideal.Gen.facts) := by
  intro m g m' g' _ hargs
  refine ⟨fun c => (dats m 0 c).arrAt 6 cfg0.N, fun c => (dats m 0 c).arrAt 7 cfg0.N, fun c => (dats m 0 c).arrAt 8 cfg0.N, fun c => (dats m 0 c).arrAt 9 cfg0.N, run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference28Ideal.Value.run m' g')
  · unfold Cert.Reference28Ideal.Value.res_main_v54
    rw [(hargs c).1, (hargs c).2.1, (hargs c).2.2.1, (hargs c).2.2.2.2.1, (hargs c).2.2.2.2.2]
    funext i
    obtain ⟨r, j, rfl⟩ : ∃ (r : Fin 2048) (j : Fin 1024), i = ix2 r j := ⟨i 0, i 1, (ix2_eta i).symm⟩
    refine Eq.trans ?_ (array6_apply m c r j).symm
    refine (congrFun (show _ = addf (rDx (m ((c : Thread nD τ).loc main_arg0)) (m ((c : Thread nD τ).loc main_arg4)) (m ((c : Thread nD τ).loc main_arg1)) (m ((c : Thread nD τ).loc main_arg2))) (m ((c : Thread nD τ).loc main_arg5)) from rfl) _).trans ?_
    pointwise
    rw [rDx_apply]
    have e : ∀ (x : (⟨2, ![2048, 1024]⟩ : Shape).Idx → EReal) (k : Fin 1024), at2 x r.val k.val = x (ix2 r k) := fun x k => at2_of x r.isLt k.isLt
    simp only [term6, e]
  · rw [(hargs c).1, (hargs c).2.2.1, (hargs c).2.2.2.2.1]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array7_apply m c j).symm
    refine (congrFun (show _ = shapeCast _ (Host.reduceAdd (shapeCast _ (Host.reduceAdd (mulf (rNormed (m ((c : Thread nD τ).loc main_arg0))) (rBack (m ((c : Thread nD τ).loc main_arg4)) (m ((c : Thread nD τ).loc main_arg2)))) (constant Cert.Reference28Ideal.S_ .f32 0x00000000#32) Cert.Reference28Ideal.Gen.reducesTo_S2048x1024_S1024_d0 Cert.Reference28Ideal.Gen.h_S_) Cert.Reference28Ideal.Gen.shapeCasts_S1024_S1x1024) (constant Cert.Reference28Ideal.S_ .f32 0x00000000#32) Cert.Reference28Ideal.Gen.reducesTo_S1x1024_S1024_d0 Cert.Reference28Ideal.Gen.h_S_) Cert.Reference28Ideal.Gen.shapeCasts_S1024_S1x1x1024 from rfl) _).trans ?_
    pointwise
    rw [Fin.sum_univ_one, ← Fin.sum_univ_eq_sum_range]
    refine Finset.sum_congr rfl fun r _ => ?_
    have e : ∀ (x : (⟨2, ![2048, 1024]⟩ : Shape).Idx → EReal) (k : Fin 1024), at2 x r.val k.val = x (ix2 r k) := fun x k => at2_of x r.isLt k.isLt
    simp only [rNormed_apply, rBack_apply, term7, e]
  · rw [(hargs c).1, (hargs c).2.1, (hargs c).2.2.2.2.1]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array8_apply m c j).symm
    refine (congrFun (show _ = shapeCast _ (Host.reduceAdd (shapeCast _ (Host.reduceAdd (mulf (mulf (rNormed (m ((c : Thread nD τ).loc main_arg0))) (broadcastInDim Cert.Reference28Ideal.S2048x1024 ![0, 1] Cert.Reference28Ideal.Gen.bcast_S1x1024_S2048x1024_0_1 (broadcastInDim Cert.Reference28Ideal.S1x1024 ![1] Cert.Reference28Ideal.Gen.bcast_S1024_S1x1024_1 (m ((c : Thread nD τ).loc main_arg1))))) (rIn (m ((c : Thread nD τ).loc main_arg4)))) (constant Cert.Reference28Ideal.S_ .f32 0x00000000#32) Cert.Reference28Ideal.Gen.reducesTo_S2048x1024_S1024_d0 Cert.Reference28Ideal.Gen.h_S_) Cert.Reference28Ideal.Gen.shapeCasts_S1024_S1x1024) (constant Cert.Reference28Ideal.S_ .f32 0x00000000#32) Cert.Reference28Ideal.Gen.reducesTo_S1x1024_S1024_d0 Cert.Reference28Ideal.Gen.h_S_) Cert.Reference28Ideal.Gen.shapeCasts_S1024_S1x1x1024 from rfl) _).trans ?_
    pointwise
    rw [Fin.sum_univ_one, ← Fin.sum_univ_eq_sum_range]
    refine Finset.sum_congr rfl fun r _ => ?_
    have e : ∀ (x : (⟨2, ![2048, 1024]⟩ : Shape).Idx → EReal) (k : Fin 1024), at2 x r.val k.val = x (ix2 r k) := fun x k => at2_of x r.isLt k.isLt
    simp only [rNormed_apply, rIn_apply, term8, e]
  · rw [(hargs c).2.2.2.2.1]
    funext i
    obtain ⟨j, rfl⟩ : ∃ j : Fin 1024, i = ix3 0 0 j := ⟨i 2, by
      funext a
      match a with
      | ⟨0, _⟩ => exact Subsingleton.elim (α := Fin 1) _ _
      | ⟨1, _⟩ => exact Subsingleton.elim (α := Fin 1) _ _
      | ⟨2, _⟩ => rfl⟩
    refine Eq.trans ?_ (array9_apply m c j).symm
    pointwise
    rw [Fin.sum_univ_one, ← Fin.sum_univ_eq_sum_range]
    refine Finset.sum_congr rfl fun r _ => ?_
    have e : ∀ (x : (⟨2, ![2048, 1024]⟩ : Shape).Idx → EReal) (k : Fin 1024), at2 x r.val k.val = x (ix2 r k) := fun x k => at2_of x r.isLt k.isLt
    simp only [term9, e]

end Cert.Kernel28Ideal.Product
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.UpDw
public import proofs.«01_k».proof.Proof.UpDx
public import proofs.«01_k».proof.Proof.DownDw
public import proofs.«01_k».proof.Proof.DownDx
public import proofs.«01_k».proof.Proof.OutDw
public import proofs.«01_k».proof.Proof.OutDx
public import proofs.«01_k».proof.Proof.Pw1Dw
public import proofs.«01_k».proof.Proof.Pw1Dx
public import proofs.«01_k».proof.Proof.Pw2Dw
public import proofs.«01_k».proof.Proof.Pw2Dx
public import proofs.«01_k».proof.Proof.UpDx1
public import proofs.«01_k».proof.Proof.DownDx1
public import proofs.«01_k».proof.Proof.UpFw
public import proofs.«01_k».proof.Proof.UpFw1
public import proofs.«01_k».proof.Proof.DownFw
public import proofs.«01_k».proof.Proof.DownFw1
public import proofs.«01_k».proof.Proof.OutFw
public import proofs.«01_k».proof.Proof.Pw1Fw
public import proofs.«01_k».proof.Proof.Pw2Fw
public import proofs.«01_k».proof.Proof.InFw
public import proofs.«01_k».proof.Proof.InDx
public import proofs.«01_k».proof.Proof.InDw
public import proofs.«01_k».proof.Proof.ActBwd
public import proofs.«01_k».proof.Proof.Res2Bwd
public import proofs.«01_k».proof.Proof.Res1Bwd
public import proofs.«01_k».proof.Proof.GluBwd
public import proofs.«01_k».proof.Proof.LnSiluBwd
public import proofs.«01_k».proof.Proof.ModNorm2Bwd
public import Idealize.ShloMosaic.Adequacy
public import Idealize.ShloMosaic.Init

@[expose] public section

noncomputable section

namespace Cert.Proof

open Idealize.ShloMosaic Idealize.SL.Sem Cert.Kernel

/-- Every claim: each program's kernel, its idealization and its reference end without a fault and leave their arguments as
    they were; the idealizations rewrite nothing; and each idealized kernel leaves the arrays its reference leaves. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts,
  fun m ρ _ => Cert.Kernel.Gen.frame m ρ, fun m ρ _ => Cert.KernelIdeal.Gen.frame m ρ, Cert.KernelIdeal.Product.reference_frame,
  fun m ρ _ => Cert.Kernel2.Gen.frame m ρ, fun m ρ _ => Cert.Kernel2Ideal.Gen.frame m ρ, Cert.Kernel2Ideal.Product.reference_frame,
  fun m ρ _ => Cert.Kernel3.Gen.frame m ρ, fun m ρ _ => Cert.Kernel3Ideal.Gen.frame m ρ, Cert.Kernel3Ideal.Product.reference_frame,
  fun m ρ _ => Cert.Kernel4.Gen.frame m ρ, fun m ρ _ => Cert.Kernel4Ideal.Gen.frame m ρ, Cert.Kernel4Ideal.Product.reference_frame,
  fun m ρ _ => Cert.Kernel5.Gen.frame m ρ, fun m ρ _ => Cert.Kernel5Ideal.Gen.frame m ρ, Cert.Kernel5Ideal.Product.reference_frame,
  fun m ρ _ => Cert.Kernel6.Gen.frame m ρ, fun m ρ _ => Cert.Kernel6Ideal.Gen.frame m ρ, Cert.Kernel6Ideal.Product.reference_frame,
  fun m ρ _ => Cert.Kernel7.Gen.frame m ρ, fun m ρ _ => Cert.Kernel7Ideal.Gen.frame m ρ, Cert.Kernel7Ideal.Product.reference_frame,
  fun m ρ _ => Cert.Kernel8.Gen.frame m ρ, fun m ρ _ => Cert.Kernel8Ideal.Gen.frame m ρ, Cert.Kernel8Ideal.Product.reference_frame,
  fun m ρ _ => Cert.Kernel9.Gen.frame m ρ, fun m ρ _ => Cert.Kernel9Ideal.Gen.frame m ρ, Cert.Kernel9Ideal.Product.reference_frame,
  fun m ρ _ => Cert.Kernel10.Gen.frame m ρ, fun m ρ _ => Cert.Kernel10Ideal.Gen.frame m ρ, Cert.Kernel10Ideal.Product.reference_frame,
  fun m ρ _ => Cert.Kernel11.Gen.frame m ρ, fun m ρ _ => Cert.Kernel11Ideal.Gen.frame m ρ, Cert.Kernel11Ideal.Product.reference_frame,
  fun m ρ _ => Cert.Kernel12.Gen.frame m ρ, fun m ρ _ => Cert.Kernel12Ideal.Gen.frame m ρ, Cert.Kernel12Ideal.Product.reference_frame,
  fun m ρ _ => Cert.Kernel13.Gen.frame m ρ, fun m ρ _ => Cert.Kernel13Ideal.Gen.frame m ρ, Cert.Kernel13Ideal.Product.reference_frame,
  fun m ρ _ => Cert.Kernel14.Gen.frame m ρ, fun m ρ _ => Cert.Kernel14Ideal.Gen.frame m ρ, Cert.Kernel14Ideal.Product.reference_frame,
  fun m ρ _ => Cert.Kernel15.Gen.frame m ρ, fun m ρ _ => Cert.Kernel15Ideal.Gen.frame m ρ, Cert.Kernel15Ideal.Product.reference_frame,
  fun m ρ _ => Cert.Kernel16.Gen.frame m ρ, fun m ρ _ => Cert.Kernel16Ideal.Gen.frame m ρ, Cert.Kernel16Ideal.Product.reference_frame,
  fun m ρ _ => Cert.Kernel17.Gen.frame m ρ, fun m ρ _ => Cert.Kernel17Ideal.Gen.frame m ρ, Cert.Kernel17Ideal.Product.reference_frame,
  fun m ρ _ => Cert.Kernel18.Gen.frame m ρ, fun m ρ _ => Cert.Kernel18Ideal.Gen.frame m ρ, Cert.Kernel18Ideal.Product.reference_frame,
  fun m ρ _ => Cert.Kernel19.Gen.frame m ρ, fun m ρ _ => Cert.Kernel19Ideal.Gen.frame m ρ, Cert.Kernel19Ideal.Product.reference_frame,
  Cert.Kernel20Ideal.Product.kernel_frame, Cert.Kernel20Ideal.Product.ideal_frame, Cert.Kernel20Ideal.Product.reference_frame,
  Cert.Kernel21Ideal.Product.kernel_frame, Cert.Kernel21Ideal.Product.ideal_frame, Cert.Kernel21Ideal.Product.reference_frame,
  Cert.Kernel22Ideal.Product.kernel_frame, Cert.Kernel22Ideal.Product.ideal_frame, Cert.Kernel22Ideal.Product.reference_frame,
  fun m ρ _ => Cert.Kernel23.Gen.frame m ρ, fun m ρ _ => Cert.Kernel23Ideal.Gen.frame m ρ, Cert.Kernel23Ideal.Product.reference_frame,
  fun m ρ _ => Cert.Kernel24.Gen.frame m ρ, fun m ρ _ => Cert.Kernel24Ideal.Gen.frame m ρ, Cert.Kernel24Ideal.Product.reference_frame,
  fun m ρ _ => Cert.Kernel25.Gen.frame m ρ, fun m ρ _ => Cert.Kernel25Ideal.Gen.frame m ρ, Cert.Kernel25Ideal.Product.reference_frame,
  fun m ρ _ => Cert.Kernel26.Gen.frame m ρ, fun m ρ _ => Cert.Kernel26Ideal.Gen.frame m ρ, Cert.Kernel26Ideal.Product.reference_frame,
  fun m ρ _ => Cert.Kernel27.Gen.frame m ρ, fun m ρ _ => Cert.Kernel27Ideal.Gen.frame m ρ, Cert.Kernel27Ideal.Product.reference_frame,
  fun m ρ _ => Cert.Kernel28.Gen.frame m ρ, fun m ρ _ => Cert.Kernel28Ideal.Gen.frame m ρ, Cert.Kernel28Ideal.Product.reference_frame,
  trivial, Cert.KernelIdeal.Product.algebraic,
  trivial, Cert.Kernel2Ideal.Product.algebraic,
  trivial, Cert.Kernel3Ideal.Product.algebraic,
  trivial, Cert.Kernel4Ideal.Product.algebraic,
  trivial, Cert.Kernel5Ideal.Product.algebraic,
  trivial, Cert.Kernel6Ideal.Product.algebraic,
  trivial, Cert.Kernel7Ideal.Product.algebraic,
  trivial, Cert.Kernel8Ideal.Product.algebraic,
  trivial, Cert.Kernel9Ideal.Product.algebraic,
  trivial, Cert.Kernel10Ideal.Product.algebraic,
  trivial, Cert.Kernel11Ideal.Product.algebraic,
  trivial, Cert.Kernel12Ideal.Product.algebraic,
  trivial, Cert.Kernel13Ideal.Product.algebraic,
  trivial, Cert.Kernel14Ideal.Product.algebraic,
  trivial, Cert.Kernel15Ideal.Product.algebraic,
  trivial, Cert.Kernel16Ideal.Product.algebraic,
  trivial, Cert.Kernel17Ideal.Product.algebraic,
  trivial, Cert.Kernel18Ideal.Product.algebraic,
  trivial, Cert.Kernel19Ideal.Product.algebraic,
  trivial, Cert.Kernel20Ideal.Product.algebraic,
  trivial, Cert.Kernel21Ideal.Product.algebraic,
  trivial, Cert.Kernel22Ideal.Product.algebraic,
  trivial, Cert.Kernel23Ideal.Product.algebraic,
  trivial, Cert.Kernel24Ideal.Product.algebraic,
  trivial, Cert.Kernel25Ideal.Product.algebraic,
  trivial, Cert.Kernel26Ideal.Product.algebraic,
  trivial, Cert.Kernel27Ideal.Product.algebraic,
  trivial, Cert.Kernel28Ideal.Product.algebraic⟩

end Cert.Proof

end
